-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dhid (m : (ℓ : Loc Cert.Dhid.nD Cert.Dhid.τ Cert.Dhid.sig) → Buf (Elt Bits) ℓ) : Prop :=
  True

def Pre_DhidIdeal (m : (ℓ : Loc Cert.DhidIdeal.nD Cert.DhidIdeal.τ Cert.DhidIdeal.sig) → Buf (Elt Ideal) ℓ) : Prop :=
  True

def Pre_DhidRefIdeal (m : (ℓ : Loc Cert.DhidRefIdeal.nD Cert.DhidRefIdeal.τ Cert.DhidRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidRefIdeal (m : (ℓ : Loc Cert.HidRefIdeal.nD Cert.HidRefIdeal.τ Cert.HidRefIdeal.sig) → Buf (Elt Ideal) ℓ) : Prop :=
  True

def Pre_Ymlp (m : (ℓ : Loc Cert.Ymlp.nD Cert.Ymlp.τ Cert.Ymlp.sig) → Buf (Elt Bits) ℓ) : Prop :=
  True

def Pre_YmlpIdeal (m : (ℓ : Loc Cert.YmlpIdeal.nD Cert.YmlpIdeal.τ Cert.YmlpIdeal.sig) → Buf (Elt Ideal) ℓ) : Prop :=
  True

def Pre_YmlpRefIdeal (m : (ℓ : Loc Cert.YmlpRefIdeal.nD Cert.YmlpRefIdeal.τ Cert.YmlpRefIdeal.sig) → Buf (Elt Ideal) ℓ) : Prop :=
  True

def Pre_Ymix (m : (ℓ : Loc Cert.Ymix.nD Cert.Ymix.τ Cert.Ymix.sig) → Buf (Elt Bits) ℓ) : Prop :=
  True

def Pre_YmixIdeal (m : (ℓ : Loc Cert.YmixIdeal.nD Cert.YmixIdeal.τ Cert.YmixIdeal.sig) → Buf (Elt Ideal) ℓ) : Prop :=
  True

def Pre_YmixRefIdeal (m : (ℓ : Loc Cert.YmixRefIdeal.nD Cert.YmixRefIdeal.τ Cert.YmixRefIdeal.sig) → Buf (Elt Ideal) ℓ) : Prop :=
  True

def Pre_Mback (m : (ℓ : Loc Cert.Mback.nD Cert.Mback.τ Cert.Mback.sig) → Buf (Elt Bits) ℓ) : Prop :=
  True

def Pre_MbackIdeal (m : (ℓ : Loc Cert.MbackIdeal.nD Cert.MbackIdeal.τ Cert.MbackIdeal.sig) → Buf (Elt Ideal) ℓ) : Prop :=
  True

def Pre_MbackRefIdeal (m : (ℓ : Loc Cert.MbackRefIdeal.nD Cert.MbackRefIdeal.τ Cert.MbackRefIdeal.sig) → Buf (Elt Ideal) ℓ) : Prop :=
  True

def Pre_Mfwd (m : (ℓ : Loc Cert.Mfwd.nD Cert.Mfwd.τ Cert.Mfwd.sig) → Buf (Elt Bits) ℓ) : Prop :=
  True

def Pre_MfwdIdeal (m : (ℓ : Loc Cert.MfwdIdeal.nD Cert.MfwdIdeal.τ Cert.MfwdIdeal.sig) → Buf (Elt Ideal) ℓ) : Prop :=
  True

def Pre_MfwdRefIdeal (m : (ℓ : Loc Cert.MfwdRefIdeal.nD Cert.MfwdRefIdeal.τ Cert.MfwdRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_fwd [hPre_finite_fwd : Cert.Pre_finite_fwd.Facts] (m : (ℓ : Loc Cert.AttnIdeal.nD Cert.AttnIdeal.τ Cert.AttnIdeal.sig) → Buf (Elt Ideal) ℓ) : Prop :=
  ∀ c : Dev Cert.AttnIdeal.nD,
    (Cert.Pre_finite_fwd.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_fwd [hPre_finite_fwd : Cert.Pre_finite_fwd.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_fwd.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dhid [hDhid : Cert.Dhid.Facts] : Prop :=
  ∀ (m : (ℓ : Loc Cert.Dhid.nD Cert.Dhid.τ Cert.Dhid.sig) → Buf (Elt Bits) ℓ) (g : Dev Cert.Dhid.nD → PrngReg), Pre_Dhid m →
    θ_run (Cert.Dhid.defs (F := Bits)) (onTc (τ := Cert.Dhid.τ) (Cert.Dhid.main (F := Bits))) ⟨m, fun _ => 0, g⟩ (fun r => (∀ c : Dev Cert.Dhid.nD,
      r.2.mem ((c.tc : Thread Cert.Dhid.nD Cert.Dhid.τ).loc Cert.Dhid.main_arg0) = m ((c.tc : Thread Cert.Dhid.nD Cert.Dhid.τ).loc Cert.Dhid.main_arg0)
      ∧ r.2.mem ((c.tc : Thread Cert.Dhid.nD Cert.Dhid.τ).loc Cert.Dhid.main_arg1) = m ((c.tc : Thread Cert.Dhid.nD Cert.Dhid.τ).loc Cert.Dhid.main_arg1)
      ∧ r.2.mem ((c.tc : Thread Cert.Dhid.nD Cert.Dhid.τ).loc Cert.Dhid.main_arg2) = m ((c.tc : Thread Cert.Dhid.nD Cert.Dhid.τ).loc Cert.Dhid.main_arg2))
      ∧ r.2.sem = fun _ => 0)

def quiescent_DhidIdeal [hDhidIdeal : Cert.DhidIdeal.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
      ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2))
      ∧ r.2.sem = fun _ => 0)

def quiescent_DhidRefIdeal [hDhidRefIdeal : Cert.DhidRefIdeal.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1)
      ∧ r.2.mem ((c.tc : Thread Cert.DhidRefIdeal.nD Cert.DhidRefIdeal.τ).loc Cert.DhidRefIdeal.main_arg2) = m ((c.tc : Thread Cert.DhidRefIdeal.nD Cert.DhidRefIdeal.τ).loc Cert.DhidRefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1))
      ∧ r.2.sem = fun _ => 0)

def quiescent_Ymlp [hYmlp : Cert.Ymlp.Facts] : Prop :=
  ∀ (m : (ℓ : Loc Cert.Ymlp.nD Cert.Ymlp.τ Cert.Ymlp.sig) → Buf (Elt Bits) ℓ) (g : Dev Cert.Ymlp.nD → PrngReg), Pre_Ymlp m →
    θ_run (Cert.Ymlp.defs (F := Bits)) (onTc (τ := Cert.Ymlp.τ) (Cert.Ymlp.main (F := Bits))) ⟨m, fun _ => 0, g⟩ (fun r => (∀ c : Dev Cert.Ymlp.nD,
      r.2.mem ((c.tc : Thread Cert.Ymlp.nD Cert.Ymlp.τ).loc Cert.Ymlp.main_arg0) = m ((c.tc : Thread Cert.Ymlp.nD Cert.Ymlp.τ).loc Cert.Ymlp.main_arg0)
      ∧ r.2.mem ((c.tc : Thread Cert.Ymlp.nD Cert.Ymlp.τ).loc Cert.Ymlp.main_arg1) = m ((c.tc : Thread Cert.Ymlp.nD Cert.Ymlp.τ).loc Cert.Ymlp.main_arg1))
      ∧ r.2.sem = fun _ => 0)

def quiescent_YmlpIdeal [hYmlpIdeal : Cert.YmlpIdeal.Facts] : Prop :=
  ∀ (m : (ℓ : Loc Cert.YmlpIdeal.nD Cert.YmlpIdeal.τ Cert.YmlpIdeal.sig) → Buf (Elt Ideal) ℓ) (g : Dev Cert.YmlpIdeal.nD → PrngReg), Pre_YmlpIdeal m →
    θ_run (Cert.YmlpIdeal.defs (F := Ideal)) (onTc (τ := Cert.YmlpIdeal.τ) (Cert.YmlpIdeal.main (F := Ideal))) ⟨m, fun _ => 0, g⟩ (fun r => (∀ c : Dev Cert.YmlpIdeal.nD,
      r.2.mem ((c.tc : Thread Cert.YmlpIdeal.nD Cert.YmlpIdeal.τ).loc Cert.YmlpIdeal.main_arg0) = m ((c.tc : Thread Cert.YmlpIdeal.nD Cert.YmlpIdeal.τ).loc Cert.YmlpIdeal.main_arg0)
      ∧ r.2.mem ((c.tc : Thread Cert.YmlpIdeal.nD Cert.YmlpIdeal.τ).loc Cert.YmlpIdeal.main_arg1) = m ((c.tc : Thread Cert.YmlpIdeal.nD Cert.YmlpIdeal.τ).loc Cert.YmlpIdeal.main_arg1))
      ∧ r.2.sem = fun _ => 0)

def quiescent_YmlpRefIdeal [hYmlpRefIdeal : Cert.YmlpRefIdeal.Facts] : Prop :=
  ∀ (m : (ℓ : Loc Cert.YmlpRefIdeal.nD Cert.YmlpRefIdeal.τ Cert.YmlpRefIdeal.sig) → Buf (Elt Ideal) ℓ) (g : Dev Cert.YmlpRefIdeal.nD → PrngReg), Pre_YmlpRefIdeal m →
    θ_run (Cert.YmlpRefIdeal.defs (F := Ideal)) (onTc (τ := Cert.YmlpRefIdeal.τ) (Cert.YmlpRefIdeal.main (F := Ideal))) ⟨m, fun _ => 0, g⟩ (fun r => (∀ c : Dev Cert.YmlpRefIdeal.nD,
      r.2.mem ((c.tc : Thread Cert.YmlpRefIdeal.nD Cert.YmlpRefIdeal.τ).loc Cert.YmlpRefIdeal.main_arg0) = m ((c.tc : Thread Cert.YmlpRefIdeal.nD Cert.YmlpRefIdeal.τ).loc Cert.YmlpRefIdeal.main_arg0)
      ∧ r.2.mem ((c.tc : Thread Cert.YmlpRefIdeal.nD Cert.YmlpRefIdeal.τ).loc Cert.YmlpRefIdeal.main_arg1) = m ((c.tc : Thread Cert.YmlpRefIdeal.nD Cert.YmlpRefIdeal.τ).loc Cert.YmlpRefIdeal.main_arg1))
      ∧ r.2.sem = fun _ => 0)

def quiescent_Ymix [hYmix : Cert.Ymix.Facts] : Prop :=
  ∀ (m : (ℓ : Loc Cert.Ymix.nD Cert.Ymix.τ Cert.Ymix.sig) → Buf (Elt Bits) ℓ) (g : Dev Cert.Ymix.nD → PrngReg), Pre_Ymix m →
    θ_run (Cert.Ymix.defs (F := Bits)) (onTc (τ := Cert.Ymix.τ) (Cert.Ymix.main (F := Bits))) ⟨m, fun _ => 0, g⟩ (fun r => (∀ c : Dev Cert.Ymix.nD,
      r.2.mem ((c.tc : Thread Cert.Ymix.nD Cert.Ymix.τ).loc Cert.Ymix.main_arg0) = m ((c.tc : Thread Cert.Ymix.nD Cert.Ymix.τ).loc Cert.Ymix.main_arg0)
      ∧ r.2.mem ((c.tc : Thread Cert.Ymix.nD Cert.Ymix.τ).loc Cert.Ymix.main_arg1) = m ((c.tc : Thread Cert.Ymix.nD Cert.Ymix.τ).loc Cert.Ymix.main_arg1))
      ∧ r.2.sem = fun _ => 0)

def quiescent_YmixIdeal [hYmixIdeal : Cert.YmixIdeal.Facts] : Prop :=
  ∀ (m : (ℓ : Loc Cert.YmixIdeal.nD Cert.YmixIdeal.τ Cert.YmixIdeal.sig) → Buf (Elt Ideal) ℓ) (g : Dev Cert.YmixIdeal.nD → PrngReg), Pre_YmixIdeal m →
    θ_run (Cert.YmixIdeal.defs (F := Ideal)) (onTc (τ := Cert.YmixIdeal.τ) (Cert.YmixIdeal.main (F := Ideal))) ⟨m, fun _ => 0, g⟩ (fun r => (∀ c : Dev Cert.YmixIdeal.nD,
      r.2.mem ((c.tc : Thread Cert.YmixIdeal.nD Cert.YmixIdeal.τ).loc Cert.YmixIdeal.main_arg0) = m ((c.tc : Thread Cert.YmixIdeal.nD Cert.YmixIdeal.τ).loc Cert.YmixIdeal.main_arg0)
      ∧ r.2.mem ((c.tc : Thread Cert.YmixIdeal.nD Cert.YmixIdeal.τ).loc Cert.YmixIdeal.main_arg1) = m ((c.tc : Thread Cert.YmixIdeal.nD Cert.YmixIdeal.τ).loc Cert.YmixIdeal.main_arg1))
      ∧ r.2.sem = fun _ => 0)

def quiescent_YmixRefIdeal [hYmixRefIdeal : Cert.YmixRefIdeal.Facts] : Prop :=
  ∀ (m : (ℓ : Loc Cert.YmixRefIdeal.nD Cert.YmixRefIdeal.τ Cert.YmixRefIdeal.sig) → Buf (Elt Ideal) ℓ) (g : Dev Cert.YmixRefIdeal.nD → PrngReg), Pre_YmixRefIdeal m →
    θ_run (Cert.YmixRefIdeal.defs (F := Ideal)) (onTc (τ := Cert.YmixRefIdeal.τ) (Cert.YmixRefIdeal.main (F := Ideal))) ⟨m, fun _ => 0, g⟩ (fun r => (∀ c : Dev Cert.YmixRefIdeal.nD,
      r.2.mem ((c.tc : Thread Cert.YmixRefIdeal.nD Cert.YmixRefIdeal.τ).loc Cert.YmixRefIdeal.main_arg0) = m ((c.tc : Thread Cert.YmixRefIdeal.nD Cert.YmixRefIdeal.τ).loc Cert.YmixRefIdeal.main_arg0)
      ∧ r.2.mem ((c.tc : Thread Cert.YmixRefIdeal.nD Cert.YmixRefIdeal.τ).loc Cert.YmixRefIdeal.main_arg1) = m ((c.tc : Thread Cert.YmixRefIdeal.nD Cert.YmixRefIdeal.τ).loc Cert.YmixRefIdeal.main_arg1))
      ∧ r.2.sem = fun _ => 0)

def quiescent_Mback [hMback : Cert.Mback.Facts] : Prop :=
  ∀ (m : (ℓ : Loc Cert.Mback.nD Cert.Mback.τ Cert.Mback.sig) → Buf (Elt Bits) ℓ) (g : Dev Cert.Mback.nD → PrngReg), Pre_Mback m →
    θ_run (Cert.Mback.defs (F := Bits)) (onTc (τ := Cert.Mback.τ) (Cert.Mback.main (F := Bits))) ⟨m, fun _ => 0, g⟩ (fun r => (∀ c : Dev Cert.Mback.nD,
      r.2.mem ((c.tc : Thread Cert.Mback.nD Cert.Mback.τ).loc Cert.Mback.main_arg0) = m ((c.tc : Thread Cert.Mback.nD Cert.Mback.τ).loc Cert.Mback.main_arg0)
      ∧ r.2.mem ((c.tc : Thread Cert.Mback.nD Cert.Mback.τ).loc Cert.Mback.main_arg1) = m ((c.tc : Thread Cert.Mback.nD Cert.Mback.τ).loc Cert.Mback.main_arg1)
      ∧ r.2.mem ((c.tc : Thread Cert.Mback.nD Cert.Mback.τ).loc Cert.Mback.main_arg2) = m ((c.tc : Thread Cert.Mback.nD Cert.Mback.τ).loc Cert.Mback.main_arg2)
      ∧ r.2.mem ((c.tc : Thread Cert.Mback.nD Cert.Mback.τ).loc Cert.Mback.main_arg3) = m ((c.tc : Thread Cert.Mback.nD Cert.Mback.τ).loc Cert.Mback.main_arg3)
      ∧ r.2.mem ((c.tc : Thread Cert.Mback.nD Cert.Mback.τ).loc Cert.Mback.main_arg4) = m ((c.tc : Thread Cert.Mback.nD Cert.Mback.τ).loc Cert.Mback.main_arg4)
      ∧ r.2.mem ((c.tc : Thread Cert.Mback.nD Cert.Mback.τ).loc Cert.Mback.main_arg5) = m ((c.tc : Thread Cert.Mback.nD Cert.Mback.τ).loc Cert.Mback.main_arg5)
      ∧ r.2.mem ((c.tc : Thread Cert.Mback.nD Cert.Mback.τ).loc Cert.Mback.main_arg6) = m ((c.tc : Thread Cert.Mback.nD Cert.Mback.τ).loc Cert.Mback.main_arg6)
      ∧ r.2.mem ((c.tc : Thread Cert.Mback.nD Cert.Mback.τ).loc Cert.Mback.main_arg7) = m ((c.tc : Thread Cert.Mback.nD Cert.Mback.τ).loc Cert.Mback.main_arg7))
      ∧ r.2.sem = fun _ => 0)

def quiescent_MbackIdeal [hMbackIdeal : Cert.MbackIdeal.Facts] : Prop :=
  ∀ (m : (ℓ : Loc Cert.MbackIdeal.nD Cert.MbackIdeal.τ Cert.MbackIdeal.sig) → Buf (Elt Ideal) ℓ) (g : Dev Cert.MbackIdeal.nD → PrngReg), Pre_MbackIdeal m →
    θ_run (Cert.MbackIdeal.defs (F := Ideal)) (onTc (τ := Cert.MbackIdeal.τ) (Cert.MbackIdeal.main (F := Ideal))) ⟨m, fun _ => 0, g⟩ (fun r => (∀ c : Dev Cert.MbackIdeal.nD,
      r.2.mem ((c.tc : Thread Cert.MbackIdeal.nD Cert.MbackIdeal.τ).loc Cert.MbackIdeal.main_arg0) = m ((c.tc : Thread Cert.MbackIdeal.nD Cert.MbackIdeal.τ).loc Cert.MbackIdeal.main_arg0)
      ∧ r.2.mem ((c.tc : Thread Cert.MbackIdeal.nD Cert.MbackIdeal.τ).loc Cert.MbackIdeal.main_arg1) = m ((c.tc : Thread Cert.MbackIdeal.nD Cert.MbackIdeal.τ).loc Cert.MbackIdeal.main_arg1)
      ∧ r.2.mem ((c.tc : Thread Cert.MbackIdeal.nD Cert.MbackIdeal.τ).loc Cert.MbackIdeal.main_arg2) = m ((c.tc : Thread Cert.MbackIdeal.nD Cert.MbackIdeal.τ).loc Cert.MbackIdeal.main_arg2)
      ∧ r.2.mem ((c.tc : Thread Cert.MbackIdeal.nD Cert.MbackIdeal.τ).loc Cert.MbackIdeal.main_arg3) = m ((c.tc : Thread Cert.MbackIdeal.nD Cert.MbackIdeal.τ).loc Cert.MbackIdeal.main_arg3)
      ∧ r.2.mem ((c.tc : Thread Cert.MbackIdeal.nD Cert.MbackIdeal.τ).loc Cert.MbackIdeal.main_arg4) = m ((c.tc : Thread Cert.MbackIdeal.nD Cert.MbackIdeal.τ).loc Cert.MbackIdeal.main_arg4)
      ∧ r.2.mem ((c.tc : Thread Cert.MbackIdeal.nD Cert.MbackIdeal.τ).loc Cert.MbackIdeal.main_arg5) = m ((c.tc : Thread Cert.MbackIdeal.nD Cert.MbackIdeal.τ).loc Cert.MbackIdeal.main_arg5)
      ∧ r.2.mem ((c.tc : Thread Cert.MbackIdeal.nD Cert.MbackIdeal.τ).loc Cert.MbackIdeal.main_arg6) = m ((c.tc : Thread Cert.MbackIdeal.nD Cert.MbackIdeal.τ).loc Cert.MbackIdeal.main_arg6)
      ∧ r.2.mem ((c.tc : Thread Cert.MbackIdeal.nD Cert.MbackIdeal.τ).loc Cert.MbackIdeal.main_arg7) = m ((c.tc : Thread Cert.MbackIdeal.nD Cert.MbackIdeal.τ).loc Cert.MbackIdeal.main_arg7))
      ∧ r.2.sem = fun _ => 0)

def quiescent_MbackRefIdeal [hMbackRefIdeal : Cert.MbackRefIdeal.Facts] : Prop :=
  ∀ (m : (ℓ : Loc Cert.MbackRefIdeal.nD Cert.MbackRefIdeal.τ Cert.MbackRefIdeal.sig) → Buf (Elt Ideal) ℓ) (g : Dev Cert.MbackRefIdeal.nD → PrngReg), Pre_MbackRefIdeal m →
    θ_run (Cert.MbackRefIdeal.defs (F := Ideal)) (onTc (τ := Cert.MbackRefIdeal.τ) (Cert.MbackRefIdeal.main (F := Ideal))) ⟨m, fun _ => 0, g⟩ (fun r => (∀ c : Dev Cert.MbackRefIdeal.nD,
      r.2.mem ((c.tc : Thread Cert.MbackRefIdeal.nD Cert.MbackRefIdeal.τ).loc Cert.MbackRefIdeal.main_arg0) = m ((c.tc : Thread Cert.MbackRefIdeal.nD Cert.MbackRefIdeal.τ).loc Cert.MbackRefIdeal.main_arg0)
      ∧ r.2.mem ((c.tc : Thread Cert.MbackRefIdeal.nD Cert.MbackRefIdeal.τ).loc Cert.MbackRefIdeal.main_arg1) = m ((c.tc : Thread Cert.MbackRefIdeal.nD Cert.MbackRefIdeal.τ).loc Cert.MbackRefIdeal.main_arg1)
      ∧ r.2.mem ((c.tc : Thread Cert.MbackRefIdeal.nD Cert.MbackRefIdeal.τ).loc Cert.MbackRefIdeal.main_arg2) = m ((c.tc : Thread Cert.MbackRefIdeal.nD Cert.MbackRefIdeal.τ).loc Cert.MbackRefIdeal.main_arg2)
      ∧ r.2.mem ((c.tc : Thread Cert.MbackRefIdeal.nD Cert.MbackRefIdeal.τ).loc Cert.MbackRefIdeal.main_arg3) = m ((c.tc : Thread Cert.MbackRefIdeal.nD Cert.MbackRefIdeal.τ).loc Cert.MbackRefIdeal.main_arg3)
      ∧ r.2.mem ((c.tc : Thread Cert.MbackRefIdeal.nD Cert.MbackRefIdeal.τ).loc Cert.MbackRefIdeal.main_arg4) = m ((c.tc : Thread Cert.MbackRefIdeal.nD Cert.MbackRefIdeal.τ).loc Cert.MbackRefIdeal.main_arg4)
      ∧ r.2.mem ((c.tc : Thread Cert.MbackRefIdeal.nD Cert.MbackRefIdeal.τ).loc Cert.MbackRefIdeal.main_arg5) = m ((c.tc : Thread Cert.MbackRefIdeal.nD Cert.MbackRefIdeal.τ).loc Cert.MbackRefIdeal.main_arg5)
      ∧ r.2.mem ((c.tc : Thread Cert.MbackRefIdeal.nD Cert.MbackRefIdeal.τ).loc Cert.MbackRefIdeal.main_arg6) = m ((c.tc : Thread Cert.MbackRefIdeal.nD Cert.MbackRefIdeal.τ).loc Cert.MbackRefIdeal.main_arg6)
      ∧ r.2.mem ((c.tc : Thread Cert.MbackRefIdeal.nD Cert.MbackRefIdeal.τ).loc Cert.MbackRefIdeal.main_arg7) = m ((c.tc : Thread Cert.MbackRefIdeal.nD Cert.MbackRefIdeal.τ).loc Cert.MbackRefIdeal.main_arg7))
      ∧ r.2.sem = fun _ => 0)

def quiescent_Mfwd [hMfwd : Cert.Mfwd.Facts] : Prop :=
  ∀ (m : (ℓ : Loc Cert.Mfwd.nD Cert.Mfwd.τ Cert.Mfwd.sig) → Buf (Elt Bits) ℓ) (g : Dev Cert.Mfwd.nD → PrngReg), Pre_Mfwd m →
    θ_run (Cert.Mfwd.defs (F := Bits)) (onTc (τ := Cert.Mfwd.τ) (Cert.Mfwd.main (F := Bits))) ⟨m, fun _ => 0, g⟩ (fun r => (∀ c : Dev Cert.Mfwd.nD,
      r.2.mem ((c.tc : Thread Cert.Mfwd.nD Cert.Mfwd.τ).loc Cert.Mfwd.main_arg0) = m ((c.tc : Thread Cert.Mfwd.nD Cert.Mfwd.τ).loc Cert.Mfwd.main_arg0)
      ∧ r.2.mem ((c.tc : Thread Cert.Mfwd.nD Cert.Mfwd.τ).loc Cert.Mfwd.main_arg1) = m ((c.tc : Thread Cert.Mfwd.nD Cert.Mfwd.τ).loc Cert.Mfwd.main_arg1)
      ∧ r.2.mem ((c.tc : Thread Cert.Mfwd.nD Cert.Mfwd.τ).loc Cert.Mfwd.main_arg2) = m ((c.tc : Thread Cert.Mfwd.nD Cert.Mfwd.τ).loc Cert.Mfwd.main_arg2)
      ∧ r.2.mem ((c.tc : Thread Cert.Mfwd.nD Cert.Mfwd.τ).loc Cert.Mfwd.main_arg3) = m ((c.tc : Thread Cert.Mfwd.nD Cert.Mfwd.τ).loc Cert.Mfwd.main_arg3)
      ∧ r.2.mem ((c.tc : Thread Cert.Mfwd.nD Cert.Mfwd.τ).loc Cert.Mfwd.main_arg4) = m ((c.tc : Thread Cert.Mfwd.nD Cert.Mfwd.τ).loc Cert.Mfwd.main_arg4)
      ∧ r.2.mem ((c.tc : Thread Cert.Mfwd.nD Cert.Mfwd.τ).loc Cert.Mfwd.main_arg5) = m ((c.tc : Thread Cert.Mfwd.nD Cert.Mfwd.τ).loc Cert.Mfwd.main_arg5)
      ∧ r.2.mem ((c.tc : Thread Cert.Mfwd.nD Cert.Mfwd.τ).loc Cert.Mfwd.main_arg6) = m ((c.tc : Thread Cert.Mfwd.nD Cert.Mfwd.τ).loc Cert.Mfwd.main_arg6))
      ∧ r.2.sem = fun _ => 0)

def quiescent_MfwdIdeal [hMfwdIdeal : Cert.MfwdIdeal.Facts] : Prop :=
  ∀ (m : (ℓ : Loc Cert.MfwdIdeal.nD Cert.MfwdIdeal.τ Cert.MfwdIdeal.sig) → Buf (Elt Ideal) ℓ) (g : Dev Cert.MfwdIdeal.nD → PrngReg), Pre_MfwdIdeal m →
    θ_run (Cert.MfwdIdeal.defs (F := Ideal)) (onTc (τ := Cert.MfwdIdeal.τ) (Cert.MfwdIdeal.main (F := Ideal))) ⟨m, fun _ => 0, g⟩ (fun r => (∀ c : Dev Cert.MfwdIdeal.nD,
      r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
      ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
      ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
      ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
      ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4)
      ∧ r.2.mem ((c.tc : Thread Cert.MfwdIdeal.nD Cert.MfwdIdeal.τ).loc Cert.MfwdIdeal.main_arg5) = m ((c.tc : Thread Cert.MfwdIdeal.nD Cert.MfwdIdeal.τ).loc Cert.MfwdIdeal.main_arg5)
      ∧ r.2.mem ((c.tc : Thread Cert.MfwdIdeal.nD Cert.MfwdIdeal.τ).loc Cert.MfwdIdeal.main_arg6) = m ((c.tc : Thread Cert.MfwdIdeal.nD Cert.MfwdIdeal.τ).loc Cert.MfwdIdeal.main_arg6))
      ∧ r.2.sem = fun _ => 0)

def quiescent_MfwdRefIdeal [hMfwdRefIdeal : Cert.MfwdRefIdeal.Facts] : Prop :=
  ∀ (m : (ℓ : Loc Cert.MfwdRefIdeal.nD Cert.MfwdRefIdeal.τ Cert.MfwdRefIdeal.sig) → Buf (Elt Ideal) ℓ) (g : Dev Cert.MfwdRefIdeal.nD → PrngReg), Pre_MfwdRefIdeal m →
    θ_run (Cert.MfwdRefIdeal.defs (F := Ideal)) (onTc (τ := Cert.MfwdRefIdeal.τ) (Cert.MfwdRefIdeal.main (F := Ideal))) ⟨m, fun _ => 0, g⟩ (fun r => (∀ c : Dev Cert.MfwdRefIdeal.nD,
      r.2.mem ((c.tc : Thread Cert.MfwdRefIdeal.nD Cert.MfwdRefIdeal.τ).loc Cert.MfwdRefIdeal.main_arg0) = m ((c.tc : Thread Cert.MfwdRefIdeal.nD Cert.MfwdRefIdeal.τ).loc Cert.MfwdRefIdeal.main_arg0)
      ∧ r.2.mem ((c.tc : Thread Cert.MfwdRefIdeal.nD Cert.MfwdRefIdeal.τ).loc Cert.MfwdRefIdeal.main_arg1) = m ((c.tc : Thread Cert.MfwdRefIdeal.nD Cert.MfwdRefIdeal.τ).loc Cert.MfwdRefIdeal.main_arg1)
      ∧ r.2.mem ((c.tc : Thread Cert.MfwdRefIdeal.nD Cert.MfwdRefIdeal.τ).loc Cert.MfwdRefIdeal.main_arg2) = m ((c.tc : Thread Cert.MfwdRefIdeal.nD Cert.MfwdRefIdeal.τ).loc Cert.MfwdRefIdeal.main_arg2)
      ∧ r.2.mem ((c.tc : Thread Cert.MfwdRefIdeal.nD Cert.MfwdRefIdeal.τ).loc Cert.MfwdRefIdeal.main_arg3) = m ((c.tc : Thread Cert.MfwdRefIdeal.nD Cert.MfwdRefIdeal.τ).loc Cert.MfwdRefIdeal.main_arg3)
      ∧ r.2.mem ((c.tc : Thread Cert.MfwdRefIdeal.nD Cert.MfwdRefIdeal.τ).loc Cert.MfwdRefIdeal.main_arg4) = m ((c.tc : Thread Cert.MfwdRefIdeal.nD Cert.MfwdRefIdeal.τ).loc Cert.MfwdRefIdeal.main_arg4)
      ∧ r.2.mem ((c.tc : Thread Cert.MfwdRefIdeal.nD Cert.MfwdRefIdeal.τ).loc Cert.MfwdRefIdeal.main_arg5) = m ((c.tc : Thread Cert.MfwdRefIdeal.nD Cert.MfwdRefIdeal.τ).loc Cert.MfwdRefIdeal.main_arg5)
      ∧ r.2.mem ((c.tc : Thread Cert.MfwdRefIdeal.nD Cert.MfwdRefIdeal.τ).loc Cert.MfwdRefIdeal.main_arg6) = m ((c.tc : Thread Cert.MfwdRefIdeal.nD Cert.MfwdRefIdeal.τ).loc Cert.MfwdRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_fwd [hAttnIdeal : Cert.AttnIdeal.Facts] [hPre_finite_fwd : Cert.Pre_finite_fwd.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_fwd m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_fwd [hAttnRefIdeal : Cert.AttnRefIdeal.Facts] [hPre_finite_fwd : Cert.Pre_finite_fwd.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_fwd m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dhid_DhidIdeal : Prop :=
  True

def algebraic_DhidIdeal_DhidRefIdeal [hDhidIdeal : Cert.DhidIdeal.Facts] [hDhidRefIdeal : Cert.DhidRefIdeal.Facts] : Prop :=
  ∀ (m : (ℓ : Loc Cert.DhidIdeal.nD Cert.DhidIdeal.τ Cert.DhidIdeal.sig) → Buf (Elt Ideal) ℓ) (g : Dev Cert.DhidIdeal.nD → PrngReg)
    (m' : (ℓ : Loc Cert.DhidRefIdeal.nD Cert.DhidRefIdeal.τ Cert.DhidRefIdeal.sig) → Buf (Elt Ideal) ℓ) (g' : Dev Cert.DhidRefIdeal.nD → PrngReg), Pre_DhidIdeal m →
    (∀ c : Dev Cert.DhidIdeal.nD,
      m' ((c.tc : Thread Cert.DhidRefIdeal.nD Cert.DhidRefIdeal.τ).loc Cert.DhidRefIdeal.main_arg0) = m ((c.tc : Thread Cert.DhidIdeal.nD Cert.DhidIdeal.τ).loc Cert.DhidIdeal.main_arg0)
      ∧ m' ((c.tc : Thread Cert.DhidRefIdeal.nD Cert.DhidRefIdeal.τ).loc Cert.DhidRefIdeal.main_arg1) = m ((c.tc : Thread Cert.DhidIdeal.nD Cert.DhidIdeal.τ).loc Cert.DhidIdeal.main_arg1)
      ∧ m' ((c.tc : Thread Cert.DhidRefIdeal.nD Cert.DhidRefIdeal.τ).loc Cert.DhidRefIdeal.main_arg2) = m ((c.tc : Thread Cert.DhidIdeal.nD Cert.DhidIdeal.τ).loc Cert.DhidIdeal.main_arg2)) →
    ∃ (v0 : (c : Dev Cert.DhidIdeal.nD) → Buf (Elt Ideal) ((c.tc : Thread Cert.DhidIdeal.nD Cert.DhidIdeal.τ).loc Cert.DhidIdeal.main_v5)),
      θ_run (Cert.DhidIdeal.defs (F := Ideal)) (onTc (τ := Cert.DhidIdeal.τ) (Cert.DhidIdeal.main (F := Ideal))) ⟨m, fun _ => 0, g⟩ (fun r => ∀ c : Dev Cert.DhidIdeal.nD,
          r.2.mem ((c.tc : Thread Cert.DhidIdeal.nD Cert.DhidIdeal.τ).loc Cert.DhidIdeal.main_v5) = v0 c
          ∧ r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
          ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
          ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2))
      ∧ θ_run (Cert.DhidRefIdeal.defs (F := Ideal)) (onTc (τ := Cert.DhidRefIdeal.τ) (Cert.DhidRefIdeal.main (F := Ideal))) ⟨m', fun _ => 0, g'⟩ (fun r => ∀ c : Dev Cert.DhidRefIdeal.nD,
          r.2.mem ((c.tc : Thread Cert.DhidRefIdeal.nD Cert.DhidRefIdeal.τ).loc Cert.DhidRefIdeal.main_v12) = v0 c
          ∧ r.2.mem ((c.tc : Thread Cert.DhidRefIdeal.nD Cert.DhidRefIdeal.τ).loc Cert.DhidRefIdeal.main_arg0) = m' ((c.tc : Thread Cert.DhidRefIdeal.nD Cert.DhidRefIdeal.τ).loc Cert.DhidRefIdeal.main_arg0)
          ∧ r.2.mem ((c.tc : Thread Cert.DhidRefIdeal.nD Cert.DhidRefIdeal.τ).loc Cert.DhidRefIdeal.main_arg1) = m' ((c.tc : Thread Cert.DhidRefIdeal.nD Cert.DhidRefIdeal.τ).loc Cert.DhidRefIdeal.main_arg1)
          ∧ r.2.mem ((c.tc : Thread Cert.DhidRefIdeal.nD Cert.DhidRefIdeal.τ).loc Cert.DhidRefIdeal.main_arg2) = m' ((c.tc : Thread Cert.DhidRefIdeal.nD Cert.DhidRefIdeal.τ).loc Cert.DhidRefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v4)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v4) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v5) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v5) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v4)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v4) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v2) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v2)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v2) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v3) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v2)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v2) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v2) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v2) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v3) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v2)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v2) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v2) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Hid_HidIdeal : Prop :=
  True

def algebraic_HidIdeal_HidRefIdeal [hHidIdeal : Cert.HidIdeal.Facts] [hHidRefIdeal : Cert.HidRefIdeal.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)) →
    ∃ (v0 : (c : Dev Cert.HidIdeal.nD) → Buf (Elt Ideal) ((c.tc : Thread Cert.HidIdeal.nD Cert.HidIdeal.τ).loc Cert.HidIdeal.main_v4)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v4) = v0 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v3) = v0 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1))

def preserves_Ymlp_YmlpIdeal : Prop :=
  True

def algebraic_YmlpIdeal_YmlpRefIdeal [hYmlpIdeal : Cert.YmlpIdeal.Facts] [hYmlpRefIdeal : Cert.YmlpRefIdeal.Facts] : Prop :=
  ∀ (m : (ℓ : Loc Cert.YmlpIdeal.nD Cert.YmlpIdeal.τ Cert.YmlpIdeal.sig) → Buf (Elt Ideal) ℓ) (g : Dev Cert.YmlpIdeal.nD → PrngReg)
    (m' : (ℓ : Loc Cert.YmlpRefIdeal.nD Cert.YmlpRefIdeal.τ Cert.YmlpRefIdeal.sig) → Buf (Elt Ideal) ℓ) (g' : Dev Cert.YmlpRefIdeal.nD → PrngReg), Pre_YmlpIdeal m →
    (∀ c : Dev Cert.YmlpIdeal.nD,
      m' ((c.tc : Thread Cert.YmlpRefIdeal.nD Cert.YmlpRefIdeal.τ).loc Cert.YmlpRefIdeal.main_arg0) = m ((c.tc : Thread Cert.YmlpIdeal.nD Cert.YmlpIdeal.τ).loc Cert.YmlpIdeal.main_arg0)
      ∧ m' ((c.tc : Thread Cert.YmlpRefIdeal.nD Cert.YmlpRefIdeal.τ).loc Cert.YmlpRefIdeal.main_arg1) = m ((c.tc : Thread Cert.YmlpIdeal.nD Cert.YmlpIdeal.τ).loc Cert.YmlpIdeal.main_arg1)) →
    ∃ (v0 : (c : Dev Cert.YmlpIdeal.nD) → Buf (Elt Ideal) ((c.tc : Thread Cert.YmlpIdeal.nD Cert.YmlpIdeal.τ).loc Cert.YmlpIdeal.main_v4)),
      θ_run (Cert.YmlpIdeal.defs (F := Ideal)) (onTc (τ := Cert.YmlpIdeal.τ) (Cert.YmlpIdeal.main (F := Ideal))) ⟨m, fun _ => 0, g⟩ (fun r => ∀ c : Dev Cert.YmlpIdeal.nD,
          r.2.mem ((c.tc : Thread Cert.YmlpIdeal.nD Cert.YmlpIdeal.τ).loc Cert.YmlpIdeal.main_v4) = v0 c
          ∧ r.2.mem ((c.tc : Thread Cert.YmlpIdeal.nD Cert.YmlpIdeal.τ).loc Cert.YmlpIdeal.main_arg0) = m ((c.tc : Thread Cert.YmlpIdeal.nD Cert.YmlpIdeal.τ).loc Cert.YmlpIdeal.main_arg0)
          ∧ r.2.mem ((c.tc : Thread Cert.YmlpIdeal.nD Cert.YmlpIdeal.τ).loc Cert.YmlpIdeal.main_arg1) = m ((c.tc : Thread Cert.YmlpIdeal.nD Cert.YmlpIdeal.τ).loc Cert.YmlpIdeal.main_arg1))
      ∧ θ_run (Cert.YmlpRefIdeal.defs (F := Ideal)) (onTc (τ := Cert.YmlpRefIdeal.τ) (Cert.YmlpRefIdeal.main (F := Ideal))) ⟨m', fun _ => 0, g'⟩ (fun r => ∀ c : Dev Cert.YmlpRefIdeal.nD,
          r.2.mem ((c.tc : Thread Cert.YmlpRefIdeal.nD Cert.YmlpRefIdeal.τ).loc Cert.YmlpRefIdeal.main_v2) = v0 c
          ∧ r.2.mem ((c.tc : Thread Cert.YmlpRefIdeal.nD Cert.YmlpRefIdeal.τ).loc Cert.YmlpRefIdeal.main_arg0) = m' ((c.tc : Thread Cert.YmlpRefIdeal.nD Cert.YmlpRefIdeal.τ).loc Cert.YmlpRefIdeal.main_arg0)
          ∧ r.2.mem ((c.tc : Thread Cert.YmlpRefIdeal.nD Cert.YmlpRefIdeal.τ).loc Cert.YmlpRefIdeal.main_arg1) = m' ((c.tc : Thread Cert.YmlpRefIdeal.nD Cert.YmlpRefIdeal.τ).loc Cert.YmlpRefIdeal.main_arg1))

def preserves_Ymix_YmixIdeal : Prop :=
  True

def algebraic_YmixIdeal_YmixRefIdeal [hYmixIdeal : Cert.YmixIdeal.Facts] [hYmixRefIdeal : Cert.YmixRefIdeal.Facts] : Prop :=
  ∀ (m : (ℓ : Loc Cert.YmixIdeal.nD Cert.YmixIdeal.τ Cert.YmixIdeal.sig) → Buf (Elt Ideal) ℓ) (g : Dev Cert.YmixIdeal.nD → PrngReg)
    (m' : (ℓ : Loc Cert.YmixRefIdeal.nD Cert.YmixRefIdeal.τ Cert.YmixRefIdeal.sig) → Buf (Elt Ideal) ℓ) (g' : Dev Cert.YmixRefIdeal.nD → PrngReg), Pre_YmixIdeal m →
    (∀ c : Dev Cert.YmixIdeal.nD,
      m' ((c.tc : Thread Cert.YmixRefIdeal.nD Cert.YmixRefIdeal.τ).loc Cert.YmixRefIdeal.main_arg0) = m ((c.tc : Thread Cert.YmixIdeal.nD Cert.YmixIdeal.τ).loc Cert.YmixIdeal.main_arg0)
      ∧ m' ((c.tc : Thread Cert.YmixRefIdeal.nD Cert.YmixRefIdeal.τ).loc Cert.YmixRefIdeal.main_arg1) = m ((c.tc : Thread Cert.YmixIdeal.nD Cert.YmixIdeal.τ).loc Cert.YmixIdeal.main_arg1)) →
    ∃ (v0 : (c : Dev Cert.YmixIdeal.nD) → Buf (Elt Ideal) ((c.tc : Thread Cert.YmixIdeal.nD Cert.YmixIdeal.τ).loc Cert.YmixIdeal.main_v2)),
      θ_run (Cert.YmixIdeal.defs (F := Ideal)) (onTc (τ := Cert.YmixIdeal.τ) (Cert.YmixIdeal.main (F := Ideal))) ⟨m, fun _ => 0, g⟩ (fun r => ∀ c : Dev Cert.YmixIdeal.nD,
          r.2.mem ((c.tc : Thread Cert.YmixIdeal.nD Cert.YmixIdeal.τ).loc Cert.YmixIdeal.main_v2) = v0 c
          ∧ r.2.mem ((c.tc : Thread Cert.YmixIdeal.nD Cert.YmixIdeal.τ).loc Cert.YmixIdeal.main_arg0) = m ((c.tc : Thread Cert.YmixIdeal.nD Cert.YmixIdeal.τ).loc Cert.YmixIdeal.main_arg0)
          ∧ r.2.mem ((c.tc : Thread Cert.YmixIdeal.nD Cert.YmixIdeal.τ).loc Cert.YmixIdeal.main_arg1) = m ((c.tc : Thread Cert.YmixIdeal.nD Cert.YmixIdeal.τ).loc Cert.YmixIdeal.main_arg1))
      ∧ θ_run (Cert.YmixRefIdeal.defs (F := Ideal)) (onTc (τ := Cert.YmixRefIdeal.τ) (Cert.YmixRefIdeal.main (F := Ideal))) ⟨m', fun _ => 0, g'⟩ (fun r => ∀ c : Dev Cert.YmixRefIdeal.nD,
          r.2.mem ((c.tc : Thread Cert.YmixRefIdeal.nD Cert.YmixRefIdeal.τ).loc Cert.YmixRefIdeal.main_v0) = v0 c
          ∧ r.2.mem ((c.tc : Thread Cert.YmixRefIdeal.nD Cert.YmixRefIdeal.τ).loc Cert.YmixRefIdeal.main_arg0) = m' ((c.tc : Thread Cert.YmixRefIdeal.nD Cert.YmixRefIdeal.τ).loc Cert.YmixRefIdeal.main_arg0)
          ∧ r.2.mem ((c.tc : Thread Cert.YmixRefIdeal.nD Cert.YmixRefIdeal.τ).loc Cert.YmixRefIdeal.main_arg1) = m' ((c.tc : Thread Cert.YmixRefIdeal.nD Cert.YmixRefIdeal.τ).loc Cert.YmixRefIdeal.main_arg1))

def preserves_Mback_MbackIdeal : Prop :=
  True

def algebraic_MbackIdeal_MbackRefIdeal [hMbackIdeal : Cert.MbackIdeal.Facts] [hMbackRefIdeal : Cert.MbackRefIdeal.Facts] : Prop :=
  ∀ (m : (ℓ : Loc Cert.MbackIdeal.nD Cert.MbackIdeal.τ Cert.MbackIdeal.sig) → Buf (Elt Ideal) ℓ) (g : Dev Cert.MbackIdeal.nD → PrngReg)
    (m' : (ℓ : Loc Cert.MbackRefIdeal.nD Cert.MbackRefIdeal.τ Cert.MbackRefIdeal.sig) → Buf (Elt Ideal) ℓ) (g' : Dev Cert.MbackRefIdeal.nD → PrngReg), Pre_MbackIdeal m →
    (∀ c : Dev Cert.MbackIdeal.nD,
      m' ((c.tc : Thread Cert.MbackRefIdeal.nD Cert.MbackRefIdeal.τ).loc Cert.MbackRefIdeal.main_arg0) = m ((c.tc : Thread Cert.MbackIdeal.nD Cert.MbackIdeal.τ).loc Cert.MbackIdeal.main_arg0)
      ∧ m' ((c.tc : Thread Cert.MbackRefIdeal.nD Cert.MbackRefIdeal.τ).loc Cert.MbackRefIdeal.main_arg1) = m ((c.tc : Thread Cert.MbackIdeal.nD Cert.MbackIdeal.τ).loc Cert.MbackIdeal.main_arg1)
      ∧ m' ((c.tc : Thread Cert.MbackRefIdeal.nD Cert.MbackRefIdeal.τ).loc Cert.MbackRefIdeal.main_arg2) = m ((c.tc : Thread Cert.MbackIdeal.nD Cert.MbackIdeal.τ).loc Cert.MbackIdeal.main_arg2)
      ∧ m' ((c.tc : Thread Cert.MbackRefIdeal.nD Cert.MbackRefIdeal.τ).loc Cert.MbackRefIdeal.main_arg3) = m ((c.tc : Thread Cert.MbackIdeal.nD Cert.MbackIdeal.τ).loc Cert.MbackIdeal.main_arg3)
      ∧ m' ((c.tc : Thread Cert.MbackRefIdeal.nD Cert.MbackRefIdeal.τ).loc Cert.MbackRefIdeal.main_arg4) = m ((c.tc : Thread Cert.MbackIdeal.nD Cert.MbackIdeal.τ).loc Cert.MbackIdeal.main_arg4)
      ∧ m' ((c.tc : Thread Cert.MbackRefIdeal.nD Cert.MbackRefIdeal.τ).loc Cert.MbackRefIdeal.main_arg5) = m ((c.tc : Thread Cert.MbackIdeal.nD Cert.MbackIdeal.τ).loc Cert.MbackIdeal.main_arg5)
      ∧ m' ((c.tc : Thread Cert.MbackRefIdeal.nD Cert.MbackRefIdeal.τ).loc Cert.MbackRefIdeal.main_arg6) = m ((c.tc : Thread Cert.MbackIdeal.nD Cert.MbackIdeal.τ).loc Cert.MbackIdeal.main_arg6)
      ∧ m' ((c.tc : Thread Cert.MbackRefIdeal.nD Cert.MbackRefIdeal.τ).loc Cert.MbackRefIdeal.main_arg7) = m ((c.tc : Thread Cert.MbackIdeal.nD Cert.MbackIdeal.τ).loc Cert.MbackIdeal.main_arg7)) →
    ∃ (v0 : (c : Dev Cert.MbackIdeal.nD) → Buf (Elt Ideal) ((c.tc : Thread Cert.MbackIdeal.nD Cert.MbackIdeal.τ).loc Cert.MbackIdeal.main_v6_0)) (v1 : (c : Dev Cert.MbackIdeal.nD) → Buf (Elt Ideal) ((c.tc : Thread Cert.MbackIdeal.nD Cert.MbackIdeal.τ).loc Cert.MbackIdeal.main_v6_1)) (v2 : (c : Dev Cert.MbackIdeal.nD) → Buf (Elt Ideal) ((c.tc : Thread Cert.MbackIdeal.nD Cert.MbackIdeal.τ).loc Cert.MbackIdeal.main_v6_2)) (v3 : (c : Dev Cert.MbackIdeal.nD) → Buf (Elt Ideal) ((c.tc : Thread Cert.MbackIdeal.nD Cert.MbackIdeal.τ).loc Cert.MbackIdeal.main_v6_3)) (v4 : (c : Dev Cert.MbackIdeal.nD) → Buf (Elt Ideal) ((c.tc : Thread Cert.MbackIdeal.nD Cert.MbackIdeal.τ).loc Cert.MbackIdeal.main_v6_4)) (v5 : (c : Dev Cert.MbackIdeal.nD) → Buf (Elt Ideal) ((c.tc : Thread Cert.MbackIdeal.nD Cert.MbackIdeal.τ).loc Cert.MbackIdeal.main_v6_5)) (v6 : (c : Dev Cert.MbackIdeal.nD) → Buf (Elt Ideal) ((c.tc : Thread Cert.MbackIdeal.nD Cert.MbackIdeal.τ).loc Cert.MbackIdeal.main_v6_6)),
      θ_run (Cert.MbackIdeal.defs (F := Ideal)) (onTc (τ := Cert.MbackIdeal.τ) (Cert.MbackIdeal.main (F := Ideal))) ⟨m, fun _ => 0, g⟩ (fun r => ∀ c : Dev Cert.MbackIdeal.nD,
          r.2.mem ((c.tc : Thread Cert.MbackIdeal.nD Cert.MbackIdeal.τ).loc Cert.MbackIdeal.main_v6_0) = v0 c
          ∧ r.2.mem ((c.tc : Thread Cert.MbackIdeal.nD Cert.MbackIdeal.τ).loc Cert.MbackIdeal.main_v6_1) = v1 c
          ∧ r.2.mem ((c.tc : Thread Cert.MbackIdeal.nD Cert.MbackIdeal.τ).loc Cert.MbackIdeal.main_v6_2) = v2 c
          ∧ r.2.mem ((c.tc : Thread Cert.MbackIdeal.nD Cert.MbackIdeal.τ).loc Cert.MbackIdeal.main_v6_3) = v3 c
          ∧ r.2.mem ((c.tc : Thread Cert.MbackIdeal.nD Cert.MbackIdeal.τ).loc Cert.MbackIdeal.main_v6_4) = v4 c
          ∧ r.2.mem ((c.tc : Thread Cert.MbackIdeal.nD Cert.MbackIdeal.τ).loc Cert.MbackIdeal.main_v6_5) = v5 c
          ∧ r.2.mem ((c.tc : Thread Cert.MbackIdeal.nD Cert.MbackIdeal.τ).loc Cert.MbackIdeal.main_v6_6) = v6 c
          ∧ r.2.mem ((c.tc : Thread Cert.MbackIdeal.nD Cert.MbackIdeal.τ).loc Cert.MbackIdeal.main_arg0) = m ((c.tc : Thread Cert.MbackIdeal.nD Cert.MbackIdeal.τ).loc Cert.MbackIdeal.main_arg0)
          ∧ r.2.mem ((c.tc : Thread Cert.MbackIdeal.nD Cert.MbackIdeal.τ).loc Cert.MbackIdeal.main_arg1) = m ((c.tc : Thread Cert.MbackIdeal.nD Cert.MbackIdeal.τ).loc Cert.MbackIdeal.main_arg1)
          ∧ r.2.mem ((c.tc : Thread Cert.MbackIdeal.nD Cert.MbackIdeal.τ).loc Cert.MbackIdeal.main_arg2) = m ((c.tc : Thread Cert.MbackIdeal.nD Cert.MbackIdeal.τ).loc Cert.MbackIdeal.main_arg2)
          ∧ r.2.mem ((c.tc : Thread Cert.MbackIdeal.nD Cert.MbackIdeal.τ).loc Cert.MbackIdeal.main_arg3) = m ((c.tc : Thread Cert.MbackIdeal.nD Cert.MbackIdeal.τ).loc Cert.MbackIdeal.main_arg3)
          ∧ r.2.mem ((c.tc : Thread Cert.MbackIdeal.nD Cert.MbackIdeal.τ).loc Cert.MbackIdeal.main_arg4) = m ((c.tc : Thread Cert.MbackIdeal.nD Cert.MbackIdeal.τ).loc Cert.MbackIdeal.main_arg4)
          ∧ r.2.mem ((c.tc : Thread Cert.MbackIdeal.nD Cert.MbackIdeal.τ).loc Cert.MbackIdeal.main_arg5) = m ((c.tc : Thread Cert.MbackIdeal.nD Cert.MbackIdeal.τ).loc Cert.MbackIdeal.main_arg5)
          ∧ r.2.mem ((c.tc : Thread Cert.MbackIdeal.nD Cert.MbackIdeal.τ).loc Cert.MbackIdeal.main_arg6) = m ((c.tc : Thread Cert.MbackIdeal.nD Cert.MbackIdeal.τ).loc Cert.MbackIdeal.main_arg6)
          ∧ r.2.mem ((c.tc : Thread Cert.MbackIdeal.nD Cert.MbackIdeal.τ).loc Cert.MbackIdeal.main_arg7) = m ((c.tc : Thread Cert.MbackIdeal.nD Cert.MbackIdeal.τ).loc Cert.MbackIdeal.main_arg7))
      ∧ θ_run (Cert.MbackRefIdeal.defs (F := Ideal)) (onTc (τ := Cert.MbackRefIdeal.τ) (Cert.MbackRefIdeal.main (F := Ideal))) ⟨m', fun _ => 0, g'⟩ (fun r => ∀ c : Dev Cert.MbackRefIdeal.nD,
          r.2.mem ((c.tc : Thread Cert.MbackRefIdeal.nD Cert.MbackRefIdeal.τ).loc Cert.MbackRefIdeal.main_v52) = v0 c
          ∧ r.2.mem ((c.tc : Thread Cert.MbackRefIdeal.nD Cert.MbackRefIdeal.τ).loc Cert.MbackRefIdeal.main_v46) = v1 c
          ∧ r.2.mem ((c.tc : Thread Cert.MbackRefIdeal.nD Cert.MbackRefIdeal.τ).loc Cert.MbackRefIdeal.main_v38) = v2 c
          ∧ r.2.mem ((c.tc : Thread Cert.MbackRefIdeal.nD Cert.MbackRefIdeal.τ).loc Cert.MbackRefIdeal.main_v31) = v3 c
          ∧ r.2.mem ((c.tc : Thread Cert.MbackRefIdeal.nD Cert.MbackRefIdeal.τ).loc Cert.MbackRefIdeal.main_v45) = v4 c
          ∧ r.2.mem ((c.tc : Thread Cert.MbackRefIdeal.nD Cert.MbackRefIdeal.τ).loc Cert.MbackRefIdeal.main_v37) = v5 c
          ∧ r.2.mem ((c.tc : Thread Cert.MbackRefIdeal.nD Cert.MbackRefIdeal.τ).loc Cert.MbackRefIdeal.main_v30) = v6 c
          ∧ r.2.mem ((c.tc : Thread Cert.MbackRefIdeal.nD Cert.MbackRefIdeal.τ).loc Cert.MbackRefIdeal.main_arg0) = m' ((c.tc : Thread Cert.MbackRefIdeal.nD Cert.MbackRefIdeal.τ).loc Cert.MbackRefIdeal.main_arg0)
          ∧ r.2.mem ((c.tc : Thread Cert.MbackRefIdeal.nD Cert.MbackRefIdeal.τ).loc Cert.MbackRefIdeal.main_arg1) = m' ((c.tc : Thread Cert.MbackRefIdeal.nD Cert.MbackRefIdeal.τ).loc Cert.MbackRefIdeal.main_arg1)
          ∧ r.2.mem ((c.tc : Thread Cert.MbackRefIdeal.nD Cert.MbackRefIdeal.τ).loc Cert.MbackRefIdeal.main_arg2) = m' ((c.tc : Thread Cert.MbackRefIdeal.nD Cert.MbackRefIdeal.τ).loc Cert.MbackRefIdeal.main_arg2)
          ∧ r.2.mem ((c.tc : Thread Cert.MbackRefIdeal.nD Cert.MbackRefIdeal.τ).loc Cert.MbackRefIdeal.main_arg3) = m' ((c.tc : Thread Cert.MbackRefIdeal.nD Cert.MbackRefIdeal.τ).loc Cert.MbackRefIdeal.main_arg3)
          ∧ r.2.mem ((c.tc : Thread Cert.MbackRefIdeal.nD Cert.MbackRefIdeal.τ).loc Cert.MbackRefIdeal.main_arg4) = m' ((c.tc : Thread Cert.MbackRefIdeal.nD Cert.MbackRefIdeal.τ).loc Cert.MbackRefIdeal.main_arg4)
          ∧ r.2.mem ((c.tc : Thread Cert.MbackRefIdeal.nD Cert.MbackRefIdeal.τ).loc Cert.MbackRefIdeal.main_arg5) = m' ((c.tc : Thread Cert.MbackRefIdeal.nD Cert.MbackRefIdeal.τ).loc Cert.MbackRefIdeal.main_arg5)
          ∧ r.2.mem ((c.tc : Thread Cert.MbackRefIdeal.nD Cert.MbackRefIdeal.τ).loc Cert.MbackRefIdeal.main_arg6) = m' ((c.tc : Thread Cert.MbackRefIdeal.nD Cert.MbackRefIdeal.τ).loc Cert.MbackRefIdeal.main_arg6)
          ∧ r.2.mem ((c.tc : Thread Cert.MbackRefIdeal.nD Cert.MbackRefIdeal.τ).loc Cert.MbackRefIdeal.main_arg7) = m' ((c.tc : Thread Cert.MbackRefIdeal.nD Cert.MbackRefIdeal.τ).loc Cert.MbackRefIdeal.main_arg7))

def preserves_Mfwd_MfwdIdeal : Prop :=
  True

def algebraic_MfwdIdeal_MfwdRefIdeal [hMfwdIdeal : Cert.MfwdIdeal.Facts] [hMfwdRefIdeal : Cert.MfwdRefIdeal.Facts] : Prop :=
  ∀ (m : (ℓ : Loc Cert.MfwdIdeal.nD Cert.MfwdIdeal.τ Cert.MfwdIdeal.sig) → Buf (Elt Ideal) ℓ) (g : Dev Cert.MfwdIdeal.nD → PrngReg)
    (m' : (ℓ : Loc Cert.MfwdRefIdeal.nD Cert.MfwdRefIdeal.τ Cert.MfwdRefIdeal.sig) → Buf (Elt Ideal) ℓ) (g' : Dev Cert.MfwdRefIdeal.nD → PrngReg), Pre_MfwdIdeal m →
    (∀ c : Dev Cert.MfwdIdeal.nD,
      m' ((c.tc : Thread Cert.MfwdRefIdeal.nD Cert.MfwdRefIdeal.τ).loc Cert.MfwdRefIdeal.main_arg0) = m ((c.tc : Thread Cert.MfwdIdeal.nD Cert.MfwdIdeal.τ).loc Cert.MfwdIdeal.main_arg0)
      ∧ m' ((c.tc : Thread Cert.MfwdRefIdeal.nD Cert.MfwdRefIdeal.τ).loc Cert.MfwdRefIdeal.main_arg1) = m ((c.tc : Thread Cert.MfwdIdeal.nD Cert.MfwdIdeal.τ).loc Cert.MfwdIdeal.main_arg1)
      ∧ m' ((c.tc : Thread Cert.MfwdRefIdeal.nD Cert.MfwdRefIdeal.τ).loc Cert.MfwdRefIdeal.main_arg2) = m ((c.tc : Thread Cert.MfwdIdeal.nD Cert.MfwdIdeal.τ).loc Cert.MfwdIdeal.main_arg2)
      ∧ m' ((c.tc : Thread Cert.MfwdRefIdeal.nD Cert.MfwdRefIdeal.τ).loc Cert.MfwdRefIdeal.main_arg3) = m ((c.tc : Thread Cert.MfwdIdeal.nD Cert.MfwdIdeal.τ).loc Cert.MfwdIdeal.main_arg3)
      ∧ m' ((c.tc : Thread Cert.MfwdRefIdeal.nD Cert.MfwdRefIdeal.τ).loc Cert.MfwdRefIdeal.main_arg4) = m ((c.tc : Thread Cert.MfwdIdeal.nD Cert.MfwdIdeal.τ).loc Cert.MfwdIdeal.main_arg4)
      ∧ m' ((c.tc : Thread Cert.MfwdRefIdeal.nD Cert.MfwdRefIdeal.τ).loc Cert.MfwdRefIdeal.main_arg5) = m ((c.tc : Thread Cert.MfwdIdeal.nD Cert.MfwdIdeal.τ).loc Cert.MfwdIdeal.main_arg5)
      ∧ m' ((c.tc : Thread Cert.MfwdRefIdeal.nD Cert.MfwdRefIdeal.τ).loc Cert.MfwdRefIdeal.main_arg6) = m ((c.tc : Thread Cert.MfwdIdeal.nD Cert.MfwdIdeal.τ).loc Cert.MfwdIdeal.main_arg6)) →
    ∃ (v0 : (c : Dev Cert.MfwdIdeal.nD) → Buf (Elt Ideal) ((c.tc : Thread Cert.MfwdIdeal.nD Cert.MfwdIdeal.τ).loc Cert.MfwdIdeal.main_v6)),
      θ_run (Cert.MfwdIdeal.defs (F := Ideal)) (onTc (τ := Cert.MfwdIdeal.τ) (Cert.MfwdIdeal.main (F := Ideal))) ⟨m, fun _ => 0, g⟩ (fun r => ∀ c : Dev Cert.MfwdIdeal.nD,
          r.2.mem ((c.tc : Thread Cert.MfwdIdeal.nD Cert.MfwdIdeal.τ).loc Cert.MfwdIdeal.main_v6) = v0 c
          ∧ r.2.mem ((c.tc : Thread Cert.MfwdIdeal.nD Cert.MfwdIdeal.τ).loc Cert.MfwdIdeal.main_arg0) = m ((c.tc : Thread Cert.MfwdIdeal.nD Cert.MfwdIdeal.τ).loc Cert.MfwdIdeal.main_arg0)
          ∧ r.2.mem ((c.tc : Thread Cert.MfwdIdeal.nD Cert.MfwdIdeal.τ).loc Cert.MfwdIdeal.main_arg1) = m ((c.tc : Thread Cert.MfwdIdeal.nD Cert.MfwdIdeal.τ).loc Cert.MfwdIdeal.main_arg1)
          ∧ r.2.mem ((c.tc : Thread Cert.MfwdIdeal.nD Cert.MfwdIdeal.τ).loc Cert.MfwdIdeal.main_arg2) = m ((c.tc : Thread Cert.MfwdIdeal.nD Cert.MfwdIdeal.τ).loc Cert.MfwdIdeal.main_arg2)
          ∧ r.2.mem ((c.tc : Thread Cert.MfwdIdeal.nD Cert.MfwdIdeal.τ).loc Cert.MfwdIdeal.main_arg3) = m ((c.tc : Thread Cert.MfwdIdeal.nD Cert.MfwdIdeal.τ).loc Cert.MfwdIdeal.main_arg3)
          ∧ r.2.mem ((c.tc : Thread Cert.MfwdIdeal.nD Cert.MfwdIdeal.τ).loc Cert.MfwdIdeal.main_arg4) = m ((c.tc : Thread Cert.MfwdIdeal.nD Cert.MfwdIdeal.τ).loc Cert.MfwdIdeal.main_arg4)
          ∧ r.2.mem ((c.tc : Thread Cert.MfwdIdeal.nD Cert.MfwdIdeal.τ).loc Cert.MfwdIdeal.main_arg5) = m ((c.tc : Thread Cert.MfwdIdeal.nD Cert.MfwdIdeal.τ).loc Cert.MfwdIdeal.main_arg5)
          ∧ r.2.mem ((c.tc : Thread Cert.MfwdIdeal.nD Cert.MfwdIdeal.τ).loc Cert.MfwdIdeal.main_arg6) = m ((c.tc : Thread Cert.MfwdIdeal.nD Cert.MfwdIdeal.τ).loc Cert.MfwdIdeal.main_arg6))
      ∧ θ_run (Cert.MfwdRefIdeal.defs (F := Ideal)) (onTc (τ := Cert.MfwdRefIdeal.τ) (Cert.MfwdRefIdeal.main (F := Ideal))) ⟨m', fun _ => 0, g'⟩ (fun r => ∀ c : Dev Cert.MfwdRefIdeal.nD,
          r.2.mem ((c.tc : Thread Cert.MfwdRefIdeal.nD Cert.MfwdRefIdeal.τ).loc Cert.MfwdRefIdeal.main_v22) = v0 c
          ∧ r.2.mem ((c.tc : Thread Cert.MfwdRefIdeal.nD Cert.MfwdRefIdeal.τ).loc Cert.MfwdRefIdeal.main_arg0) = m' ((c.tc : Thread Cert.MfwdRefIdeal.nD Cert.MfwdRefIdeal.τ).loc Cert.MfwdRefIdeal.main_arg0)
          ∧ r.2.mem ((c.tc : Thread Cert.MfwdRefIdeal.nD Cert.MfwdRefIdeal.τ).loc Cert.MfwdRefIdeal.main_arg1) = m' ((c.tc : Thread Cert.MfwdRefIdeal.nD Cert.MfwdRefIdeal.τ).loc Cert.MfwdRefIdeal.main_arg1)
          ∧ r.2.mem ((c.tc : Thread Cert.MfwdRefIdeal.nD Cert.MfwdRefIdeal.τ).loc Cert.MfwdRefIdeal.main_arg2) = m' ((c.tc : Thread Cert.MfwdRefIdeal.nD Cert.MfwdRefIdeal.τ).loc Cert.MfwdRefIdeal.main_arg2)
          ∧ r.2.mem ((c.tc : Thread Cert.MfwdRefIdeal.nD Cert.MfwdRefIdeal.τ).loc Cert.MfwdRefIdeal.main_arg3) = m' ((c.tc : Thread Cert.MfwdRefIdeal.nD Cert.MfwdRefIdeal.τ).loc Cert.MfwdRefIdeal.main_arg3)
          ∧ r.2.mem ((c.tc : Thread Cert.MfwdRefIdeal.nD Cert.MfwdRefIdeal.τ).loc Cert.MfwdRefIdeal.main_arg4) = m' ((c.tc : Thread Cert.MfwdRefIdeal.nD Cert.MfwdRefIdeal.τ).loc Cert.MfwdRefIdeal.main_arg4)
          ∧ r.2.mem ((c.tc : Thread Cert.MfwdRefIdeal.nD Cert.MfwdRefIdeal.τ).loc Cert.MfwdRefIdeal.main_arg5) = m' ((c.tc : Thread Cert.MfwdRefIdeal.nD Cert.MfwdRefIdeal.τ).loc Cert.MfwdRefIdeal.main_arg5)
          ∧ r.2.mem ((c.tc : Thread Cert.MfwdRefIdeal.nD Cert.MfwdRefIdeal.τ).loc Cert.MfwdRefIdeal.main_arg6) = m' ((c.tc : Thread Cert.MfwdRefIdeal.nD Cert.MfwdRefIdeal.τ).loc Cert.MfwdRefIdeal.main_arg6))

def preserves_Attn_AttnIdeal : Prop :=
  IdealRules.named_const.Statement Cert.AttnIdeal.κ "mask" .f32 0xF149F2CA#32 ⊥

def algebraic_AttnIdeal_AttnRefIdeal_pre_finite_fwd [hAttnIdeal : Cert.AttnIdeal.Facts] [hAttnRefIdeal : Cert.AttnRefIdeal.Facts] [hPre_finite_fwd : Cert.Pre_finite_fwd.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_fwd m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v4_0)) (v1 : (c : Dev Cert.AttnIdeal.nD) → Buf (Elt Ideal) ((c.tc : Thread Cert.AttnIdeal.nD Cert.AttnIdeal.τ).loc Cert.AttnIdeal.main_v4_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4_0) = v0 c
          ∧ r.2.mem ((c.tc : Thread Cert.AttnIdeal.nD Cert.AttnIdeal.τ).loc Cert.AttnIdeal.main_v4_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_v44) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hKernel : Cert.Kernel.Facts) (hKernelIdeal : Cert.KernelIdeal.Facts) (hReferenceIdeal : Cert.ReferenceIdeal.Facts) (hDhid : Cert.Dhid.Facts) (hDhidIdeal : Cert.DhidIdeal.Facts) (hDhidRefIdeal : Cert.DhidRefIdeal.Facts) (hDw2 : Cert.Dw2.Facts) (hDw2Ideal : Cert.Dw2Ideal.Facts) (hDw2RefIdeal : Cert.Dw2RefIdeal.Facts) (hDw1 : Cert.Dw1.Facts) (hDw1Ideal : Cert.Dw1Ideal.Facts) (hDw1RefIdeal : Cert.Dw1RefIdeal.Facts) (hDh2 : Cert.Dh2.Facts) (hDh2Ideal : Cert.Dh2Ideal.Facts) (hDh2RefIdeal : Cert.Dh2RefIdeal.Facts) (hDwin : Cert.Dwin.Facts) (hDwinIdeal : Cert.DwinIdeal.Facts) (hDwinRefIdeal : Cert.DwinRefIdeal.Facts) (hDh1 : Cert.Dh1.Facts) (hDh1Ideal : Cert.Dh1Ideal.Facts) (hDh1RefIdeal : Cert.Dh1RefIdeal.Facts) (hDwout : Cert.Dwout.Facts) (hDwoutIdeal : Cert.DwoutIdeal.Facts) (hDwoutRefIdeal : Cert.DwoutRefIdeal.Facts) (hDmerged : Cert.Dmerged.Facts) (hDmergedIdeal : Cert.DmergedIdeal.Facts) (hDmergedRefIdeal : Cert.DmergedRefIdeal.Facts) (hProj : Cert.Proj.Facts) (hProjIdeal : Cert.ProjIdeal.Facts) (hProjRefIdeal : Cert.ProjRefIdeal.Facts) (hHid : Cert.Hid.Facts) (hHidIdeal : Cert.HidIdeal.Facts) (hHidRefIdeal : Cert.HidRefIdeal.Facts) (hYmlp : Cert.Ymlp.Facts) (hYmlpIdeal : Cert.YmlpIdeal.Facts) (hYmlpRefIdeal : Cert.YmlpRefIdeal.Facts) (hYmix : Cert.Ymix.Facts) (hYmixIdeal : Cert.YmixIdeal.Facts) (hYmixRefIdeal : Cert.YmixRefIdeal.Facts) (hMback : Cert.Mback.Facts) (hMbackIdeal : Cert.MbackIdeal.Facts) (hMbackRefIdeal : Cert.MbackRefIdeal.Facts) (hMfwd : Cert.Mfwd.Facts) (hMfwdIdeal : Cert.MfwdIdeal.Facts) (hMfwdRefIdeal : Cert.MfwdRefIdeal.Facts) (hAttn : Cert.Attn.Facts) (hAttnIdeal : Cert.AttnIdeal.Facts) (hAttnRefIdeal : Cert.AttnRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dhid (hDhid := hDhid)
    ∧ quiescent_DhidIdeal (hDhidIdeal := hDhidIdeal)
    ∧ quiescent_DhidRefIdeal (hDhidRefIdeal := hDhidRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_Proj (hProj := hProj)
    ∧ quiescent_ProjIdeal (hProjIdeal := hProjIdeal)
    ∧ quiescent_ProjRefIdeal (hProjRefIdeal := hProjRefIdeal)
    ∧ quiescent_Hid (hHid := hHid)
    ∧ quiescent_HidIdeal (hHidIdeal := hHidIdeal)
    ∧ quiescent_HidRefIdeal (hHidRefIdeal := hHidRefIdeal)
    ∧ quiescent_Ymlp (hYmlp := hYmlp)
    ∧ quiescent_YmlpIdeal (hYmlpIdeal := hYmlpIdeal)
    ∧ quiescent_YmlpRefIdeal (hYmlpRefIdeal := hYmlpRefIdeal)
    ∧ quiescent_Ymix (hYmix := hYmix)
    ∧ quiescent_YmixIdeal (hYmixIdeal := hYmixIdeal)
    ∧ quiescent_YmixRefIdeal (hYmixRefIdeal := hYmixRefIdeal)
    ∧ quiescent_Mback (hMback := hMback)
    ∧ quiescent_MbackIdeal (hMbackIdeal := hMbackIdeal)
    ∧ quiescent_MbackRefIdeal (hMbackRefIdeal := hMbackRefIdeal)
    ∧ quiescent_Mfwd (hMfwd := hMfwd)
    ∧ quiescent_MfwdIdeal (hMfwdIdeal := hMfwdIdeal)
    ∧ quiescent_MfwdRefIdeal (hMfwdRefIdeal := hMfwdRefIdeal)
    ∧ quiescent_Attn (hAttn := hAttn)
    ∧ quiescent_AttnIdeal (hAttnIdeal := hAttnIdeal)
    ∧ quiescent_AttnIdeal_pre_finite_fwd (hAttnIdeal := hAttnIdeal) (hPre_finite_fwd := hPre_finite_fwd)
    ∧ quiescent_AttnRefIdeal (hAttnRefIdeal := hAttnRefIdeal)
    ∧ quiescent_AttnRefIdeal_pre_finite_fwd (hAttnRefIdeal := hAttnRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Dhid_DhidIdeal
    ∧ algebraic_DhidIdeal_DhidRefIdeal (hDhidIdeal := hDhidIdeal) (hDhidRefIdeal := hDhidRefIdeal)
    ∧ preserves_Dw2_Dw2Ideal
    ∧ algebraic_Dw2Ideal_Dw2RefIdeal (hDw2Ideal := hDw2Ideal) (hDw2RefIdeal := hDw2RefIdeal)
    ∧ preserves_Dw1_Dw1Ideal
    ∧ algebraic_Dw1Ideal_Dw1RefIdeal (hDw1Ideal := hDw1Ideal) (hDw1RefIdeal := hDw1RefIdeal)
    ∧ preserves_Dh2_Dh2Ideal
    ∧ algebraic_Dh2Ideal_Dh2RefIdeal (hDh2Ideal := hDh2Ideal) (hDh2RefIdeal := hDh2RefIdeal)
    ∧ preserves_Dwin_DwinIdeal
    ∧ algebraic_DwinIdeal_DwinRefIdeal (hDwinIdeal := hDwinIdeal) (hDwinRefIdeal := hDwinRefIdeal)
    ∧ preserves_Dh1_Dh1Ideal
    ∧ algebraic_Dh1Ideal_Dh1RefIdeal (hDh1Ideal := hDh1Ideal) (hDh1RefIdeal := hDh1RefIdeal)
    ∧ preserves_Dwout_DwoutIdeal
    ∧ algebraic_DwoutIdeal_DwoutRefIdeal (hDwoutIdeal := hDwoutIdeal) (hDwoutRefIdeal := hDwoutRefIdeal)
    ∧ preserves_Dmerged_DmergedIdeal
    ∧ algebraic_DmergedIdeal_DmergedRefIdeal (hDmergedIdeal := hDmergedIdeal) (hDmergedRefIdeal := hDmergedRefIdeal)
    ∧ preserves_Proj_ProjIdeal
    ∧ algebraic_ProjIdeal_ProjRefIdeal (hProjIdeal := hProjIdeal) (hProjRefIdeal := hProjRefIdeal)
    ∧ preserves_Hid_HidIdeal
    ∧ algebraic_HidIdeal_HidRefIdeal (hHidIdeal := hHidIdeal) (hHidRefIdeal := hHidRefIdeal)
    ∧ preserves_Ymlp_YmlpIdeal
    ∧ algebraic_YmlpIdeal_YmlpRefIdeal (hYmlpIdeal := hYmlpIdeal) (hYmlpRefIdeal := hYmlpRefIdeal)
    ∧ preserves_Ymix_YmixIdeal
    ∧ algebraic_YmixIdeal_YmixRefIdeal (hYmixIdeal := hYmixIdeal) (hYmixRefIdeal := hYmixRefIdeal)
    ∧ preserves_Mback_MbackIdeal
    ∧ algebraic_MbackIdeal_MbackRefIdeal (hMbackIdeal := hMbackIdeal) (hMbackRefIdeal := hMbackRefIdeal)
    ∧ preserves_Mfwd_MfwdIdeal
    ∧ algebraic_MfwdIdeal_MfwdRefIdeal (hMfwdIdeal := hMfwdIdeal) (hMfwdRefIdeal := hMfwdRefIdeal)
    ∧ preserves_Attn_AttnIdeal
    ∧ algebraic_AttnIdeal_AttnRefIdeal_pre_finite_fwd (hAttnIdeal := hAttnIdeal) (hAttnRefIdeal := hAttnRefIdeal) (hPre_finite_fwd := hPre_finite_fwd)
-- ==== Pre_finite.lean ====
abbrev S4096x512 : Shape := ⟨2, ![4096, 512]⟩
abbrev S8x4096 : Shape := ⟨2, ![8, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S4096x512 .f32) (main_arg3 : FVec F S8x4096 .f32) (main_arg4 : FVec F S4096x512 .f32) (main_v12 : IVec S_ 1) (main_v14 : IVec S4096x512 1) (main_v15 : FVec F S4096x512 .f32) : IVec S_ 1 :=
  let main_v16 : IVec S4096x512 1 := cmpf .olt main_arg2 main_v15
  let main_v17 : IVec S4096x512 1 := andi main_v14 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v12 main_v18
  let main_cst_7 : FVec F S_ .f32 := constant S_ .f32 0xFF800000#32
  let main_v20 : FVec F S8x4096 .f32 := broadcastInDim S8x4096 ![] bcast_S_S8x4096 main_cst_7
  let main_v21 : IVec S8x4096 1 := cmpf .ogt main_arg3 main_v20
  let main_cst_8 : FVec F S_ .f32 := constant S_ .f32 0x7F800000#32
  let main_v22 : FVec F S8x4096 .f32 := broadcastInDim S8x4096 ![] bcast_S_S8x4096 main_cst_8
  let main_v23 : IVec S8x4096 1 := cmpf .olt main_arg3 main_v22
  let main_v24 : IVec S8x4096 1 := andi main_v21 main_v23
  let main_c_9 : IVec S_ 1 := constantI S_ 1 1#1
  let main_v25 : IVec S_ 1 := (fun x v => Host.reduce IntOp.andi x v reducesTo_S8x4096_S_d0_1 h_S_) main_v24 main_c_9
  let main_v26 : IVec S_ 1 := andi main_v19 main_v25
  let main_cst_10 : FVec F S_ .f32 := constant S_ .f32 0xFF800000#32
  let main_v27 : FVec F S4096x512 .f32 := broadcastInDim S4096x512 ![] bcast_S_S4096x512 main_cst_10
  let main_v28 : IVec S4096x512 1 := cmpf .ogt main_arg4 main_v27
  let main_cst_11 : FVec F S_ .f32 := constant S_ .f32 0x7F800000#32
  let main_v29 : FVec F S4096x512 .f32 := broadcastInDim S4096x512 ![] bcast_S_S4096x512 main_cst_11
  let main_v30 : IVec S4096x512 1 := cmpf .olt main_arg4 main_v29
  let main_v31 : IVec S4096x512 1 := andi main_v28 main_v30
  let main_c_12 : IVec S_ 1 := constantI S_ 1 1#1
  let main_v32 : IVec S_ 1 := (fun x v => Host.reduce IntOp.andi x v reducesTo_S4096x512_S_d0_1 h_S_) main_v31 main_c_12
  fn_part2 (F := F) main_v26 main_v32

def fn {F : FTy → Type} [FloatOps F] (main_arg0 : FVec F S4096x512 .f32) (main_arg1 : FVec F S4096x512 .f32) (main_arg2 : FVec F S4096x512 .f32) (main_arg3 : FVec F S8x4096 .f32) (main_arg4 : FVec F S4096x512 .f32) : IVec S_ 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .f32 := constant S_ .f32 0xFF800000#32
  let main_v6 : FVec F S4096x512 .f32 := broadcastInDim S4096x512 ![] bcast_S_S4096x512 main_cst_1
  let main_v7 : IVec S4096x512 1 := cmpf .ogt main_arg1 main_v6
  let main_cst_2 : FVec F S_ .f32 := constant S_ .f32 0x7F800000#32
  let main_v8 : FVec F S4096x512 .f32 := broadcastInDim S4096x512 ![] bcast_S_S4096x512 main_cst_2
  let main_v9 : IVec S4096x512 1 := cmpf .olt main_arg1 main_v8
  let main_v10 : IVec S4096x512 1 := andi main_v7 main_v9
  let main_c_3 : IVec S_ 1 := constantI S_ 1 1#1
  let main_v11 : IVec S_ 1 := (fun x v => Host.reduce IntOp.andi x v reducesTo_S4096x512_S_d0_1 h_S_) main_v10 main_c_3
  let main_v12 : IVec S_ 1 := andi main_v5 main_v11
  let main_cst_4 : FVec F S_ .f32 := constant S_ .f32 0xFF800000#32
  let main_v13 : FVec F S4096x512 .f32 := broadcastInDim S4096x512 ![] bcast_S_S4096x512 main_cst_4
  let main_v14 : IVec S4096x512 1 := cmpf .ogt main_arg2 main_v13
  let main_cst_5 : FVec F S_ .f32 := constant S_ .f32 0x7F800000#32
  let main_v15 : FVec F S4096x512 .f32 := broadcastInDim S4096x512 ![] bcast_S_S4096x512 main_cst_5
  fn_part1 (F := F) main_arg2 main_arg3 main_arg4 main_v12 main_v14 main_v15
-- ==== Pre_finite_fwd.lean ====
abbrev S4096x512 : Shape := ⟨2, ![4096, 512]⟩
abbrev S8x4096 : Shape := ⟨2, ![8, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg2 : FVec F S4096x512 .f32) (main_arg3 : FVec F S8x4096 .f32) (main_v12 : IVec S_ 1) (main_v14 : IVec S4096x512 1) (main_v15 : FVec F S4096x512 .f32) : IVec S_ 1 :=
  let main_v16 : IVec S4096x512 1 := cmpf .olt main_arg2 main_v15
  let main_v17 : IVec S4096x512 1 := andi main_v14 main_v16
  let main_c_6 : IVec S_ 1 := constantI S_ 1 1#1
  let main_v18 : IVec S_ 1 := (fun x v => Host.reduce IntOp.andi x v reducesTo_S4096x512_S_d0_1 h_S_) main_v17 main_c_6
  let main_v19 : IVec S_ 1 := andi main_v12 main_v18
  let main_cst_7 : FVec F S_ .f32 := constant S_ .f32 0xFF800000#32
  let main_v20 : FVec F S8x4096 .f32 := broadcastInDim S8x4096 ![] bcast_S_S8x4096 main_cst_7
  let main_v21 : IVec S8x4096 1 := cmpf .ogt main_arg3 main_v20
  let main_cst_8 : FVec F S_ .f32 := constant S_ .f32 0x7F800000#32
  let main_v22 : FVec F S8x4096 .f32 := broadcastInDim S8x4096 ![] bcast_S_S8x4096 main_cst_8
  let main_v23 : IVec S8x4096 1 := cmpf .olt main_arg3 main_v22
  let main_v24 : IVec S8x4096 1 := andi main_v21 main_v23
  let main_c_9 : IVec S_ 1 := constantI S_ 1 1#1
  let main_v25 : IVec S_ 1 := (fun x v => Host.reduce IntOp.andi x v reducesTo_S8x4096_S_d0_1 h_S_) main_v24 main_c_9
  let main_v26 : IVec S_ 1 := andi main_v19 main_v25
  main_v26

def fn {F : FTy → Type} [FloatOps F] (main_arg0 : FVec F S4096x512 .f32) (main_arg1 : FVec F S4096x512 .f32) (main_arg2 : FVec F S4096x512 .f32) (main_arg3 : FVec F S8x4096 .f32) : IVec S_ 1 :=
  let main_cst : FVec F S_ .f32 := constant S_ .f32 0xFF800000#32
  let main_v0 : FVec F S4096x512 .f32 := broadcastInDim S4096x512 ![] bcast_S_S4096x512 main_cst
  let main_v1 : IVec S4096x512 1 := cmpf .ogt main_arg0 main_v0
  let main_cst_0 : FVec F S_ .f32 := constant S_ .f32 0x7F800000#32
  let main_v2 : FVec F S4096x512 .f32 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .f32 := constant S_ .f32 0xFF800000#32
  let main_v6 : FVec F S4096x512 .f32 := broadcastInDim S4096x512 ![] bcast_S_S4096x512 main_cst_1
  let main_v7 : IVec S4096x512 1 := cmpf .ogt main_arg1 main_v6
  let main_cst_2 : FVec F S_ .f32 := constant S_ .f32 0x7F800000#32
  let main_v8 : FVec F S4096x512 .f32 := broadcastInDim S4096x512 ![] bcast_S_S4096x512 main_cst_2
  let main_v9 : IVec S4096x512 1 := cmpf .olt main_arg1 main_v8
  let main_v10 : IVec S4096x512 1 := andi main_v7 main_v9
  let main_c_3 : IVec S_ 1 := constantI S_ 1 1#1
  let main_v11 : IVec S_ 1 := (fun x v => Host.reduce IntOp.andi x v reducesTo_S4096x512_S_d0_1 h_S_) main_v10 main_c_3
  let main_v12 : IVec S_ 1 := andi main_v5 main_v11
  let main_cst_4 : FVec F S_ .f32 := constant S_ .f32 0xFF800000#32
  let main_v13 : FVec F S4096x512 .f32 := broadcastInDim S4096x512 ![] bcast_S_S4096x512 main_cst_4
  let main_v14 : IVec S4096x512 1 := cmpf .ogt main_arg2 main_v13
  let main_cst_5 : FVec F S_ .f32 := constant S_ .f32 0x7F800000#32
  let main_v15 : FVec F S4096x512 .f32 := broadcastInDim S4096x512 ![] bcast_S_S4096x512 main_cst_5
  fn_part1 (F := F) main_arg2 main_arg3 main_v12 main_v14 main_v15
-- ==== Kernel.lean ====
abbrev S4096x512 : Shape := ⟨2, ![4096, 512]⟩
abbrev S8x4096 : Shape := ⟨2, ![8, 4096]⟩
abbrev S36 : Shape := ⟨1, ![36]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x1536 : Shape := ⟨2, ![4096, 1536]⟩
abbrev S8x4096x128 : Shape := ⟨3, ![8, 4096, 128]⟩
abbrev S8x512x512 : Shape := ⟨3, ![8, 512, 512]⟩
abbrev S8x8x512 : Shape := ⟨3, ![8, 8, 512]⟩
abbrev S512x512 : Shape := ⟨2, ![512, 512]⟩
abbrev S1 : Shape := ⟨1, ![1]⟩
abbrev S8x512x128 : Shape := ⟨3, ![8, 512, 128]⟩
abbrev S8x512 : Shape := ⟨2, ![8, 512]⟩
abbrev S512x128 : Shape := ⟨2, ![512, 128]⟩
abbrev S1x512x128 : Shape := ⟨3, ![1, 512, 128]⟩
abbrev S1x512 : Shape := ⟨2, ![1, 512]⟩
abbrev S512 : Shape := ⟨1, ![512]⟩
abbrev S512x1 : Shape := ⟨2, ![512, 1]⟩
abbrev S1x1x512 : Shape := ⟨3, ![1, 1, 512]⟩
abbrev S128x512 : Shape := ⟨2, ![128, 512]⟩

abbrev nBuf : Space → Nat
  | .hbm => 68
  | .vmem => 26
  | .smem => 2
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x512, .f32⟩
  | .hbm, ⟨5, _⟩ => ⟨S4096x8x64, .f32⟩
  | .hbm, ⟨6, _⟩ => ⟨S8x4096x64, .f32⟩
  | .hbm, ⟨7, _⟩ => ⟨S4096x8x64, .f32⟩
  | .hbm, ⟨8, _⟩ => ⟨S8x4096x64, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S8x4096x4096, .i1⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S8x4096, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S4096x8x64, .f32⟩
  | .hbm, ⟨49, _⟩ => ⟨S8x4096x64, .f32⟩
  | .hbm, ⟨50, _⟩ => ⟨S8x4096x64, .f32⟩
  | .hbm, ⟨51, _⟩ => ⟨S4096x8x64, .f32⟩
  | .hbm, ⟨52, _⟩ => ⟨S8x4096x64, .f32⟩
  | .hbm, ⟨53, _⟩ => ⟨S8x4096x64, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S4096x1536, .f32⟩
  | .hbm, ⟨60, _⟩ => ⟨S4096x1536, .bf16⟩
  | .hbm, ⟨61, _⟩ => ⟨S8x4096x1, .f32⟩
  | .hbm, ⟨62, _⟩ => ⟨S8x4096x128, .f32⟩
  | .hbm, ⟨63, _⟩ => ⟨S8x512x512, .bf16⟩
  | .hbm, ⟨64, _⟩ => ⟨S4096x512, .bf16⟩
  | .hbm, ⟨65, _⟩ => ⟨S4096x512, .bf16⟩
  | .hbm, ⟨66, _⟩ => ⟨S8x8x512, .f32⟩
  | .hbm, ⟨67, _⟩ => ⟨S8x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x512x128, .f32⟩
  | .local _ .vmem, ⟨7, _⟩ => ⟨S8x512x128, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S8x8x512, .f32⟩
  | .local _ .vmem, ⟨20, _⟩ => ⟨S8x512, .f32⟩
  | .local _ .vmem, ⟨21, _⟩ => ⟨S8x512, .f32⟩
  | .local _ .vmem, ⟨22, _⟩ => ⟨S8x512x512, .f32⟩
  | .local _ .vmem, ⟨23, _⟩ => ⟨S512x512, .f32⟩
  | .local _ .vmem, ⟨24, _⟩ => ⟨S512x512, .f32⟩
  | .local _ .vmem, ⟨25, _⟩ => ⟨S8x512x128, .f32⟩
  | .local _ .smem, ⟨0, _⟩ => ⟨S36, .i32⟩
  | .local _ .smem, ⟨1, _⟩ => ⟨S36, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev main_v52_3 : Ref sig .tc := ⟨.hbm, 66, rfl⟩
abbrev main_v52_4 : Ref sig .tc := ⟨.hbm, 67, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v3 : BitVec 32) : Fin 3 → Nat :=
  let v72 : Index := Scalar.indexCast v3
  let c0_34 : Index := 0#32
  let c0_35 : Index := 0#32
  ![v72.toNat, 0, 0]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def k0_off3 (v3 : BitVec 32) : Fin 3 → Nat :=
  let v119 : Index := Scalar.indexCast v3
  let c1_61 : Index := 1#32
  let c0_62 : Index := 0#32
  ![v119.toNat, 1, 0]
def k0_off4 (v3 : BitVec 32) : Fin 3 → Nat :=
  let v141 : Index := Scalar.indexCast v3
  let c0_74 : Index := 0#32
  let c0_75 : Index := 0#32
  ![v141.toNat, 0, 0]
def k0_off5 (v3 : BitVec 32) : Fin 3 → Nat :=
  let v194 : Index := Scalar.indexCast v3
  let c2_106 : Index := 2#32
  let c0_107 : Index := 0#32
  ![v194.toNat, 2, 0]
def k0_off6 (v3 : BitVec 32) : Fin 3 → Nat :=
  let v241 : Index := Scalar.indexCast v3
  let c3_133 : Index := 3#32
  let c0_134 : Index := 0#32
  ![v241.toNat, 3, 0]
def k0_off7 (v3 : BitVec 32) : Fin 3 → Nat :=
  let v263 : Index := Scalar.indexCast v3
  let c0_146 : Index := 0#32
  let c128_147 : Index := 128#32
  ![v263.toNat, 0, 128]
def k0_off8 (v3 : BitVec 32) : Fin 3 → Nat :=
  let v316 : Index := Scalar.indexCast v3
  let c4_178 : Index := 4#32
  let c0_179 : Index := 0#32
  ![v316.toNat, 4, 0]
def k0_off9 (v3 : BitVec 32) : Fin 3 → Nat :=
  let v363 : Index := Scalar.indexCast v3
  let c5_205 : Index := 5#32
  let c0_206 : Index := 0#32
  ![v363.toNat, 5, 0]
def k0_off10 (v3 : BitVec 32) : Fin 3 → Nat :=
  let v385 : Index := Scalar.indexCast v3
  let c0_218 : Index := 0#32
  let c256_219 : Index := 256#32
  ![v385.toNat, 0, 256]
def k0_off11 (v3 : BitVec 32) : Fin 3 → Nat :=
  let v438 : Index := Scalar.indexCast v3
  let c6_250 : Index := 6#32
  let c0_251 : Index := 0#32
  ![v438.toNat, 6, 0]
def k0_off12 (v3 : BitVec 32) : Fin 3 → Nat :=
  let v485 : Index := Scalar.indexCast v3
  let c7_277 : Index := 7#32
  let c0_278 : Index := 0#32
  ![v485.toNat, 7, 0]
def k0_off13 (v3 : BitVec 32) : Fin 3 → Nat :=
  let v507 : Index := Scalar.indexCast v3
  let c0_290 : Index := 0#32
  let c384_291 : Index := 384#32
  ![v507.toNat, 0, 384]
def k0_off14 (v3 : BitVec 32) : Fin 3 → Nat :=
  let v67 : Index := Scalar.indexCast v3
  let c0_33 : Index := 0#32
  let c0_34 : Index := 0#32
  ![v67.toNat, 0, 0]
def k0_cond4 (v1 : BitVec 32) (v3 : BitVec 32) : BitVec 1 :=
  let v13 : BitVec 1 := Scalar.cmpi .sgt v3 v1
  let v14 : BitVec 32 := Scalar.extui v13
  let c0_i32_3 : BitVec 32 := 0#32
  let v15 : BitVec 1 := Scalar.cmpi .ne v14 c0_i32_3
  v15

def k0_off15 (v3 : BitVec 32) : Fin 3 → Nat :=
  let v112 : Index := Scalar.indexCast v3
  let c1_59 : Index := 1#32
  let c0_60 : Index := 0#32
  ![v112.toNat, 1, 0]
def k0_off16 (v3 : BitVec 32) : Fin 3 → Nat :=
  let v134 : Index := Scalar.indexCast v3
  let c0_72 : Index := 0#32
  let c0_73 : Index := 0#32
  ![v134.toNat, 0, 0]
def k0_off17 (v3 : BitVec 32) : Fin 3 → Nat :=
  let v185 : Index := Scalar.indexCast v3
  let c2_103 : Index := 2#32
  let c0_104 : Index := 0#32
  ![v185.toNat, 2, 0]
def k0_off18 (v3 : BitVec 32) : Fin 3 → Nat :=
  let v230 : Index := Scalar.indexCast v3
  let c3_129 : Index := 3#32
  let c0_130 : Index := 0#32
  ![v230.toNat, 3, 0]
def k0_off19 (v3 : BitVec 32) : Fin 3 → Nat :=
  let v252 : Index := Scalar.indexCast v3
  let c0_142 : Index := 0#32
  let c128_143 : Index := 128#32
  ![v252.toNat, 0, 128]
def k0_off20 (v3 : BitVec 32) : Fin 3 → Nat :=
  let v303 : Index := Scalar.indexCast v3
  let c4_173 : Index := 4#32
  let c0_174 : Index := 0#32
  ![v303.toNat, 4, 0]
def k0_off21 (v3 : BitVec 32) : Fin 3 → Nat :=
  let v348 : Index := Scalar.indexCast v3
  let c5_199 : Index := 5#32
  let c0_200 : Index := 0#32
  ![v348.toNat, 5, 0]
def k0_off22 (v3 : BitVec 32) : Fin 3 → Nat :=
  let v370 : Index := Scalar.indexCast v3
  let c0_212 : Index := 0#32
  let c256_213 : Index := 256#32
  ![v370.toNat, 0, 256]
def k0_off23 (v3 : BitVec 32) : Fin 3 → Nat :=
  let v421 : Index := Scalar.indexCast v3
  let c6_243 : Index := 6#32
  let c0_244 : Index := 0#32
  ![v421.toNat, 6, 0]
def k0_off24 (v3 : BitVec 32) : Fin 3 → Nat :=
  let v466 : Index := Scalar.indexCast v3
  let c7_269 : Index := 7#32
  let c0_270 : Index := 0#32
  ![v466.toNat, 7, 0]
def k0_off25 (v3 : BitVec 32) : Fin 3 → Nat :=
  let v488 : Index := Scalar.indexCast v3
  let c0_282 : Index := 0#32
  let c384_283 : Index := 384#32
  ![v488.toNat, 0, 384]

def k0_chk1 (v1 : BitVec 32) (v3 : BitVec 32) : Prop :=
  (∀ (k0_h3 : k0_cond3 v1 v3 = 1#1), ∀ a, (k0_off2 v3) a + S1x1x512.size a ≤ S8x8x512.size a) ∧
  (∀ (k0_h3 : k0_cond3 v1 v3 = 1#1), ∀ a, (k0_off3 v3) a + S1x1x512.size a ≤ S8x8x512.size a) ∧
  (∀ (k0_h3 : k0_cond3 v1 v3 = 1#1), ∀ a, (k0_off4 v3) a + S1x512x128.size a ≤ S8x512x512.size a) ∧
  (∀ (k0_h3 : k0_cond3 v1 v3 = 1#1), ∀ a, (k0_off5 v3) a + S1x1x512.size a ≤ S8x8x512.size a) ∧
  (∀ (k0_h3 : k0_cond3 v1 v3 = 1#1), ∀ a, (k0_off6 v3) a + S1x1x512.size a ≤ S8x8x512.size a) ∧
  (∀ (k0_h3 : k0_cond3 v1 v3 = 1#1), ∀ a, (k0_off7 v3) a + S1x512x128.size a ≤ S8x512x512.size a) ∧
  (∀ (k0_h3 : k0_cond3 v1 v3 = 1#1), ∀ a, (k0_off8 v3) a + S1x1x512.size a ≤ S8x8x512.size a) ∧
  (∀ (k0_h3 : k0_cond3 v1 v3 = 1#1), ∀ a, (k0_off9 v3) a + S1x1x512.size a ≤ S8x8x512.size a) ∧
  (∀ (k0_h3 : k0_cond3 v1 v3 = 1#1), ∀ a, (k0_off10 v3) a + S1x512x128.size a ≤ S8x512x512.size a) ∧
  (∀ (k0_h3 : k0_cond3 v1 v3 = 1#1), ∀ a, (k0_off11 v3) a + S1x1x512.size a ≤ S8x8x512.size a) ∧
  (∀ (k0_h3 : k0_cond3 v1 v3 = 1#1), ∀ a, (k0_off12 v3) a + S1x1x512.size a ≤ S8x8x512.size a) ∧
  (∀ (k0_h3 : k0_cond3 v1 v3 = 1#1), ∀ a, (k0_off13 v3) a + S1x512x128.size a ≤ S8x512x512.size a) ∧
  (∀ (k0_h4 : k0_cond4 v1 v3 = 1#1), ∀ a, (k0_off14 v3) a + S1x1x512.size a ≤ S8x8x512.size a) ∧
  (∀ (k0_h4 : k0_cond4 v1 v3 = 1#1), ∀ a, (k0_off15 v3) a + S1x1x512.size a ≤ S8x8x512.size a) ∧
  (∀ (k0_h4 : k0_cond4 v1 v3 = 1#1), ∀ a, (k0_off16 v3) a + S1x512x128.size a ≤ S8x512x512.size a) ∧
  (∀ (k0_h4 : k0_cond4 v1 v3 = 1#1), ∀ a, (k0_off17 v3) a + S1x1x512.size a ≤ S8x8x512.size a) ∧
  (∀ (k0_h4 : k0_cond4 v1 v3 = 1#1), ∀ a, (k0_off18 v3) a + S1x1x512.size a ≤ S8x8x512.size a) ∧
  (∀ (k0_h4 : k0_cond4 v1 v3 = 1#1), ∀ a, (k0_off19 v3) a + S1x512x128.size a ≤ S8x512x512.size a) ∧
  (∀ (k0_h4 : k0_cond4 v1 v3 = 1#1), ∀ a, (k0_off20 v3) a + S1x1x512.size a ≤ S8x8x512.size a) ∧
  (∀ (k0_h4 : k0_cond4 v1 v3 = 1#1), ∀ a, (k0_off21 v3) a + S1x1x512.size a ≤ S8x8x512.size a) ∧
  (∀ (k0_h4 : k0_cond4 v1 v3 = 1#1), ∀ a, (k0_off22 v3) a + S1x512x128.size a ≤ S8x512x512.size a) ∧
  (∀ (k0_h4 : k0_cond4 v1 v3 = 1#1), ∀ a, (k0_off23 v3) a + S1x1x512.size a ≤ S8x8x512.size a) ∧
  (∀ (k0_h4 : k0_cond4 v1 v3 = 1#1), ∀ a, (k0_off24 v3) a + S1x1x512.size a ≤ S8x8x512.size a) ∧
  (∀ (k0_h4 : k0_cond4 v1 v3 = 1#1), ∀ a, (k0_off25 v3) a + S1x512x128.size a ≤ S8x512x512.size a)
theorem k0_off2_inb : ∀ (v1 : BitVec 32) (v3 : BitVec 32) (k0_hw1 : k0_chk1 v1 v3), ∀ (k0_h3 : k0_cond3 v1 v3 = 1#1), ∀ a, (k0_off2 v3) a + S1x1x512.size a ≤ S8x8x512.size a := fun v1 v3 k0_hw1 k0_h3 => k0_hw1.1 k0_h3
theorem k0_off3_inb : ∀ (v1 : BitVec 32) (v3 : BitVec 32) (k0_hw1 : k0_chk1 v1 v3), ∀ (k0_h3 : k0_cond3 v1 v3 = 1#1), ∀ a, (k0_off3 v3) a + S1x1x512.size a ≤ S8x8x512.size a := fun v1 v3 k0_hw1 k0_h3 => k0_hw1.2.1 k0_h3
theorem k0_off4_inb : ∀ (v1 : BitVec 32) (v3 : BitVec 32) (k0_hw1 : k0_chk1 v1 v3), ∀ (k0_h3 : k0_cond3 v1 v3 = 1#1), ∀ a, (k0_off4 v3) a + S1x512x128.size a ≤ S8x512x512.size a := fun v1 v3 k0_hw1 k0_h3 => k0_hw1.2.2.1 k0_h3
theorem k0_off5_inb : ∀ (v1 : BitVec 32) (v3 : BitVec 32) (k0_hw1 : k0_chk1 v1 v3), ∀ (k0_h3 : k0_cond3 v1 v3 = 1#1), ∀ a, (k0_off5 v3) a + S1x1x512.size a ≤ S8x8x512.size a := fun v1 v3 k0_hw1 k0_h3 => k0_hw1.2.2.2.1 k0_h3
theorem k0_off6_inb : ∀ (v1 : BitVec 32) (v3 : BitVec 32) (k0_hw1 : k0_chk1 v1 v3), ∀ (k0_h3 : k0_cond3 v1 v3 = 1#1), ∀ a, (k0_off6 v3) a + S1x1x512.size a ≤ S8x8x512.size a := fun v1 v3 k0_hw1 k0_h3 => k0_hw1.2.2.2.2.1 k0_h3
theorem k0_off7_inb : ∀ (v1 : BitVec 32) (v3 : BitVec 32) (k0_hw1 : k0_chk1 v1 v3), ∀ (k0_h3 : k0_cond3 v1 v3 = 1#1), ∀ a, (k0_off7 v3) a + S1x512x128.size a ≤ S8x512x512.size a := fun v1 v3 k0_hw1 k0_h3 => k0_hw1.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v3) a + S1x1x512.size a ≤ S8x8x512.size a := fun v1 v3 k0_hw1 k0_h3 => k0_hw1.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v3) a + S1x1x512.size a ≤ S8x8x512.size a := fun v1 v3 k0_hw1 k0_h3 => k0_hw1.2.2.2.2.2.2.2.1 k0_h3
theorem k0_off10_inb : ∀ (v1 : BitVec 32) (v3 : BitVec 32) (k0_hw1 : k0_chk1 v1 v3), ∀ (k0_h3 : k0_cond3 v1 v3 = 1#1), ∀ a, (k0_off10 v3) a + S1x512x128.size a ≤ S8x512x512.size a := fun v1 v3 k0_hw1 k0_h3 => k0_hw1.2.2.2.2.2.2.2.2.1 k0_h3
theorem k0_off11_inb : ∀ (v1 : BitVec 32) (v3 : BitVec 32) (k0_hw1 : k0_chk1 v1 v3), ∀ (k0_h3 : k0_cond3 v1 v3 = 1#1), ∀ a, (k0_off11 v3) a + S1x1x512.size a ≤ S8x8x512.size a := fun v1 v3 k0_hw1 k0_h3 => k0_hw1.2.2.2.2.2.2.2.2.2.1 k0_h3
theorem k0_off12_inb : ∀ (v1 : BitVec 32) (v3 : BitVec 32) (k0_hw1 : k0_chk1 v1 v3), ∀ (k0_h3 : k0_cond3 v1 v3 = 1#1), ∀ a, (k0_off12 v3) a + S1x1x512.size a ≤ S8x8x512.size a := fun v1 v3 k0_hw1 k0_h3 => k0_hw1.2.2.2.2.2.2.2.2.2.2.1 k0_h3
theorem k0_off13_inb : ∀ (v1 : BitVec 32) (v3 : BitVec 32) (k0_hw1 : k0_chk1 v1 v3), ∀ (k0_h3 : k0_cond3 v1 v3 = 1#1), ∀ a, (k0_off13 v3) a + S1x512x128.size a ≤ S8x512x512.size a := fun v1 v3 k0_hw1 k0_h3 => k0_hw1.2.2.2.2.2.2.2.2.2.2.2.1 k0_h3
theorem k0_off14_inb : ∀ (v1 : BitVec 32) (v3 : BitVec 32) (k0_hw1 : k0_chk1 v1 v3), ∀ (k0_h4 : k0_cond4 v1 v3 = 1#1), ∀ a, (k0_off14 v3) a + S1x1x512.size a ≤ S8x8x512.size a := fun v1 v3 k0_hw1 k0_h4 => k0_hw1.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v3) a + S1x1x512.size a ≤ S8x8x512.size a := fun v1 v3 k0_hw1 k0_h4 => k0_hw1.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v3) a + S1x512x128.size a ≤ S8x512x512.size a := fun v1 v3 k0_hw1 k0_h4 => k0_hw1.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v3) a + S1x1x512.size a ≤ S8x8x512.size a := fun v1 v3 k0_hw1 k0_h4 => k0_hw1.2.2.2.2.2.2.2.2.2.2.2.2.2.2.2.1 k0_h4
theorem k0_off18_inb : ∀ (v1 : BitVec 32) (v3 : BitVec 32) (k0_hw1 : k0_chk1 v1 v3), ∀ (k0_h4 : k0_cond4 v1 v3 = 1#1), ∀ a, (k0_off18 v3) a + S1x1x512.size a ≤ S8x8x512.size a := fun v1 v3 k0_hw1 k0_h4 => k0_hw1.2.2.2.2.2.2.2.2.2.2.2.2.2.2.2.2.1 k0_h4
theorem k0_off19_inb : ∀ (v1 : BitVec 32) (v3 : BitVec 32) (k0_hw1 : k0_chk1 v1 v3), ∀ (k0_h4 : k0_cond4 v1 v3 = 1#1), ∀ a, (k0_off19 v3) a + S1x512x128.size a ≤ S8x512x512.size a := fun v1 v3 k0_hw1 k0_h4 => k0_hw1.2.2.2.2.2.2.2.2.2.2.2.2.2.2.2.2.2.1 k0_h4
theorem k0_off20_inb : ∀ (v1 : BitVec 32) (v3 : BitVec 32) (k0_hw1 : k0_chk1 v1 v3), ∀ (k0_h4 : k0_cond4 v1 v3 = 1#1), ∀ a, (k0_off20 v3) a + S1x1x512.size a ≤ S8x8x512.size a := fun v1 v3 k0_hw1 k0_h4 => k0_hw1.2.2.2.2.2.2.2.2.2.2.2.2.2.2.2.2.2.2.1 k0_h4
theorem k0_off21_inb : ∀ (v1 : BitVec 32) (v3 : BitVec 32) (k0_hw1 : k0_chk1 v1 v3), ∀ (k0_h4 : k0_cond4 v1 v3 = 1#1), ∀ a, (k0_off21 v3) a + S1x1x512.size a ≤ S8x8x512.size a := fun v1 v3 k0_hw1 k0_h4 => k0_hw1.2.2.2.2.2.2.2.2.2.2.2.2.2.2.2.2.2.2.2.1 k0_h4
theorem k0_off22_inb : ∀ (v1 : BitVec 32) (v3 : BitVec 32) (k0_hw1 : k0_chk1 v1 v3), ∀ (k0_h4 : k0_cond4 v1 v3 = 1#1), ∀ a, (k0_off22 v3) a + S1x512x128.size a ≤ S8x512x512.size a := fun v1 v3 k0_hw1 k0_h4 => k0_hw1.2.2.2.2.2.2.2.2.2.2.2.2.2.2.2.2.2.2.2.2.1 k0_h4
theorem k0_off23_inb : ∀ (v1 : BitVec 32) (v3 : BitVec 32) (k0_hw1 : k0_chk1 v1 v3), ∀ (k0_h4 : k0_cond4 v1 v3 = 1#1), ∀ a, (k0_off23 v3) a + S1x1x512.size a ≤ S8x8x512.size a := fun v1 v3 k0_hw1 k0_h4 => k0_hw1.2.2.2.2.2.2.2.2.2.2.2.2.2.2.2.2.2.2.2.2.2.1 k0_h4
theorem k0_off24_inb : ∀ (v1 : BitVec 32) (v3 : BitVec 32) (k0_hw1 : k0_chk1 v1 v3), ∀ (k0_h4 : k0_cond4 v1 v3 = 1#1), ∀ a, (k0_off24 v3) a + S1x1x512.size a ≤ S8x8x512.size a := fun v1 v3 k0_hw1 k0_h4 => k0_hw1.2.2.2.2.2.2.2.2.2.2.2.2.2.2.2.2.2.2.2.2.2.2.1 k0_h4
theorem k0_off25_inb : ∀ (v1 : BitVec 32) (v3 : BitVec 32) (k0_hw1 : k0_chk1 v1 v3), ∀ (k0_h4 : k0_cond4 v1 v3 = 1#1), ∀ a, (k0_off25 v3) a + S1x512x128.size a ≤ S8x512x512.size a := fun v1 v3 k0_hw1 k0_h4 => k0_hw1.2.2.2.2.2.2.2.2.2.2.2.2.2.2.2.2.2.2.2.2.2.2.2 k0_h4

def k0_cond6 (i : grid0.Coords) : BitVec 1 :=
  let arg0 : BitVec 32 := BitVec.ofNat 32 (i 0).val
  let c35_i32 : BitVec 32 := 35#32
  let v19 : BitVec 1 := Scalar.cmpi .eq arg0 c35_i32
  let v20 : BitVec 32 := Scalar.extui v19
  let c0_i32_5 : BitVec 32 := 0#32
  let v21 : BitVec 1 := Scalar.cmpi .ne v20 c0_i32_5
  v21

def k0_cond5 (v3 : BitVec 32) : BitVec 1 :=
  let c7_i32 : BitVec 32 := 7#32
  let v16 : BitVec 1 := Scalar.cmpi .eq v3 c7_i32
  let v17 : BitVec 32 := Scalar.extui v16
  let c0_i32_4 : BitVec 32 := 0#32
  let v18 : BitVec 1 := Scalar.cmpi .ne v17 c0_i32_4
  v18

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c1_i32 : BitVec 32 := 1#32
  let c0_i32 : BitVec 32 := 0#32
  ![v1.toNat, c1_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c2_i32 : BitVec 32 := 2#32
  let c0_i32 : BitVec 32 := 0#32
  ![v1.toNat, c2_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S8x4096 : Shape := ⟨2, ![8, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x512x512 : Shape := ⟨3, ![8, 512, 512]⟩
abbrev S8x8x512 : Shape := ⟨3, ![8, 8, 512]⟩

abbrev nBuf : Space → Nat
  | .hbm => 126
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x512, .f32⟩
  | .hbm, ⟨5, _⟩ => ⟨S4096x8x64, .f32⟩
  | .hbm, ⟨6, _⟩ => ⟨S8x4096x64, .f32⟩
  | .hbm, ⟨7, _⟩ => ⟨S4096x8x64, .f32⟩
  | .hbm, ⟨8, _⟩ => ⟨S8x4096x64, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .i1⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S8x4096, .i1⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S4096x8x64, .f32⟩
  | .hbm, ⟨72, _⟩ => ⟨S8x4096x64, .f32⟩
  | .hbm, ⟨73, _⟩ => ⟨S8x4096x64, .f32⟩
  | .hbm, ⟨74, _⟩ => ⟨S4096x8x64, .f32⟩
  | .hbm, ⟨75, _⟩ => ⟨S4096x512, .f32⟩
  | .hbm, ⟨76, _⟩ => ⟨S4096x8x64, .f32⟩
  | .hbm, ⟨77, _⟩ => ⟨S8x4096x64, .f32⟩
  | .hbm, ⟨78, _⟩ => ⟨S8x64x4096, .f32⟩
  | .hbm, ⟨79, _⟩ => ⟨S8x4096x64, .f32⟩
  | .hbm, ⟨80, _⟩ => ⟨S8x4096x4096, .f32⟩
  | .hbm, ⟨81, _⟩ => ⟨S4096x8x64, .f32⟩
  | .hbm, ⟨82, _⟩ => ⟨S4096x512, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x1, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096, .f32⟩
  | .hbm, ⟨103, _⟩ => ⟨S8x1x4096, .f32⟩
  | .hbm, ⟨104, _⟩ => ⟨S_, .f32⟩
  | .hbm, ⟨105, _⟩ => ⟨S8x4096, .f32⟩
  | .hbm, ⟨106, _⟩ => ⟨S_, .f32⟩
  | .hbm, ⟨107, _⟩ => ⟨S8x4096, .f32⟩
  | .hbm, ⟨108, _⟩ => ⟨S8x4096x1, .f32⟩
  | .hbm, ⟨109, _⟩ => ⟨S_, .f32⟩
  | .hbm, ⟨110, _⟩ => ⟨S8x4096, .f32⟩
  | .hbm, ⟨111, _⟩ => ⟨S_, .f32⟩
  | .hbm, ⟨112, _⟩ => ⟨S8x4096x4096, .f32⟩
  | .hbm, ⟨113, _⟩ => ⟨S8x4096x4096, .f32⟩
  | .hbm, ⟨114, _⟩ => ⟨S8x4096x64, .f32⟩
  | .hbm, ⟨115, _⟩ => ⟨S8x4096x64, .f32⟩
  | .hbm, ⟨116, _⟩ => ⟨S4096x8x64, .f32⟩
  | .hbm, ⟨117, _⟩ => ⟨S4096x512, .f32⟩
  | .hbm, ⟨118, _⟩ => ⟨S4096x8x64, .f32⟩
  | .hbm, ⟨119, _⟩ => ⟨S4096x512, .f32⟩
  | .hbm, ⟨120, _⟩ => ⟨S8x512x512, .f32⟩
  | .hbm, ⟨121, _⟩ => ⟨S8x512x512, .bf16⟩
  | .hbm, ⟨122, _⟩ => ⟨S4096x512, .bf16⟩
  | .hbm, ⟨123, _⟩ => ⟨S4096x512, .bf16⟩
  | .hbm, ⟨124, _⟩ => ⟨S8x8x512, .f32⟩
  | .hbm, ⟨125, _⟩ => ⟨S8x8x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Dhid.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .hbm, ⟨10, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhidRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dw2.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Dw1.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh2.lean ====
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S1024x1024, .f32⟩
  | .local _ .vmem, ⟨4, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwin.lean ====
abbrev S4096x1024 : Shape := ⟨2, ![4096, 1024]⟩
abbrev S4096x7168 : Shape := ⟨2, ![4096, 7168]⟩
abbrev S1024x7168 : Shape := ⟨2, ![1024, 7168]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S4096x1024, .bf16⟩
  | .hbm, ⟨3, _⟩ => ⟨S4096x7168, .bf16⟩
  | .hbm, ⟨4, _⟩ => ⟨S1024x7168, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x1024 : Shape := ⟨2, ![4096, 1024]⟩
abbrev S4096x7168 : Shape := ⟨2, ![4096, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S_, .f32⟩
  | .hbm, ⟨3, _⟩ => ⟨S1024x7168, .f32⟩
  | .hbm, ⟨4, _⟩ => ⟨S4096x7168, .f32⟩
  | .hbm, ⟨5, _⟩ => ⟨S7168x1024, .f32⟩
  | .hbm, ⟨6, _⟩ => ⟨S1024x7168, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dh1.lean ====
abbrev S4096x7168 : Shape := ⟨2, ![4096, 7168]⟩
abbrev S1024x7168 : Shape := ⟨2, ![1024, 7168]⟩
abbrev S4096x1024 : Shape := ⟨2, ![4096, 1024]⟩
abbrev S1024x3584 : Shape := ⟨2, ![1024, 3584]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x7168, .f32⟩
  | .hbm, ⟨1, _⟩ => ⟨S1024x7168, .f32⟩
  | .hbm, ⟨2, _⟩ => ⟨S4096x7168, .bf16⟩
  | .hbm, ⟨3, _⟩ => ⟨S1024x7168, .bf16⟩
  | .hbm, ⟨4, _⟩ => ⟨S4096x1024, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S4096x7168 : Shape := ⟨2, ![4096, 7168]⟩
abbrev S1024x7168 : Shape := ⟨2, ![1024, 7168]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S1024x7168, .f32⟩
  | .hbm, ⟨2, _⟩ => ⟨S_, .f32⟩
  | .hbm, ⟨3, _⟩ => ⟨S4096x1024, .f32⟩
  | .hbm, ⟨4, _⟩ => ⟨S4096x7168, .f32⟩
  | .hbm, ⟨5, _⟩ => ⟨S4096x1024, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwout.lean ====
abbrev S4096x1024 : Shape := ⟨2, ![4096, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dmerged.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proj.lean ====
abbrev S4096x1024 : Shape := ⟨2, ![4096, 1024]⟩
abbrev S1024x7168 : Shape := ⟨2, ![1024, 7168]⟩
abbrev S4096x7168 : Shape := ⟨2, ![4096, 7168]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S4096x1024, .bf16⟩
  | .hbm, ⟨3, _⟩ => ⟨S1024x7168, .bf16⟩
  | .hbm, ⟨4, _⟩ => ⟨S4096x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x7168 : Shape := ⟨2, ![1024, 7168]⟩
abbrev S4096x7168 : Shape := ⟨2, ![4096, 7168]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S4096x7168, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Hid.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HidRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ymlp.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YmlpRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Ymix.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YmixRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mback.lean ====
abbrev S4096x1024 : Shape := ⟨2, ![4096, 1024]⟩
abbrev S4096x512 : Shape := ⟨2, ![4096, 512]⟩
abbrev S4096x7168 : Shape := ⟨2, ![4096, 7168]⟩
abbrev S512x1024 : Shape := ⟨2, ![512, 1024]⟩
abbrev S4096x3072 : Shape := ⟨2, ![4096, 3072]⟩
abbrev S256x1024 : Shape := ⟨2, ![256, 1024]⟩
abbrev S256x512 : Shape := ⟨2, ![256, 512]⟩
abbrev S256x3072 : Shape := ⟨2, ![256, 3072]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x7168, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S4096x3072, .bf16⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S512x1024, .f32⟩
  | .hbm, ⟨19, _⟩ => ⟨S512x1024, .f32⟩
  | .hbm, ⟨20, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .f32⟩
  | .local _ .vmem, ⟨9, _⟩ => ⟨S256x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S256x3072, .bf16⟩
  | .local _ .vmem, ⟨14, _⟩ => ⟨S256x3072, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MbackRefIdeal.lean ====
abbrev S4096x1024 : Shape := ⟨2, ![4096, 1024]⟩
abbrev S4096x512 : Shape := ⟨2, ![4096, 512]⟩
abbrev S4096x7168 : Shape := ⟨2, ![4096, 7168]⟩
abbrev S512x1024 : Shape := ⟨2, ![512, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S1024x512 : Shape := ⟨2, ![1024, 512]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x7168, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1024x512, .f32⟩
  | .hbm, ⟨41, _⟩ => ⟨S512x1024, .f32⟩
  | .hbm, ⟨42, _⟩ => ⟨S4096x512, .f32⟩
  | .hbm, ⟨43, _⟩ => ⟨S4096x1x1024, .f32⟩
  | .hbm, ⟨44, _⟩ => ⟨S_, .f32⟩
  | .hbm, ⟨45, _⟩ => ⟨S4096x3x1024, .f32⟩
  | .hbm, ⟨46, _⟩ => ⟨S4096x1024, .f32⟩
  | .hbm, ⟨47, _⟩ => ⟨S4096x1024, .f32⟩
  | .hbm, ⟨48, _⟩ => ⟨S1024x512, .f32⟩
  | .hbm, ⟨49, _⟩ => ⟨S512x1024, .f32⟩
  | .hbm, ⟨50, _⟩ => ⟨S4096x512, .f32⟩
  | .hbm, ⟨51, _⟩ => ⟨S4096x1x1024, .f32⟩
  | .hbm, ⟨52, _⟩ => ⟨S_, .f32⟩
  | .hbm, ⟨53, _⟩ => ⟨S4096x3x1024, .f32⟩
  | .hbm, ⟨54, _⟩ => ⟨S4096x3x1024, .f32⟩
  | .hbm, ⟨55, _⟩ => ⟨S4096x1024, .f32⟩
  | .hbm, ⟨56, _⟩ => ⟨S4096x1024, .f32⟩
  | .hbm, ⟨57, _⟩ => ⟨S1024x512, .f32⟩
  | .hbm, ⟨58, _⟩ => ⟨S512x1024, .f32⟩
  | .hbm, ⟨59, _⟩ => ⟨S4096x512, .f32⟩
  | .hbm, ⟨60, _⟩ => ⟨S4096x1x1024, .f32⟩
  | .hbm, ⟨61, _⟩ => ⟨S_, .f32⟩
  | .hbm, ⟨62, _⟩ => ⟨S4096x3x1024, .f32⟩
  | .hbm, ⟨63, _⟩ => ⟨S4096x3x1024, .f32⟩
  | .hbm, ⟨64, _⟩ => ⟨S4096x3072, .f32⟩
  | .hbm, ⟨65, _⟩ => ⟨S4096x3072, .f32⟩
  | .hbm, ⟨66, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Mfwd.lean ====
abbrev S4096x512 : Shape := ⟨2, ![4096, 512]⟩
abbrev S4096x7168 : Shape := ⟨2, ![4096, 7168]⟩
abbrev S512x1024 : Shape := ⟨2, ![512, 1024]⟩
abbrev S4096x1024 : Shape := ⟨2, ![4096, 1024]⟩
abbrev S256x512 : Shape := ⟨2, ![256, 512]⟩
abbrev S256x3072 : Shape := ⟨2, ![256, 3072]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x7168, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x3072, .f32⟩
  | .local _ .vmem, ⟨7, _⟩ => ⟨S256x3072, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MfwdRefIdeal.lean ====
abbrev S4096x512 : Shape := ⟨2, ![4096, 512]⟩
abbrev S4096x7168 : Shape := ⟨2, ![4096, 7168]⟩
abbrev S512x1024 : Shape := ⟨2, ![512, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x7168, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x3x1024, .f32⟩
  | .hbm, ⟨17, _⟩ => ⟨S4096x1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Attn.lean ====
abbrev S4096x512 : Shape := ⟨2, ![4096, 512]⟩
abbrev S8x4096 : Shape := ⟨2, ![8, 4096]⟩
abbrev S36 : Shape := ⟨1, ![36]⟩
abbrev S_ : Shape := ⟨0, ![]⟩
abbrev S4096x1536 : Shape := ⟨2, ![4096, 1536]⟩
abbrev S512x512 : Shape := ⟨2, ![512, 512]⟩
abbrev S1 : Shape := ⟨1, ![1]⟩
abbrev S8x512 : Shape := ⟨2, ![8, 512]⟩
abbrev S8x512x128 : Shape := ⟨3, ![8, 512, 128]⟩
abbrev S512x128 : Shape := ⟨2, ![512, 128]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩
abbrev S128x512 : Shape := ⟨2, ![128, 512]⟩

abbrev nBuf : Space → Nat
  | .hbm => 11
  | .vmem => 15
  | .smem => 2
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x1536, .f32⟩
  | .hbm, ⟨8, _⟩ => ⟨S4096x1536, .bf16⟩
  | .hbm, ⟨9, _⟩ => ⟨S4096x512, .bf16⟩
  | .hbm, ⟨10, _⟩ => ⟨S8x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x512, .f32⟩
  | .local _ .vmem, ⟨7, _⟩ => ⟨S8x512, .f32⟩
  | .local _ .vmem, ⟨8, _⟩ => ⟨S512x512, .bf16⟩
  | .local _ .vmem, ⟨9, _⟩ => ⟨S512x512, .bf16⟩
  | .local _ .vmem, ⟨10, _⟩ => ⟨S8x512, .f32⟩
  | .local _ .vmem, ⟨11, _⟩ => ⟨S8x512, .f32⟩
  | .local _ .vmem, ⟨12, _⟩ => ⟨S8x512x128, .f32⟩
  | .local _ .vmem, ⟨13, _⟩ => ⟨S8x512x128, .f32⟩
  | .local _ .vmem, ⟨14, _⟩ => ⟨S512x512, .f32⟩
  | .local _ .smem, ⟨0, _⟩ => ⟨S36, .i32⟩
  | .local _ .smem, ⟨1, _⟩ => ⟨S36, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c1_i32 : BitVec 32 := 1#32
  let c0_i32 : BitVec 32 := 0#32
  ![v1.toNat, c1_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c2_i32 : BitVec 32 := 2#32
  let c0_i32 : BitVec 32 := 0#32
  ![v1.toNat, c2_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![c0_i32.toNat, v1.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S4096x512 : Shape := ⟨2, ![4096, 512]⟩
abbrev S8x4096 : Shape := ⟨2, ![8, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x8x64, .f32⟩
  | .hbm, ⟨5, _⟩ => ⟨S8x4096x64, .f32⟩
  | .hbm, ⟨6, _⟩ => ⟨S4096x8x64, .f32⟩
  | .hbm, ⟨7, _⟩ => ⟨S8x4096x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S8x4096x4096, .i1⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S4096x8x64, .f32⟩
  | .hbm, ⟨45, _⟩ => ⟨S8x4096x64, .f32⟩
  | .hbm, ⟨46, _⟩ => ⟨S8x4096x64, .f32⟩
  | .hbm, ⟨47, _⟩ => ⟨S4096x8x64, .f32⟩
  | .hbm, ⟨48, _⟩ => ⟨S4096x512, .f32⟩
  | .hbm, ⟨49, _⟩ => ⟨S4096x512, .bf16⟩
  | .hbm, ⟨50, _⟩ => ⟨S8x4096, .f32⟩
  | .hbm, ⟨51, _⟩ => ⟨S8x4096, .f32⟩
  | .hbm, ⟨52, _⟩ => ⟨S8x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Proof.MM.Math.lean ====
/-
  The squared ReLU and its derivative over the extended reals.
-/
module

public import proofs.«01_k».proof.Defs
public import Idealize.ShloMosaic.Lib.Pipeline.ValueKit
public import Idealize.ShloMosaic.Lib.Pointwise
public import Idealize.ShloMosaic.Lib.Claim
public import Idealize.ShloMosaic.Lib.StableHlo.ReadAt

@[expose] public section

noncomputable section

namespace Cert.MM

open Idealize.ShloMosaic

/-- The squared ReLU. -/
def relu2 (r : EReal) : EReal := max r 0 * max r 0

theorem two : Ideal.ofBits FTy.f32 1073741824#32 = 2 := by
  have h : Ideal.ofBits FTy.f32 1073741824#32 = ((2 : ℝ) : EReal) := by
    simp [Ideal.ofBits, Ideal.ieee, -EReal.coe_mul]; norm_num
  exact h

theorem sqrt_relu2 (r : EReal) : Ideal.sqrt (relu2 r) = max r 0 := by
  have hz : Ideal.sqrt (((0 : ℝ)) : EReal) = 0 := by
    show (if (0 : ℝ) < 0 then ⊥ else ((Real.sqrt 0 : ℝ) : EReal)) = 0
    simp
  unfold relu2
  induction r with
  | bot => simpa using hz
  | top =>
    rw [max_eq_left le_top, EReal.top_mul_top]
    rfl
  | coe r =>
    rcases le_total 0 r with h | h
    · have hr : max ((r : ℝ) : EReal) 0 = (r : EReal) := max_eq_left (by exact_mod_cast h)
      rw [hr, ← EReal.coe_mul]
      show (if r * r < 0 then ⊥ else ((Real.sqrt (r * r) : ℝ) : EReal)) = _
      rw [if_neg (not_lt.mpr (mul_self_nonneg r)), Real.sqrt_mul_self h]
    · have hr : max ((r : ℝ) : EReal) 0 = 0 := max_eq_right (by exact_mod_cast h)
      rw [hr, mul_zero]
      exact hz

/-- A factor `2 √(relu² r)` is the derivative of the squared ReLU at `r`. -/
theorem dprod (s r : EReal) : s * (2 * Ideal.sqrt (relu2 r)) = if 0 < r then s * (2 * max r 0) else 0 := by
  rw [sqrt_relu2]
  split_ifs with h
  · rfl
  · rw [max_eq_right (not_lt.mp h), mul_zero, mul_zero]

/-- Column `q` of slab `s`, among the columns of all four slabs. -/
def flat (s : Fin 4) (q : Fin 1024) : Fin 4096 := ⟨s.val * 1024 + q.val, by omega⟩

/-- A sum over all columns is the sum over the four slabs. -/
theorem sum_slabs (f : Fin 4096 → EReal) : ∑ k, f k =
    ∑ x, f (flat 0 x) + ∑ x, f (flat 1 x) + ∑ x, f (flat 2 x) + ∑ x, f (flat 3 x) := by
  have h1 := Fin.sum_univ_add (a := 3072) (b := 1024) f
  have h2 := Fin.sum_univ_add (a := 2048) (b := 1024) (fun k => f (Fin.castAdd 1024 k))
  have h3 := Fin.sum_univ_add (a := 1024) (b := 1024) (fun k => f (Fin.castAdd 1024 (Fin.castAdd 1024 k)))
  rw [show (∑ k, f k) = ∑ k : Fin (3072 + 1024), f k from rfl, h1]
  refine congrArg₂ _ (h2.trans (congrArg₂ _ (h3.trans (congrArg₂ _ ?_ ?_)) ?_)) ?_
  · exact Finset.sum_congr rfl fun x _ => congrArg f (Fin.ext (by simp [flat]))
  all_goals exact Finset.sum_congr rfl fun x _ => congrArg f (Fin.ext (by simp [flat]; try omega))

/-- The same for a product whose second factor is read slab by slab. -/
theorem sum_slabs_mul (a b : Fin 4096 → EReal) (f : Fin 4 → Fin 1024 → EReal) (hf : ∀ s x, f s x = b (flat s x)) :
    ∑ x : Fin 1024, a ⟨x.val, by omega⟩ * f 0 x + ∑ x : Fin 1024, a ⟨1024 + x.val, by omega⟩ * f 1 x +
      ∑ x : Fin 1024, a ⟨2048 + x.val, by omega⟩ * f 2 x + ∑ x : Fin 1024, a ⟨3072 + x.val, by omega⟩ * f 3 x = ∑ k, a k * b k := by
  rw [sum_slabs]
  simp only [hf]
  have e0 : ∀ x : Fin 1024, (⟨x.val, by omega⟩ : Fin 4096) = flat 0 x := fun x => Fin.ext (by simp [flat])
  have e1 : ∀ x : Fin 1024, (⟨1024 + x.val, by omega⟩ : Fin 4096) = flat 1 x := fun x => Fin.ext (by simp [flat])
  have e2 : ∀ x : Fin 1024, (⟨2048 + x.val, by omega⟩ : Fin 4096) = flat 2 x := fun x => Fin.ext (by simp [flat])
  have e3 : ∀ x : Fin 1024, (⟨3072 + x.val, by omega⟩ : Fin 4096) = flat 3 x := fun x => Fin.ext (by simp [flat])
  simp only [e0, e1, e2, e3]

/-- A product over the columns of the input projection is the sum of the products over their two halves. -/
theorem sum_halves_mul (a b : Fin 7168 → EReal) : ∑ k, a k * b k =
    ∑ x : Fin 3584, a ⟨x.val, by omega⟩ * b ⟨x.val, by omega⟩ +
      ∑ x : Fin 3584, a ⟨3584 + x.val, by omega⟩ * b ⟨3584 + x.val, by omega⟩ :=
  Fin.sum_univ_add (a := 3584) (b := 3584) fun k => a k * b k

end Cert.MM

end
-- ==== Proof.MM.Dhid.lean ====
/-
  The gradient of the MLP's hidden row, with the derivative of the squared ReLU applied in the same call.
-/
module

public import proofs.«01_k».proof.Defs
public import proofs.«01_k».proof.Proof.Gen.Dhid
public import proofs.«01_k».proof.Proof.Gen.Dhid.Frame
public import proofs.«01_k».proof.Proof.Gen.DhidIdeal
public import proofs.«01_k».proof.Proof.Gen.DhidIdeal.Value
public import proofs.«01_k».proof.Proof.Gen.DhidRefIdeal
public import proofs.«01_k».proof.Proof.Gen.DhidRefIdeal.Run
public import proofs.«01_k».proof.Proof.Gen.DhidRefIdeal.Read
public import proofs.«01_k».proof.Proof.MM.Math

@[expose] public section

set_option maxRecDepth 16384

noncomputable section

namespace Cert.MM.Dhid

open Cert.DhidIdeal Cert.DhidIdeal.Gen Idealize.ShloMosaic Idealize.ShloMosaic.TcCoe Idealize.SL.Sem Idealize.ShloMosaic.Pipeline

variable (m : (ℓ : Loc nD τ sig) → Buf (Elt Ideal) ℓ)

/-- The gradient of the hidden row before the squared ReLU. -/
def G (a : S4096x4096.Idx → EReal) (w2 dy : S4096x1024.Idx → EReal) : S4096x4096.Idx → EReal := fun i =>
  if 0 < a i then (∑ k : Fin 1024, dy (ix2 (i 0) k) * w2 (ix2 (i 1) k)) * (2 * max (a i) 0) else 0

theorem ref_eq (a : S4096x4096.Idx → EReal) (w2 dy : S4096x1024.Idx → EReal) :
    Cert.DhidRefIdeal.Read.val_main_v12 (F := Ideal) a w2 dy = G a w2 dy := by
  funext y
  obtain ⟨i, j, rfl⟩ : ∃ i j, y = ix2 i j := ⟨y 0, y 1, by funext k; fin_cases k <;> rfl⟩
  open Cert.DhidRefIdeal.Read in
  unfold val_main_v12 val_main_v11 val_main_v10 val_main_cst_2 val_main_v9 val_main_v8 val_main_v6 val_main_v5 val_main_cst_1 val_main_v2 val_main_v1 val_main_cst val_main_v0 val_main_call0_v0 val_main_call0_cst
  pointwise
  rw [two]
  rfl

theorem idx : ∀ t : Fin cfg0.N, (cfg0.win 0).index t = ![(cfg0.win 3).index t 0, 0] ∧
    (cfg0.win 1).index t = ![(cfg0.win 3).index t 1, 0] ∧ (cfg0.win 2).index t = (cfg0.win 3).index t := by decide +kernel

theorem V_hid (c : Dev nD) (y : S4096x4096.Idx) : V m c main_v2 y = relu2 (m ((c : Thread nD τ).loc main_arg0) y) := by
  show StableHlo.after (List.flatten [hostOps0, hostOps0_1]) (fun b => m (c, b)) main_v2 y = _
  after_reads_at
  rfl

theorem out_eq (c : Dev nD) :
    (dats m 0 c).arrAt 3 cfg0.N = G (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  frame_out
  obtain ⟨i, j, rfl⟩ : ∃ i j, y = ix2 i j := ⟨y 0, y 1, by funext k; fin_cases k <;> rfl⟩
  unfold k0_pay1
  pointwise
  have h0 : ∀ x, iblk m c 0 t (ix2 i x) = m ((c : Thread nD τ).loc main_arg2)
      (ix2 ((((View.whole main_v5).slice (win0_3.rect t)).emb (ix2 i j)) 0) x) := fun x => by
    blk_ext! [iblk, idx t]
  have h1 : ∀ x, iblk m c 1 t (ix2 j x) = m ((c : Thread nD τ).loc main_arg1)
      (ix2 ((((View.whole main_v5).slice (win0_3.rect t)).emb (ix2 i j)) 1) x) := fun x => by
    blk_ext! [iblk, idx t]
  have h2 : iblk m c 2 t (ix2 i j) = relu2 (m ((c : Thread nD τ).loc main_arg0)
      (((View.whole main_v5).slice (win0_3.rect t)).emb (ix2 i j))) := by
    show V m c main_v2 (((View.whole main_v2).slice (win0_2.rect t)).emb (ix2 i j)) = _
    rw [V_hid]
    refine congrArg (fun k => relu2 (m ((c : Thread nD τ).loc main_arg0) k)) ?_
    blk_ext [idx t]
  simp only [h0, h1, h2]
  rw [two, dprod]
  rfl

theorem frame_k : Cert.quiescent_Dhid := fun m g _ => Cert.Dhid.Gen.frame m g

theorem frame_ki : Cert.quiescent_DhidIdeal := fun m g _ => Cert.DhidIdeal.Gen.frame m g

theorem frame_ri : Cert.quiescent_DhidRefIdeal := fun m g _ =>
  (θ_run Cert.DhidRefIdeal.defs _ _).mono (fun r h => ⟨fun c => (h c).2, sem_eq_zero_of_no_sems (by decide) r.2⟩)
    (Cert.DhidRefIdeal.Value.run m g)

theorem preserves : Cert.preserves_Dhid_DhidIdeal := trivial

/-- The call and its reference leave the same array. -/
theorem value : Cert.algebraic_DhidIdeal_DhidRefIdeal := by
  intro m g m' g' _ hm
  refine ⟨fun c => G (m ((c : Thread nD τ).loc main_arg0)) (m ((c : Thread nD τ).loc main_arg1)) (m ((c : Thread nD τ).loc main_arg2)), (θ_run defs _ _).mono (fun r h c => ⟨(h c).1.trans (out_eq m c), (h c).2⟩)
    (Cert.DhidIdeal.Value.run_blocks m g), (θ_run Cert.DhidRefIdeal.defs _ _).mono (fun r h c => ⟨(h c).1.trans ?_, (h c).2⟩)
    (Cert.DhidRefIdeal.Value.run m' g')⟩
  obtain ⟨e0, e1, e2⟩ := hm c
  show _ = G (m ((c : Thread nD τ).loc main_arg0)) (m ((c : Thread nD τ).loc main_arg1)) (m ((c : Thread nD τ).loc main_arg2))
  rw [← e0, ← e1, ← e2]
  exact ref_eq _ _ _

end Cert.MM.Dhid

end
-- ==== Proof.MM.Dw2.lean ====
/-
  The gradient of the MLP's second weight.
-/
module

public import proofs.«01_k».proof.Defs
public import proofs.«01_k».proof.Proof.Gen.Dw2
public import proofs.«01_k».proof.Proof.Gen.Dw2.Frame
public import proofs.«01_k».proof.Proof.Gen.Dw2Ideal
public import proofs.«01_k».proof.Proof.Gen.Dw2Ideal.Value
public import proofs.«01_k».proof.Proof.Gen.Dw2RefIdeal
public import proofs.«01_k».proof.Proof.Gen.Dw2RefIdeal.Run
public import proofs.«01_k».proof.Proof.MM.Math

@[expose] public section

set_option maxRecDepth 16384

noncomputable section

namespace Cert.MM.Dw2

open Cert.Dw2Ideal Cert.Dw2Ideal.Gen Idealize.ShloMosaic Idealize.ShloMosaic.TcCoe Idealize.SL.Sem Idealize.ShloMosaic.Pipeline

variable (m : (ℓ : Loc nD τ sig) → Buf (Elt Ideal) ℓ)

/-- The gradient of the second weight. -/
def G (a : S4096x4096.Idx → EReal) (dy : S4096x1024.Idx → EReal) : S4096x1024.Idx → EReal := fun i =>
  ∑ k : Fin 4096, relu2 (a (ix2 k (i 0))) * dy (ix2 k (i 1))

theorem idx : ∀ t : Fin cfg0.N, (cfg0.win 0).index t = ![0, (cfg0.win 2).index t 0] ∧
    (cfg0.win 1).index t = ![0, (cfg0.win 2).index t 1] := by decide +kernel

/-- The hidden row that the host hands the call. -/
theorem V_hid (c : Dev nD) (y : S4096x4096.Idx) : V m c main_v2 y = relu2 (m ((c : Thread nD τ).loc main_arg0) y) := by
  show StableHlo.after (List.flatten [hostOps0, hostOps0_1]) (fun b => m (c, b)) main_v2 y = _
  after_reads_at
  rfl

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 x i) = relu2 (m ((c : Thread nD τ).loc main_arg0) (ix2 x ((((View.whole main_v4).slice (win0_2.rect t)).emb (ix2 i j)) 0))) := fun x => by
    show V m c main_v2 (((View.whole main_v2).slice (win0_0.rect t)).emb (ix2 x i)) = _
    rw [V_hid]
    refine congrArg (fun k => relu2 (m ((c : Thread nD τ).loc main_arg0) k)) ?_
    blk_ext [idx t]
  have h1 : ∀ x, iblk m c 1 t (ix2 x j) = m ((c : Thread nD τ).loc main_arg1) (ix2 x ((((View.whole main_v4).slice (win0_2.rect t)).emb (ix2 i j)) 1)) := fun x => by
    blk_ext! [iblk, idx t]
  simp only [h0, h1]
  rfl

theorem frame_k : Cert.quiescent_Dw2 := fun m g _ => Cert.Dw2.Gen.frame m g

theorem frame_ki : Cert.quiescent_Dw2Ideal := fun m g _ => Cert.Dw2Ideal.Gen.frame m g

theorem frame_ri : Cert.quiescent_Dw2RefIdeal := fun m g _ =>
  (θ_run Cert.Dw2RefIdeal.defs _ _).mono (fun r h => ⟨fun c => (h c).2, sem_eq_zero_of_no_sems (by decide) r.2⟩)
    (Cert.Dw2RefIdeal.Value.run m g)

theorem preserves : Cert.preserves_Dw2_Dw2Ideal := trivial

/-- The call and its reference leave the same array. -/
theorem value : Cert.algebraic_Dw2Ideal_Dw2RefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.Dw2Ideal.Value.run_blocks m g), (θ_run Cert.Dw2RefIdeal.defs _ _).mono (fun r h c => ⟨(h c).1.trans ?_, (h c).2⟩)
    (Cert.Dw2RefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  exact Finset.sum_congr rfl fun k _ => mul_comm _ _

end Cert.MM.Dw2

end
-- ==== Proof.MM.Dw1.lean ====
/-
  The gradient of the MLP's first weight, one slab of columns after another.
-/
module

public import proofs.«01_k».proof.Defs
public import proofs.«01_k».proof.Proof.Gen.Dw1
public import proofs.«01_k».proof.Proof.Gen.Dw1.Frame
public import proofs.«01_k».proof.Proof.Gen.Dw1Ideal
public import proofs.«01_k».proof.Proof.Gen.Dw1Ideal.Value
public import proofs.«01_k».proof.Proof.Gen.Dw1RefIdeal
public import proofs.«01_k».proof.Proof.Gen.Dw1RefIdeal.Run
public import proofs.«01_k».proof.Proof.MM.Math

@[expose] public section

set_option maxRecDepth 16384

noncomputable section

namespace Cert.MM.Dw1

open Cert.Dw1Ideal Cert.Dw1Ideal.Gen Idealize.ShloMosaic Idealize.ShloMosaic.TcCoe Idealize.SL.Sem Idealize.ShloMosaic.Pipeline

variable (m : (ℓ : Loc nD τ sig) → Buf (Elt Ideal) ℓ)

/-- The gradient of the first weight: slab `s` holds its columns from `1024 * s` on. -/
def G (h : S4096x1024.Idx → EReal) (da : S4096x4096.Idx → EReal) : S4x1024x1024.Idx → EReal := fun i =>
  ∑ k : Fin 4096, h (ix2 k (i 1)) * da (ix2 k (flat (i 0) (i 2)))

theorem idx : ∀ t : Fin cfg0.N, (cfg0.win 0).index t = ![0, (cfg0.win 2).index t 1] ∧
    (cfg0.win 1).index t = ![0, (cfg0.win 2).index t 0] ∧ (cfg0.win 2).index t 2 = 0 := by decide +kernel

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨s, i, j, rfl⟩ : ∃ s i j, y = ix3 s i j := ⟨y 0, y 1, y 2, by funext k; fin_cases k <;> rfl⟩
  unfold k0_pay1
  pointwise
  obtain ⟨i0, i1, i2⟩ := idx t
  have h0 : ∀ x, iblk m c 0 t (ix2 x i) = m ((c : Thread nD τ).loc main_arg0) (ix2 x ((((View.whole main_v2).slice (win0_2.rect t)).emb (ix3 s i j)) 1)) := fun x => by
    blk_ext! [iblk, i0]
  have h1 : ∀ x, iblk m c 1 t (ix2 x j) = m ((c : Thread nD τ).loc main_arg1)
      (ix2 x (flat ((((View.whole main_v2).slice (win0_2.rect t)).emb (ix3 s i j)) 0) ((((View.whole main_v2).slice (win0_2.rect t)).emb (ix3 s i j)) 2))) := fun x => by
    obtain rfl : s = 0 := Subsingleton.elim _ _
    blk_ext! [iblk, i1, i2, flat]
  simp only [h0, h1]
  rfl

theorem frame_k : Cert.quiescent_Dw1 := fun m g _ => Cert.Dw1.Gen.frame m g

theorem frame_ki : Cert.quiescent_Dw1Ideal := fun m g _ => Cert.Dw1Ideal.Gen.frame m g

theorem frame_ri : Cert.quiescent_Dw1RefIdeal := fun m g _ =>
  (θ_run Cert.Dw1RefIdeal.defs _ _).mono (fun r h => ⟨fun c => (h c).2, sem_eq_zero_of_no_sems (by decide) r.2⟩)
    (Cert.Dw1RefIdeal.Value.run m g)

theorem preserves : Cert.preserves_Dw1_Dw1Ideal := trivial

/-- The call and its reference leave the same array. -/
theorem value : Cert.algebraic_Dw1Ideal_Dw1RefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.Dw1Ideal.Value.run_blocks m g), (θ_run Cert.Dw1RefIdeal.defs _ _).mono (fun r h c => ⟨(h c).1.trans ?_, (h c).2⟩)
    (Cert.Dw1RefIdeal.Value.run m' g')⟩
  obtain ⟨e0, e1⟩ := hm c
  show _ = G (m ((c : Thread nD τ).loc main_arg0)) (m ((c : Thread nD τ).loc main_arg1))
  rw [← e0, ← e1]
  funext y
  obtain ⟨s, i, j, rfl⟩ : ∃ s i j, y = ix3 s i j := ⟨y 0, y 1, y 2, by funext k; fin_cases k <;> rfl⟩
  pointwise
  exact Finset.sum_congr rfl fun k _ => mul_comm _ _

end Cert.MM.Dw1

end
-- ==== Proof.MM.Dh2.lean ====
/-
  The gradient of the MLP's input, the weight held in four slabs of columns.
-/
module

public import proofs.«01_k».proof.Defs
public import proofs.«01_k».proof.Proof.Gen.Dh2
public import proofs.«01_k».proof.Proof.Gen.Dh2.Frame
public import proofs.«01_k».proof.Proof.Gen.Dh2Ideal
public import proofs.«01_k».proof.Proof.Gen.Dh2Ideal.Value
public import proofs.«01_k».proof.Proof.Gen.Dh2RefIdeal
public import proofs.«01_k».proof.Proof.Gen.Dh2RefIdeal.Run
public import proofs.«01_k».proof.Proof.MM.Math

@[expose] public section

set_option maxRecDepth 16384

noncomputable section

namespace Cert.MM.Dh2

open Cert.Dh2Ideal Cert.Dh2Ideal.Gen Idealize.ShloMosaic Idealize.ShloMosaic.TcCoe Idealize.SL.Sem Idealize.ShloMosaic.Pipeline

variable (m : (ℓ : Loc nD τ sig) → Buf (Elt Ideal) ℓ)

/-- The gradient of the MLP's input. -/
def G (da : S4096x4096.Idx → EReal) (w : S1024x4096.Idx → EReal) : S4096x1024.Idx → EReal := fun i =>
  ∑ k : Fin 4096, da (ix2 (i 0) k) * w (ix2 (i 1) k)

theorem idx : ∀ t : Fin cfg0.N, (cfg0.win 0).index t = ![(cfg0.win 2).index t 0, 0] ∧
    (cfg0.win 1).index t = ![0, (cfg0.win 2).index t 1, 0] := by decide +kernel

/-- The weight as the host hands it over, one slab of columns after another. -/
theorem V_slab (c : Dev nD) (s : Fin 4) (r q : Fin 1024) :
    V m c main_v3 (ix3 s r q) = m ((c : Thread nD τ).loc main_arg1) (ix2 r (flat s q)) := by
  entry_read
  pointwise
  rfl

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  obtain ⟨i0, i1⟩ := idx t
  have h0 : ∀ q, iblk m c 0 t (ix2 i q) = m ((c : Thread nD τ).loc main_arg0) (ix2 ((((View.whole main_v4).slice (win0_2.rect t)).emb (ix2 i j)) 0) q) := fun q => by
    blk_ext! [iblk, i0]
  have h1 : ∀ (s : Fin 4) x, iblk m c 1 t (ix3 s j x) = m ((c : Thread nD τ).loc main_arg1)
      (ix2 ((((View.whole main_v4).slice (win0_2.rect t)).emb (ix2 i j)) 1) (flat s x)) := fun s x => by
    have e : ((View.whole main_v3).slice (win0_1.rect t)).emb (ix3 s j x) = ix3 s ((((View.whole main_v4).slice (win0_2.rect t)).emb (ix2 i j)) 1) x := by
      blk_ext [i1]
    exact (congrArg (V m c main_v3) e).trans (V_slab m c s _ x)
  simp only [h0]
  exact sum_slabs_mul (fun q => m ((c : Thread nD τ).loc main_arg0) (ix2 ((((View.whole main_v4).slice (win0_2.rect t)).emb (ix2 i j)) 0) q))
    (fun q => m ((c : Thread nD τ).loc main_arg1) (ix2 ((((View.whole main_v4).slice (win0_2.rect t)).emb (ix2 i j)) 1) q)) (fun s x => iblk m c 1 t (ix3 s j x)) h1

theorem frame_k : Cert.quiescent_Dh2 := fun m g _ => Cert.Dh2.Gen.frame m g

theorem frame_ki : Cert.quiescent_Dh2Ideal := fun m g _ => Cert.Dh2Ideal.Gen.frame m g

theorem frame_ri : Cert.quiescent_Dh2RefIdeal := fun m g _ =>
  (θ_run Cert.Dh2RefIdeal.defs _ _).mono (fun r h => ⟨fun c => (h c).2, sem_eq_zero_of_no_sems (by decide) r.2⟩)
    (Cert.Dh2RefIdeal.Value.run m g)

theorem preserves : Cert.preserves_Dh2_Dh2Ideal := trivial

/-- The call and its reference leave the same array. -/
theorem value : Cert.algebraic_Dh2Ideal_Dh2RefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.Dh2Ideal.Value.run_blocks m g), (θ_run Cert.Dh2RefIdeal.defs _ _).mono (fun r h c => ⟨(h c).1.trans ?_, (h c).2⟩)
    (Cert.Dh2RefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Dh2

end
-- ==== Proof.MM.Dwin.lean ====
/-
  The gradient of the mixer's input projection.
-/
module

public import proofs.«01_k».proof.Defs
public import proofs.«01_k».proof.Proof.Gen.Dwin
public import proofs.«01_k».proof.Proof.Gen.Dwin.Frame
public import proofs.«01_k».proof.Proof.Gen.DwinIdeal
public import proofs.«01_k».proof.Proof.Gen.DwinIdeal.Value
public import proofs.«01_k».proof.Proof.Gen.DwinRefIdeal
public import proofs.«01_k».proof.Proof.Gen.DwinRefIdeal.Run
public import proofs.«01_k».proof.Proof.MM.Math

@[expose] public section

set_option maxRecDepth 16384

noncomputable section

namespace Cert.MM.Dwin

open Cert.DwinIdeal Cert.DwinIdeal.Gen Idealize.ShloMosaic Idealize.ShloMosaic.TcCoe Idealize.SL.Sem Idealize.ShloMosaic.Pipeline

variable (m : (ℓ : Loc nD τ sig) → Buf (Elt Ideal) ℓ)

/-- The gradient of the input projection. -/
def G (h : S4096x1024.Idx → EReal) (dp : S4096x7168.Idx → EReal) : S1024x7168.Idx → EReal := fun i =>
  ∑ k : Fin 4096, h (ix2 k (i 0)) * dp (ix2 k (i 1))

theorem idx : ∀ t : Fin cfg0.N, (cfg0.win 0).index t = ![0, (cfg0.win 2).index t 0] ∧
    (cfg0.win 1).index t = ![0, (cfg0.win 2).index t 1] := by decide +kernel

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 x i) = m ((c : Thread nD τ).loc main_arg0) (ix2 x ((((View.whole main_v2).slice (win0_2.rect t)).emb (ix2 i j)) 0)) := fun x => by
    blk_ext! [iblk, idx t]
  have h1 : ∀ x, iblk m c 1 t (ix2 x j) = m ((c : Thread nD τ).loc main_arg1) (ix2 x ((((View.whole main_v2).slice (win0_2.rect t)).emb (ix2 i j)) 1)) := fun x => by
    blk_ext! [iblk, idx t]
  simp only [h0, h1]
  rfl

theorem frame_k : Cert.quiescent_Dwin := fun m g _ => Cert.Dwin.Gen.frame m g

theorem frame_ki : Cert.quiescent_DwinIdeal := fun m g _ => Cert.DwinIdeal.Gen.frame m g

theorem frame_ri : Cert.quiescent_DwinRefIdeal := fun m g _ =>
  (θ_run Cert.DwinRefIdeal.defs _ _).mono (fun r h => ⟨fun c => (h c).2, sem_eq_zero_of_no_sems (by decide) r.2⟩)
    (Cert.DwinRefIdeal.Value.run m g)

theorem preserves : Cert.preserves_Dwin_DwinIdeal := trivial

/-- The call and its reference leave the same array. -/
theorem value : Cert.algebraic_DwinIdeal_DwinRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.DwinIdeal.Value.run_blocks m g), (θ_run Cert.DwinRefIdeal.defs _ _).mono (fun r h c => ⟨(h c).1.trans ?_, (h c).2⟩)
    (Cert.DwinRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  exact Finset.sum_congr rfl fun k _ => mul_comm _ _

end Cert.MM.Dwin

end
-- ==== Proof.MM.Dh1.lean ====
/-
  The gradient of the mixer's input, summed over two halves of the columns of the input projection.
-/
module

public import proofs.«01_k».proof.Defs
public import proofs.«01_k».proof.Proof.Gen.Dh1
public import proofs.«01_k».proof.Proof.Gen.Dh1.Frame
public import proofs.«01_k».proof.Proof.Gen.Dh1Ideal
public import proofs.«01_k».proof.Proof.Gen.Dh1Ideal.Value
public import proofs.«01_k».proof.Proof.Gen.Dh1RefIdeal
public import proofs.«01_k».proof.Proof.Gen.Dh1RefIdeal.Run
public import proofs.«01_k».proof.Proof.MM.Math

@[expose] public section

set_option maxRecDepth 16384

noncomputable section

namespace Cert.MM.Dh1

open Cert.Dh1Ideal Cert.Dh1Ideal.Gen Idealize.ShloMosaic Idealize.ShloMosaic.TcCoe Idealize.SL.Sem Idealize.ShloMosaic.Pipeline

variable (m : (ℓ : Loc nD τ sig) → Buf (Elt Ideal) ℓ)

/-- The gradient of the mixer's input. -/
def G (dp : S4096x7168.Idx → EReal) (w : S1024x7168.Idx → EReal) : S4096x1024.Idx → EReal := fun i =>
  ∑ k : Fin 7168, dp (ix2 (i 0) k) * w (ix2 (i 1) k)

theorem idx : ∀ t : Fin cfg0.N, (cfg0.win 0).index t = ![(cfg0.win 2).index t 0, t.val % 2] ∧
    (cfg0.win 1).index t = ![(cfg0.win 2).index t 1, t.val % 2] := by decide +kernel

/-- The two points that compute one block of the result sit next to each other. -/
theorem idx_pred : ∀ t : Fin cfg0.N, t.val % 2 = 1 →
    (cfg0.win 2).index ⟨t.val - 1, Nat.lt_of_le_of_lt (Nat.sub_le _ _) t.isLt⟩ = (cfg0.win 2).index t := by decide +kernel

/-- The product of two rows of one half. -/
def dotRow (a b : Fin 3584 → EReal) : EReal := ∑ x, a x * b x

/-- After a point that starts a block, the accumulator holds the product over the first half. -/
theorem acc_eq (c : Dev nD) (t : Fin cfg0.N) (h : t.val % 2 = 0) (i j : Fin 1024) :
    (outsAt0 m c t.val t.isLt).2 (ix2 i j) = dotRow (fun x => iblk m c 0 t (ix2 i x)) (fun x => iblk m c 1 t (ix2 j x)) := by
  rw [outsAt0_A m c t h (by omega)]
  frame_out
  unfold k0_pay2 k0_pay1
  pointwise
  rfl

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, outsAt0_B m c t (by omega) hm]
  frame_out
  obtain ⟨i, j, rfl⟩ : ∃ i j, y = ix2 i j := ⟨y 0, y 1, by funext k; fin_cases k <;> rfl⟩
  unfold k0_pay4 k0_pay1
  pointwise
  have hp : (t.val - 1) % 2 = 0 := by omega
  have hq := idx_pred t hm
  obtain ⟨i0, i1⟩ := idx t
  obtain ⟨k0, k1⟩ := idx (⟨t.val - 1, Nat.lt_of_le_of_lt (Nat.sub_le _ _) t.isLt⟩ : Fin cfg0.N)
  rw [hm] at i0 i1
  rw [hq, hp] at k0 k1
  have h0 : ∀ x : Fin 3584, iblk m c 0 t (ix2 i x) = m ((c : Thread nD τ).loc main_arg0) (ix2 ((((View.whole main_v2).slice (win0_2.rect t)).emb (ix2 i j)) 0) ⟨3584 + x.val, by omega⟩) := fun x => by
    blk_ext! [iblk, i0]
  have h1 : ∀ x : Fin 3584, iblk m c 1 t (ix2 j x) = m ((c : Thread nD τ).loc main_arg1) (ix2 ((((View.whole main_v2).slice (win0_2.rect t)).emb (ix2 i j)) 1) ⟨3584 + x.val, by omega⟩) := fun x => by
    blk_ext! [iblk, i1]
  have l0 : ∀ x : Fin 3584, iblk m c 0 (⟨t.val - 1, Nat.lt_of_le_of_lt (Nat.sub_le _ _) t.isLt⟩ : Fin cfg0.N) (ix2 i x) = m ((c : Thread nD τ).loc main_arg0) (ix2 ((((View.whole main_v2).slice (win0_2.rect t)).emb (ix2 i j)) 0) ⟨x.val, by omega⟩) := fun x => by
    blk_ext! [iblk, k0]
  have l1 : ∀ x : Fin 3584, iblk m c 1 (⟨t.val - 1, Nat.lt_of_le_of_lt (Nat.sub_le _ _) t.isLt⟩ : Fin cfg0.N) (ix2 j x) = m ((c : Thread nD τ).loc main_arg1) (ix2 ((((View.whole main_v2).slice (win0_2.rect t)).emb (ix2 i j)) 1) ⟨x.val, by omega⟩) := fun x => by
    blk_ext! [iblk, k1]
  simp only [h0, h1]
  have ha := acc_eq m c (⟨t.val - 1, Nat.lt_of_le_of_lt (Nat.sub_le _ _) t.isLt⟩ : Fin cfg0.N) hp i j
  simp only [l0, l1] at ha
  exact (congrArg (fun s : EReal => s + _) ((congrFun (Memref.IsWhole.read_unread (Memref.isWhole_whole _) _) _).trans ha)).trans
    (sum_halves_mul (fun q => m ((c : Thread nD τ).loc main_arg0) (ix2 ((((View.whole main_v2).slice (win0_2.rect t)).emb (ix2 i j)) 0) q))
      (fun q => m ((c : Thread nD τ).loc main_arg1) (ix2 ((((View.whole main_v2).slice (win0_2.rect t)).emb (ix2 i j)) 1) q))).symm

theorem frame_k : Cert.quiescent_Dh1 := fun m g _ => Cert.Dh1.Gen.frame m g

theorem frame_ki : Cert.quiescent_Dh1Ideal := fun m g _ => Cert.Dh1Ideal.Gen.frame m g

theorem frame_ri : Cert.quiescent_Dh1RefIdeal := fun m g _ =>
  (θ_run Cert.Dh1RefIdeal.defs _ _).mono (fun r h => ⟨fun c => (h c).2, sem_eq_zero_of_no_sems (by decide) r.2⟩)
    (Cert.Dh1RefIdeal.Value.run m g)

theorem preserves : Cert.preserves_Dh1_Dh1Ideal := trivial

/-- The call and its reference leave the same array. -/
theorem value : Cert.algebraic_Dh1Ideal_Dh1RefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.Dh1Ideal.Value.run_blocks m g), (θ_run Cert.Dh1RefIdeal.defs _ _).mono (fun r h c => ⟨(h c).1.trans ?_, (h c).2⟩)
    (Cert.Dh1RefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Dh1

end
-- ==== Proof.MM.Dwout.lean ====
/-
  The gradient of the mixer's output projection.
-/
module

public import proofs.«01_k».proof.Defs
public import proofs.«01_k».proof.Proof.Gen.Dwout
public import proofs.«01_k».proof.Proof.Gen.Dwout.Frame
public import proofs.«01_k».proof.Proof.Gen.DwoutIdeal
public import proofs.«01_k».proof.Proof.Gen.DwoutIdeal.Value
public import proofs.«01_k».proof.Proof.Gen.DwoutRefIdeal
public import proofs.«01_k».proof.Proof.Gen.DwoutRefIdeal.Run
public import proofs.«01_k».proof.Proof.MM.Math

@[expose] public section

set_option maxRecDepth 16384

noncomputable section

namespace Cert.MM.Dwout

open Cert.DwoutIdeal Cert.DwoutIdeal.Gen Idealize.ShloMosaic Idealize.ShloMosaic.TcCoe Idealize.SL.Sem Idealize.ShloMosaic.Pipeline

variable (m : (ℓ : Loc nD τ sig) → Buf (Elt Ideal) ℓ)

/-- The gradient of the output projection. -/
def G (a : S4096x1024.Idx → EReal) (dy : S4096x1024.Idx → EReal) : S1024x1024.Idx → EReal := fun i =>
  ∑ k : Fin 4096, a (ix2 k (i 0)) * dy (ix2 k (i 1))

theorem idx : ∀ t : Fin cfg0.N, (cfg0.win 0).index t = ![0, (cfg0.win 2).index t 0] ∧
    (cfg0.win 1).index t = ![0, (cfg0.win 2).index t 1] := by decide +kernel

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 x i) = m ((c : Thread nD τ).loc main_arg0) (ix2 x ((((View.whole main_v2).slice (win0_2.rect t)).emb (ix2 i j)) 0)) := fun x => by
    blk_ext! [iblk, idx t]
  have h1 : ∀ x, iblk m c 1 t (ix2 x j) = m ((c : Thread nD τ).loc main_arg1) (ix2 x ((((View.whole main_v2).slice (win0_2.rect t)).emb (ix2 i j)) 1)) := fun x => by
    blk_ext! [iblk, idx t]
  simp only [h0, h1]
  rfl

theorem frame_k : Cert.quiescent_Dwout := fun m g _ => Cert.Dwout.Gen.frame m g

theorem frame_ki : Cert.quiescent_DwoutIdeal := fun m g _ => Cert.DwoutIdeal.Gen.frame m g

theorem frame_ri : Cert.quiescent_DwoutRefIdeal := fun m g _ =>
  (θ_run Cert.DwoutRefIdeal.defs _ _).mono (fun r h => ⟨fun c => (h c).2, sem_eq_zero_of_no_sems (by decide) r.2⟩)
    (Cert.DwoutRefIdeal.Value.run m g)

theorem preserves : Cert.preserves_Dwout_DwoutIdeal := trivial

/-- The call and its reference leave the same array. -/
theorem value : Cert.algebraic_DwoutIdeal_DwoutRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.DwoutIdeal.Value.run_blocks m g), (θ_run Cert.DwoutRefIdeal.defs _ _).mono (fun r h c => ⟨(h c).1.trans ?_, (h c).2⟩)
    (Cert.DwoutRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  exact Finset.sum_congr rfl fun k _ => mul_comm _ _

end Cert.MM.Dwout

end
-- ==== Proof.MM.Dmerged.lean ====
/-
  The gradient of the merged branches.
-/
module

public import proofs.«01_k».proof.Defs
public import proofs.«01_k».proof.Proof.Gen.Dmerged
public import proofs.«01_k».proof.Proof.Gen.Dmerged.Frame
public import proofs.«01_k».proof.Proof.Gen.DmergedIdeal
public import proofs.«01_k».proof.Proof.Gen.DmergedIdeal.Value
public import proofs.«01_k».proof.Proof.Gen.DmergedRefIdeal
public import proofs.«01_k».proof.Proof.Gen.DmergedRefIdeal.Run
public import proofs.«01_k».proof.Proof.MM.Math

@[expose] public section

set_option maxRecDepth 16384

noncomputable section

namespace Cert.MM.Dmerged

open Cert.DmergedIdeal Cert.DmergedIdeal.Gen Idealize.ShloMosaic Idealize.ShloMosaic.TcCoe Idealize.SL.Sem Idealize.ShloMosaic.Pipeline

variable (m : (ℓ : Loc nD τ sig) → Buf (Elt Ideal) ℓ)

/-- The gradient of the merged branches. -/
def G (dy : S4096x1024.Idx → EReal) (w : S1024x1024.Idx → EReal) : S4096x1024.Idx → EReal := fun i =>
  ∑ k : Fin 1024, dy (ix2 (i 0) k) * w (ix2 (i 1) k)

theorem idx : ∀ t : Fin cfg0.N, (cfg0.win 0).index t = ![(cfg0.win 2).index t 0, 0] ∧
    (cfg0.win 1).index t = ![(cfg0.win 2).index t 1, 0] := by decide +kernel

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 i x) = m ((c : Thread nD τ).loc main_arg0) (ix2 ((((View.whole main_v2).slice (win0_2.rect t)).emb (ix2 i j)) 0) x) := fun x => by
    blk_ext! [iblk, idx t]
  have h1 : ∀ x, iblk m c 1 t (ix2 j x) = m ((c : Thread nD τ).loc main_arg1) (ix2 ((((View.whole main_v2).slice (win0_2.rect t)).emb (ix2 i j)) 1) x) := fun x => by
    blk_ext! [iblk, idx t]
  simp only [h0, h1]
  rfl

theorem frame_k : Cert.quiescent_Dmerged := fun m g _ => Cert.Dmerged.Gen.frame m g

theorem frame_ki : Cert.quiescent_DmergedIdeal := fun m g _ => Cert.DmergedIdeal.Gen.frame m g

theorem frame_ri : Cert.quiescent_DmergedRefIdeal := fun m g _ =>
  (θ_run Cert.DmergedRefIdeal.defs _ _).mono (fun r h => ⟨fun c => (h c).2, sem_eq_zero_of_no_sems (by decide) r.2⟩)
    (Cert.DmergedRefIdeal.Value.run m g)

theorem preserves : Cert.preserves_Dmerged_DmergedIdeal := trivial

/-- The call and its reference leave the same array. -/
theorem value : Cert.algebraic_DmergedIdeal_DmergedRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.DmergedIdeal.Value.run_blocks m g), (θ_run Cert.DmergedRefIdeal.defs _ _).mono (fun r h c => ⟨(h c).1.trans ?_, (h c).2⟩)
    (Cert.DmergedRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Dmerged

end
-- ==== Proof.MM.Proj.lean ====
/-
  The forward call of the mixer's input projection.
-/
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Run
public import proofs.«01_k».proof.Proof.MM.Math

@[expose] public section

set_option maxRecDepth 16384

noncomputable section

namespace Cert.MM.Proj

open Cert.ProjIdeal Cert.ProjIdeal.Gen Idealize.ShloMosaic Idealize.ShloMosaic.TcCoe Idealize.SL.Sem Idealize.ShloMosaic.Pipeline

variable (m : (ℓ : Loc nD τ sig) → Buf (Elt Ideal) ℓ)

/-- The input projection. -/
def G (h : S4096x1024.Idx → EReal) (w : S1024x7168.Idx → EReal) : S4096x7168.Idx → EReal := fun i =>
  ∑ k : Fin 1024, h (ix2 (i 0) k) * w (ix2 k (i 1))

theorem idx : ∀ t : Fin cfg0.N, (cfg0.win 0).index t = ![(cfg0.win 2).index t 0, 0] ∧
    (cfg0.win 1).index t = ![0, (cfg0.win 2).index t 1] := by decide +kernel

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 i x) = m ((c : Thread nD τ).loc main_arg0) (ix2 ((((View.whole main_v2).slice (win0_2.rect t)).emb (ix2 i j)) 0) x) := fun x => by
    blk_ext! [iblk, idx t]
  have h1 : ∀ x, iblk m c 1 t (ix2 x j) = m ((c : Thread nD τ).loc main_arg1) (ix2 x ((((View.whole main_v2).slice (win0_2.rect t)).emb (ix2 i j)) 1)) := fun x => by
    blk_ext! [iblk, idx t]
  simp only [h0, h1]
  rfl

theorem frame_k : Cert.quiescent_Proj := fun m g _ => Cert.Proj.Gen.frame m g

theorem frame_ki : Cert.quiescent_ProjIdeal := fun m g _ => Cert.ProjIdeal.Gen.frame m g

theorem frame_ri : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run m g)

theorem preserves : Cert.preserves_Proj_ProjIdeal := trivial

/-- The call and its reference leave the same array. -/
theorem value : Cert.algebraic_ProjIdeal_ProjRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.ProjIdeal.Value.run_blocks m g), (θ_run Cert.ProjRefIdeal.defs _ _).mono (fun r h c => ⟨(h c).1.trans ?_, (h c).2⟩)
    (Cert.ProjRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Proj

end
-- ==== Proof.MM.Hid.lean ====
/-
  The forward call of the MLP's hidden row, with the squared ReLU applied in the same call.
-/
module

public import proofs.«01_k».proof.Defs
public import proofs.«01_k».proof.Proof.Gen.Hid
public import proofs.«01_k».proof.Proof.Gen.Hid.Frame
public import proofs.«01_k».proof.Proof.Gen.HidIdeal
public import proofs.«01_k».proof.Proof.Gen.HidIdeal.Value
public import proofs.«01_k».proof.Proof.Gen.HidRefIdeal
public import proofs.«01_k».proof.Proof.Gen.HidRefIdeal.Run
public import proofs.«01_k».proof.Proof.MM.Math

@[expose] public section

set_option maxRecDepth 16384

noncomputable section

namespace Cert.MM.Hid

open Cert.HidIdeal Cert.HidIdeal.Gen Idealize.ShloMosaic Idealize.ShloMosaic.TcCoe Idealize.SL.Sem Idealize.ShloMosaic.Pipeline

variable (m : (ℓ : Loc nD τ sig) → Buf (Elt Ideal) ℓ)

/-- The hidden row. -/
def G (h : S4096x1024.Idx → EReal) (w : S1024x4096.Idx → EReal) : S4096x4096.Idx → EReal := fun i =>
  relu2 (∑ k : Fin 1024, h (ix2 (i 0) k) * w (ix2 k (i 1)))

theorem idx : ∀ t : Fin cfg0.N, (cfg0.win 0).index t = ![(cfg0.win 2).index t 0, 0] ∧
    (cfg0.win 1).index t = ![(cfg0.win 2).index t 1, 0, 0] ∧ (cfg0.win 2).index t 1 < 4 := by decide +kernel

/-- The weight as the host hands it over, one slab of columns after another. -/
theorem V_slab (c : Dev nD) (s : Fin 4) (r q : Fin 1024) :
    V m c main_v3 (ix3 s r q) = m ((c : Thread nD τ).loc main_arg1) (ix2 r (flat s q)) := by
  entry_read
  pointwise
  rfl

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  obtain ⟨i0, i1, i2⟩ := idx t
  have h0 : ∀ x, iblk m c 0 t (ix2 i x) = m ((c : Thread nD τ).loc main_arg0) (ix2 ((((View.whole main_v4).slice (win0_2.rect t)).emb (ix2 i j)) 0) x) := fun x => by
    blk_ext! [iblk, i0]
  have h1 : ∀ x, iblk m c 1 t (ix3 0 x j) = m ((c : Thread nD τ).loc main_arg1) (ix2 x ((((View.whole main_v4).slice (win0_2.rect t)).emb (ix2 i j)) 1)) := fun x => by
    have e : ((View.whole main_v3).slice (win0_1.rect t)).emb (ix3 0 x j) = ix3 ⟨(cfg0.win 2).index t 1, i2⟩ x j := by
      blk_ext [i1]
    show V m c main_v3 (((View.whole main_v3).slice (win0_1.rect t)).emb (ix3 0 x j)) = _
    rw [e, V_slab]
    refine congrArg (fun k => m ((c : Thread nD τ).loc main_arg1) (ix2 x k)) (Fin.ext ?_)
    show win0_2.index t 1 * 1024 + j.val = win0_2.index t 1 * 1024 + 1 * j.val
    rw [one_mul]
  simp only [h0, h1]
  rfl

theorem frame_k : Cert.quiescent_Hid := fun m g _ => Cert.Hid.Gen.frame m g

theorem frame_ki : Cert.quiescent_HidIdeal := fun m g _ => Cert.HidIdeal.Gen.frame m g

theorem frame_ri : Cert.quiescent_HidRefIdeal := fun m g _ =>
  (θ_run Cert.HidRefIdeal.defs _ _).mono (fun r h => ⟨fun c => (h c).2, sem_eq_zero_of_no_sems (by decide) r.2⟩)
    (Cert.HidRefIdeal.Value.run m g)

theorem preserves : Cert.preserves_Hid_HidIdeal := trivial

/-- The call and its reference leave the same array. -/
theorem value : Cert.algebraic_HidIdeal_HidRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.HidIdeal.Value.run_blocks m g), (θ_run Cert.HidRefIdeal.defs _ _).mono (fun r h c => ⟨(h c).1.trans ?_, (h c).2⟩)
    (Cert.HidRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Hid

end
-- ==== Proof.MM.Ymlp.lean ====
/-
  The forward call of the MLP's second product.
-/
module

public import proofs.«01_k».proof.Defs
public import proofs.«01_k».proof.Proof.Gen.Ymlp
public import proofs.«01_k».proof.Proof.Gen.Ymlp.Frame
public import proofs.«01_k».proof.Proof.Gen.YmlpIdeal
public import proofs.«01_k».proof.Proof.Gen.YmlpIdeal.Value
public import proofs.«01_k».proof.Proof.Gen.YmlpRefIdeal
public import proofs.«01_k».proof.Proof.Gen.YmlpRefIdeal.Run
public import proofs.«01_k».proof.Proof.MM.Math

@[expose] public section

set_option maxRecDepth 16384

noncomputable section

namespace Cert.MM.Ymlp

open Cert.YmlpIdeal Cert.YmlpIdeal.Gen Idealize.ShloMosaic Idealize.ShloMosaic.TcCoe Idealize.SL.Sem Idealize.ShloMosaic.Pipeline

variable (m : (ℓ : Loc nD τ sig) → Buf (Elt Ideal) ℓ)

/-- The MLP's second product. -/
def G (a : S4096x4096.Idx → EReal) (w : S4096x1024.Idx → EReal) : S4096x1024.Idx → EReal := fun i =>
  ∑ k : Fin 4096, relu2 (a (ix2 (i 0) k)) * w (ix2 k (i 1))

theorem idx : ∀ t : Fin cfg0.N, (cfg0.win 0).index t = ![(cfg0.win 2).index t 0, 0] ∧
    (cfg0.win 1).index t = ![0, (cfg0.win 2).index t 1] := by decide +kernel

/-- The hidden row that the host hands the call. -/
theorem V_hid (c : Dev nD) (y : S4096x4096.Idx) : V m c main_v2 y = relu2 (m ((c : Thread nD τ).loc main_arg0) y) := by
  show StableHlo.after (List.flatten [hostOps0, hostOps0_1]) (fun b => m (c, b)) main_v2 y = _
  after_reads_at
  rfl

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 i x) = relu2 (m ((c : Thread nD τ).loc main_arg0) (ix2 ((((View.whole main_v4).slice (win0_2.rect t)).emb (ix2 i j)) 0) x)) := fun x => by
    show V m c main_v2 (((View.whole main_v2).slice (win0_0.rect t)).emb (ix2 i x)) = _
    rw [V_hid]
    refine congrArg (fun k => relu2 (m ((c : Thread nD τ).loc main_arg0) k)) ?_
    blk_ext [idx t]
  have h1 : ∀ x, iblk m c 1 t (ix2 x j) = m ((c : Thread nD τ).loc main_arg1) (ix2 x ((((View.whole main_v4).slice (win0_2.rect t)).emb (ix2 i j)) 1)) := fun x => by
    blk_ext! [iblk, idx t]
  simp only [h0, h1]
  rfl

theorem frame_k : Cert.quiescent_Ymlp := fun m g _ => Cert.Ymlp.Gen.frame m g

theorem frame_ki : Cert.quiescent_YmlpIdeal := fun m g _ => Cert.YmlpIdeal.Gen.frame m g

theorem frame_ri : Cert.quiescent_YmlpRefIdeal := fun m g _ =>
  (θ_run Cert.YmlpRefIdeal.defs _ _).mono (fun r h => ⟨fun c => (h c).2, sem_eq_zero_of_no_sems (by decide) r.2⟩)
    (Cert.YmlpRefIdeal.Value.run m g)

theorem preserves : Cert.preserves_Ymlp_YmlpIdeal := trivial

/-- The call and its reference leave the same array. -/
theorem value : Cert.algebraic_YmlpIdeal_YmlpRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.YmlpIdeal.Value.run_blocks m g), (θ_run Cert.YmlpRefIdeal.defs _ _).mono (fun r h c => ⟨(h c).1.trans ?_, (h c).2⟩)
    (Cert.YmlpRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Ymlp

end
-- ==== Proof.MM.Ymix.lean ====
/-
  The forward call of the mixer's output projection.
-/
module

public import proofs.«01_k».proof.Defs
public import proofs.«01_k».proof.Proof.Gen.Ymix
public import proofs.«01_k».proof.Proof.Gen.Ymix.Frame
public import proofs.«01_k».proof.Proof.Gen.YmixIdeal
public import proofs.«01_k».proof.Proof.Gen.YmixIdeal.Value
public import proofs.«01_k».proof.Proof.Gen.YmixRefIdeal
public import proofs.«01_k».proof.Proof.Gen.YmixRefIdeal.Run
public import proofs.«01_k».proof.Proof.MM.Math

@[expose] public section

set_option maxRecDepth 16384

noncomputable section

namespace Cert.MM.Ymix

open Cert.YmixIdeal Cert.YmixIdeal.Gen Idealize.ShloMosaic Idealize.ShloMosaic.TcCoe Idealize.SL.Sem Idealize.ShloMosaic.Pipeline

variable (m : (ℓ : Loc nD τ sig) → Buf (Elt Ideal) ℓ)

/-- The output projection. -/
def G (a : S4096x1024.Idx → EReal) (w : S1024x1024.Idx → EReal) : S4096x1024.Idx → EReal := fun i =>
  ∑ k : Fin 1024, a (ix2 (i 0) k) * w (ix2 k (i 1))

theorem idx : ∀ t : Fin cfg0.N, (cfg0.win 0).index t = ![(cfg0.win 2).index t 0, 0] ∧
    (cfg0.win 1).index t = ![0, (cfg0.win 2).index t 1] := by decide +kernel

theorem out_eq (c : Dev nD) :
    (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, by funext k; fin_cases k <;> rfl⟩
  unfold k0_pay1
  pointwise
  have h0 : ∀ x, iblk m c 0 t (ix2 i x) = m ((c : Thread nD τ).loc main_arg0) (ix2 ((((View.whole main_v2).slice (win0_2.rect t)).emb (ix2 i j)) 0) x) := fun x => by
    blk_ext! [iblk, idx t]
  have h1 : ∀ x, iblk m c 1 t (ix2 x j) = m ((c : Thread nD τ).loc main_arg1) (ix2 x ((((View.whole main_v2).slice (win0_2.rect t)).emb (ix2 i j)) 1)) := fun x => by
    blk_ext! [iblk, idx t]
  simp only [h0, h1]
  rfl

theorem frame_k : Cert.quiescent_Ymix := fun m g _ => Cert.Ymix.Gen.frame m g

theorem frame_ki : Cert.quiescent_YmixIdeal := fun m g _ => Cert.YmixIdeal.Gen.frame m g

theorem frame_ri : Cert.quiescent_YmixRefIdeal := fun m g _ =>
  (θ_run Cert.YmixRefIdeal.defs _ _).mono (fun r h => ⟨fun c => (h c).2, sem_eq_zero_of_no_sems (by decide) r.2⟩)
    (Cert.YmixRefIdeal.Value.run m g)

theorem preserves : Cert.preserves_Ymix_YmixIdeal := trivial

/-- The call and its reference leave the same array. -/
theorem value : Cert.algebraic_YmixIdeal_YmixRefIdeal := by
  intro m g m' g' _ hm
  refine ⟨fun c => G (m ((c : Thread nD τ).loc main_arg0)) (m ((c : Thread nD τ).loc main_arg1)), (θ_run defs _ _).mono (fun r h c => ⟨(h c).1.trans (out_eq m c), (h c).2⟩)
    (Cert.YmixIdeal.Value.run_blocks m g), (θ_run Cert.YmixRefIdeal.defs _ _).mono (fun r h c => ⟨(h c).1.trans ?_, (h c).2⟩)
    (Cert.YmixRefIdeal.Value.run m' g')⟩
  obtain ⟨e0, e1⟩ := hm c
  show _ = G (m ((c : Thread nD τ).loc main_arg0)) (m ((c : Thread nD τ).loc main_arg1))
  rw [← e0, ← e1]
  funext y
  obtain ⟨i, j, rfl⟩ : ∃ i j, y = ix2 i j := ⟨y 0, y 1, by funext k; fin_cases k <;> rfl⟩
  pointwise
  rfl

end Cert.MM.Ymix

end
-- ==== Proof.MM.Mback.lean ====
/-
  The backward call of the merge: the gradients of the gates, of the three branches and of their projections.
-/
module

public import proofs.«01_k».proof.Defs
public import proofs.«01_k».proof.Proof.Gen.Mback
public import proofs.«01_k».proof.Proof.Gen.Mback.Frame
public import proofs.«01_k».proof.Proof.Gen.MbackIdeal
public import proofs.«01_k».proof.Proof.Gen.MbackIdeal.Value
public import proofs.«01_k».proof.Proof.Gen.MbackRefIdeal
public import proofs.«01_k».proof.Proof.Gen.MbackRefIdeal.Run
public import proofs.«01_k».proof.Proof.MM.Math

@[expose] public section

set_option maxRecDepth 16384

noncomputable section

namespace Cert.MM.Mback

open Cert.MbackIdeal Cert.MbackIdeal.Gen Idealize.ShloMosaic Idealize.ShloMosaic.TcCoe Idealize.SL.Sem Idealize.ShloMosaic.Pipeline

variable (m : (ℓ : Loc nD τ sig) → Buf (Elt Ideal) ℓ)

/-- The column of a branch's gate among the projections, branch by branch. -/
def at0 (j : Fin 1024) : Fin 7168 := ⟨j.val, by omega⟩
def at1 (j : Fin 1024) : Fin 7168 := ⟨1024 + j.val, by omega⟩
def at2 (j : Fin 1024) : Fin 7168 := ⟨2048 + j.val, by omega⟩

/-- The gradient of a branch's projection: the merge's gradient times the branch's gate. -/
def dy (d : S4096x1024.Idx → EReal) (p : S4096x7168.Idx → EReal) (at_ : Fin 1024 → Fin 7168) (i : Fin 4096) (j : Fin 1024) : EReal :=
  d (ix2 i j) * Ideal.logistic (p (ix2 i (at_ j)))

/-- The gradient of a branch's gate before the squashing. -/
def dg (d : S4096x1024.Idx → EReal) (p : S4096x7168.Idx → EReal) (at_ : Fin 1024 → Fin 7168) (x : S4096x512.Idx → EReal) (w : S512x1024.Idx → EReal)
    (i : Fin 4096) (j : Fin 1024) : EReal :=
  d (ix2 i j) * (∑ k : Fin 512, x (ix2 i k) * w (ix2 k j)) * Ideal.logistic (p (ix2 i (at_ j))) * (1 - Ideal.logistic (p (ix2 i (at_ j))))

/-- The gradient of the gates, branch after branch along the columns. -/
def gate (d : S4096x1024.Idx → EReal) (p : S4096x7168.Idx → EReal) (a z t : S4096x512.Idx → EReal) (wa wb wc : S512x1024.Idx → EReal) (i : Fin 4096) (j : Fin 3072) : EReal :=
  if h : j.val < 1024 then dg d p at0 a wa i ⟨j.val, h⟩
  else if h' : j.val < 2048 then dg d p at1 z wb i ⟨j.val - 1024, by omega⟩
  else dg d p at2 t wc i ⟨j.val - 2048, by omega⟩

def Gg (d : S4096x1024.Idx → EReal) (p : S4096x7168.Idx → EReal) (a z t : S4096x512.Idx → EReal) (wa wb wc : S512x1024.Idx → EReal) : S4096x3072.Idx → EReal := fun i => gate d p a z t wa wb wc (i 0) (i 1)

/-- The gradient of a branch. -/
def Gx (d : S4096x1024.Idx → EReal) (p : S4096x7168.Idx → EReal) (at_ : Fin 1024 → Fin 7168) (w : S512x1024.Idx → EReal) : S4096x512.Idx → EReal := fun i =>
  ∑ k : Fin 1024, dy d p at_ (i 0) k * w (ix2 (i 1) k)

/-- A row's term of the gradient of a branch's weight. -/
def wt (d : S4096x1024.Idx → EReal) (p : S4096x7168.Idx → EReal) (at_ : Fin 1024 → Fin 7168) (x : S4096x512.Idx → EReal) (i : Fin 512) (j : Fin 1024)
    (k : Fin 4096) : EReal := x (ix2 k i) * dy d p at_ k j

/-- The gradient of a branch's weight. -/
def Gw (d : S4096x1024.Idx → EReal) (p : S4096x7168.Idx → EReal) (at_ : Fin 1024 → Fin 7168) (x : S4096x512.Idx → EReal) : S512x1024.Idx → EReal := fun i =>
  ∑ k : Fin 4096, wt d p at_ x (i 0) (i 1) k

/-- The row of the arrays at row `i` of point `t`'s blocks. -/
def row (t : Fin cfg0.N) (i : Fin 256) : Fin 4096 := ⟨t.val * 256 + i.val, by have : t.val < 16 := t.isLt; omega⟩

theorem idx : ∀ t : Fin cfg0.N, (cfg0.win 0).index t = ![t.val, 0] ∧ (cfg0.win 1).index t = ![t.val, 0] ∧
    (cfg0.win 2).index t = ![t.val, 0] ∧ (cfg0.win 3).index t = ![t.val, 0] ∧ (cfg0.win 4).index t = ![t.val, 0] ∧
    (cfg0.win 5).index t = ![0, 0] ∧ (cfg0.win 6).index t = ![0, 0] ∧ (cfg0.win 7).index t = ![0, 0] := by decide +kernel

theorem idx_out : ∀ t : Fin cfg0.N, (cfg0.win 8).index t = ![t.val, 0] ∧ (cfg0.win 9).index t = ![t.val, 0] ∧
    (cfg0.win 10).index t = ![t.val, 0] ∧ (cfg0.win 11).index t = ![t.val, 0] ∧
    (cfg0.win 12).index t = ![0, 0] ∧ (cfg0.win 13).index t = ![0, 0] ∧ (cfg0.win 14).index t = ![0, 0] := by decide +kernel

theorem out8 (t : Fin cfg0.N) (i : Fin 256) (j : Fin 3072) : ((View.whole main_v6_0).slice (win0_8.rect t)).emb (ix2 i j) = ix2 (row t i) j := by
  blk_ext! [idx_out t, row]

theorem out9 (t : Fin cfg0.N) (i : Fin 256) (j : Fin 512) : ((View.whole main_v6_1).slice (win0_9.rect t)).emb (ix2 i j) = ix2 (row t i) j := by
  blk_ext! [idx_out t, row]

theorem out10 (t : Fin cfg0.N) (i : Fin 256) (j : Fin 512) : ((View.whole main_v6_2).slice (win0_10.rect t)).emb (ix2 i j) = ix2 (row t i) j := by
  blk_ext! [idx_out t, row]

theorem out11 (t : Fin cfg0.N) (i : Fin 256) (j : Fin 512) : ((View.whole main_v6_3).slice (win0_11.rect t)).emb (ix2 i j) = ix2 (row t i) j := by
  blk_ext! [idx_out t, row]

theorem out12 (t : Fin cfg0.N) (i : Fin 512) (j : Fin 1024) : ((View.whole main_v6_4).slice (win0_12.rect t)).emb (ix2 i j) = ix2 i j := by
  blk_ext! [idx_out t]

theorem out13 (t : Fin cfg0.N) (i : Fin 512) (j : Fin 1024) : ((View.whole main_v6_5).slice (win0_13.rect t)).emb (ix2 i j) = ix2 i j := by
  blk_ext! [idx_out t]

theorem out14 (t : Fin cfg0.N) (i : Fin 512) (j : Fin 1024) : ((View.whole main_v6_6).slice (win0_14.rect t)).emb (ix2 i j) = ix2 i j := by
  blk_ext! [idx_out t]

theorem in0 (c : Dev nD) (t : Fin cfg0.N) (i : Fin 256) (x : Fin 1024) : iblk m c 0 t (ix2 i x) = m ((c : Thread nD τ).loc main_arg0) (ix2 (row t i) x) := by
  blk_ext! [iblk, idx t, row]

theorem in1 (c : Dev nD) (t : Fin cfg0.N) (i : Fin 256) (x : Fin 512) : iblk m c 1 t (ix2 i x) = m ((c : Thread nD τ).loc main_arg1) (ix2 (row t i) x) := by
  blk_ext! [iblk, idx t, row]

theorem in2 (c : Dev nD) (t : Fin cfg0.N) (i : Fin 256) (x : Fin 512) : iblk m c 2 t (ix2 i x) = m ((c : Thread nD τ).loc main_arg2) (ix2 (row t i) x) := by
  blk_ext! [iblk, idx t, row]

theorem in3 (c : Dev nD) (t : Fin cfg0.N) (i : Fin 256) (x : Fin 512) : iblk m c 3 t (ix2 i x) = m ((c : Thread nD τ).loc main_arg3) (ix2 (row t i) x) := by
  blk_ext! [iblk, idx t, row]

theorem in5 (c : Dev nD) (t : Fin cfg0.N) (x : Fin 512) (j : Fin 1024) : iblk m c 5 t (ix2 x j) = m ((c : Thread nD τ).loc main_arg5) (ix2 x j) := by
  blk_ext! [iblk, idx t]

theorem in6 (c : Dev nD) (t : Fin cfg0.N) (x : Fin 512) (j : Fin 1024) : iblk m c 6 t (ix2 x j) = m ((c : Thread nD τ).loc main_arg6) (ix2 x j) := by
  blk_ext! [iblk, idx t]

theorem in7 (c : Dev nD) (t : Fin cfg0.N) (x : Fin 512) (j : Fin 1024) : iblk m c 7 t (ix2 x j) = m ((c : Thread nD τ).loc main_arg7) (ix2 x j) := by
  blk_ext! [iblk, idx t]

theorem in4 (c : Dev nD) (t : Fin cfg0.N) (i : Fin 256) (k : Fin 3072) :
    X0_4 m c t (ix2 i k) = m ((c : Thread nD τ).loc main_arg4) (ix2 (row t i) ⟨k.val, by omega⟩) := by
  unfold X0_4 Pipeline.Window.fill
  rw [dif_pos (moved0_4 t _)]
  blk_ext! [iblk, idx t, row]

theorem out_eq9 (c : Dev nD) : (dats m 0 c).arrAt 9 cfg0.N = Gx (m ((c : Thread nD τ).loc main_arg0)) (m ((c : Thread nD τ).loc main_arg4)) at0 (m ((c : Thread nD τ).loc main_arg5)) := by
  refine (dats m 0 c).arrAt_eq_of_covers 9 _ (by decide +kernel) fun t hf y => ?_
  blk_simp
  rw [after0_9]
  obtain ⟨i, j, rfl⟩ : ∃ i j, y = ix2 i j := ⟨y 0, y 1, by funext k; fin_cases k <;> rfl⟩
  rw [out9]
  by_cases h : t.val % 16 = 0
  · rw [outsAt0_A m c t h]
    frame_out
    unfold k0_pay12 k0_pay11 k0_pay8 k0_pay9
    pointwise
    simp only [in0, in4, in5]
    rfl
  · rw [outsAt0_B m c t h]
    frame_out
    unfold k0_pay12 k0_pay11 k0_pay8 k0_pay9
    pointwise
    simp only [in0, in4, in5]
    rfl

theorem out_eq10 (c : Dev nD) : (dats m 0 c).arrAt 10 cfg0.N = Gx (m ((c : Thread nD τ).loc main_arg0)) (m ((c : Thread nD τ).loc main_arg4)) at1 (m ((c : Thread nD τ).loc main_arg6)) := by
  refine (dats m 0 c).arrAt_eq_of_covers 10 _ (by decide +kernel) fun t hf y => ?_
  blk_simp
  rw [after0_10]
  obtain ⟨i, j, rfl⟩ : ∃ i j, y = ix2 i j := ⟨y 0, y 1, by funext k; fin_cases k <;> rfl⟩
  rw [out10]
  by_cases h : t.val % 16 = 0
  · rw [outsAt0_A m c t h]
    frame_out
    unfold k0_pay19 k0_pay18 k0_pay15 k0_pay16
    pointwise
    simp only [in0, in4, in6]
    rfl
  · rw [outsAt0_B m c t h]
    frame_out
    unfold k0_pay19 k0_pay18 k0_pay15 k0_pay16
    pointwise
    simp only [in0, in4, in6]
    rfl

theorem out_eq11 (c : Dev nD) : (dats m 0 c).arrAt 11 cfg0.N = Gx (m ((c : Thread nD τ).loc main_arg0)) (m ((c : Thread nD τ).loc main_arg4)) at2 (m ((c : Thread nD τ).loc main_arg7)) := by
  refine (dats m 0 c).arrAt_eq_of_covers 11 _ (by decide +kernel) fun t hf y => ?_
  blk_simp
  rw [after0_11]
  obtain ⟨i, j, rfl⟩ : ∃ i j, y = ix2 i j := ⟨y 0, y 1, by funext k; fin_cases k <;> rfl⟩
  rw [out11]
  by_cases h : t.val % 16 = 0
  · rw [outsAt0_A m c t h]
    frame_out
    unfold k0_pay2 k0_pay1 k0_pay22 k0_pay23
    pointwise
    simp only [in0, in4, in7]
    rfl
  · rw [outsAt0_B m c t h]
    frame_out
    unfold k0_pay2 k0_pay1 k0_pay22 k0_pay23
    pointwise
    simp only [in0, in4, in7]
    rfl

theorem Gg_0 (d : S4096x1024.Idx → EReal) (p : S4096x7168.Idx → EReal) (a z t : S4096x512.Idx → EReal) (wa wb wc : S512x1024.Idx → EReal) (i : Fin 4096) (j : Fin 3072) (k : Fin 1024) (h : j.val = k.val) : Gg d p a z t wa wb wc (ix2 i j) = dg d p at0 a wa i k := by
  show gate d p a z t wa wb wc i j = _
  unfold gate
  rw [dif_pos (show j.val < 1024 by omega)]
  exact congrArg (dg d p at0 a wa i) (Fin.ext h)

theorem Gg_1 (d : S4096x1024.Idx → EReal) (p : S4096x7168.Idx → EReal) (a z t : S4096x512.Idx → EReal) (wa wb wc : S512x1024.Idx → EReal) (i : Fin 4096) (j : Fin 3072) (k : Fin 1024) (h : j.val = 1024 + k.val) : Gg d p a z t wa wb wc (ix2 i j) = dg d p at1 z wb i k := by
  show gate d p a z t wa wb wc i j = _
  unfold gate
  rw [dif_neg (show ¬ j.val < 1024 by omega), dif_pos (show j.val < 2048 by omega)]
  exact congrArg (dg d p at1 z wb i) (Fin.ext (by show j.val - 1024 = k.val; omega))

theorem Gg_2 (d : S4096x1024.Idx → EReal) (p : S4096x7168.Idx → EReal) (a z t : S4096x512.Idx → EReal) (wa wb wc : S512x1024.Idx → EReal) (i : Fin 4096) (j : Fin 3072) (k : Fin 1024) (h : j.val = 2048 + k.val) : Gg d p a z t wa wb wc (ix2 i j) = dg d p at2 t wc i k := by
  show gate d p a z t wa wb wc i j = _
  unfold gate
  rw [dif_neg (show ¬ j.val < 1024 by omega), dif_neg (show ¬ j.val < 2048 by omega)]
  exact congrArg (dg d p at2 t wc i) (Fin.ext (by show j.val - 2048 = k.val; omega))

theorem out_eq8 (c : Dev nD) : (dats m 0 c).arrAt 8 cfg0.N = Gg (m ((c : Thread nD τ).loc main_arg0)) (m ((c : Thread nD τ).loc main_arg4)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  obtain ⟨i, j, rfl⟩ : ∃ i j, y = ix2 i j := ⟨y 0, y 1, by funext k; fin_cases k <;> rfl⟩
  rw [out8]
  by_cases h : t.val % 16 = 0
  · rw [outsAt0_A m c t h]
    frame_out
    canon_tiles x hx
    · obtain ⟨i', j', rfl⟩ : ∃ i' j', x = ix2 i' j' := ⟨x 0, x 1, by funext k; fin_cases k <;> rfl⟩
      obtain rfl : i = i' := Fin.ext hx0
      rw [Gg_2 _ _ _ _ _ _ _ _ _ j j' hx1]
      unfold k0_pay24 k0_pay21 k0_pay22 k0_pay23
      pointwise
      simp only [in0, in4, in3, in7]
      rfl
    · obtain ⟨i', j', rfl⟩ : ∃ i' j', x = ix2 i' j' := ⟨x 0, x 1, by funext k; fin_cases k <;> rfl⟩
      obtain rfl : i = i' := Fin.ext hx0
      rw [Gg_1 _ _ _ _ _ _ _ _ _ j j' hx1]
      unfold k0_pay17 k0_pay14 k0_pay15 k0_pay16
      pointwise
      simp only [in0, in4, in2, in6]
      rfl
    · obtain ⟨i', j', rfl⟩ : ∃ i' j', x = ix2 i' j' := ⟨x 0, x 1, by funext k; fin_cases k <;> rfl⟩
      obtain rfl : i = i' := Fin.ext hx0
      rw [Gg_0 _ _ _ _ _ _ _ _ _ j j' hx1]
      unfold k0_pay10 k0_pay7 k0_pay8 k0_pay9
      pointwise
      simp only [in0, in4, in1, in5]
      rfl
  · rw [outsAt0_B m c t h]
    frame_out
    canon_tiles x hx
    · obtain ⟨i', j', rfl⟩ : ∃ i' j', x = ix2 i' j' := ⟨x 0, x 1, by funext k; fin_cases k <;> rfl⟩
      obtain rfl : i = i' := Fin.ext hx0
      rw [Gg_2 _ _ _ _ _ _ _ _ _ j j' hx1]
      unfold k0_pay24 k0_pay21 k0_pay22 k0_pay23
      pointwise
      simp only [in0, in4, in3, in7]
      rfl
    · obtain ⟨i', j', rfl⟩ : ∃ i' j', x = ix2 i' j' := ⟨x 0, x 1, by funext k; fin_cases k <;> rfl⟩
      obtain rfl : i = i' := Fin.ext hx0
      rw [Gg_1 _ _ _ _ _ _ _ _ _ j j' hx1]
      unfold k0_pay17 k0_pay14 k0_pay15 k0_pay16
      pointwise
      simp only [in0, in4, in2, in6]
      rfl
    · obtain ⟨i', j', rfl⟩ : ∃ i' j', x = ix2 i' j' := ⟨x 0, x 1, by funext k; fin_cases k <;> rfl⟩
      obtain rfl : i = i' := Fin.ext hx0
      rw [Gg_0 _ _ _ _ _ _ _ _ _ j j' hx1]
      unfold k0_pay10 k0_pay7 k0_pay8 k0_pay9
      pointwise
      simp only [in0, in4, in1, in5]
      rfl

/-- A point's part of the gradient of a branch's weight: the sum over the block's rows. -/
def part (d : S4096x1024.Idx → EReal) (p : S4096x7168.Idx → EReal) (at_ : Fin 1024 → Fin 7168) (x : S4096x512.Idx → EReal) (t : Fin cfg0.N) :
    S512x1024.Idx → EReal := fun y => ∑ k : Fin 256, x (ix2 (row t k) (y 0)) * dy d p at_ (row t k) (y 1)

/-- What output 12 holds after the first point, and after a later one over what the one before left. -/
theorem first12 (c : Dev nD) (t : Fin cfg0.N) (h : t.val % 16 = 0) (y : S512x1024.Idx) :
    (outsAt0 m c t.val t.isLt).2.2.2.2.1 y = (0 : EReal) + part (m ((c : Thread nD τ).loc main_arg0)) (m ((c : Thread nD τ).loc main_arg4)) at0 (m ((c : Thread nD τ).loc main_arg1)) t y := by
  rw [zero_add, outsAt0_A m c t h]
  frame_out
  obtain ⟨i, j, rfl⟩ : ∃ i j, y = ix2 i j := ⟨y 0, y 1, by funext k; fin_cases k <;> rfl⟩
  unfold k0_pay13 k0_pay11 k0_pay7 k0_pay9 k0_pay4
  pointwise
  simp only [in0, in4, in1]
  rfl

theorem next12 (c : Dev nD) (t : Fin cfg0.N) (h : ¬t.val % 16 = 0) (y : S512x1024.Idx) :
    (outsAt0 m c t.val t.isLt).2.2.2.2.1 y =
      ((outsAt0 m c (t.val - 1) (Nat.lt_of_le_of_lt (Nat.sub_le _ _) t.isLt)).2.2.2.2.1 y : EReal) + part (m ((c : Thread nD τ).loc main_arg0)) (m ((c : Thread nD τ).loc main_arg4)) at0 (m ((c : Thread nD τ).loc main_arg1)) t y := by
  rw [outsAt0_B m c t h]
  frame_out
  obtain ⟨i, j, rfl⟩ : ∃ i j, y = ix2 i j := ⟨y 0, y 1, by funext k; fin_cases k <;> rfl⟩
  unfold k0_pay13 k0_pay11 k0_pay7 k0_pay9
  pointwise
  simp only [in0, in4, in1]
  rfl

theorem out_eq12 (c : Dev nD) : (dats m 0 c).arrAt 12 cfg0.N = Gw (m ((c : Thread nD τ).loc main_arg0)) (m ((c : Thread nD τ).loc main_arg4)) at0 (m ((c : Thread nD τ).loc main_arg1)) := by
  refine (dats m 0 c).arrAt_eq_of_covers 12 _ (by decide +kernel) fun t hf y => ?_
  blk_simp
  rw [after0_12]
  obtain rfl : t = t0_15 := Fin.ext (by
    have h1 := (flush0_12 t).mp hf
    have h2 : t.val < 16 := t.isLt
    show t.val = 15
    omega)
  obtain ⟨i, j, rfl⟩ : ∃ i j, y = ix2 i j := ⟨y 0, y 1, by funext k; fin_cases k <;> rfl⟩
  rw [out12]
  refine (Pipeline.eq_sum_fin_of_reset_step_apply_last (M := EReal) (fun n h => (outsAt0 m c n h).2.2.2.2.1) 16 (fun _ => 0)
    (part (m ((c : Thread nD τ).loc main_arg0)) (m ((c : Thread nD τ).loc main_arg4)) at0 (m ((c : Thread nD τ).loc main_arg1))) (first12 m c) (next12 m c) (le_of_eq N_0) t0_15 rfl (ix2 i j)).trans ?_
  rw [zero_add]
  exact Fin.sum_mul_add_fin 16 256 (wt (m ((c : Thread nD τ).loc main_arg0)) (m ((c : Thread nD τ).loc main_arg4)) at0 (m ((c : Thread nD τ).loc main_arg1)) i j)

/-- What output 13 holds after the first point, and after a later one over what the one before left. -/
theorem first13 (c : Dev nD) (t : Fin cfg0.N) (h : t.val % 16 = 0) (y : S512x1024.Idx) :
    (outsAt0 m c t.val t.isLt).2.2.2.2.2.1 y = (0 : EReal) + part (m ((c : Thread nD τ).loc main_arg0)) (m ((c : Thread nD τ).loc main_arg4)) at1 (m ((c : Thread nD τ).loc main_arg2)) t y := by
  rw [zero_add, outsAt0_A m c t h]
  frame_out
  obtain ⟨i, j, rfl⟩ : ∃ i j, y = ix2 i j := ⟨y 0, y 1, by funext k; fin_cases k <;> rfl⟩
  unfold k0_pay20 k0_pay18 k0_pay14 k0_pay16 k0_pay5
  pointwise
  simp only [in0, in4, in2]
  rfl

theorem next13 (c : Dev nD) (t : Fin cfg0.N) (h : ¬t.val % 16 = 0) (y : S512x1024.Idx) :
    (outsAt0 m c t.val t.isLt).2.2.2.2.2.1 y =
      ((outsAt0 m c (t.val - 1) (Nat.lt_of_le_of_lt (Nat.sub_le _ _) t.isLt)).2.2.2.2.2.1 y : EReal) + part (m ((c : Thread nD τ).loc main_arg0)) (m ((c : Thread nD τ).loc main_arg4)) at1 (m ((c : Thread nD τ).loc main_arg2)) t y := by
  rw [outsAt0_B m c t h]
  frame_out
  obtain ⟨i, j, rfl⟩ : ∃ i j, y = ix2 i j := ⟨y 0, y 1, by funext k; fin_cases k <;> rfl⟩
  unfold k0_pay20 k0_pay18 k0_pay14 k0_pay16
  pointwise
  simp only [in0, in4, in2]
  rfl

theorem out_eq13 (c : Dev nD) : (dats m 0 c).arrAt 13 cfg0.N = Gw (m ((c : Thread nD τ).loc main_arg0)) (m ((c : Thread nD τ).loc main_arg4)) at1 (m ((c : Thread nD τ).loc main_arg2)) := by
  refine (dats m 0 c).arrAt_eq_of_covers 13 _ (by decide +kernel) fun t hf y => ?_
  blk_simp
  rw [after0_13]
  obtain rfl : t = t0_15 := Fin.ext (by
    have h1 := (flush0_13 t).mp hf
    have h2 : t.val < 16 := t.isLt
    show t.val = 15
    omega)
  obtain ⟨i, j, rfl⟩ : ∃ i j, y = ix2 i j := ⟨y 0, y 1, by funext k; fin_cases k <;> rfl⟩
  rw [out13]
  refine (Pipeline.eq_sum_fin_of_reset_step_apply_last (M := EReal) (fun n h => (outsAt0 m c n h).2.2.2.2.2.1) 16 (fun _ => 0)
    (part (m ((c : Thread nD τ).loc main_arg0)) (m ((c : Thread nD τ).loc main_arg4)) at1 (m ((c : Thread nD τ).loc main_arg2))) (first13 m c) (next13 m c) (le_of_eq N_0) t0_15 rfl (ix2 i j)).trans ?_
  rw [zero_add]
  exact Fin.sum_mul_add_fin 16 256 (wt (m ((c : Thread nD τ).loc main_arg0)) (m ((c : Thread nD τ).loc main_arg4)) at1 (m ((c : Thread nD τ).loc main_arg2)) i j)

/-- What output 14 holds after the first point, and after a later one over what the one before left. -/
theorem first14 (c : Dev nD) (t : Fin cfg0.N) (h : t.val % 16 = 0) (y : S512x1024.Idx) :
    (outsAt0 m c t.val t.isLt).2.2.2.2.2.2 y = (0 : EReal) + part (m ((c : Thread nD τ).loc main_arg0)) (m ((c : Thread nD τ).loc main_arg4)) at2 (m ((c : Thread nD τ).loc main_arg3)) t y := by
  rw [zero_add, outsAt0_A m c t h]
  frame_out
  obtain ⟨i, j, rfl⟩ : ∃ i j, y = ix2 i j := ⟨y 0, y 1, by funext k; fin_cases k <;> rfl⟩
  unfold k0_pay3 k0_pay1 k0_pay21 k0_pay23 k0_pay6
  pointwise
  simp only [in0, in4, in3]
  rfl

theorem next14 (c : Dev nD) (t : Fin cfg0.N) (h : ¬t.val % 16 = 0) (y : S512x1024.Idx) :
    (outsAt0 m c t.val t.isLt).2.2.2.2.2.2 y =
      ((outsAt0 m c (t.val - 1) (Nat.lt_of_le_of_lt (Nat.sub_le _ _) t.isLt)).2.2.2.2.2.2 y : EReal) + part (m ((c : Thread nD τ).loc main_arg0)) (m ((c : Thread nD τ).loc main_arg4)) at2 (m ((c : Thread nD τ).loc main_arg3)) t y := by
  rw [outsAt0_B m c t h]
  frame_out
  obtain ⟨i, j, rfl⟩ : ∃ i j, y = ix2 i j := ⟨y 0, y 1, by funext k; fin_cases k <;> rfl⟩
  unfold k0_pay3 k0_pay1 k0_pay21 k0_pay23
  pointwise
  simp only [in0, in4, in3]
  rfl

theorem out_eq14 (c : Dev nD) : (dats m 0 c).arrAt 14 cfg0.N = Gw (m ((c : Thread nD τ).loc main_arg0)) (m ((c : Thread nD τ).loc main_arg4)) at2 (m ((c : Thread nD τ).loc main_arg3)) := by
  refine (dats m 0 c).arrAt_eq_of_covers 14 _ (by decide +kernel) fun t hf y => ?_
  blk_simp
  rw [after0_14]
  obtain rfl : t = t0_15 := Fin.ext (by
    have h1 := (flush0_14 t).mp hf
    have h2 : t.val < 16 := t.isLt
    show t.val = 15
    omega)
  obtain ⟨i, j, rfl⟩ : ∃ i j, y = ix2 i j := ⟨y 0, y 1, by funext k; fin_cases k <;> rfl⟩
  rw [out14]
  refine (Pipeline.eq_sum_fin_of_reset_step_apply_last (M := EReal) (fun n h => (outsAt0 m c n h).2.2.2.2.2.2) 16 (fun _ => 0)
    (part (m ((c : Thread nD τ).loc main_arg0)) (m ((c : Thread nD τ).loc main_arg4)) at2 (m ((c : Thread nD τ).loc main_arg3))) (first14 m c) (next14 m c) (le_of_eq N_0) t0_15 rfl (ix2 i j)).trans ?_
  rw [zero_add]
  exact Fin.sum_mul_add_fin 16 256 (wt (m ((c : Thread nD τ).loc main_arg0)) (m ((c : Thread nD τ).loc main_arg4)) at2 (m ((c : Thread nD τ).loc main_arg3)) i j)

theorem frame_k : Cert.quiescent_Mback := fun m g _ => Cert.Mback.Gen.frame m g

theorem frame_ki : Cert.quiescent_MbackIdeal := fun m g _ => Cert.MbackIdeal.Gen.frame m g

theorem frame_ri : Cert.quiescent_MbackRefIdeal := fun m g _ =>
  (θ_run Cert.MbackRefIdeal.defs _ _).mono (fun r h => ⟨fun c => (h c).2.2.2.2.2.2.2, sem_eq_zero_of_no_sems (by decide) r.2⟩)
    (Cert.MbackRefIdeal.Value.run m g)

theorem preserves : Cert.preserves_Mback_MbackIdeal := trivial

/-- Of the three padded gradients one is not the padding. -/
theorem pick0 {A B C : Prop} [Decidable A] [Decidable B] [Decidable C] (a : A → EReal) (b : B → EReal) (c : C → EReal) (g g' : EReal) (ha : ¬A) (hb : ¬B) (hc : C) :
    ((if h : A then a h else 0) + (if h : B then b h else 0) + (if h : C then c h else 0)) * (g * g') = c hc * g * g' := by
  rw [dif_neg ha, dif_neg hb, dif_pos hc, zero_add, zero_add, mul_assoc]

theorem pick1 {A B C : Prop} [Decidable A] [Decidable B] [Decidable C] (a : A → EReal) (b : B → EReal) (c : C → EReal) (g g' : EReal) (ha : ¬A) (hb : B) (hc : ¬C) :
    ((if h : A then a h else 0) + (if h : B then b h else 0) + (if h : C then c h else 0)) * (g * g') = b hb * g * g' := by
  rw [dif_neg ha, dif_pos hb, dif_neg hc, zero_add, add_zero, mul_assoc]

theorem pick2 {A B C : Prop} [Decidable A] [Decidable B] [Decidable C] (a : A → EReal) (b : B → EReal) (c : C → EReal) (g g' : EReal) (ha : A) (hb : ¬B) (hc : ¬C) :
    ((if h : A then a h else 0) + (if h : B then b h else 0) + (if h : C then c h else 0)) * (g * g') = a ha * g * g' := by
  rw [dif_pos ha, dif_neg hb, dif_neg hc, add_zero, add_zero, mul_assoc]

theorem swap_x (g d w : EReal) : g * d * w = d * g * w := by rw [mul_comm g d]

theorem swap_w (g d x : EReal) : g * d * x = x * (d * g) := by rw [mul_comm g d, mul_comm]

/-- The reference's gradient of the gates: three padded gradients, summed, times the derivative of the squashing. -/
theorem ref_gate (d : S4096x1024.Idx → EReal) (p : S4096x7168.Idx → EReal) (a z t : S4096x512.Idx → EReal) (wa wb wc : S512x1024.Idx → EReal) (i : Fin 4096) (j : Fin 3072) :
    ((if h : (2 ≤ j.val / 1024 ∧ j.val / 1024 - 2 < 1) ∧ j.val % 1024 < 1024 then d (ix2 i ⟨j.val % 1024, h.2⟩) * ∑ k : Fin 512, t (ix2 i k) * wc (ix2 k ⟨j.val % 1024, h.2⟩) else 0) +
      (if h : (1 ≤ j.val / 1024 ∧ j.val / 1024 - 1 < 1) ∧ j.val % 1024 < 1024 then d (ix2 i ⟨j.val % 1024, h.2⟩) * ∑ k : Fin 512, z (ix2 i k) * wb (ix2 k ⟨j.val % 1024, h.2⟩) else 0) +
      (if h : j.val / 1024 < 1 ∧ j.val % 1024 < 1024 then d (ix2 i ⟨j.val % 1024, h.2⟩) * ∑ k : Fin 512, a (ix2 i k) * wa (ix2 k ⟨j.val % 1024, h.2⟩) else 0)) *
      (Ideal.logistic (p (ix2 i ⟨j.val, by omega⟩)) * (1 - Ideal.logistic (p (ix2 i ⟨j.val, by omega⟩)))) = Gg d p a z t wa wb wc (ix2 i j) := by
  by_cases h : j.val < 1024
  · refine (pick0 _ _ _ _ _ (by omega) (by omega) (by omega)).trans ?_
    have ea : at0 ⟨j.val % 1024, Nat.mod_lt _ (by decide)⟩ = ⟨j.val, by omega⟩ := Fin.ext (by show j.val % 1024 = j.val; omega)
    rw [Gg_0 _ _ _ _ _ _ _ _ _ j ⟨j.val % 1024, Nat.mod_lt _ (by decide)⟩ (by show j.val = j.val % 1024; omega)]
    unfold dg
    rw [ea]
  by_cases h : j.val < 2048
  · refine (pick1 _ _ _ _ _ (by omega) (by omega) (by omega)).trans ?_
    have ea : at1 ⟨j.val % 1024, Nat.mod_lt _ (by decide)⟩ = ⟨j.val, by omega⟩ := Fin.ext (by show 1024 + j.val % 1024 = j.val; omega)
    rw [Gg_1 _ _ _ _ _ _ _ _ _ j ⟨j.val % 1024, Nat.mod_lt _ (by decide)⟩ (by show j.val = 1024 + j.val % 1024; omega)]
    unfold dg
    rw [ea]
  refine (pick2 _ _ _ _ _ (by omega) (by omega) (by omega)).trans ?_
  have ea : at2 ⟨j.val % 1024, Nat.mod_lt _ (by decide)⟩ = ⟨j.val, by omega⟩ := Fin.ext (by show 2048 + j.val % 1024 = j.val; omega)
  rw [Gg_2 _ _ _ _ _ _ _ _ _ j ⟨j.val % 1024, Nat.mod_lt _ (by decide)⟩ (by show j.val = 2048 + j.val % 1024; omega)]
  unfold dg
  rw [ea]

/-- The call and its reference leave the same seven arrays. -/
theorem value : Cert.algebraic_MbackIdeal_MbackRefIdeal := by
  intro m g m' g' _ hm
  refine ⟨fun c => Gg (m ((c : Thread nD τ).loc main_arg0)) (m ((c : Thread nD τ).loc main_arg4)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)), fun c => Gx (m ((c : Thread nD τ).loc main_arg0)) (m ((c : Thread nD τ).loc main_arg4)) at0 (m ((c : Thread nD τ).loc main_arg5)), fun c => Gx (m ((c : Thread nD τ).loc main_arg0)) (m ((c : Thread nD τ).loc main_arg4)) at1 (m ((c : Thread nD τ).loc main_arg6)), fun c => Gx (m ((c : Thread nD τ).loc main_arg0)) (m ((c : Thread nD τ).loc main_arg4)) at2 (m ((c : Thread nD τ).loc main_arg7)), fun c => Gw (m ((c : Thread nD τ).loc main_arg0)) (m ((c : Thread nD τ).loc main_arg4)) at0 (m ((c : Thread nD τ).loc main_arg1)), fun c => Gw (m ((c : Thread nD τ).loc main_arg0)) (m ((c : Thread nD τ).loc main_arg4)) at1 (m ((c : Thread nD τ).loc main_arg2)), fun c => Gw (m ((c : Thread nD τ).loc main_arg0)) (m ((c : Thread nD τ).loc main_arg4)) at2 (m ((c : Thread nD τ).loc main_arg3)),
    (θ_run defs _ _).mono (fun r h c => ⟨((h c).1).trans (out_eq8 m c), ((h c).2.1).trans (out_eq9 m c), ((h c).2.2.1).trans (out_eq10 m c), ((h c).2.2.2.1).trans (out_eq11 m c), ((h c).2.2.2.2.1).trans (out_eq12 m c), ((h c).2.2.2.2.2.1).trans (out_eq13 m c), ((h c).2.2.2.2.2.2.1).trans (out_eq14 m c), (h c).2.2.2.2.2.2.2⟩)
    (Cert.MbackIdeal.Value.run_blocks m g),
    (θ_run Cert.MbackRefIdeal.defs _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, (h c).2.2.2.2.2.2.2⟩)
    (Cert.MbackRefIdeal.Value.run m' g')⟩
  · obtain ⟨e0, e1, e2, e3, e4, e5, e6, e7⟩ := hm c
    show _ = Gg (m ((c : Thread nD τ).loc main_arg0)) (m ((c : Thread nD τ).loc main_arg4)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))
    rw [← e0, ← e4, ← e1, ← e2, ← e3, ← e5, ← e6, ← e7]
    funext y
    obtain ⟨i, j, rfl⟩ : ∃ i j, y = ix2 i j := ⟨y 0, y 1, by funext k; fin_cases k <;> rfl⟩
    pointwise
    exact ref_gate _ _ _ _ _ _ _ _ i j
  · obtain ⟨e0, e1, e2, e3, e4, e5, e6, e7⟩ := hm c
    show _ = Gx (m ((c : Thread nD τ).loc main_arg0)) (m ((c : Thread nD τ).loc main_arg4)) at0 (m ((c : Thread nD τ).loc main_arg5))
    rw [← e0, ← e4, ← e5]
    funext y
    obtain ⟨i, j, rfl⟩ : ∃ i j, y = ix2 i j := ⟨y 0, y 1, by funext k; fin_cases k <;> rfl⟩
    pointwise
    exact Finset.sum_congr rfl fun k _ => swap_x _ _ _
  · obtain ⟨e0, e1, e2, e3, e4, e5, e6, e7⟩ := hm c
    show _ = Gx (m ((c : Thread nD τ).loc main_arg0)) (m ((c : Thread nD τ).loc main_arg4)) at1 (m ((c : Thread nD τ).loc main_arg6))
    rw [← e0, ← e4, ← e6]
    funext y
    obtain ⟨i, j, rfl⟩ : ∃ i j, y = ix2 i j := ⟨y 0, y 1, by funext k; fin_cases k <;> rfl⟩
    pointwise
    exact Finset.sum_congr rfl fun k _ => swap_x _ _ _
  · obtain ⟨e0, e1, e2, e3, e4, e5, e6, e7⟩ := hm c
    show _ = Gx (m ((c : Thread nD τ).loc main_arg0)) (m ((c : Thread nD τ).loc main_arg4)) at2 (m ((c : Thread nD τ).loc main_arg7))
    rw [← e0, ← e4, ← e7]
    funext y
    obtain ⟨i, j, rfl⟩ : ∃ i j, y = ix2 i j := ⟨y 0, y 1, by funext k; fin_cases k <;> rfl⟩
    pointwise
    exact Finset.sum_congr rfl fun k _ => swap_x _ _ _
  · obtain ⟨e0, e1, e2, e3, e4, e5, e6, e7⟩ := hm c
    show _ = Gw (m ((c : Thread nD τ).loc main_arg0)) (m ((c : Thread nD τ).loc main_arg4)) at0 (m ((c : Thread nD τ).loc main_arg1))
    rw [← e0, ← e4, ← e1]
    funext y
    obtain ⟨i, j, rfl⟩ : ∃ i j, y = ix2 i j := ⟨y 0, y 1, by funext k; fin_cases k <;> rfl⟩
    pointwise
    exact Finset.sum_congr rfl fun k _ => swap_w _ _ _
  · obtain ⟨e0, e1, e2, e3, e4, e5, e6, e7⟩ := hm c
    show _ = Gw (m ((c : Thread nD τ).loc main_arg0)) (m ((c : Thread nD τ).loc main_arg4)) at1 (m ((c : Thread nD τ).loc main_arg2))
    rw [← e0, ← e4, ← e2]
    funext y
    obtain ⟨i, j, rfl⟩ : ∃ i j, y = ix2 i j := ⟨y 0, y 1, by funext k; fin_cases k <;> rfl⟩
    pointwise
    exact Finset.sum_congr rfl fun k _ => swap_w _ _ _
  · obtain ⟨e0, e1, e2, e3, e4, e5, e6, e7⟩ := hm c
    show _ = Gw (m ((c : Thread nD τ).loc main_arg0)) (m ((c : Thread nD τ).loc main_arg4)) at2 (m ((c : Thread nD τ).loc main_arg3))
    rw [← e0, ← e4, ← e3]
    funext y
    obtain ⟨i, j, rfl⟩ : ∃ i j, y = ix2 i j := ⟨y 0, y 1, by funext k; fin_cases k <;> rfl⟩
    pointwise
    exact Finset.sum_congr rfl fun k _ => swap_w _ _ _

end Cert.MM.Mback

end
-- ==== Proof.MM.Mfwd.lean ====
/-
  The forward call of the merge: the three branch projections, each times its gate.
-/
module

public import proofs.«01_k».proof.Defs
public import proofs.«01_k».proof.Proof.Gen.Mfwd
public import proofs.«01_k».proof.Proof.Gen.Mfwd.Frame
public import proofs.«01_k».proof.Proof.Gen.MfwdIdeal
public import proofs.«01_k».proof.Proof.Gen.MfwdIdeal.Value
public import proofs.«01_k».proof.Proof.Gen.MfwdRefIdeal
public import proofs.«01_k».proof.Proof.Gen.MfwdRefIdeal.Run
public import proofs.«01_k».proof.Proof.MM.Math

@[expose] public section

set_option maxRecDepth 16384

noncomputable section

namespace Cert.MM.Mfwd

open Cert.MfwdIdeal Cert.MfwdIdeal.Gen Idealize.ShloMosaic Idealize.ShloMosaic.TcCoe Idealize.SL.Sem Idealize.ShloMosaic.Pipeline

variable (m : (ℓ : Loc nD τ sig) → Buf (Elt Ideal) ℓ)

/-- The column of a branch's gate among the projections, branch by branch. -/
def at0 (j : Fin 1024) : Fin 7168 := ⟨j.val, by omega⟩
def at1 (j : Fin 1024) : Fin 7168 := ⟨1024 + j.val, by omega⟩
def at2 (j : Fin 1024) : Fin 7168 := ⟨2048 + j.val, by omega⟩

/-- One branch, projected and times its gate; `g` is the gate's column. -/
def term (x : S4096x512.Idx → EReal) (p : S4096x7168.Idx → EReal) (w : S512x1024.Idx → EReal) (g : Fin 7168) (i : Fin 4096) (j : Fin 1024) : EReal :=
  Ideal.logistic (p (ix2 i g)) * ∑ k : Fin 512, x (ix2 i k) * w (ix2 k j)

/-- The merged branches. -/
def G (a z t : S4096x512.Idx → EReal) (p : S4096x7168.Idx → EReal) (wa wb wc : S512x1024.Idx → EReal) : S4096x1024.Idx → EReal := fun i =>
  term a p wa (at0 (i 1)) (i 0) (i 1) + term z p wb (at1 (i 1)) (i 0) (i 1) + term t p wc (at2 (i 1)) (i 0) (i 1)

/-- The row of the arrays at row `i` of point `t`'s blocks. -/
def row (t : Fin cfg0.N) (i : Fin 256) : Fin 4096 := ⟨t.val * 256 + i.val, by have : t.val < 16 := t.isLt; omega⟩

theorem idx : ∀ t : Fin cfg0.N, (cfg0.win 0).index t = ![t.val, 0] ∧ (cfg0.win 1).index t = ![t.val, 0] ∧
    (cfg0.win 2).index t = ![t.val, 0] ∧ (cfg0.win 3).index t = ![t.val, 0] ∧
    (cfg0.win 4).index t = ![0, 0] ∧ (cfg0.win 5).index t = ![0, 0] ∧ (cfg0.win 6).index t = ![0, 0] ∧
    (cfg0.win 7).index t = ![t.val, 0] := by decide +kernel

theorem out_at (t : Fin cfg0.N) (i : Fin 256) (j : Fin 1024) : ((View.whole main_v6).slice (win0_7.rect t)).emb (ix2 i j) = ix2 (row t i) j := by
  blk_ext! [idx t, row]

theorem in0 (c : Dev nD) (t : Fin cfg0.N) (i : Fin 256) (x : Fin 512) : iblk m c 0 t (ix2 i x) = m ((c : Thread nD τ).loc main_arg0) (ix2 (row t i) x) := by
  blk_ext! [iblk, idx t, row]

theorem in1 (c : Dev nD) (t : Fin cfg0.N) (i : Fin 256) (x : Fin 512) : iblk m c 1 t (ix2 i x) = m ((c : Thread nD τ).loc main_arg1) (ix2 (row t i) x) := by
  blk_ext! [iblk, idx t, row]

theorem in2 (c : Dev nD) (t : Fin cfg0.N) (i : Fin 256) (x : Fin 512) : iblk m c 2 t (ix2 i x) = m ((c : Thread nD τ).loc main_arg2) (ix2 (row t i) x) := by
  blk_ext! [iblk, idx t, row]

theorem in4 (c : Dev nD) (t : Fin cfg0.N) (x : Fin 512) (j : Fin 1024) : iblk m c 4 t (ix2 x j) = m ((c : Thread nD τ).loc main_arg4) (ix2 x j) := by
  blk_ext! [iblk, idx t]

theorem in5 (c : Dev nD) (t : Fin cfg0.N) (x : Fin 512) (j : Fin 1024) : iblk m c 5 t (ix2 x j) = m ((c : Thread nD τ).loc main_arg5) (ix2 x j) := by
  blk_ext! [iblk, idx t]

theorem in6 (c : Dev nD) (t : Fin cfg0.N) (x : Fin 512) (j : Fin 1024) : iblk m c 6 t (ix2 x j) = m ((c : Thread nD τ).loc main_arg6) (ix2 x j) := by
  blk_ext! [iblk, idx t]

theorem in3 (c : Dev nD) (t : Fin cfg0.N) (i : Fin 256) (k : Fin 3072) :
    X0_3 m c t (ix2 i k) = m ((c : Thread nD τ).loc main_arg3) (ix2 (row t i) ⟨k.val, by omega⟩) := by
  unfold X0_3 Pipeline.Window.fill
  rw [dif_pos (moved0_3 t _)]
  blk_ext! [iblk, idx t, row]

theorem out_eq (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  unfold outsAt0
  frame_out
  obtain ⟨i, j, rfl⟩ : ∃ i j, y = ix2 i j := ⟨y 0, y 1, by funext k; fin_cases k <;> rfl⟩
  unfold k0_pay1
  pointwise
  rw [out_at]
  simp only [in0, in1, in2, in3, in4, in5, in6]
  rfl

theorem frame_k : Cert.quiescent_Mfwd := fun m g _ => Cert.Mfwd.Gen.frame m g

theorem frame_ki : Cert.quiescent_MfwdIdeal := fun m g _ => Cert.MfwdIdeal.Gen.frame m g

theorem frame_ri : Cert.quiescent_MfwdRefIdeal := fun m g _ =>
  (θ_run Cert.MfwdRefIdeal.defs _ _).mono (fun r h => ⟨fun c => (h c).2, sem_eq_zero_of_no_sems (by decide) r.2⟩)
    (Cert.MfwdRefIdeal.Value.run m g)

theorem preserves : Cert.preserves_Mfwd_MfwdIdeal := trivial

/-- The call and its reference leave the same array. -/
theorem value : Cert.algebraic_MfwdIdeal_MfwdRefIdeal := by
  intro m g m' g' _ hm
  refine ⟨fun c => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), (θ_run defs _ _).mono (fun r h c => ⟨(h c).1.trans (out_eq m c), (h c).2⟩)
    (Cert.MfwdIdeal.Value.run_blocks m g), (θ_run Cert.MfwdRefIdeal.defs _ _).mono (fun r h c => ⟨(h c).1.trans ?_, (h c).2⟩)
    (Cert.MfwdRefIdeal.Value.run m' g')⟩
  obtain ⟨e0, e1, e2, e3, e4, e5, e6⟩ := hm c
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
  rw [← e0, ← e1, ← e2, ← e3, ← e4, ← e5, ← e6]
  funext y
  obtain ⟨i, j, rfl⟩ : ∃ i j, y = ix2 i j := ⟨y 0, y 1, by funext k; fin_cases k <;> rfl⟩
  pointwise
  rfl

end Cert.MM.Mfwd

end
-- ==== Proof.KI.Step.lean ====
/-
  The body of the attention's backward kernel, written again as four equal steps: one step per pair of heads. The
  printed body lists the eight heads one after another; here one definition takes the pair's number and the head's
  place in the pair. The two are the same program.
-/
module

public import proofs.«01_k».proof.Proof.Gen.KernelIdeal
public import Idealize.ShloMosaic.Lib.Tactic

@[expose] public section

noncomputable section

namespace Cert.KernelIdeal.Attn

open Cert.KernelIdeal Cert.KernelIdeal.Gen
open Idealize.ShloMosaic Idealize.SL.Sem

variable {F : FTy → Type} [FloatOps F] [Named F]

/-- The finite stand-in for −∞ that the masked places get. -/
def negM : F .f32 := Named.named κ "mask" 0xF149F2CA#32

/-- The causal mask of a diagonal block: key row ≤ query column. -/
def keepV : IVec S512x512 1 :=
  cmpi .sle (iota .tc S512x512 32 [0] iota_S512x512_d0_w32) (iota .tc S512x512 32 [1] iota_S512x512_d1_w32)

/-- The lanes of the first head of a pair. -/
def loV : IVec S512x128 1 :=
  cmpi .slt (iota .tc S512x128 32 [1] iota_S512x128_d1_w32) (broadcast S512x128 64#32)

/-- The lanes of head `hh` of a pair. -/
def selV : Fin 2 → IVec S512x128 1
  | 0 => loV
  | 1 => xori loV (constantI S512x128 1 1#1)

/-- The logits of one head, transposed: keys down, queries across. -/
def sV (hh : Fin 2) (kp qp : FVec F S512x128 .bf16) (ck : Vec F S1x512x128 .f32) : FVec F S512x512 .f32 :=
  subf (matmul dot_S512x128_S512x128_S512x512_1_1_0_0_n_n none
      (select (selV hh) kp (broadcast S512x128 (Scalar.ofBits .bf16 0x0000#16))) qp (constant S512x512 .f32 0x00000000#32))
    (concatenate S512x512 1 [⟨S512x128, shapeCast S512x128 ck shapeCasts_S1x512x128_S512x128⟩,
      ⟨S512x128, shapeCast S512x128 ck shapeCasts_S1x512x128_S512x128⟩,
      ⟨S512x128, shapeCast S512x128 ck shapeCasts_S1x512x128_S512x128⟩,
      ⟨S512x128, shapeCast S512x128 ck shapeCasts_S1x512x128_S512x128⟩]
      concatenates_S512x128_S512x128_S512x128_S512x128_S512x512_d1)

/-- The same, with the causal mask when `msk` asks for it. -/
def stV (msk : Bool) (hh : Fin 2) (kp qp : FVec F S512x128 .bf16) (ck : Vec F S1x512x128 .f32) : FVec F S512x512 .f32 :=
  match msk with
  | false => sV hh kp qp ck
  | true => select keepV (sV hh kp qp ck) (broadcast S512x512 negM)

/-- A row of a saved table, repeated down the keys. -/
def rowV (r : Vec F S1x512 .f32) : FVec F S512x512 .f32 :=
  broadcastTo S512x512 (shapeCast S1x512 r shapeCasts_S1x512_S1x512) broadcasts_S1x512_S512x512

/-- The probabilities of one head, transposed. -/
def ptV (msk : Bool) (hh : Fin 2) (kp qp : FVec F S512x128 .bf16) (ck : Vec F S1x512x128 .f32) (lse : Vec F S1x512 .f32) :
    FVec F S512x512 .f32 :=
  exp (subf (stV msk hh kp qp ck) (rowV lse))

/-- The cotangent of one head's logits, transposed. -/
def dstV (msk : Bool) (hh : Fin 2) (kp qp vp dop : FVec F S512x128 .bf16) (ck : Vec F S1x512x128 .f32)
    (lse del : Vec F S1x512 .f32) : FVec F S512x512 .f32 :=
  mulf (ptV msk hh kp qp ck lse)
    (subf (matmul dot_S512x128_S512x128_S512x512_1_1_0_0_n_n none
      (select (selV hh) vp (broadcast S512x128 (Scalar.ofBits .bf16 0x0000#16))) dop (constant S512x512 .f32 0x00000000#32))
      (rowV del))

/-- What one head gives the values' gradient. -/
def dvV (pt : FVec F S512x512 .f32) (dop : FVec F S512x128 .bf16) : FVec F S512x128 .f32 :=
  matmul dot_S512x512_S512x128_S512x128_1_0_0_1_n_n none (truncf .bf16 pt bitsLt_bf16_f32) dop (constant S512x128 .f32 0x00000000#32)

/-- What one head gives the keys' gradient. -/
def dkV (dst : FVec F S512x512 .f32) (qp : FVec F S512x128 .bf16) : FVec F S512x128 .f32 :=
  matmul dot_S512x512_S512x128_S512x128_1_0_0_1_n_n none (truncf .bf16 dst bitsLt_bf16_f32) qp (constant S512x128 .f32 0x00000000#32)

/-- What one head gives the queries' gradient. -/
def dqV (dst : FVec F S512x512 .f32) (kp : FVec F S512x128 .bf16) : FVec F S512x128 .f32 :=
  matmul dot_S512x512_S512x128_S512x128_0_0_1_1_n_n none (truncf .bf16 dst bitsLt_bf16_f32) kp (constant S512x128 .f32 0x00000000#32)

/-- The keys' cumulative sum's gradient after one head: the row sums taken off. -/
def dckV (dst : FVec F S512x512 .f32) (a : Vec F S1x512x128 .f32) : FVec F S1x512x128 .f32 :=
  shapeCast S1x512x128 (subf (shapeCast S512x128 a shapeCasts_S1x512x128_S512x128)
    (broadcastTo S512x128 (shapeCast S512x1
      (multiReduction .add [1] S512 dst 0x00000000#32 reduces_S512x512_S512 (.inl rfl) rfl) shapeCasts_S512_S512x1)
      broadcasts_S512x1_S512x128)) shapeCasts_S512x128_S1x512x128

/-- The queries' cumulative sum's gradient after one head: the column sums added. -/
def dcqV (dst : FVec F S512x512 .f32) (b : Vec F S1x1x512 .f32) : FVec F S1x1x512 .f32 :=
  shapeCast S1x1x512 (addf (shapeCast S1x512 b shapeCasts_S1x1x512_S1x512)
    (shapeCast S1x512 (multiReduction .add [0] S512 dst 0x00000000#32 reduces_S512x512_S512_2 (.inl rfl) rfl)
      shapeCasts_S512_S1x512)) shapeCasts_S1x512_S1x1x512

/-- A column block of 512 rows with a pair's two outputs added, each on its own lanes. -/
def accV (a : Vec F S512x128 .f32) (x y : FVec F S512x128 .f32) : FVec F S512x128 .f32 :=
  shapeCast S512x128 (addf a (select loV x y)) shapeCasts_S512x128_S512x128

/-- The same for the queries' accumulator, whose block has a leading axis of one. -/
def acc3V (a : Vec F S1x512x128 .f32) (x y : FVec F S512x128 .f32) : FVec F S1x512x128 .f32 :=
  shapeCast S1x512x128 (addf (shapeCast S512x128 a shapeCasts_S1x512x128_S512x128) (select loV x y)) shapeCasts_S512x128_S1x512x128

/-- A pair's columns of a 512 by 512 buffer. -/
def colR (hp : Fin 4) : Rect S512x512 :=
  Rect.unit (s := S512x512) ![0, 128 * hp.val] S512x128.size (by
    intro a; have := hp.isLt; fin_cases a <;> simp <;> omega)

/-- A head's slab of a buffer of eight 512 by 128 slabs. -/
def slabR (h : Fin 8) : Rect S8x512x128 :=
  Rect.unit (s := S8x512x128) ![h.val, 0, 0] S1x512x128.size (by
    intro a; have := h.isLt; fin_cases a <;> simp <;> omega)

/-- A head's row of a table of eight rows. -/
def rowR (h : Fin 8) : Rect S8x512 :=
  Rect.unit (s := S8x512) ![h.val, 0] S1x512.size (by
    intro a; have := h.isLt; fin_cases a <;> simp <;> omega)

/-- A head's row of a query block of the 8 by 8 by 512 table. -/
def cellR (n : Nat) (hn : n < 8) (h : Fin 8) : Rect S8x8x512 :=
  Rect.unit (s := S8x8x512) ![n, h.val, 0] S1x1x512.size (by
    intro a; have := h.isLt; fin_cases a <;> simp <;> omega)

/-- A pair's columns of a query block of the queries' accumulator. -/
def slabColR (n : Nat) (hn : n < 8) (hp : Fin 4) : Rect S8x512x512 :=
  Rect.unit (s := S8x512x512) ![n, 0, 128 * hp.val] S1x512x128.size (by
    intro a; have := hp.isLt; fin_cases a <;> simp <;> omega)

/-- The number of head `hh` of pair `hp`. -/
def headOf (hp : Fin 4) (hh : Fin 2) : Fin 8 := ⟨2 * hp.val + hh.val, by have := hp.isLt; have := hh.isLt; omega⟩

/-- One head of one step: its three outputs, with the two sums' buffers updated. -/
def headP (msk : Bool) (hp : Fin 4) (hh : Fin 2) (n : Nat) (hn : n < 8)
    (arg6 : Memref sig .tc .vmem S8x512x128 .f32) (arg8 arg9 : Memref sig .tc .vmem S8x512 .f32)
    (arg13 : Memref sig .tc .vmem S8x8x512 .f32) (arg18 : Memref sig .tc .vmem S8x512x128 .f32)
    (qp kp vp dop : FVec F S512x128 .bf16) :
    Prog (TpuEff nD τ sig (Elt F) Λ₀ .tc)
      (Σ' (_ : FVec F S512x128 .f32) (_ : FVec F S512x128 .f32), FVec F S512x128 .f32) := do
  let ck : Vec F S1x512x128 .f32 ← Prog.lift (.load arg6 (slabR (headOf hp hh)).toLoadRect (View.loadsAt_vmem h_S1x512x128))
  let lse : Vec F S1x512 .f32 ← Prog.lift (.load arg8 (rowR (headOf hp hh)).toLoadRect (View.loadsAt_vmem h_S1x512))
  let del : Vec F S1x512 .f32 ← Prog.lift (.load arg9 (rowR (headOf hp hh)).toLoadRect (View.loadsAt_vmem h_S1x512))
  let a : Vec F S1x512x128 .f32 ← Prog.lift (.load arg18 (slabR (headOf hp hh)).toLoadRect (View.loadsAt_vmem h_S1x512x128))
  let _a : Vec F S1x512x128 .f32 ← Prog.lift (.load arg18 (slabR (headOf hp hh)).toLoadRect (View.loadsAt_vmem h_S1x512x128))
  Prog.lift (.store arg18 (slabR (headOf hp hh)) (dckV (dstV msk hh kp qp vp dop ck lse del) a) Finset.univ
    (View.stores_vmem_bits_univ h_S1x512x128 rfl) (.inl rfl))
  let b : Vec F S1x1x512 .f32 ← Prog.lift (.load arg13 (cellR n hn (headOf hp hh)).toLoadRect (View.loadsAt_vmem h_S1x1x512))
  let _b : Vec F S1x1x512 .f32 ← Prog.lift (.load arg13 (cellR n hn (headOf hp hh)).toLoadRect (View.loadsAt_vmem h_S1x1x512))
  Prog.lift (.store arg13 (cellR n hn (headOf hp hh)) (dcqV (dstV msk hh kp qp vp dop ck lse del) b) Finset.univ
    (View.stores_vmem_bits_univ h_S1x1x512 rfl) (.inl rfl))
  pure ⟨dvV (ptV msk hh kp qp ck lse) dop, dkV (dstV msk hh kp qp vp dop ck lse del) qp,
    dqV (dstV msk hh kp qp vp dop ck lse del) kp⟩

/-- One pair of heads of one step. -/
def pairP (msk : Bool) (hp : Fin 4) (n : Nat) (hn : n < 8)
    (arg3 arg4 arg5 : Memref sig .tc .vmem S512x512 .bf16) (arg6 : Memref sig .tc .vmem S8x512x128 .f32)
    (arg7 : Memref sig .tc .vmem S512x512 .f32) (arg8 arg9 : Memref sig .tc .vmem S8x512 .f32)
    (arg13 : Memref sig .tc .vmem S8x8x512 .f32) (arg15 : Memref sig .tc .vmem S8x512x512 .f32)
    (arg16 arg17 : Memref sig .tc .vmem S512x512 .f32) (arg18 : Memref sig .tc .vmem S8x512x128 .f32) :
    Prog (TpuEff nD τ sig (Elt F) Λ₀ .tc) PUnit := do
  let q : Vec F S512x128 .bf16 ← Prog.lift (.load arg3 (colR hp).toLoadRect (View.loadsAt_vmem h_S512x128))
  let k : Vec F S512x128 .bf16 ← Prog.lift (.load arg4 (colR hp).toLoadRect (View.loadsAt_vmem h_S512x128))
  let v : Vec F S512x128 .bf16 ← Prog.lift (.load arg5 (colR hp).toLoadRect (View.loadsAt_vmem h_S512x128))
  let o : Vec F S512x128 .f32 ← Prog.lift (.load arg7 (colR hp).toLoadRect (View.loadsAt_vmem h_S512x128))
  let x ← headP msk hp 0 n hn arg6 arg8 arg9 arg13 arg18 (shapeCast S512x128 q shapeCasts_S512x128_S512x128)
    (shapeCast S512x128 k shapeCasts_S512x128_S512x128) (shapeCast S512x128 v shapeCasts_S512x128_S512x128)
    (truncf .bf16 o bitsLt_bf16_f32)
  let y ← headP msk hp 1 n hn arg6 arg8 arg9 arg13 arg18 (shapeCast S512x128 q shapeCasts_S512x128_S512x128)
    (shapeCast S512x128 k shapeCasts_S512x128_S512x128) (shapeCast S512x128 v shapeCasts_S512x128_S512x128)
    (truncf .bf16 o bitsLt_bf16_f32)
  let a : Vec F S512x128 .f32 ← Prog.lift (.load arg17 (colR hp).toLoadRect (View.loadsAt_vmem h_S512x128))
  let _a : Vec F S512x128 .f32 ← Prog.lift (.load arg17 (colR hp).toLoadRect (View.loadsAt_vmem h_S512x128))
  Prog.lift (.store arg17 (colR hp) (accV a x.1 y.1) Finset.univ (View.stores_vmem_bits_univ h_S512x128 rfl) (.inl rfl))
  let b : Vec F S512x128 .f32 ← Prog.lift (.load arg16 (colR hp).toLoadRect (View.loadsAt_vmem h_S512x128))
  let _b : Vec F S512x128 .f32 ← Prog.lift (.load arg16 (colR hp).toLoadRect (View.loadsAt_vmem h_S512x128))
  Prog.lift (.store arg16 (colR hp) (accV b x.2.1 y.2.1) Finset.univ (View.stores_vmem_bits_univ h_S512x128 rfl) (.inl rfl))
  let d : Vec F S1x512x128 .f32 ← Prog.lift (.load arg15 (slabColR n hn hp).toLoadRect (View.loadsAt_vmem h_S1x512x128))
  let _d : Vec F S1x512x128 .f32 ← Prog.lift (.load arg15 (slabColR n hn hp).toLoadRect (View.loadsAt_vmem h_S1x512x128))
  Prog.lift (.store arg15 (slabColR n hn hp) (acc3V d x.2.2 y.2.2) Finset.univ (View.stores_vmem_bits_univ h_S1x512x128 rfl) (.inl rfl))
  pure ⟨⟩

/-- One whole step: the four pairs of heads. -/
def stepP (msk : Bool) (n : Nat) (hn : n < 8)
    (arg3 arg4 arg5 : Memref sig .tc .vmem S512x512 .bf16) (arg6 : Memref sig .tc .vmem S8x512x128 .f32)
    (arg7 : Memref sig .tc .vmem S512x512 .f32) (arg8 arg9 : Memref sig .tc .vmem S8x512 .f32)
    (arg13 : Memref sig .tc .vmem S8x8x512 .f32) (arg15 : Memref sig .tc .vmem S8x512x512 .f32)
    (arg16 arg17 : Memref sig .tc .vmem S512x512 .f32) (arg18 : Memref sig .tc .vmem S8x512x128 .f32) :
    Prog (TpuEff nD τ sig (Elt F) Λ₀ .tc) PUnit := do
  pairP msk 0 n hn arg3 arg4 arg5 arg6 arg7 arg8 arg9 arg13 arg15 arg16 arg17 arg18
  pairP msk 1 n hn arg3 arg4 arg5 arg6 arg7 arg8 arg9 arg13 arg15 arg16 arg17 arg18
  pairP msk 2 n hn arg3 arg4 arg5 arg6 arg7 arg8 arg9 arg13 arg15 arg16 arg17 arg18
  pairP msk 3 n hn arg3 arg4 arg5 arg6 arg7 arg8 arg9 arg13 arg15 arg16 arg17 arg18

end Cert.KernelIdeal.Attn

end
-- ==== Proof.KI.BodyEq.lean ====
/-
  The whole body of the attention's backward kernel as guarded stretches: clear, step, write out. The printed body is
  shown to be this program.
-/
module

public import proofs.«01_k».proof.Proof.KI.Step

@[expose] public section

noncomputable section

namespace Cert.KernelIdeal.Attn

open Cert.KernelIdeal Cert.KernelIdeal.Gen
open Idealize.ShloMosaic Idealize.SL.Sem

variable {F : FTy → Type} [FloatOps F] [Named F]

/-- Row `h` of the keys' cumulative sum's gradient, from the slab that holds it repeated over the lanes. -/
def outRowV (a : Vec F S1x512x128 .f32) : FVec F S1x512 .f32 :=
  extractStridedSlice S1x512 ![0, 0] (transpose S128x512 [1, 0] (shapeCast S512x128 a shapeCasts_S1x512x128_S512x128)
    transposes_S512x128_p1_0_S128x512) slices_S128x512_o0_0_S1x512

/-- One head's row of the keys' cumulative sum's gradient, written out. -/
def rowP (h : Fin 8) (arg14 : Memref sig .tc .vmem S8x512 .f32) (arg18 : Memref sig .tc .vmem S8x512x128 .f32) :
    Prog (TpuEff nD τ sig (Elt F) Λ₀ .tc) PUnit := do
  let a : Vec F S1x512x128 .f32 ← Prog.lift (.load arg18 (slabR h).toLoadRect (View.loadsAt_vmem h_S1x512x128))
  let _a : Vec F S1x512 .f32 ← Prog.lift (.load arg14 (rowR h).toLoadRect (View.loadsAt_vmem h_S1x512))
  Prog.lift (.store arg14 (rowR h) (outRowV a) Finset.univ (View.stores_vmem_bits_univ h_S1x512 rfl) (.inl rfl))

/-- The whole of a 512 by 512 buffer. -/
abbrev fullR : Rect S512x512 := Rect.unit (s := S512x512) ![0, 0] S512x512.size inb_S512x512_S512x512_0_0
/-- The whole of an 8 by 512 by 512 buffer. -/
abbrev full3R : Rect S8x512x512 := Rect.unit (s := S8x512x512) ![0, 0, 0] S8x512x512.size inb_S8x512x512_S8x512x512_0_0_0

/-- The end of a key block: its three results written out. -/
def flushP (arg11 : Memref sig .tc .vmem S512x512 .bf16) (harg11 : arg11.IsWhole) (arg12 : Memref sig .tc .vmem S512x512 .bf16)
    (harg12 : arg12.IsWhole) (arg14 : Memref sig .tc .vmem S8x512 .f32)
    (arg16 arg17 : Memref sig .tc .vmem S512x512 .f32) (arg18 : Memref sig .tc .vmem S8x512x128 .f32) :
    Prog (TpuEff nD τ sig (Elt F) Λ₀ .tc) PUnit := do
  let a : Vec F S512x512 .f32 ← Prog.lift (.load arg16 fullR.toLoadRect (View.loadsAt_vmem h_S512x512))
  let _a : Vec F S512x512 .bf16 ← Prog.lift (.load arg11 fullR.toLoadRect (View.loadsAt_vmem h_S512x512))
  Prog.lift (.store arg11 fullR (truncf .bf16 a bitsLt_bf16_f32) Finset.univ (View.stores_vmem h_S512x512 (harg11.storeExact_slice rfl _ packedbf16_S512x512_S512x512_0_0) (fun _ => rfl)) (.inl rfl))
  let b : Vec F S512x512 .f32 ← Prog.lift (.load arg17 fullR.toLoadRect (View.loadsAt_vmem h_S512x512))
  let _b : Vec F S512x512 .bf16 ← Prog.lift (.load arg12 fullR.toLoadRect (View.loadsAt_vmem h_S512x512))
  Prog.lift (.store arg12 fullR (truncf .bf16 b bitsLt_bf16_f32) Finset.univ (View.stores_vmem h_S512x512 (harg12.storeExact_slice rfl _ packedbf16_S512x512_S512x512_0_0) (fun _ => rfl)) (.inl rfl))
  rowP 0 arg14 arg18
  rowP 1 arg14 arg18
  rowP 2 arg14 arg18
  rowP 3 arg14 arg18
  rowP 4 arg14 arg18
  rowP 5 arg14 arg18
  rowP 6 arg14 arg18
  rowP 7 arg14 arg18

/-- The queries' gradient, scaled and written out. -/
def dqOutV (a : Vec F S8x512x512 .f32) : FVec F S8x512x512 .bf16 :=
  truncf .bf16 (mulf a (broadcast S8x512x512 (Scalar.ofBits .f32 0x3E000000#32))) bitsLt_bf16_f32

/-- The end of the grid. -/
def finP (arg10 : Memref sig .tc .vmem S8x512x512 .bf16) (harg10 : arg10.IsWhole) (arg15 : Memref sig .tc .vmem S8x512x512 .f32) :
    Prog (TpuEff nD τ sig (Elt F) Λ₀ .tc) PUnit := do
  let a : Vec F S8x512x512 .f32 ← Prog.lift (.load arg15 full3R.toLoadRect (View.loadsAt_vmem h_S8x512x512))
  let _a : Vec F S8x512x512 .bf16 ← Prog.lift (.load arg10 full3R.toLoadRect (View.loadsAt_vmem h_S8x512x512))
  Prog.lift (.store arg10 full3R (dqOutV a) Finset.univ (View.stores_vmem h_S8x512x512 (harg10.storeExact_slice rfl _ packedbf16_S8x512x512_S8x512x512_0_0_0) (fun _ => rfl)) (.inl rfl))

/-- The start of the grid: the queries' two accumulators cleared. -/
def initP (arg13 : Memref sig .tc .vmem S8x8x512 .f32) (arg15 : Memref sig .tc .vmem S8x512x512 .f32) :
    Prog (TpuEff nD τ sig (Elt F) Λ₀ .tc) PUnit := do
  let _a : Vec F S8x512x512 .f32 ← Prog.lift (.load arg15 full3R.toLoadRect (View.loadsAt_vmem h_S8x512x512))
  Prog.lift (.store arg15 full3R (shapeCast S8x512x512 (broadcast S8x512x512 (Scalar.ofBits .f32 0x00000000#32 : F .f32)) shapeCasts_S8x512x512_S8x512x512) Finset.univ (View.stores_vmem_bits_univ h_S8x512x512 rfl) (.inl rfl))
  let _b : Vec F S8x8x512 .f32 ← Prog.lift (.load arg13 (Rect.unit (s := S8x8x512) ![0, 0, 0] S8x8x512.size inb_S8x8x512_S8x8x512_0_0_0).toLoadRect (View.loadsAt_vmem h_S8x8x512))
  Prog.lift (.store arg13 (Rect.unit (s := S8x8x512) ![0, 0, 0] S8x8x512.size inb_S8x8x512_S8x8x512_0_0_0) (broadcast S8x8x512 (Scalar.ofBits .f32 0x00000000#32 : F .f32)) Finset.univ (View.stores_vmem_bits_univ h_S8x8x512 rfl) (.inl rfl))

/-- The start of a key block: its three accumulators cleared. -/
def clearP (arg16 arg17 : Memref sig .tc .vmem S512x512 .f32) (arg18 : Memref sig .tc .vmem S8x512x128 .f32) :
    Prog (TpuEff nD τ sig (Elt F) Λ₀ .tc) PUnit := do
  let _a : Vec F S512x512 .f32 ← Prog.lift (.load arg16 fullR.toLoadRect (View.loadsAt_vmem h_S512x512))
  Prog.lift (.store arg16 fullR (shapeCast S512x512 (broadcast S512x512 (Scalar.ofBits .f32 0x00000000#32 : F .f32)) shapeCasts_S512x512_S512x512) Finset.univ (View.stores_vmem_bits_univ h_S512x512 rfl) (.inl rfl))
  let _b : Vec F S512x512 .f32 ← Prog.lift (.load arg17 fullR.toLoadRect (View.loadsAt_vmem h_S512x512))
  Prog.lift (.store arg17 fullR (shapeCast S512x512 (broadcast S512x512 (Scalar.ofBits .f32 0x00000000#32 : F .f32)) shapeCasts_S512x512_S512x512) Finset.univ (View.stores_vmem_bits_univ h_S512x512 rfl) (.inl rfl))
  let _d : Vec F S8x512x128 .f32 ← Prog.lift (.load arg18 (Rect.unit (s := S8x512x128) ![0, 0, 0] S8x512x128.size inb_S8x512x128_S8x512x128_0_0_0).toLoadRect (View.loadsAt_vmem h_S8x512x128))
  Prog.lift (.store arg18 (Rect.unit (s := S8x512x128) ![0, 0, 0] S8x512x128.size inb_S8x512x128_S8x512x128_0_0_0) (shapeCast S8x512x128 (broadcast S8x512x128 (Scalar.ofBits .f32 0x00000000#32 : F .f32)) shapeCasts_S8x512x128_S8x512x128) Finset.univ (View.stores_vmem_bits_univ h_S8x512x128 rfl) (.inl rfl))

/-- Where a step runs, its query block's number is below eight. -/
theorem lt8_diag {v1 v3 : BitVec 32} (hw : k0_chk1 v1 v3) (h : k0_cond3 v1 v3 = 1#1) : v3.toNat < 8 :=
  k0_off2_inb v1 v3 hw h 0
theorem lt8_low {v1 v3 : BitVec 32} (hw : k0_chk1 v1 v3) (h : k0_cond4 v1 v3 = 1#1) : v3.toNat < 8 :=
  k0_off14_inb v1 v3 hw h 0

/-- The body once the two table words are read: five guarded stretches. -/
def restP (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x8x512 .f32) (harg13 : arg13.IsWhole) (arg14 : Memref sig .tc .vmem S8x512 .f32) (harg14 : arg14.IsWhole) (arg15 : Memref sig .tc .vmem S8x512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S8x512x128 .f32) (harg18 : arg18.IsWhole) (v1 v3 : BitVec 32) (hw : k0_chk1 v1 v3) :
    Prog (TpuEff nD τ sig (Elt F) Λ₀ .tc) PUnit :=
  (if k0_cond1 i = 1#1 then initP arg13 arg15 else pure ⟨⟩) >>= fun _ =>
  (if k0_cond3 v1 v3 = 1#1 then clearP arg16 arg17 arg18 else pure ⟨⟩) >>= fun _ =>
  (if h : k0_cond3 v1 v3 = 1#1 then
    stepP true v3.toNat (lt8_diag hw h) arg3 arg4 arg5 arg6 arg7 arg8 arg9 arg13 arg15 arg16 arg17 arg18
  else pure ⟨⟩) >>= fun _ =>
  (if h : k0_cond4 v1 v3 = 1#1 then
    stepP false v3.toNat (lt8_low hw h) arg3 arg4 arg5 arg6 arg7 arg8 arg9 arg13 arg15 arg16 arg17 arg18
  else pure ⟨⟩) >>= fun _ =>
  (if k0_cond5 v3 = 1#1 then flushP arg11 harg11 arg12 harg12 arg14 arg16 arg17 arg18 else pure ⟨⟩) >>= fun _ =>
  (if k0_cond6 i = 1#1 then finP arg10 harg10 arg15 else pure ⟨⟩)

/-- The same with each stretch's continuation inside its guard. -/
def restD (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x8x512 .f32) (harg13 : arg13.IsWhole) (arg14 : Memref sig .tc .vmem S8x512 .f32) (harg14 : arg14.IsWhole) (arg15 : Memref sig .tc .vmem S8x512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S8x512x128 .f32) (harg18 : arg18.IsWhole) (v1 v3 : BitVec 32) (hw : k0_chk1 v1 v3) :
    Prog (TpuEff nD τ sig (Elt F) Λ₀ .tc) PUnit := do
  if k0_cond1 i = 1#1 then initP arg13 arg15 else pure ⟨⟩
  if k0_cond3 v1 v3 = 1#1 then clearP arg16 arg17 arg18 else pure ⟨⟩
  if h : k0_cond3 v1 v3 = 1#1 then
    stepP true v3.toNat (lt8_diag hw h) arg3 arg4 arg5 arg6 arg7 arg8 arg9 arg13 arg15 arg16 arg17 arg18
  else pure ⟨⟩
  if h : k0_cond4 v1 v3 = 1#1 then
    stepP false v3.toNat (lt8_low hw h) arg3 arg4 arg5 arg6 arg7 arg8 arg9 arg13 arg15 arg16 arg17 arg18
  else pure ⟨⟩
  if k0_cond5 v3 = 1#1 then flushP arg11 harg11 arg12 harg12 arg14 arg16 arg17 arg18 else pure ⟨⟩
  if k0_cond6 i = 1#1 then finP arg10 harg10 arg15 else pure ⟨⟩

theorem rest_eq (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x8x512 .f32) (harg13 : arg13.IsWhole) (arg14 : Memref sig .tc .vmem S8x512 .f32) (harg14 : arg14.IsWhole) (arg15 : Memref sig .tc .vmem S8x512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S8x512x128 .f32) (harg18 : arg18.IsWhole) (v1 v3 : BitVec 32) (hw : k0_chk1 v1 v3) :
    restD (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw = restP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw := by
  unfold restD restP
  by_cases h1 : k0_cond1 i = 1#1 <;> by_cases h3 : k0_cond3 v1 v3 = 1#1 <;> by_cases h4 : k0_cond4 v1 v3 = 1#1 <;>
    by_cases h5 : k0_cond5 v3 = 1#1 <;> simp only [h1, h3, h4, h5, ↓reduceDIte, ↓reduceIte] <;> rfl

/-- The body with each stretch's continuation inside its guard. -/
def bodyD (i : grid0.Coords) (arg1 : Memref sig .tc .smem S36 .i32) (harg1 : arg1.IsWhole) (arg2 : Memref sig .tc .smem S36 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x8x512 .f32) (harg13 : arg13.IsWhole) (arg14 : Memref sig .tc .vmem S8x512 .f32) (harg14 : arg14.IsWhole) (arg15 : Memref sig .tc .vmem S8x512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S8x512x128 .f32) (harg18 : arg18.IsWhole) :
    Prog (TpuEff nD τ sig (Elt F) Λ₀ .tc) PUnit := do
  let v1 : Elt F .i32 ← smemLoad arg1 (Rect.unit (s := S36) (k0_off1 i) S1.size (k0_off1_inb i)) numel1_S1 rfl
  let v3 : Elt F .i32 ← smemLoad arg2 (Rect.unit (s := S36) (k0_off1 i) S1.size (k0_off1_inb i)) numel1_S1 rfl
  let hw ← Prog.lift (TpuEff.assume (k0_chk1 v1 v3) (k0_chk1.dec v1 v3))
  restD i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw.down

/-- The body: the two table words read and checked, then the rest. -/
def bodyP (i : grid0.Coords) (arg1 : Memref sig .tc .smem S36 .i32) (harg1 : arg1.IsWhole) (arg2 : Memref sig .tc .smem S36 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x8x512 .f32) (harg13 : arg13.IsWhole) (arg14 : Memref sig .tc .vmem S8x512 .f32) (harg14 : arg14.IsWhole) (arg15 : Memref sig .tc .vmem S8x512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S8x512x128 .f32) (harg18 : arg18.IsWhole) :
    Prog (TpuEff nD τ sig (Elt F) Λ₀ .tc) PUnit := do
  let v1 : Elt F .i32 ← smemLoad arg1 (Rect.unit (s := S36) (k0_off1 i) S1.size (k0_off1_inb i)) numel1_S1 rfl
  let v3 : Elt F .i32 ← smemLoad arg2 (Rect.unit (s := S36) (k0_off1 i) S1.size (k0_off1_inb i)) numel1_S1 rfl
  let hw ← Prog.lift (TpuEff.assume (k0_chk1 v1 v3) (k0_chk1.dec v1 v3))
  restP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 hw.down

set_option maxRecDepth 100000 in
set_option maxHeartbeats 4000000 in
/-- The printed body is this one. -/
theorem body_eq (i : grid0.Coords) (arg1 : Memref sig .tc .smem S36 .i32) (harg1 : arg1.IsWhole) (arg2 : Memref sig .tc .smem S36 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512x128 .f32) (harg6 : arg6.IsWhole) (arg7 : Memref sig .tc .vmem S512x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x8x512 .f32) (harg13 : arg13.IsWhole) (arg14 : Memref sig .tc .vmem S8x512 .f32) (harg14 : arg14.IsWhole) (arg15 : Memref sig .tc .vmem S8x512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S8x512x128 .f32) (harg18 : arg18.IsWhole) :
    cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = bodyP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  have h : cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = bodyD i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := rfl
  rw [h]
  unfold bodyD bodyP
  simp only [rest_eq]

end Cert.KernelIdeal.Attn

end
-- ==== Proof.KI.Rules.lean ====
/-
  A load and a store of a memref whose contents are named: what the load reads and what the store leaves, as functions
  of the contents.
-/
module

public import proofs.«01_k».proof.Proof.KI.BodyEq
public import Idealize.ShloMosaic.Lib.Tactic
public import Idealize.ShloMosaic.Lib.Pipeline.Kit
public import Idealize.ShloMosaic.Lib.VecWindow
public import Idealize.ShloMosaic.Lib.Pipeline.FrameBody
public import Idealize.ShloMosaic.Lib.Pipeline.TableIdle

@[expose] public section

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (𝒱 : Variants) (E : Set ℕ) (c : Dev nD)

/-- A load reads the named contents at its rectangle. -/
theorem ld_rule {sp : CoreSpace} {S : Shape} {e : EltTy} {m : Memref sig .tc sp S e} {r : Rect S} {hl : m.view.LoadsAt r.toLoadRect}
    {q : PosShare TreeShare} (X : S.Idx → Elt F e) {K : (r.shape.Idx → Elt F e) → sProp 𝕄} :
    (owns (c : Thread nD τ) m q X : sProp 𝕄)
      ⊢ iprop((owns (c : Thread nD τ) m q X -∗ K (View.ld X r))
        -∗ wp frame (wpE (defs₀ (F := F)) 𝒱 c none) E (Prog.lift (TpuEff.load m r.toLoadRect hl)) K) := by
  iintro H HK
  unfold owns
  icases H with ⟨%f, %hf, H⟩
  iapply (wp_load 𝒱 (c : Thread nD τ) none E (m := m) (r := r.toLoadRect) (View.setOn_subset_set m.view _)) $$ H
  iintro H
  iapply (le_wp_ret _ _ _ _ K)
  subst hf
  rw [show m.view.readAt (Elt F) r.toLoadRect f = View.ld (View.read (Elt F) m.view f) r from rfl]
  iapply HK
  iexists f
  isplitr; · ipureintro; rfl
  iexact H

/-- A store leaves the named contents with its payload put at its rectangle. -/
theorem st_rule {sp : CoreSpace} {S : Shape} {e : EltTy} {m : Memref sig .tc sp S e} {off size : Fin S.rank → ℕ}
    {inb : ∀ a, off a + size a ≤ S.size a} {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    (X : S.Idx → Elt F e) {K : PUnit → sProp 𝕄} :
    (owns (c : Thread nD τ) m fullShare X : sProp 𝕄)
      ⊢ iprop((owns (c : Thread nD τ) m fullShare (VecWindow.put X off size w) -∗ K ⟨⟩)
        -∗ wp frame (wpE (defs₀ (F := F)) 𝒱 c none) E (Prog.lift (TpuEff.store m (Rect.unit off size inb) w Finset.univ hx hm)) K) := by
  iintro H HK
  unfold owns
  icases H with ⟨%f, %hf, H⟩
  have hS : (m.access (Rect.unit off size inb)).setOn Finset.univ ⊆ m.view.set := by
    rw [View.setOn_univ]; exact View.set_slice_subset m.view _
  iapply (wp_store (defs := defs₀ (F := F)) 𝒱 (c : Thread nD τ) none E (m := m) (r := Rect.unit off size inb) (w := w) (Mk := Finset.univ)
    (hx := hx) (hm := hm) (k := Prog.ret) (Q := K) (f := f) hS) $$ H
  iintro H
  iapply (le_wp_ret _ _ _ _ K)
  subst hf
  iapply HK
  iexists _
  isplitr
  rotate_left
  · iexact H
  ipureintro
  exact View.read_writes_cons_put m.view f inb w [] rfl

end Cert.KernelIdeal.Attn

end
-- ==== Proof.KI.Run.lean ====
/-
  What each stretch of the body does to the accumulators, as functions of their contents, and the proof that it does.
-/
module

public import proofs.«01_k».proof.Proof.KI.Rules

@[expose] public section

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers a step works on: seven inputs, four results' and five accumulators' (the queries' sums are a result). -/
structure Mem where
  a3 : Memref sig .tc .vmem S512x512 .bf16
  a4 : Memref sig .tc .vmem S512x512 .bf16
  a5 : Memref sig .tc .vmem S512x512 .bf16
  a6 : Memref sig .tc .vmem S8x512x128 .f32
  a7 : Memref sig .tc .vmem S512x512 .f32
  a8 : Memref sig .tc .vmem S8x512 .f32
  a9 : Memref sig .tc .vmem S8x512 .f32
  a10 : Memref sig .tc .vmem S8x512x512 .bf16
  a11 : Memref sig .tc .vmem S512x512 .bf16
  a12 : Memref sig .tc .vmem S512x512 .bf16
  a13 : Memref sig .tc .vmem S8x8x512 .f32
  a14 : Memref sig .tc .vmem S8x512 .f32
  a15 : Memref sig .tc .vmem S8x512x512 .f32
  a16 : Memref sig .tc .vmem S512x512 .f32
  a17 : Memref sig .tc .vmem S512x512 .f32
  a18 : Memref sig .tc .vmem S8x512x128 .f32

/-- The blocks a step reads. -/
structure In (F : FTy → Type) where
  q : Vec F S512x512 .bf16
  k : Vec F S512x512 .bf16
  v : Vec F S512x512 .bf16
  ck : Vec F S8x512x128 .f32
  o : Vec F S512x512 .f32
  lse : Vec F S8x512 .f32
  del : Vec F S8x512 .f32

/-- What the accumulators hold. -/
structure St (F : FTy → Type) where
  cq : Vec F S8x8x512 .f32
  dq : Vec F S8x512x512 .f32
  dk : Vec F S512x512 .f32
  dv : Vec F S512x512 .f32
  ck : Vec F S8x512x128 .f32

/-- What the results' buffers hold. -/
structure Out (F : FTy → Type) where
  dq : Vec F S8x512x512 .bf16
  dk : Vec F S512x512 .bf16
  dv : Vec F S512x512 .bf16
  row : Vec F S8x512 .f32

/-- The inputs' buffers held at the blocks. -/
def inO (c : Dev nD) (M : Mem) (I : In F) : sProp 𝕄 :=
  iprop(owns (c : Thread nD τ) M.a3 fullShare I.q ∗ owns (c : Thread nD τ) M.a4 fullShare I.k ∗ owns (c : Thread nD τ) M.a5 fullShare I.v
    ∗ owns (c : Thread nD τ) M.a6 fullShare I.ck ∗ owns (c : Thread nD τ) M.a7 fullShare I.o
    ∗ owns (c : Thread nD τ) M.a8 fullShare I.lse ∗ owns (c : Thread nD τ) M.a9 fullShare I.del)

/-- The accumulators held at their contents. -/
def stO (c : Dev nD) (M : Mem) (S : St F) : sProp 𝕄 :=
  iprop(owns (c : Thread nD τ) M.a13 fullShare S.cq ∗ owns (c : Thread nD τ) M.a15 fullShare S.dq ∗ owns (c : Thread nD τ) M.a16 fullShare S.dk
    ∗ owns (c : Thread nD τ) M.a17 fullShare S.dv ∗ owns (c : Thread nD τ) M.a18 fullShare S.ck)

/-- The results' buffers held at their contents. -/
def outO (c : Dev nD) (M : Mem) (R : Out F) : sProp 𝕄 :=
  iprop(owns (c : Thread nD τ) M.a10 fullShare R.dq ∗ owns (c : Thread nD τ) M.a11 fullShare R.dk
    ∗ owns (c : Thread nD τ) M.a12 fullShare R.dv ∗ owns (c : Thread nD τ) M.a14 fullShare R.row)

/-- A pair's columns of a block, as the body reads them. -/
def colB (hp : Fin 4) (X : Vec F S512x512 .bf16) : FVec F S512x128 .bf16 :=
  shapeCast S512x128 (View.ld X (colR hp) : Vec F S512x128 .bf16) shapeCasts_S512x128_S512x128
def colO (hp : Fin 4) (X : Vec F S512x512 .f32) : FVec F S512x128 .bf16 :=
  truncf .bf16 (View.ld X (colR hp) : Vec F S512x128 .f32) bitsLt_bf16_f32

/-- The probabilities of a head at a step, and the cotangent of its logits. -/
def ptI (msk : Bool) (hp : Fin 4) (hh : Fin 2) (I : In F) : FVec F S512x512 .f32 :=
  ptV msk hh (colB hp I.k) (colB hp I.q) (View.ld I.ck (slabR (headOf hp hh))) (View.ld I.lse (rowR (headOf hp hh)))
def dstI (msk : Bool) (hp : Fin 4) (hh : Fin 2) (I : In F) : FVec F S512x512 .f32 :=
  dstV msk hh (colB hp I.k) (colB hp I.q) (colB hp I.v) (colO hp I.o) (View.ld I.ck (slabR (headOf hp hh)))
    (View.ld I.lse (rowR (headOf hp hh))) (View.ld I.del (rowR (headOf hp hh)))

/-- The keys' sums after one head of a step. -/
def ckS (msk : Bool) (hp : Fin 4) (hh : Fin 2) (I : In F) (X : Vec F S8x512x128 .f32) : Vec F S8x512x128 .f32 :=
  VecWindow.put X ![(headOf hp hh).val, 0, 0] S1x512x128.size
    (dckV (dstI msk hp hh I) (View.ld X (slabR (headOf hp hh)) : Vec F S1x512x128 .f32))
/-- The queries' sums after one head of a step. -/
def cqS (msk : Bool) (hp : Fin 4) (hh : Fin 2) (n : Nat) (hn : n < 8) (I : In F) (X : Vec F S8x8x512 .f32) : Vec F S8x8x512 .f32 :=
  VecWindow.put X ![n, (headOf hp hh).val, 0] S1x1x512.size
    (dcqV (dstI msk hp hh I) (View.ld X (cellR n hn (headOf hp hh)) : Vec F S1x1x512 .f32))
/-- The values' gradient after one pair of a step. -/
def dvS (msk : Bool) (hp : Fin 4) (I : In F) (X : Vec F S512x512 .f32) : Vec F S512x512 .f32 :=
  VecWindow.put X ![0, 128 * hp.val] S512x128.size
    (accV (View.ld X (colR hp) : Vec F S512x128 .f32) (dvV (ptI msk hp 0 I) (colO hp I.o)) (dvV (ptI msk hp 1 I) (colO hp I.o)))
/-- The keys' gradient after one pair of a step. -/
def dkS (msk : Bool) (hp : Fin 4) (I : In F) (X : Vec F S512x512 .f32) : Vec F S512x512 .f32 :=
  VecWindow.put X ![0, 128 * hp.val] S512x128.size
    (accV (View.ld X (colR hp) : Vec F S512x128 .f32) (dkV (dstI msk hp 0 I) (colB hp I.q)) (dkV (dstI msk hp 1 I) (colB hp I.q)))
/-- The queries' gradient after one pair of a step. -/
def dqS (msk : Bool) (hp : Fin 4) (n : Nat) (hn : n < 8) (I : In F) (X : Vec F S8x512x512 .f32) : Vec F S8x512x512 .f32 :=
  VecWindow.put X ![n, 0, 128 * hp.val] S1x512x128.size
    (acc3V (View.ld X (slabColR n hn hp) : Vec F S1x512x128 .f32) (dqV (dstI msk hp 0 I) (colB hp I.k)) (dqV (dstI msk hp 1 I) (colB hp I.k)))

/-- The accumulators after one pair of a step. -/
def pairS (msk : Bool) (hp : Fin 4) (n : Nat) (hn : n < 8) (I : In F) (S : St F) : St F where
  cq := cqS msk hp 1 n hn I (cqS msk hp 0 n hn I S.cq)
  dq := dqS msk hp n hn I S.dq
  dk := dkS msk hp I S.dk
  dv := dvS msk hp I S.dv
  ck := ckS msk hp 1 I (ckS msk hp 0 I S.ck)

/-- The accumulators after one step. -/
def stepS (msk : Bool) (n : Nat) (hn : n < 8) (I : In F) (S : St F) : St F :=
  pairS msk 3 n hn I (pairS msk 2 n hn I (pairS msk 1 n hn I (pairS msk 0 n hn I S)))

variable (𝒱 : Variants) (E : Set ℕ) (c : Dev nD)

/-- One pair of heads runs and leaves the accumulators so. -/
theorem pairP_run (msk : Bool) (hp : Fin 4) (n : Nat) (hn : n < 8) (M : Mem) (I : In F) (S : St F) (K : PUnit → sProp 𝕄) :
    iprop(inO c M I ∗ stO c M S ∗ (inO c M I ∗ stO c M (pairS msk hp n hn I S) -∗ K ⟨⟩))
      ⊢ wp frame (wpE (defs₀ (F := F)) 𝒱 c none) E
          (pairP msk hp n hn M.a3 M.a4 M.a5 M.a6 M.a7 M.a8 M.a9 M.a13 M.a15 M.a16 M.a17 M.a18) K := by
  unfold inO stO
  iintro ⟨⟨Hq, Hk, Hv, Hck, Ho, Hl, Hd⟩, ⟨H13, H15, H16, H17, H18⟩, HK⟩
  unfold pairP headP
  simp only [wp_bind]
  iapply (ld_rule 𝒱 E c I.q) $$ Hq; iintro Hq
  iapply (ld_rule 𝒱 E c I.k) $$ Hk; iintro Hk
  iapply (ld_rule 𝒱 E c I.v) $$ Hv; iintro Hv
  iapply (ld_rule 𝒱 E c I.o) $$ Ho; iintro Ho
  iapply (ld_rule 𝒱 E c I.ck) $$ Hck; iintro Hck
  iapply (ld_rule 𝒱 E c I.lse) $$ Hl; iintro Hl
  iapply (ld_rule 𝒱 E c I.del) $$ Hd; iintro Hd
  iapply (ld_rule 𝒱 E c S.ck) $$ H18; iintro H18
  iapply (ld_rule 𝒱 E c S.ck) $$ H18; iintro H18
  iapply (st_rule 𝒱 E c S.ck) $$ H18; iintro H18
  iapply (ld_rule 𝒱 E c S.cq) $$ H13; iintro H13
  iapply (ld_rule 𝒱 E c S.cq) $$ H13; iintro H13
  iapply (st_rule 𝒱 E c S.cq) $$ H13; iintro H13
  iapply (le_wp_ret _ _ _ _ _)
  iapply (ld_rule 𝒱 E c I.ck) $$ Hck; iintro Hck
  iapply (ld_rule 𝒱 E c I.lse) $$ Hl; iintro Hl
  iapply (ld_rule 𝒱 E c I.del) $$ Hd; iintro Hd
  iapply (ld_rule 𝒱 E c _) $$ H18; iintro H18
  iapply (ld_rule 𝒱 E c _) $$ H18; iintro H18
  iapply (st_rule 𝒱 E c _) $$ H18; iintro H18
  iapply (ld_rule 𝒱 E c _) $$ H13; iintro H13
  iapply (ld_rule 𝒱 E c _) $$ H13; iintro H13
  iapply (st_rule 𝒱 E c _) $$ H13; iintro H13
  iapply (le_wp_ret _ _ _ _ _)
  iapply (ld_rule 𝒱 E c S.dv) $$ H17; iintro H17
  iapply (ld_rule 𝒱 E c S.dv) $$ H17; iintro H17
  iapply (st_rule 𝒱 E c S.dv) $$ H17; iintro H17
  iapply (ld_rule 𝒱 E c S.dk) $$ H16; iintro H16
  iapply (ld_rule 𝒱 E c S.dk) $$ H16; iintro H16
  iapply (st_rule 𝒱 E c S.dk) $$ H16; iintro H16
  iapply (ld_rule 𝒱 E c S.dq) $$ H15; iintro H15
  iapply (ld_rule 𝒱 E c S.dq) $$ H15; iintro H15
  iapply (st_rule 𝒱 E c S.dq) $$ H15; iintro H15
  iapply (le_wp_ret _ _ _ _ _)
  iapply HK
  isplitl [Hq Hk Hv Hck Ho Hl Hd]
  · iframe
  · isplitl [H13]; · iexact H13
    isplitl [H15]; · iexact H15
    isplitl [H16]; · iexact H16
    isplitl [H17]; · iexact H17
    iexact H18

/-- One step runs and leaves the accumulators so. -/
theorem stepP_run (msk : Bool) (n : Nat) (hn : n < 8) (M : Mem) (I : In F) (S : St F) (K : PUnit → sProp 𝕄) :
    iprop(inO c M I ∗ stO c M S ∗ (inO c M I ∗ stO c M (stepS msk n hn I S) -∗ K ⟨⟩))
      ⊢ wp frame (wpE (defs₀ (F := F)) 𝒱 c none) E
          (stepP msk n hn M.a3 M.a4 M.a5 M.a6 M.a7 M.a8 M.a9 M.a13 M.a15 M.a16 M.a17 M.a18) K := by
  iintro ⟨HI, HS, HK⟩
  unfold stepP
  simp only [wp_bind]
  iapply (pairP_run 𝒱 E c msk 0 n hn M I S _)
  isplitl [HI]; · iexact HI
  isplitl [HS]; · iexact HS
  iintro ⟨HI, HS⟩
  iapply (pairP_run 𝒱 E c msk 1 n hn M I _ _)
  isplitl [HI]; · iexact HI
  isplitl [HS]; · iexact HS
  iintro ⟨HI, HS⟩
  iapply (pairP_run 𝒱 E c msk 2 n hn M I _ _)
  isplitl [HI]; · iexact HI
  isplitl [HS]; · iexact HS
  iintro ⟨HI, HS⟩
  iapply (pairP_run 𝒱 E c msk 3 n hn M I _ _)
  isplitl [HI]; · iexact HI
  isplitl [HS]; · iexact HS
  iintro ⟨HI, HS⟩
  iapply HK
  isplitl [HI]; · iexact HI
  iexact HS

/-- A payload put over a whole array is the payload. -/
theorem put_full {α : Type} {s : Shape} (x : s.Idx → α) (off : Fin s.rank → ℕ) (h0 : ∀ a, off a = 0) (w : s.Idx → α) :
    VecWindow.put x off s.size w = w := by
  funext y
  unfold VecWindow.put
  rw [dif_pos (fun a => ⟨by rw [h0 a]; exact Nat.zero_le _, by rw [h0 a, Nat.zero_add]; exact (y a).isLt⟩)]
  refine congrArg w (funext fun a => Fin.ext ?_)
  show (y a).val - off a = (y a).val
  rw [h0 a, Nat.sub_zero]

/-- Reading a whole array reads the array. -/
theorem ld_full {s : Shape} {e : EltTy} (x : s.Idx → Elt F e) (off : Fin s.rank → ℕ) (inb : ∀ a, off a + s.size a ≤ s.size a) (h0 : ∀ a, off a = 0) :
    View.ld x (Rect.unit off s.size inb) = x := by
  funext y
  refine congrArg x (funext fun a => Fin.ext ?_)
  show off a + 1 * (y a).val = (y a).val
  rw [h0 a]; omega

/-- The accumulators of the queries cleared. -/
def initS (S : St F) : St F where
  cq := broadcast S8x8x512 (Scalar.ofBits .f32 0x00000000#32 : F .f32)
  dq := shapeCast S8x512x512 (broadcast S8x512x512 (Scalar.ofBits .f32 0x00000000#32 : F .f32)) shapeCasts_S8x512x512_S8x512x512
  dk := S.dk
  dv := S.dv
  ck := S.ck

theorem initP_run (M : Mem) (S : St F) (K : PUnit → sProp 𝕄) :
    iprop(stO c M S ∗ (stO c M (initS S) -∗ K ⟨⟩))
      ⊢ wp frame (wpE (defs₀ (F := F)) 𝒱 c none) E (initP M.a13 M.a15) K := by
  unfold stO
  iintro ⟨⟨H13, H15, H16, H17, H18⟩, HK⟩
  unfold initP
  simp only [wp_bind]
  iapply (ld_rule 𝒱 E c S.dq) $$ H15; iintro H15
  iapply (st_rule 𝒱 E c S.dq) $$ H15; iintro H15
  iapply (ld_rule 𝒱 E c S.cq) $$ H13; iintro H13
  iapply (st_rule 𝒱 E c S.cq) $$ H13; iintro H13
  iapply HK
  rw [put_full (s := S8x512x512) _ _ (by intro a; fin_cases a <;> rfl), put_full (s := S8x8x512) _ _ (by intro a; fin_cases a <;> rfl)]
  isplitl [H13]; · iexact H13
  isplitl [H15]; · iexact H15
  isplitl [H16]; · iexact H16
  isplitl [H17]; · iexact H17
  iexact H18

/-- The accumulators of the keys cleared. -/
def clearS (S : St F) : St F where
  cq := S.cq
  dq := S.dq
  dk := shapeCast S512x512 (broadcast S512x512 (Scalar.ofBits .f32 0x00000000#32 : F .f32)) shapeCasts_S512x512_S512x512
  dv := shapeCast S512x512 (broadcast S512x512 (Scalar.ofBits .f32 0x00000000#32 : F .f32)) shapeCasts_S512x512_S512x512
  ck := shapeCast S8x512x128 (broadcast S8x512x128 (Scalar.ofBits .f32 0x00000000#32 : F .f32)) shapeCasts_S8x512x128_S8x512x128

theorem clearP_run (M : Mem) (S : St F) (K : PUnit → sProp 𝕄) :
    iprop(stO c M S ∗ (stO c M (clearS S) -∗ K ⟨⟩))
      ⊢ wp frame (wpE (defs₀ (F := F)) 𝒱 c none) E (clearP M.a16 M.a17 M.a18) K := by
  unfold stO
  iintro ⟨⟨H13, H15, H16, H17, H18⟩, HK⟩
  unfold clearP
  simp only [wp_bind]
  iapply (ld_rule 𝒱 E c S.dk) $$ H16; iintro H16
  iapply (st_rule 𝒱 E c S.dk) $$ H16; iintro H16
  iapply (ld_rule 𝒱 E c S.dv) $$ H17; iintro H17
  iapply (st_rule 𝒱 E c S.dv) $$ H17; iintro H17
  iapply (ld_rule 𝒱 E c S.ck) $$ H18; iintro H18
  iapply (st_rule 𝒱 E c S.ck) $$ H18; iintro H18
  iapply HK
  rw [put_full (s := S512x512) S.dk _ (by intro a; fin_cases a <;> rfl), put_full (s := S512x512) S.dv _ (by intro a; fin_cases a <;> rfl),
    put_full (s := S8x512x128) _ _ (by intro a; fin_cases a <;> rfl)]
  isplitl [H13]; · iexact H13
  isplitl [H15]; · iexact H15
  isplitl [H16]; · iexact H16
  isplitl [H17]; · iexact H17
  iexact H18

/-- Row `h` of the keys' sums written into a table. -/
def rowF (h : Fin 8) (C : Vec F S8x512x128 .f32) (X : Vec F S8x512 .f32) : Vec F S8x512 .f32 :=
  VecWindow.put X ![h.val, 0] S1x512.size (outRowV (View.ld C (slabR h) : Vec F S1x512x128 .f32))
/-- All eight rows. -/
def rowsF (C : Vec F S8x512x128 .f32) (X : Vec F S8x512 .f32) : Vec F S8x512 .f32 :=
  rowF 7 C (rowF 6 C (rowF 5 C (rowF 4 C (rowF 3 C (rowF 2 C (rowF 1 C (rowF 0 C X)))))))

/-- The results' buffers after a key block's end, and after the grid's. -/
def flushR (S : St F) (R : Out F) : Out F where
  dq := R.dq
  dk := truncf .bf16 S.dk bitsLt_bf16_f32
  dv := truncf .bf16 S.dv bitsLt_bf16_f32
  row := rowsF S.ck R.row
def finR (S : St F) (R : Out F) : Out F where
  dq := dqOutV S.dq
  dk := R.dk
  dv := R.dv
  row := R.row

theorem rowP_run (h : Fin 8) (M : Mem) (C : Vec F S8x512x128 .f32) (X : Vec F S8x512 .f32) (K : PUnit → sProp 𝕄) :
    iprop(owns (c : Thread nD τ) M.a18 fullShare C ∗ owns (c : Thread nD τ) M.a14 fullShare X
        ∗ (owns (c : Thread nD τ) M.a18 fullShare C ∗ owns (c : Thread nD τ) M.a14 fullShare (rowF h C X) -∗ K ⟨⟩))
      ⊢ wp frame (wpE (defs₀ (F := F)) 𝒱 c none) E (rowP h M.a14 M.a18) K := by
  iintro ⟨H18, H14, HK⟩
  unfold rowP
  simp only [wp_bind]
  iapply (ld_rule 𝒱 E c C) $$ H18; iintro H18
  iapply (ld_rule 𝒱 E c X) $$ H14; iintro H14
  iapply (st_rule 𝒱 E c X) $$ H14; iintro H14
  iapply HK
  isplitl [H18]; · iexact H18
  iexact H14

theorem flushP_run (M : Mem) (h11 : M.a11.IsWhole) (h12 : M.a12.IsWhole) (S : St F) (R : Out F) (K : PUnit → sProp 𝕄) :
    iprop(stO c M S ∗ outO c M R ∗ (stO c M S ∗ outO c M (flushR S R) -∗ K ⟨⟩))
      ⊢ wp frame (wpE (defs₀ (F := F)) 𝒱 c none) E (flushP M.a11 h11 M.a12 h12 M.a14 M.a16 M.a17 M.a18) K := by
  unfold stO outO
  iintro ⟨⟨H13, H15, H16, H17, H18⟩, ⟨H10, H11, H12, H14⟩, HK⟩
  unfold flushP
  simp only [wp_bind]
  iapply (ld_rule 𝒱 E c S.dk) $$ H16; iintro H16
  iapply (ld_rule 𝒱 E c R.dk) $$ H11; iintro H11
  iapply (st_rule 𝒱 E c R.dk) $$ H11; iintro H11
  iapply (ld_rule 𝒱 E c S.dv) $$ H17; iintro H17
  iapply (ld_rule 𝒱 E c R.dv) $$ H12; iintro H12
  iapply (st_rule 𝒱 E c R.dv) $$ H12; iintro H12
  iapply (rowP_run 𝒱 E c 0 M S.ck _ _)
  isplitl [H18]; · iexact H18
  isplitl [H14]; · iexact H14
  iintro ⟨H18, H14⟩
  iapply (rowP_run 𝒱 E c 1 M S.ck _ _)
  isplitl [H18]; · iexact H18
  isplitl [H14]; · iexact H14
  iintro ⟨H18, H14⟩
  iapply (rowP_run 𝒱 E c 2 M S.ck _ _)
  isplitl [H18]; · iexact H18
  isplitl [H14]; · iexact H14
  iintro ⟨H18, H14⟩
  iapply (rowP_run 𝒱 E c 3 M S.ck _ _)
  isplitl [H18]; · iexact H18
  isplitl [H14]; · iexact H14
  iintro ⟨H18, H14⟩
  iapply (rowP_run 𝒱 E c 4 M S.ck _ _)
  isplitl [H18]; · iexact H18
  isplitl [H14]; · iexact H14
  iintro ⟨H18, H14⟩
  iapply (rowP_run 𝒱 E c 5 M S.ck _ _)
  isplitl [H18]; · iexact H18
  isplitl [H14]; · iexact H14
  iintro ⟨H18, H14⟩
  iapply (rowP_run 𝒱 E c 6 M S.ck _ _)
  isplitl [H18]; · iexact H18
  isplitl [H14]; · iexact H14
  iintro ⟨H18, H14⟩
  iapply (rowP_run 𝒱 E c 7 M S.ck _ _)
  isplitl [H18]; · iexact H18
  isplitl [H14]; · iexact H14
  iintro ⟨H18, H14⟩
  iapply HK
  rw [put_full (s := S512x512) R.dk _ (by intro a; fin_cases a <;> rfl), put_full (s := S512x512) R.dv _ (by intro a; fin_cases a <;> rfl),
    ld_full (s := S512x512) S.dk _ _ (by intro a; fin_cases a <;> rfl), ld_full (s := S512x512) S.dv _ _ (by intro a; fin_cases a <;> rfl)]
  isplitr [H10 H11 H12 H14]
  · isplitl [H13]; · iexact H13
    isplitl [H15]; · iexact H15
    isplitl [H16]; · iexact H16
    isplitl [H17]; · iexact H17
    iexact H18
  · isplitl [H10]; · iexact H10
    isplitl [H11]; · iexact H11
    isplitl [H12]; · iexact H12
    iexact H14

theorem finP_run (M : Mem) (h10 : M.a10.IsWhole) (S : St F) (R : Out F) (K : PUnit → sProp 𝕄) :
    iprop(stO c M S ∗ outO c M R ∗ (stO c M S ∗ outO c M (finR S R) -∗ K ⟨⟩))
      ⊢ wp frame (wpE (defs₀ (F := F)) 𝒱 c none) E (finP M.a10 h10 M.a15) K := by
  unfold stO outO
  iintro ⟨⟨H13, H15, H16, H17, H18⟩, ⟨H10, H11, H12, H14⟩, HK⟩
  unfold finP
  simp only [wp_bind]
  iapply (ld_rule 𝒱 E c S.dq) $$ H15; iintro H15
  iapply (ld_rule 𝒱 E c R.dq) $$ H10; iintro H10
  iapply (st_rule 𝒱 E c R.dq) $$ H10; iintro H10
  iapply HK
  rw [put_full (s := S8x512x512) R.dq _ (by intro a; fin_cases a <;> rfl), ld_full (s := S8x512x512) S.dq _ _ (by intro a; fin_cases a <;> rfl)]
  isplitr [H10 H11 H12 H14]
  · isplitl [H13]; · iexact H13
    isplitl [H15]; · iexact H15
    isplitl [H16]; · iexact H16
    isplitl [H17]; · iexact H17
    iexact H18
  · isplitl [H10]; · iexact H10
    isplitl [H11]; · iexact H11
    isplitl [H12]; · iexact H12
    iexact H14

/-! The guarded stretches. -/

theorem guard_init (b : Prop) [Decidable b] (M : Mem) (S : St F) (K : PUnit → sProp 𝕄) :
    iprop(stO c M S ∗ (stO c M (if b then initS S else S) -∗ K ⟨⟩))
      ⊢ wp frame (wpE (defs₀ (F := F)) 𝒱 c none) E (if b then initP M.a13 M.a15 else pure ⟨⟩) K := by
  split
  · exact initP_run 𝒱 E c M S K
  · iintro ⟨HS, HK⟩; iapply (le_wp_ret _ _ _ _ _); iapply HK; iexact HS

theorem guard_clear (b : Prop) [Decidable b] (M : Mem) (S : St F) (K : PUnit → sProp 𝕄) :
    iprop(stO c M S ∗ (stO c M (if b then clearS S else S) -∗ K ⟨⟩))
      ⊢ wp frame (wpE (defs₀ (F := F)) 𝒱 c none) E (if b then clearP M.a16 M.a17 M.a18 else pure ⟨⟩) K := by
  split
  · exact clearP_run 𝒱 E c M S K
  · iintro ⟨HS, HK⟩; iapply (le_wp_ret _ _ _ _ _); iapply HK; iexact HS

theorem guard_step (b : Prop) [Decidable b] (msk : Bool) (n : Nat) (hn : b → n < 8) (M : Mem) (I : In F) (S : St F) (K : PUnit → sProp 𝕄) :
    iprop(inO c M I ∗ stO c M S ∗ (inO c M I ∗ stO c M (if h : b then stepS msk n (hn h) I S else S) -∗ K ⟨⟩))
      ⊢ wp frame (wpE (defs₀ (F := F)) 𝒱 c none) E
          (if h : b then stepP msk n (hn h) M.a3 M.a4 M.a5 M.a6 M.a7 M.a8 M.a9 M.a13 M.a15 M.a16 M.a17 M.a18 else pure ⟨⟩) K := by
  split
  · exact stepP_run 𝒱 E c msk n _ M I S K
  · iintro ⟨HI, HS, HK⟩; iapply (le_wp_ret _ _ _ _ _); iapply HK; isplitl [HI]; · iexact HI
    iexact HS

theorem guard_flush (b : Prop) [Decidable b] (M : Mem) (h11 : M.a11.IsWhole) (h12 : M.a12.IsWhole) (S : St F) (R : Out F) (K : PUnit → sProp 𝕄) :
    iprop(stO c M S ∗ outO c M R ∗ (stO c M S ∗ outO c M (if b then flushR S R else R) -∗ K ⟨⟩))
      ⊢ wp frame (wpE (defs₀ (F := F)) 𝒱 c none) E
          (if b then flushP M.a11 h11 M.a12 h12 M.a14 M.a16 M.a17 M.a18 else pure ⟨⟩) K := by
  split
  · exact flushP_run 𝒱 E c M h11 h12 S R K
  · iintro ⟨HS, HR, HK⟩; iapply (le_wp_ret _ _ _ _ _); iapply HK; isplitl [HS]; · iexact HS
    iexact HR

theorem guard_fin (b : Prop) [Decidable b] (M : Mem) (h10 : M.a10.IsWhole) (S : St F) (R : Out F) (K : PUnit → sProp 𝕄) :
    iprop(stO c M S ∗ outO c M R ∗ (stO c M S ∗ outO c M (if b then finR S R else R) -∗ K ⟨⟩))
      ⊢ wp frame (wpE (defs₀ (F := F)) 𝒱 c none) E (if b then finP M.a10 h10 M.a15 else pure ⟨⟩) K := by
  split
  · exact finP_run 𝒱 E c M h10 S R K
  · iintro ⟨HS, HR, HK⟩; iapply (le_wp_ret _ _ _ _ _); iapply HK; isplitl [HS]; · iexact HS
    iexact HR

/-- The accumulators after a point's body, and the results' buffers. -/
def ptS (i : grid0.Coords) (v1 v3 : BitVec 32) (hw : k0_chk1 v1 v3) (I : In F) (S : St F) : St F :=
  let S₁ := if k0_cond1 i = 1#1 then initS S else S
  let S₂ := if k0_cond3 v1 v3 = 1#1 then clearS S₁ else S₁
  let S₃ := if h : k0_cond3 v1 v3 = 1#1 then stepS true v3.toNat (lt8_diag hw h) I S₂ else S₂
  if h : k0_cond4 v1 v3 = 1#1 then stepS false v3.toNat (lt8_low hw h) I S₃ else S₃
def ptR (i : grid0.Coords) (v3 : BitVec 32) (S : St F) (R : Out F) : Out F :=
  let R₁ := if k0_cond5 v3 = 1#1 then flushR S R else R
  if k0_cond6 i = 1#1 then finR S R₁ else R₁

/-- A point's body, its two table words read, runs and leaves that. -/
theorem restP_run (i : grid0.Coords) (M : Mem) (h3 : M.a3.IsWhole) (h4 : M.a4.IsWhole) (h5 : M.a5.IsWhole) (h6 : M.a6.IsWhole) (h7 : M.a7.IsWhole) (h8 : M.a8.IsWhole) (h9 : M.a9.IsWhole) (h10 : M.a10.IsWhole) (h11 : M.a11.IsWhole) (h12 : M.a12.IsWhole) (h13 : M.a13.IsWhole) (h14 : M.a14.IsWhole) (h15 : M.a15.IsWhole) (h16 : M.a16.IsWhole) (h17 : M.a17.IsWhole) (h18 : M.a18.IsWhole) (v1 v3 : BitVec 32) (hw : k0_chk1 v1 v3)
    (I : In F) (S : St F) (R : Out F) (K : PUnit → sProp 𝕄) :
    iprop(inO c M I ∗ stO c M S ∗ outO c M R
        ∗ (inO c M I ∗ stO c M (ptS i v1 v3 hw I S) ∗ outO c M (ptR i v3 (ptS i v1 v3 hw I S) R) -∗ K ⟨⟩))
      ⊢ wp frame (wpE (defs₀ (F := F)) 𝒱 c none) E
          (restP i M.a3 h3 M.a4 h4 M.a5 h5 M.a6 h6 M.a7 h7 M.a8 h8 M.a9 h9 M.a10 h10 M.a11 h11 M.a12 h12 M.a13 h13 M.a14 h14 M.a15 h15 M.a16 h16 M.a17 h17 M.a18 h18 v1 v3 hw) K := by
  iintro ⟨HI, HS, HR, HK⟩
  unfold restP
  simp only [wp_bind]
  iapply (guard_init 𝒱 E c _ M S _)
  isplitl [HS]; · iexact HS
  iintro HS
  iapply (guard_clear 𝒱 E c _ M _ _)
  isplitl [HS]; · iexact HS
  iintro HS
  iapply (guard_step 𝒱 E c _ true _ _ M I _ _)
  isplitl [HI]; · iexact HI
  isplitl [HS]; · iexact HS
  iintro ⟨HI, HS⟩
  iapply (guard_step 𝒱 E c _ false _ _ M I _ _)
  isplitl [HI]; · iexact HI
  isplitl [HS]; · iexact HS
  iintro ⟨HI, HS⟩
  iapply (guard_flush 𝒱 E c _ M _ _ _ R _)
  isplitl [HS]; · iexact HS
  isplitl [HR]; · iexact HR
  iintro ⟨HS, HR⟩
  iapply (guard_fin 𝒱 E c _ M _ _ _ _)
  isplitl [HS]; · iexact HS
  isplitl [HR]; · iexact HR
  iintro ⟨HS, HR⟩
  iapply HK
  isplitl [HI]; · iexact HI
  isplitl [HS]; · iexact HS
  iexact HR

end Cert.KernelIdeal.Attn

end
-- ==== Proof.KI.Tables.lean ====
/-
  The two prefetched tables of the launch: for each of the 36 grid points the number of the key block (`main_c`)
  and of the query block (`main_c_0`).
-/
module

public import proofs.«01_k».proof.Proof.KI.Run

@[expose] public section

set_option maxRecDepth 16384

noncomputable section

namespace Cert.KernelIdeal.Attn

open Cert.KernelIdeal Cert.KernelIdeal.Gen
open Idealize.ShloMosaic

variable {F : FTy → Type} [FloatOps F] [Named F]

/-- The contents of the two tables, as the host's constants write them. -/
def tab : pre0.Contents (Elt F) := fun
  | 0 => fun x => lit0 (S36.rowMajor x)
  | 1 => fun x => lit1 (S36.rowMajor x)

/-- The key block's number at a grid point. -/
def jb (i : grid0.Coords) : BitVec 32 := lit0 (i 0)
/-- The query block's number at a grid point. -/
def ib (i : grid0.Coords) : BitVec 32 := lit1 (i 0)

theorem chk : ∀ i : grid0.Coords, k0_chk1 (jb i) (ib i) := by decide +kernel

theorem emb_at : ∀ i : grid0.Coords,
    Fin.val (S36.rowMajor ((Rect.unit (s := S36) (k0_off1 i) S1.size (k0_off1_inb i)).emb (Shape.Idx.first (numel1_S1.symm ▸ Nat.one_pos)))) = (i 0).val := by
  decide +kernel

theorem tab_at0 (i : grid0.Coords) (h1) :
    (tab (F := F)).at 0 (Rect.unit (s := S36) (k0_off1 i) S1.size (k0_off1_inb i)) h1 = jb i :=
  congrArg lit0 (Fin.ext (emb_at i))

theorem tab_at1 (i : grid0.Coords) (h1) :
    (tab (F := F)).at 1 (Rect.unit (s := S36) (k0_off1 i) S1.size (k0_off1_inb i)) h1 = ib i :=
  congrArg lit1 (Fin.ext (emb_at i))

theorem ix_0 (i : grid0.Coords) : cc0_transform_0 (F := F) k0_off1_inb numel1_S1 tab i = ![(ib i).toNat, 0] := by
  unfold cc0_transform_0; dsimp only; erw [tab_at1]; rfl

theorem ix_1 (i : grid0.Coords) : cc0_transform_1 (F := F) k0_off1_inb numel1_S1 tab i = ![(jb i).toNat, 1] := by
  unfold cc0_transform_1; dsimp only; erw [tab_at0]; rfl

theorem ix_2 (i : grid0.Coords) : cc0_transform_2 (F := F) k0_off1_inb numel1_S1 tab i = ![(jb i).toNat, 2] := by
  unfold cc0_transform_2; dsimp only; erw [tab_at0]; rfl

theorem ix_3 (i : grid0.Coords) : cc0_transform_3 (F := F) k0_off1_inb numel1_S1 tab i = ![0, (jb i).toNat, 0] := by
  unfold cc0_transform_3; dsimp only; erw [tab_at0]; rfl

theorem ix_4 (i : grid0.Coords) : cc0_transform_4 (F := F) k0_off1_inb numel1_S1 tab i = ![(ib i).toNat, 0] := by
  unfold cc0_transform_4; dsimp only; erw [tab_at1]; rfl

theorem ix_5 (i : grid0.Coords) : cc0_transform_5 (F := F) k0_off1_inb numel1_S1 tab i = ![0, (ib i).toNat] := by
  unfold cc0_transform_5; dsimp only; erw [tab_at1]; rfl

theorem ix_6 (i : grid0.Coords) : cc0_transform_6 (F := F) k0_off1_inb numel1_S1 tab i = ![0, (ib i).toNat] := by
  unfold cc0_transform_6; dsimp only; erw [tab_at1]; rfl

theorem ix_7 (i : grid0.Coords) : cc0_transform_7 i = ![0, 0, 0] := rfl

theorem ix_8 (i : grid0.Coords) : cc0_transform_8 (F := F) k0_off1_inb numel1_S1 tab i = ![(jb i).toNat, 0] := by
  unfold cc0_transform_8; dsimp only; erw [tab_at0]; rfl

theorem ix_9 (i : grid0.Coords) : cc0_transform_9 (F := F) k0_off1_inb numel1_S1 tab i = ![(jb i).toNat, 0] := by
  unfold cc0_transform_9; dsimp only; erw [tab_at0]; rfl

theorem ix_10 (i : grid0.Coords) : cc0_transform_10 i = ![0, 0, 0] := rfl

theorem ix_11 (i : grid0.Coords) : cc0_transform_11 (F := F) k0_off1_inb numel1_S1 tab i = ![0, (jb i).toNat] := by
  unfold cc0_transform_11; dsimp only; erw [tab_at0]; rfl

/-- The side condition on the tables, of the block numbers themselves. -/
theorem blocks_ok :
  (∀ i : grid0.Coords, ∃ h : (∀ a, (![(ib i).toNat, 0] a + 1) * S512x512.size a ≤ S4096x1536.size a), EltTy.bits .bf16 = 32 ∨ (Rect.block (s := S4096x1536) S512x512.size ![(ib i).toNat, 0] h).WholeWords (EltTy.packing .bf16)) ∧
  (∀ i : grid0.Coords, ∃ h : (∀ a, (![(jb i).toNat, 1] a + 1) * S512x512.size a ≤ S4096x1536.size a), EltTy.bits .bf16 = 32 ∨ (Rect.block (s := S4096x1536) S512x512.size ![(jb i).toNat, 1] h).WholeWords (EltTy.packing .bf16)) ∧
  (∀ i : grid0.Coords, ∃ h : (∀ a, (![(jb i).toNat, 2] a + 1) * S512x512.size a ≤ S4096x1536.size a), EltTy.bits .bf16 = 32 ∨ (Rect.block (s := S4096x1536) S512x512.size ![(jb i).toNat, 2] h).WholeWords (EltTy.packing .bf16)) ∧
  (∀ i : grid0.Coords, ∃ h : (∀ a, (![0, (jb i).toNat, 0] a + 1) * S8x512x128.size a ≤ S8x4096x128.size a), EltTy.bits .f32 = 32 ∨ (Rect.block (s := S8x4096x128) S8x512x128.size ![0, (jb i).toNat, 0] h).WholeWords (EltTy.packing .f32)) ∧
  (∀ i : grid0.Coords, ∃ h : (∀ a, (![(ib i).toNat, 0] a + 1) * S512x512.size a ≤ S4096x512.size a), EltTy.bits .f32 = 32 ∨ (Rect.block (s := S4096x512) S512x512.size ![(ib i).toNat, 0] h).WholeWords (EltTy.packing .f32)) ∧
  (∀ i : grid0.Coords, ∃ h : (∀ a, (![0, (ib i).toNat] a + 1) * S8x512.size a ≤ S8x4096.size a), EltTy.bits .f32 = 32 ∨ (Rect.block (s := S8x4096) S8x512.size ![0, (ib i).toNat] h).WholeWords (EltTy.packing .f32)) ∧
  (∀ i : grid0.Coords, ∃ h : (∀ a, (![0, (ib i).toNat] a + 1) * S8x512.size a ≤ S8x4096.size a), EltTy.bits .f32 = 32 ∨ (Rect.block (s := S8x4096) S8x512.size ![0, (ib i).toNat] h).WholeWords (EltTy.packing .f32)) ∧
  (∀ i : grid0.Coords, ∃ h : (∀ a, (![(jb i).toNat, 0] a + 1) * S512x512.size a ≤ S4096x512.size a), EltTy.bits .bf16 = 32 ∨ (Rect.block (s := S4096x512) S512x512.size ![(jb i).toNat, 0] h).WholeWords (EltTy.packing .bf16)) ∧
  (∀ i : grid0.Coords, ∃ h : (∀ a, (![(jb i).toNat, 0] a + 1) * S512x512.size a ≤ S4096x512.size a), EltTy.bits .bf16 = 32 ∨ (Rect.block (s := S4096x512) S512x512.size ![(jb i).toNat, 0] h).WholeWords (EltTy.packing .bf16)) ∧
  (∀ i : grid0.Coords, ∃ h : (∀ a, (![0, (jb i).toNat] a + 1) * S8x512.size a ≤ S8x4096.size a), EltTy.bits .f32 = 32 ∨ (Rect.block (s := S8x4096) S8x512.size ![0, (jb i).toNat] h).WholeWords (EltTy.packing .f32)) := by
  decide +kernel

theorem tab_ok : ok0 (F := F) tab := by
  unfold ok0
  simp only [ix_0, ix_1, ix_2, ix_3, ix_4, ix_5, ix_6, ix_8, ix_9, ix_11]
  exact blocks_ok

/-- The tables with the proof that every block they name lies inside its array. -/
def adm : Fin 1 → (pcfg0 (F := F)).Adm := fun _ => ⟨tab, tab_ok⟩

end Cert.KernelIdeal.Attn
-- ==== Proof.KI.Data.lean ====
/-
  The launch's proof data: what the accumulators hold after each grid point, as a recursion over the points, and
  what each window's buffer holds there.
-/
module

public import proofs.«01_k».proof.Proof.KI.Tables
public import proofs.«01_k».proof.Proof.Gen.KernelIdeal.Launch
public import Idealize.ShloMosaic.Lib.Pipeline.ArrRel
public import Idealize.ShloMosaic.Lib.Pipeline.FrameBody

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The launch at its tables. -/
abbrev cfgT : Pipeline.Cfg sig Λ₀ := Pipeline.pin (pcfgs (F := F)) adm 0

/-- The number of grid points. -/
theorem cfgT_N : (cfgT (F := F)).N = 36 := N_0

/-- The arrays as the region finds them. -/
abbrev Arr (F : FTy → Type) : Type := (c : Dev nD) → (b : Ref sig .tc) → Buf (Elt F) ((c.tc : Thread nD τ).loc b)

/-- Proof data that say nothing of what the body leaves: they name the arrays only. -/
def base (V : Arr F) (c : Dev nD) : Pipeline.RDat τ (Elt F) Unit ℕ (UR sig nD τ) ℕ (cfgT (F := F)) c where
  A w := V c (Pipeline.arrRef (cfgT (F := F)).spec w)
  after _ _ _ _ := True
  Φ _ := iprop(emp)
  q := Pipeline.shareOf (cfgT (F := F)).spec
  owed _ := 0

/-- The block a window's fetch brings at a point. -/
def blkV (V : Arr F) (c : Dev nD) (w : Fin 12) (t : Fin (cfgT (F := F)).N) : ((cfgT (F := F)).win w).block.Idx → Elt F ((cfgT (F := F)).win w).elt :=
  (base V c).fetched w t (fun _ => Classical.arbitrary _)

/-- The seven blocks of a point. -/
def inV (V : Arr F) (c : Dev nD) (t : Fin (cfgT (F := F)).N) : In F where
  q := blkV V c 0 t
  k := blkV V c 1 t
  v := blkV V c 2 t
  ck := blkV V c 3 t
  o := blkV V c 4 t
  lse := blkV V c 5 t
  del := blkV V c 6 t

/-- A grid point's coordinates. -/
def co (t : Fin (cfgT (F := F)).N) : grid0.Coords := (cfgT (F := F)).grid.coords t

/-- Accumulators at no particular contents. -/
def st0 : St F := ⟨fun _ => Classical.arbitrary _, fun _ => Classical.arbitrary _, fun _ => Classical.arbitrary _,
  fun _ => Classical.arbitrary _, fun _ => Classical.arbitrary _⟩

/-- The accumulators after point `t`, the previous point having left `S`. -/
def nxt (V : Arr F) (c : Dev nD) (t : Fin (cfgT (F := F)).N) (S : St F) : St F :=
  ptS (co t) (jb (co t)) (ib (co t)) (chk (co t)) (inV V c t) S

/-- The accumulators before the `n`-th point (from the first on: what stood there before does not matter). -/
def stA (V : Arr F) (c : Dev nD) : ℕ → St F
  | 0 => st0
  | n + 1 => if h : n < (cfgT (F := F)).N then nxt V c ⟨n, h⟩ (stA V c n) else stA V c n

theorem stA_succ (V : Arr F) (c : Dev nD) (t : Fin (cfgT (F := F)).N) : stA V c (t.val + 1) = nxt V c t (stA V c t.val) := by
  rw [stA, dif_pos t.isLt]

/-- The first point resets every accumulator. -/
theorem cond_first : k0_cond1 (grid0.coords ⟨0, by decide⟩) = 1#1 ∧ k0_cond3 (jb (grid0.coords ⟨0, by decide⟩)) (ib (grid0.coords ⟨0, by decide⟩)) = 1#1 := by
  decide +kernel

theorem nxt_first (V : Arr F) (c : Dev nD) (t : Fin (cfgT (F := F)).N) (ht : t.val = 0) (S S' : St F) : nxt V c t S = nxt V c t S' := by
  have h0 : co t = grid0.coords ⟨0, by decide⟩ := congrArg grid0.coords (Fin.ext ht)
  have h1 : k0_cond1 (co t) = 1#1 := by rw [h0]; exact cond_first.1
  have h3 : k0_cond3 (jb (co t)) (ib (co t)) = 1#1 := by rw [h0]; exact cond_first.2
  unfold nxt ptS
  simp only [h1, h3, if_true, ↓reduceIte]
  rfl

end Cert.KernelIdeal.Attn

end
-- ==== Proof.KI.Body.lean ====
/-
  A grid point's body, from the buffers it is handed to those it hands back.
-/
module

public import proofs.«01_k».proof.Proof.KI.Data

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The two tables, as the region lends them to the body. -/
def tabO (c : Dev nD) : sProp 𝕄 :=
  iprop((((c : Thread nD τ).loc main_c) ↦{fullShare.right} (tab (F := F) 0)) ∗ (((c : Thread nD τ).loc main_c_0) ↦{fullShare.right} (tab (F := F) 1)))

theorem tabO_eq (c : Dev nD) : (Pipeline.ΦT (pcfgs 0).pre (adm (F := F) 0).1 c : sProp 𝕄) = tabO c := by
  unfold Pipeline.ΦT Pipeline.prefHeld tabO
  exact bigSep_univ_eq_bigSepL [(0 : Fin 2), (1 : Fin 2)] (by decide) (by decide) _

variable (𝒱 : Variants) (E : Set ℕ) (c : Dev nD)

/-- A scalar load of a table held at `f`: the program goes on at the word read. -/
theorem word_rule (m : Memref sig .tc .smem S36 .i32) (r : Rect S36) (h1 : r.shape.numel = 1) (q : PosShare TreeShare)
    (f : Buf (Elt F) (m.view.loc (c : Thread nD τ))) (w : Elt F .i32)
    (hw : (m.access r).read (Elt F) f (Shape.Idx.first (h1.symm ▸ Nat.one_pos)) = w)
    (k : Elt F .i32 → Prog (TpuEff nD τ sig (Elt F) Λ₀ .tc) PUnit) (K : PUnit → sProp 𝕄) :
    (m.view.loc (c : Thread nD τ) ↦{q} f)
      ⊢ iprop(((m.view.loc (c : Thread nD τ) ↦{q} f) -∗ wp frame (wpE (defs₀ (F := F)) 𝒱 c none) E (k w) K)
        -∗ wp frame (wpE (defs₀ (F := F)) 𝒱 c none) E (smemLoad m r h1 rfl >>= k) K) := by
  subst hw
  have e : (smemLoad m r h1 rfl >>= k : Prog (TpuEff nD τ sig (Elt F) Λ₀ .tc) PUnit)
      = smemLoadElt m r (View.loads_smem_one rfl h1) (Shape.Idx.first (h1.symm ▸ Nat.one_pos)) k := rfl
  rw [e]
  exact wp_smemLoadElt 𝒱 (c : Thread nD τ) none E (m := m) (r := r) (S := Finset.univ) (Finset.subset_univ _)

/-- A checked proposition that holds: the program goes on with its proof. -/
theorem check_rule {P : Prop} {d : Decidable P} (h : P) (k : PLift P → Prog (TpuEff nD τ sig (Elt F) Λ₀ .tc) PUnit) (K : PUnit → sProp 𝕄) :
    wp frame (wpE (defs₀ (F := F)) 𝒱 (c : Thread nD τ) none) E (k ⟨h⟩) K
      ⊢ wp frame (wpE (defs₀ (F := F)) 𝒱 c none) E (Prog.lift (TpuEff.assume P d) >>= k) K := by
  have e : (Prog.lift (TpuEff.assume P d) >>= k : Prog (TpuEff nD τ sig (Elt F) Λ₀ .tc) PUnit) = .op (.assume P d) k := rfl
  rw [e, wp_assume_of 𝒱 (c : Thread nD τ) none E h]

set_option maxHeartbeats 1000000 in
/-- The body at a point, its table words read: what `restP_run` says, at the point's block numbers. -/
theorem bodyP_run (i : grid0.Coords) (hm1 : (Memref.whole main_c).IsWhole) (hm2 : (Memref.whole main_c_0).IsWhole)
    (M : Mem) (h3 : M.a3.IsWhole) (h4 : M.a4.IsWhole) (h5 : M.a5.IsWhole) (h6 : M.a6.IsWhole) (h7 : M.a7.IsWhole) (h8 : M.a8.IsWhole) (h9 : M.a9.IsWhole) (h10 : M.a10.IsWhole) (h11 : M.a11.IsWhole) (h12 : M.a12.IsWhole) (h13 : M.a13.IsWhole) (h14 : M.a14.IsWhole) (h15 : M.a15.IsWhole) (h16 : M.a16.IsWhole) (h17 : M.a17.IsWhole) (h18 : M.a18.IsWhole)
    (I : In F) (S : St F) (R : Out F) (K : PUnit → sProp 𝕄) :
    iprop(tabO c ∗ inO c M I ∗ stO c M S ∗ outO c M R
        ∗ (tabO c ∗ inO c M I ∗ stO c M (ptS i (jb i) (ib i) (chk i) I S)
            ∗ outO c M (ptR i (ib i) (ptS i (jb i) (ib i) (chk i) I S) R) -∗ K ⟨⟩))
      ⊢ wp frame (wpE (defs₀ (F := F)) 𝒱 c none) E
          (cc0_attn_bwd i (Memref.whole main_c) hm1 (Memref.whole main_c_0) hm2 M.a3 h3 M.a4 h4 M.a5 h5 M.a6 h6 M.a7 h7 M.a8 h8 M.a9 h9 M.a10 h10 M.a11 h11 M.a12 h12 M.a13 h13 M.a14 h14 M.a15 h15 M.a16 h16 M.a17 h17 M.a18 h18) K := by
  rw [body_eq]
  unfold bodyP tabO
  iintro ⟨⟨T0, T1⟩, HI, HS, HR, HK⟩
  iapply (word_rule 𝒱 E c (Memref.whole main_c) (Rect.unit (s := S36) (k0_off1 i) S1.size (k0_off1_inb i)) numel1_S1 fullShare.right (tab (F := F) 0) (jb i) (tab_at0 i numel1_S1) _ _) $$ T0
  iintro T0
  iapply (word_rule 𝒱 E c (Memref.whole main_c_0) (Rect.unit (s := S36) (k0_off1 i) S1.size (k0_off1_inb i)) numel1_S1 fullShare.right (tab (F := F) 1) (ib i) (tab_at1 i numel1_S1) _ _) $$ T1
  iintro T1
  iapply (check_rule 𝒱 E c (chk i) _ K)
  iapply (restP_run 𝒱 E c i M h3 h4 h5 h6 h7 h8 h9 h10 h11 h12 h13 h14 h15 h16 h17 h18 (jb i) (ib i) (chk i) I S R K)
  iframe HI
  iframe HS
  iframe HR
  iintro ⟨HI, HS, HR⟩
  iapply HK
  isplitl [T0 T1]
  · isplitl [T0]
    · iexact T0
    · iexact T1
  iframe HI
  iframe HS
  iexact HR

end Cert.KernelIdeal.Attn

end
-- ==== Proof.KI.Oblig.lean ====
/-
  The launch's proof data with what the body leaves in each buffer, and the body's obligation at every point.
-/
module

public import proofs.«01_k».proof.Proof.KI.Body

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- What the body leaves in a window's buffer at a point: an input's block as found; the keys' results, at a query
    block that is the last, their accumulators; the queries' sums at every point; the queries' result at the last point. -/
def aft (V : Arr F) (c : Dev nD) : (w : Fin 12) → (t : Fin (cfgT (F := F)).N) →
    (Y X : ((cfgT (F := F)).win w).block.Idx → Elt F ((cfgT (F := F)).win w).elt) → Prop := fun
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t _ X => k0_cond6 (co t) = 1#1 → X = dqOutV (stA V c (t.val + 1)).dq
  | 8 => fun t _ X => k0_cond5 (ib (co t)) = 1#1 → X = truncf .bf16 (stA V c (t.val + 1)).dk bitsLt_bf16_f32
  | 9 => fun t _ X => k0_cond5 (ib (co t)) = 1#1 → X = truncf .bf16 (stA V c (t.val + 1)).dv bitsLt_bf16_f32
  | 10 => fun t _ X => X = (stA V c (t.val + 1)).cq
  | 11 => fun t Y X => k0_cond5 (ib (co t)) = 1#1 → X = rowsF (stA V c (t.val + 1)).ck Y

/-- The scratch accumulators. -/
def scrO (c : Dev nD) (S : St F) : sProp 𝕄 :=
  iprop(owns (c : Thread nD τ) (Memref.whole cc0_scratch0) fullShare S.dq ∗ owns (c : Thread nD τ) (Memref.whole cc0_scratch1) fullShare S.dk
    ∗ owns (c : Thread nD τ) (Memref.whole cc0_scratch2) fullShare S.dv ∗ owns (c : Thread nD τ) (Memref.whole cc0_scratch3) fullShare S.ck)

/-- Accumulators agree with the recursion's in the scratch. -/
def agree (V : Arr F) (c : Dev nD) (n : ℕ) (S : St F) : Prop :=
  n ≠ 0 → S.dq = (stA V c n).dq ∧ S.dk = (stA V c n).dk ∧ S.dv = (stA V c n).dv ∧ S.ck = (stA V c n).ck

/-- The launch's proof data. -/
def rdat (V : Arr F) (c : Dev nD) : Pipeline.RDat τ (Elt F) Unit ℕ (UR sig nD τ) ℕ (cfgT (F := F)) c where
  A w := V c (Pipeline.arrRef (cfgT (F := F)).spec w)
  after := aft V c
  Φ t := iprop((∃ S, ⌜agree V c t.val S⌝ ∗ scrO c S) ∗ (∃ r, prngReg c r) ∗ tabO c)
  q := Pipeline.shareOf (cfgT (F := F)).spec
  owed _ := 0

theorem base_fetched (V : Arr F) (c : Dev nD) (w : Fin 12) (t : Fin (cfgT (F := F)).N)
    (d d' : ((cfgT (F := F)).win w).block.Idx → Elt F ((cfgT (F := F)).win w).elt) :
    (rdat V c).fetched w t d = (base V c).fetched w t d' := by
  funext j
  have hm : ((cfgT (F := F)).win w).moved ((cfgT (F := F)).grid.coords t) j = true :=
    (((cfgT (F := F)).win w).moved_iff _ j).mpr fun a => (j a).isLt
  show ((cfgT (F := F)).win w).fill _ _ _ j = ((cfgT (F := F)).win w).fill _ _ _ j
  unfold Pipeline.Window.fill; rw [dif_pos hm, dif_pos hm]; rfl

/-- An input's buffer holds the point's block. -/
theorem finds_in (V : Arr F) (c : Dev nD) (w : Fin 12) (hw : ((cfgT (F := F)).win w).isOut = false)
    (hk : ∀ t Y X, (rdat V c).after w t Y X → X = Y) (t : Fin (cfgT (F := F)).N) (Y) (h : (rdat V c).Finds w t Y) : Y = blkV V c w t := by
  obtain ⟨d, hd⟩ := (rdat V c).finds_in_eq_fetched w hw (fun _ _ _ => rfl) hk t Y h
  exact hd.trans (base_fetched V c w t d _)

/-- The queries' sums stay in one buffer: after the first point it holds what the point before left. -/
theorem finds_cq (V : Arr F) (c : Dev nD) (t : Fin (cfgT (F := F)).N) (ht : t.val ≠ 0) (Y) (h : (rdat V c).Finds 10 t Y) :
    Y = (stA V c t.val).cq := by
  have hf : ((cfgT (F := F)).win 10).fetch t = false := rfl
  rcases (rdat V c).finds_of_pos hf ht Y |>.mp h with hfl | ⟨Z, -, hZ⟩
  · exfalso
    unfold Pipeline.Window.flush at hfl
    rw [Bool.and_eq_true, Bool.or_eq_true] at hfl
    rcases hfl.2 with h1 | h1
    · have h2 : t.val - 1 + 1 = (cfgT (F := F)).N := of_decide_eq_true h1
      have h3 := t.isLt
      omega
    · obtain ⟨_, hne⟩ := of_decide_eq_true h1
      exact hne rfl
  · have hZ' : Y = (stA V c (t.val - 1 + 1)).cq := hZ
    rw [hZ', Nat.sub_add_cancel (Nat.pos_of_ne_zero ht)]

/-- The buffers a point works on. -/
def memAt (t : Fin (cfgT (F := F)).N) : Mem where
  a3 := (spec0 0).stage ((cfgT (F := F)).slots t 0)
  a4 := (spec0 1).stage ((cfgT (F := F)).slots t 1)
  a5 := (spec0 2).stage ((cfgT (F := F)).slots t 2)
  a6 := (spec0 3).stage ((cfgT (F := F)).slots t 3)
  a7 := (spec0 4).stage ((cfgT (F := F)).slots t 4)
  a8 := (spec0 5).stage ((cfgT (F := F)).slots t 5)
  a9 := (spec0 6).stage ((cfgT (F := F)).slots t 6)
  a10 := (spec0 7).stage ((cfgT (F := F)).slots t 7)
  a11 := (spec0 8).stage ((cfgT (F := F)).slots t 8)
  a12 := (spec0 9).stage ((cfgT (F := F)).slots t 9)
  a13 := (spec0 10).stage ((cfgT (F := F)).slots t 10)
  a14 := (spec0 11).stage ((cfgT (F := F)).slots t 11)
  a15 := Memref.whole cc0_scratch0
  a16 := Memref.whole cc0_scratch1
  a17 := Memref.whole cc0_scratch2
  a18 := Memref.whole cc0_scratch3

/-- The accumulators after a point are the recursion's, whatever stood in them before the first. -/
theorem nxt_agree (V : Arr F) (c : Dev nD) (t : Fin (cfgT (F := F)).N) (S : St F) (h : agree V c t.val S)
    (hc : t.val ≠ 0 → S.cq = (stA V c t.val).cq) : nxt V c t S = stA V c (t.val + 1) := by
  rw [stA_succ]
  by_cases ht : t.val = 0
  · exact nxt_first V c t ht _ _
  · obtain ⟨h1, h2, h3, h4⟩ := h ht
    have h0 := hc ht
    have : S = stA V c t.val := by
      cases S; simp only at *; subst h0 h1 h2 h3 h4; rfl
    rw [this]

theorem Phi_eq (V : Arr F) (c : Dev nD) (t : Fin ((cfgT (F := F)).N + 1)) :
    (rdat V c).Φ t = iprop((∃ S, ⌜agree V c t.val S⌝ ∗ scrO c S) ∗ (∃ r, prngReg c r) ∗ tabO c) := rfl

/-- The contents of the seven inputs' buffers. -/
theorem ins_eq (V : Arr F) (c : Dev nD) (t : Fin (cfgT (F := F)).N)
    (Y : (w : Fin 12) → ((cfgT (F := F)).win w).block.Idx → Elt F ((cfgT (F := F)).win w).elt) (hY : ∀ w, (rdat V c).Finds w t (Y w)) :
    (⟨Y 0, Y 1, Y 2, Y 3, Y 4, Y 5, Y 6⟩ : In F) = inV V c t := by
  have h0 := finds_in V c 0 rfl (fun _ _ _ h => h) t _ (hY 0)
  have h1 := finds_in V c 1 rfl (fun _ _ _ h => h) t _ (hY 1)
  have h2 := finds_in V c 2 rfl (fun _ _ _ h => h) t _ (hY 2)
  have h3 := finds_in V c 3 rfl (fun _ _ _ h => h) t _ (hY 3)
  have h4 := finds_in V c 4 rfl (fun _ _ _ h => h) t _ (hY 4)
  have h5 := finds_in V c 5 rfl (fun _ _ _ h => h) t _ (hY 5)
  have h6 := finds_in V c 6 rfl (fun _ _ _ h => h) t _ (hY 6)
  unfold inV
  rw [← h0, ← h1, ← h2, ← h3, ← h4, ← h5, ← h6]

set_option maxHeartbeats 2000000 in
/-- The body's obligation, from what is known of the buffers. -/
theorem body_ob' (𝒱 : Variants) (V : Arr F) (c : Dev nD) (t : Fin (cfgT (F := F)).N) (I : In F) (cq : Vec F S8x8x512 .f32) (R : Out F)
    (hI : I = inV V c t) (hcq : t.val ≠ 0 → cq = (stA V c t.val).cq) (O : sProp 𝕄) :
    iprop(((∃ S, ⌜agree V c t.val S⌝ ∗ scrO c S) ∗ (∃ r, prngReg c r) ∗ tabO c) ∗ O
        ∗ inO c (memAt (F := F) t) I ∗ owns (c : Thread nD τ) (memAt (F := F) t).a13 fullShare cq ∗ outO c (memAt (F := F) t) R)
      ⊢ wp frame (wpE (defs₀ (F := F)) 𝒱 c none) Set.univ
          (defs₀ (F := F) .tc (cfgT (F := F)).body ((cfgT (F := F)).bodyArgs t ((cfgT (F := F)).slots t))) fun _ =>
          iprop(((∃ S, ⌜agree V c (t.val + 1) S⌝ ∗ scrO c S) ∗ (∃ r, prngReg c r) ∗ tabO c) ∗ O
            ∗ inO c (memAt (F := F) t) I ∗ owns (c : Thread nD τ) (memAt (F := F) t).a13 fullShare (stA V c (t.val + 1)).cq
            ∗ outO c (memAt (F := F) t) (ptR (co t) (ib (co t)) (stA V c (t.val + 1)) R)) := by
  subst hI
  iintro ⟨⟨⟨%S, %hS, Hs⟩, Hp, Ht⟩, HO, HI, Hq, HR⟩
  have hn : ptS (co t) (jb (co t)) (ib (co t)) (chk (co t)) (inV V c t) { S with cq := cq } = stA V c (t.val + 1) :=
    nxt_agree V c t { S with cq := cq } hS hcq
  have hrun := bodyP_run 𝒱 Set.univ c (co t) (Memref.isWhole_whole _) (Memref.isWhole_whole _) (memAt (F := F) t) (Gen.hstage0_0 _) (Gen.hstage0_1 _) (Gen.hstage0_2 _) (Gen.hstage0_3 _) (Gen.hstage0_4 _) (Gen.hstage0_5 _) (Gen.hstage0_6 _) (Gen.hstage0_7 _) (Gen.hstage0_8 _) (Gen.hstage0_9 _) (Gen.hstage0_10 _) (Gen.hstage0_11 _)
    (Memref.isWhole_whole _) (Memref.isWhole_whole _) (Memref.isWhole_whole _) (Memref.isWhole_whole _)
    (inV V c t) { S with cq := cq } R
  rw [hn] at hrun
  iapply (hrun _)
  iframe Ht
  iframe HI
  isplitl [Hs Hq]
  · unfold stO scrO
    icases Hs with ⟨Ha, Hb, Hc, Hd⟩
    isplitl [Hq]; · iexact Hq
    isplitl [Ha]; · iexact Ha
    isplitl [Hb]; · iexact Hb
    isplitl [Hc]; · iexact Hc
    iexact Hd
  iframe HR
  unfold stO
  iintro ⟨Ht, HI, ⟨Hq, Ha, Hb, Hc, Hd⟩, HR⟩
  isplitl [Ha Hb Hc Hd Hp Ht]
  · isplitl [Ha Hb Hc Hd]
    · iexists (stA V c (t.val + 1))
      isplitr
      · ipureintro
        exact fun _ => ⟨rfl, rfl, rfl, rfl⟩
      · unfold scrO
        isplitl [Ha]; · iexact Ha
        isplitl [Hb]; · iexact Hb
        isplitl [Hc]; · iexact Hc
        iexact Hd
    · isplitl [Hp]; · iexact Hp
      iexact Ht
  iframe HO
  iframe HI
  iframe Hq
  iexact HR

/-- What the body leaves in the keys' and queries' results. -/
theorem aft_out (V : Arr F) (c : Dev nD) (t : Fin (cfgT (F := F)).N) (R : Out F) :
    aft V c 7 t R.dq (ptR (co t) (ib (co t)) (stA V c (t.val + 1)) R).dq ∧ aft V c 8 t R.dk (ptR (co t) (ib (co t)) (stA V c (t.val + 1)) R).dk
      ∧ aft V c 9 t R.dv (ptR (co t) (ib (co t)) (stA V c (t.val + 1)) R).dv ∧ aft V c 11 t R.row (ptR (co t) (ib (co t)) (stA V c (t.val + 1)) R).row := by
  refine ⟨fun h => ?_, fun h => ?_, fun h => ?_, fun h => ?_⟩ <;> unfold ptR
  · rw [if_pos h]; rfl
  · rw [if_pos h]; by_cases h6 : k0_cond6 (co t) = 1#1
    · rw [if_pos h6]; rfl
    · rw [if_neg h6]; rfl
  · rw [if_pos h]; by_cases h6 : k0_cond6 (co t) = 1#1
    · rw [if_pos h6]; rfl
    · rw [if_neg h6]; rfl
  · rw [if_pos h]; by_cases h6 : k0_cond6 (co t) = 1#1
    · rw [if_pos h6]; rfl
    · rw [if_neg h6]; rfl

/-- The body's obligation. -/
theorem body_ob (𝒱 : Variants) (V : Arr F) (c : Dev nD) :
    (rdat V c).BodyObligation (defs₀ (F := F)) 𝒱 () Set.univ := by
  intro t Y hY
  have hb := body_ob' 𝒱 V c t ⟨Y 0, Y 1, Y 2, Y 3, Y 4, Y 5, Y 6⟩ (Y 10) ⟨Y 7, Y 8, Y 9, Y 11⟩ (ins_eq V c t Y hY)
    (fun ht => finds_cq V c t ht _ (hY 10)) ((rdat V c).owesAt () t.castSucc)
  rw [bigSep_W0]
  refine BIBase.Entails.trans ?_ (hb.trans (wp_mono _ _ _ ?_))
  · rw [Phi_eq]
    unfold inO outO
    iintro ⟨HΦ, HO, H0, H1, H2, H3, H4, H5, H6, H7, H8, H9, H10, H11⟩
    isplitl [HΦ]; · iexact HΦ
    isplitl [HO]; · iexact HO
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H10]; · iexact H10
    isplitl [H7]; · iexact H7
    isplitl [H8]; · iexact H8
    isplitl [H9]; · iexact H9
    iexact H11
  · intro _
    dsimp only
    rw [bigSep_W0, Phi_eq]
    obtain ⟨o7, o8, o9, o11⟩ := aft_out V c t ⟨Y 7, Y 8, Y 9, Y 11⟩
    unfold inO outO
    iintro ⟨HΦ, HO, ⟨H0, H1, H2, H3, H4, H5, H6⟩, H10, H7, H8, H9, H11⟩
    isplitl [HΦ]; · iexact HΦ
    isplitl [HO]; · iexact HO
    isplitl [H0]; · iexists (Y 0); isplitr; · ipureintro; rfl
                    iexact H0
    isplitl [H1]; · iexists (Y 1); isplitr; · ipureintro; rfl
                    iexact H1
    isplitl [H2]; · iexists (Y 2); isplitr; · ipureintro; rfl
                    iexact H2
    isplitl [H3]; · iexists (Y 3); isplitr; · ipureintro; rfl
                    iexact H3
    isplitl [H4]; · iexists (Y 4); isplitr; · ipureintro; rfl
                    iexact H4
    isplitl [H5]; · iexists (Y 5); isplitr; · ipureintro; rfl
                    iexact H5
    isplitl [H6]; · iexists (Y 6); isplitr; · ipureintro; rfl
                    iexact H6
    isplitl [H7]; · iexists _; isplitr; · ipureintro; exact o7
                    iexact H7
    isplitl [H8]; · iexists _; isplitr; · ipureintro; exact o8
                    iexact H8
    isplitl [H9]; · iexists _; isplitr; · ipureintro; exact o9
                    iexact H9
    isplitl [H10]; · iexists _; isplitr; · ipureintro; exact rfl
                     iexact H10
    iexists _; isplitr; · ipureintro; exact o11
    iexact H11

end Cert.KernelIdeal.Attn

end
-- ==== Proof.KI.Frame.lean ====
/-
  The run of the launch: every buffer that no window of it writes ends as the host lines left it.
-/
module

public import proofs.«01_k».proof.Proof.KI.Oblig
public import Idealize.ShloMosaic.Lib.StableHlo.RunRead

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The buffers after the host lines. -/
def hostV (m : (ℓ : Loc nD τ sig) → Buf (Elt F) ℓ) : Arr F :=
  fun c b => StableHlo.after hostOps0 (fun b => m (c, b)) b

theorem hostV_tab (m : (ℓ : Loc nD τ sig) → Buf (Elt F) ℓ) (c : Dev nD) (k : Fin 2) :
    hostV m c (pre0.ref k) = tab (F := F) k := by
  match k with
  | 0 =>
    show StableHlo.after hostOps0 (fun b => m (c, b)) main_c = _
    after_reads_simp; rfl
  | 1 =>
    show StableHlo.after hostOps0 (fun b => m (c, b)) main_c_0 = _
    after_reads_simp; rfl

theorem hostV_arg0 (m : (ℓ : Loc nD τ sig) → Buf (Elt F) ℓ) (c : Dev nD) : hostV m c main_arg0 = m (c, main_arg0) := by
  show StableHlo.after hostOps0 (fun b => m (c, b)) main_arg0 = _
  after_reads_simp
theorem hostV_arg1 (m : (ℓ : Loc nD τ sig) → Buf (Elt F) ℓ) (c : Dev nD) : hostV m c main_arg1 = m (c, main_arg1) := by
  show StableHlo.after hostOps0 (fun b => m (c, b)) main_arg1 = _
  after_reads_simp
theorem hostV_arg2 (m : (ℓ : Loc nD τ sig) → Buf (Elt F) ℓ) (c : Dev nD) : hostV m c main_arg2 = m (c, main_arg2) := by
  show StableHlo.after hostOps0 (fun b => m (c, b)) main_arg2 = _
  after_reads_simp
theorem hostV_arg3 (m : (ℓ : Loc nD τ sig) → Buf (Elt F) ℓ) (c : Dev nD) : hostV m c main_arg3 = m (c, main_arg3) := by
  show StableHlo.after hostOps0 (fun b => m (c, b)) main_arg3 = _
  after_reads_simp
theorem hostV_arg4 (m : (ℓ : Loc nD τ sig) → Buf (Elt F) ℓ) (c : Dev nD) : hostV m c main_arg4 = m (c, main_arg4) := by
  show StableHlo.after hostOps0 (fun b => m (c, b)) main_arg4 = _
  after_reads_simp

/-- The scratch and the generator register make the invariant before the first point. -/
theorem inv_in (V : Arr F) (c : Dev nD) :
    iprop(Pipeline.ΦA (cfgT (F := F)).spec c ∗ Pipeline.ΦT (pcfgs 0).pre (adm (F := F) 0).1 c) ⊢ (rdat V c).Φ 0 := by
  rw [Phi_eq, tabO_eq]
  unfold Pipeline.ΦA
  rw [show (Pipeline.scopedRest (cfgT (F := F)).spec c : sProp 𝕄) = _ from scopedRest0_eq c]
  iintro ⟨⟨⟨⟨%f0, H0⟩, ⟨%f1, H1⟩, ⟨%f2, H2⟩, ⟨%f3, H3⟩⟩, Hp⟩, Ht⟩
  isplitl [H0 H1 H2 H3]
  · iexists ⟨fun _ => Classical.arbitrary _, f0, f1, f2, f3⟩
    isplitr
    · ipureintro; exact fun h => absurd rfl h
    · unfold scrO
      simp only [owns_whole]
      isplitl [H0]; · iexact H0
      isplitl [H1]; · iexact H1
      isplitl [H2]; · iexact H2
      iexact H3
  isplitl [Hp]; · iexact Hp
  iexact Ht

/-- The invariant after the last point gives them back. -/
theorem inv_out (V : Arr F) (c : Dev nD) :
    (rdat V c).Φ (Fin.last (cfgT (F := F)).N) ⊢ Pipeline.ΦA (cfgT (F := F)).spec c := by
  rw [Phi_eq]
  unfold Pipeline.ΦA
  rw [show (Pipeline.scopedRest (cfgT (F := F)).spec c : sProp 𝕄) = _ from scopedRest0_eq c]
  unfold scrO
  simp only [owns_whole]
  iintro ⟨⟨%S, -, H0, H1, H2, H3⟩, Hp, -⟩
  isplitl [H0 H1 H2 H3]
  · isplitl [H0]; · iexists _; iexact H0
    isplitl [H1]; · iexists _; iexact H1
    isplitl [H2]; · iexists _; iexact H2
    iexists _; iexact H3
  · iexact Hp

set_option maxHeartbeats 2000000 in
/-- The whole program's run. -/
theorem run (m : (ℓ : Loc nD τ sig) → Buf (Elt F) ℓ) (g : Dev nD → PrngReg)
    (Q : PUnit × MemSt nD τ sig (Elt F) → Prop)
    (hQ : ∀ r, Pipeline.RDat.FramePost (cfgT (F := F)) (rdat (hostV m)) (hostV m) r ∧ r.2.sem = (fun _ => 0) → Q r) :
    θ_run (defs (F := F)) (onTc (τ := τ) (main (F := F))) ⟨m, fun _ => 0, g⟩ Q := by
  exact Pipeline.RDat.θ_run_frameP_track_shared (pcfgs (F := F)) adm 0 launch₀0 (defs₀ (F := F)) Variants.none (rdat (hostV m)) m g
    (main (F := F)) (fun c => body_ob _ (hostV m) c) (fun c w _ => rfl) (fun c t => rfl) (hostV m)
    (Pipeline.hmainP_prefix (pcfgs (F := F)) 0 defs₀ Variants.none m main hostOps0 hostOps0_sub (by repeat' constructor) main_chain)
    (fun c w => rfl) (fun c k => hostV_tab m c k) (fun c => inv_in _ c) (fun c => inv_out _ c) Q hQ

/-- The run leaves the arguments as they were. -/
theorem args_kept (m : (ℓ : Loc nD τ sig) → Buf (Elt F) ℓ) (r : PUnit × MemSt nD τ sig (Elt F))
    (h : Pipeline.RDat.FramePost (cfgT (F := F)) (rdat (hostV m)) (hostV m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · exact ((h c).2 main_arg0 (show main_arg0 ∈ Pipeline.restRefs sig spec0 by decide)).trans (hostV_arg0 m c)
  · exact ((h c).2 main_arg1 (show main_arg1 ∈ Pipeline.restRefs sig spec0 by decide)).trans (hostV_arg1 m c)
  · exact ((h c).2 main_arg2 (show main_arg2 ∈ Pipeline.restRefs sig spec0 by decide)).trans (hostV_arg2 m c)
  · exact ((h c).2 main_arg3 (show main_arg3 ∈ Pipeline.restRefs sig spec0 by decide)).trans (hostV_arg3 m c)
  · exact (h.arr_in c 4 rfl).trans (hostV_arg4 m c)

end Cert.KernelIdeal.Attn

end
-- ==== Proof.Val.Math.lean ====
/-
  The attention's backward pass over the real numbers: the causal softmax of the logits, its cotangent, and the sums
  that the gradients are. Nothing here knows of programs.
-/
module

public import Mathlib.Analysis.SpecialFunctions.Log.Basic
public import Mathlib.Algebra.BigOperators.Fin
public import Mathlib.Algebra.BigOperators.Field

@[expose] public section

noncomputable section

namespace Cert.Attn

open scoped BigOperators

/-- Row `a` of block `i`, of eight blocks of 512 rows. -/
def ro (i : Fin 8) (a : Fin 512) : Fin 4096 := ⟨512 * i.val + a.val, by omega⟩

/-- Column `d` of head `h`, of eight heads of 64 columns. -/
def cl (h : Fin 8) (d : Fin 64) : Fin 512 := ⟨64 * h.val + d.val, by omega⟩

/-- The head of a column. -/
def hd (x : Fin 512) : Fin 8 := ⟨x.val / 64, by omega⟩

/-- The attention's arguments as real numbers. -/
structure Args where
  q : Fin 4096 → Fin 512 → ℝ
  k : Fin 4096 → Fin 512 → ℝ
  v : Fin 4096 → Fin 512 → ℝ
  o : Fin 4096 → Fin 512 → ℝ
  c : Fin 8 → Fin 4096 → ℝ

variable (A : Args)

/-- The logit of query `i` and key `j`. -/
def X (h : Fin 8) (i j : Fin 4096) : ℝ := (∑ d : Fin 64, A.q i (cl h d) * A.k j (cl h d)) * 0.125 + A.c h i - A.c h j

/-- Its exponential, nothing where the key comes after the query. -/
def E (h : Fin 8) (i j : Fin 4096) : ℝ := if j ≤ i then Real.exp (X A h i j) else 0

/-- The sum of a row's exponentials. -/
def Z (h : Fin 8) (i : Fin 4096) : ℝ := ∑ j, E A h i j

/-- The probability of key `j` at query `i`. -/
def Pr (h : Fin 8) (i j : Fin 4096) : ℝ := E A h i j / Z A h i

/-- The probability's cotangent. -/
def DP (h : Fin 8) (i j : Fin 4096) : ℝ := ∑ d : Fin 64, A.o i (cl h d) * A.v j (cl h d)

/-- The row's mean of these. -/
def Dl (h : Fin 8) (i : Fin 4096) : ℝ := ∑ j, Pr A h i j * DP A h i j

/-- The logit's cotangent. -/
def G (h : Fin 8) (i j : Fin 4096) : ℝ := Pr A h i j * (DP A h i j - Dl A h i)

theorem E_nonneg (h : Fin 8) (i j : Fin 4096) : 0 ≤ E A h i j := by
  unfold E; split
  · exact (Real.exp_pos _).le
  · exact le_rfl

theorem Z_pos (h : Fin 8) (i : Fin 4096) : 0 < Z A h i := by
  refine Finset.sum_pos' (fun j _ => E_nonneg A h i j) ⟨i, Finset.mem_univ _, ?_⟩
  unfold E; rw [if_pos le_rfl]; exact Real.exp_pos _

theorem Pr_zero (h : Fin 8) {i j : Fin 4096} (hij : i < j) : Pr A h i j = 0 := by
  unfold Pr E; rw [if_neg (not_le.2 hij), zero_div]

theorem G_zero (h : Fin 8) {i j : Fin 4096} (hij : i < j) : G A h i j = 0 := by
  unfold G; rw [Pr_zero A h hij, zero_mul]

/-- A probability from the row's saved logarithm, the query's part of the logit left out on both sides. -/
theorem exp_saved (h : Fin 8) {i j : Fin 4096} (hij : j ≤ i) :
    Real.exp (((∑ d : Fin 64, A.k j (cl h d) * (A.q i (cl h d) * 0.125)) - A.c h j) - (Real.log (Z A h i) - A.c h i)) = Pr A h i j := by
  have e : (∑ d : Fin 64, A.k j (cl h d) * (A.q i (cl h d) * 0.125)) = (∑ d : Fin 64, A.q i (cl h d) * A.k j (cl h d)) * 0.125 := by
    rw [Finset.sum_mul]; exact Finset.sum_congr rfl fun d _ => by ring
  rw [e, show (∑ d : Fin 64, A.q i (cl h d) * A.k j (cl h d)) * 0.125 - A.c h j - (Real.log (Z A h i) - A.c h i)
    = X A h i j - Real.log (Z A h i) by unfold X; ring, Real.exp_sub, Real.exp_log (Z_pos A h i)]
  unfold Pr E; rw [if_pos hij]

/-- Exponentials shifted by a number of the row's own. -/
def Es (M : ℝ) (h : Fin 8) (i j : Fin 4096) : ℝ := if j ≤ i then Real.exp (X A h i j - M) else 0

theorem Es_eq (M : ℝ) (h : Fin 8) (i j : Fin 4096) : Es A M h i j = E A h i j * Real.exp (-M) := by
  unfold Es E; split
  · rw [← Real.exp_add]; rfl
  · rw [zero_mul]

theorem sum_Es (M : ℝ) (h : Fin 8) (i : Fin 4096) : ∑ j, Es A M h i j = Z A h i * Real.exp (-M) := by
  unfold Z; rw [Finset.sum_mul]; exact Finset.sum_congr rfl fun j _ => Es_eq A M h i j

theorem sum_Es_pos (M : ℝ) (h : Fin 8) (i : Fin 4096) : 0 < ∑ j, Es A M h i j := by
  rw [sum_Es]; exact mul_pos (Z_pos A h i) (Real.exp_pos _)

/-- The shift does not change the probabilities, -/
theorem Es_div (M : ℝ) (h : Fin 8) (i j : Fin 4096) : Es A M h i j / (∑ j, Es A M h i j) = Pr A h i j := by
  rw [sum_Es, Es_eq, mul_div_mul_right _ _ (Real.exp_pos _).ne']; rfl

/-- and the shift plus the logarithm of the shifted sum is the logarithm of the sum. -/
theorem shift_log (M : ℝ) (h : Fin 8) (i : Fin 4096) : M + Real.log (∑ j, Es A M h i j) = Real.log (Z A h i) := by
  rw [sum_Es, Real.log_mul (Z_pos A h i).ne' (Real.exp_pos _).ne', Real.log_exp]; ring

/-- The row's mean of the cotangents is the output's product with its cotangent. -/
theorem delta_eq (h : Fin 8) (i : Fin 4096) :
    ∑ d : Fin 64, A.o i (cl h d) * ∑ j, Pr A h i j * A.v j (cl h d) = Dl A h i := by
  unfold Dl DP
  simp only [Finset.mul_sum]
  rw [Finset.sum_comm]
  exact Finset.sum_congr rfl fun j _ => Finset.sum_congr rfl fun d _ => by ring

/-- The quotient's cotangent, the shifted exponentials divided afterwards. -/
theorem quot_eq (M : ℝ) (h : Fin 8) (i j : Fin 4096) :
    (DP A h i j / (∑ j, Es A M h i j) + -∑ l, DP A h i l * (1 / ((∑ j, Es A M h i j) * ∑ j, Es A M h i j)) * Es A M h i l) * Es A M h i j
      = G A h i j := by
  have hL := (sum_Es_pos A M h i).ne'
  have e : ∑ l, DP A h i l * (1 / ((∑ j, Es A M h i j) * ∑ j, Es A M h i j)) * Es A M h i l = Dl A h i / ∑ j, Es A M h i j := by
    unfold Dl; rw [Finset.sum_div]
    refine Finset.sum_congr rfl fun l _ => ?_
    rw [← Es_div A M h i l]; field_simp
  rw [e]; unfold G; rw [← Es_div A M h i j]; field_simp; ring

/-- A sum over the rows is a sum over the blocks of the sums over their rows. -/
theorem sum_rows {β : Type} [AddCommMonoid β] (f : Fin 4096 → β) : ∑ x, f x = ∑ i : Fin 8, ∑ a : Fin 512, f (ro i a) := by
  rw [← Fintype.sum_prod_type']
  refine (Fintype.sum_equiv (finProdFinEquiv (m := 8) (n := 512)) _ _ fun p => ?_).symm
  refine congrArg f (Fin.ext ?_)
  show 512 * p.1.val + p.2.val = p.2.val + 512 * p.1.val
  omega

/-- The key block of point `t`, -/
def jN (t : ℕ) : Fin 8 :=
  if t < 8 then 0 else if t < 15 then 1 else if t < 21 then 2 else if t < 26 then 3 else if t < 30 then 4 else if t < 33 then 5
    else if t < 35 then 6 else 7

/-- and its query block. -/
def iN (t : ℕ) : Fin 8 :=
  ⟨(if t < 8 then t else if t < 15 then t - 7 else if t < 21 then t - 13 else if t < 26 then t - 18 else if t < 30 then t - 22
    else if t < 33 then t - 25 else if t < 35 then t - 27 else 7) % 8, by omega⟩

/-- The last point of key block `j`. -/
def tN : Fin 8 → ℕ := ![7, 14, 20, 25, 29, 32, 34, 35]

/-- Over the whole walk, query block `i` meets each key block not after it once. -/
theorem walk_i (i : Fin 8) (f : Fin 8 → ℝ) (hf : ∀ j, i < j → f j = 0) :
    ∑ s ∈ Finset.range 36, (if iN s = i then f (jN s) else 0) = ∑ j, f j := by
  have h : ∀ s ∈ Finset.range 36, (if iN s = i then f (jN s) else 0) = ∑ j, if iN s = i ∧ jN s = j then f j else 0 := by
    intro s _
    by_cases hs : iN s = i
    · simp [hs]
    · simp [hs]
  rw [Finset.sum_congr rfl h, Finset.sum_comm]
  refine Finset.sum_congr rfl fun j _ => ?_
  rw [← Finset.sum_filter, Finset.sum_const]
  by_cases hij : i < j
  · rw [hf j hij, smul_zero]
  · have : ∀ i j : Fin 8, ¬ i < j → ((Finset.range 36).filter fun s => iN s = i ∧ jN s = j).card = 1 := by decide +kernel
    rw [this i j hij, one_smul]

/-- Up to a key block's last point, the key block meets each query block not before it once. -/
theorem walk_j (j : Fin 8) (f : Fin 8 → ℝ) (hf : ∀ i, i < j → f i = 0) :
    ∑ s ∈ Finset.range (tN j + 1), (if jN s = j then f (iN s) else 0) = ∑ i, f i := by
  have h : ∀ s ∈ Finset.range (tN j + 1), (if jN s = j then f (iN s) else 0) = ∑ i, if jN s = j ∧ iN s = i then f i else 0 := by
    intro s _
    by_cases hs : jN s = j
    · simp [hs]
    · simp [hs]
  rw [Finset.sum_congr rfl h, Finset.sum_comm]
  refine Finset.sum_congr rfl fun i _ => ?_
  rw [← Finset.sum_filter, Finset.sum_const]
  by_cases hij : i < j
  · rw [hf i hij, smul_zero]
  · have : ∀ i j : Fin 8, ¬ i < j → ((Finset.range (tN j + 1)).filter fun s => jN s = j ∧ iN s = i).card = 1 := by decide +kernel
    rw [this i j hij, one_smul]

end Cert.Attn

end
-- ==== Proof.Val.Tile.lean ====
/-
  One tile of the walk: what the probabilities and the logits' cotangent are when the blocks hold real arguments.
-/
module

public import proofs.«01_k».proof.Proof.KI.Run
public import proofs.«01_k».proof.Proof.Val.Math
public import Idealize.ShloMosaic.Lib.Pointwise
public import Idealize.ShloMosaic.Lib.IdealHost

@[expose] public section

noncomputable section

namespace Cert.KernelIdeal.Attn

open Cert.KernelIdeal Cert.KernelIdeal.Gen
open Idealize.ShloMosaic
open scoped BigOperators

/-- The reals' sums are the extended reals'. -/
theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

/-- Lane `l` of pair `hp` as a column. -/
def ln (hp : Fin 4) (l : Fin 128) : Fin 512 := ⟨128 * hp.val + l.val, by omega⟩

/-- The blocks of a point are the arguments' blocks: query block `i`, key block `j`. -/
structure Holds (A : Cert.Attn.Args) (i j : Fin 8) (I : In Ideal) : Prop where
  q : ∀ (a : Fin 512) (x : Fin 512), I.q (ix2 a x) = ((A.q (Cert.Attn.ro i a) x * 0.125 : ℝ) : EReal)
  k : ∀ (a : Fin 512) (x : Fin 512), I.k (ix2 a x) = ((A.k (Cert.Attn.ro j a) x : ℝ) : EReal)
  v : ∀ (a : Fin 512) (x : Fin 512), I.v (ix2 a x) = ((A.v (Cert.Attn.ro j a) x : ℝ) : EReal)
  ck : ∀ (h : Fin 8) (a : Fin 512) (l : Fin 128), I.ck (ix3 h a l) = ((A.c h (Cert.Attn.ro j a) : ℝ) : EReal)
  o : ∀ (a : Fin 512) (x : Fin 512), I.o (ix2 a x) = ((A.o (Cert.Attn.ro i a) x : ℝ) : EReal)
  lse : ∀ (h : Fin 8) (a : Fin 512), I.lse (ix2 h a)
    = ((Real.log (Cert.Attn.Z A h (Cert.Attn.ro i a)) - A.c h (Cert.Attn.ro i a) : ℝ) : EReal)
  del : ∀ (h : Fin 8) (a : Fin 512), I.del (ix2 h a) = ((Cert.Attn.Dl A h (Cert.Attn.ro i a) : ℝ) : EReal)

theorem colB_at (hp : Fin 4) (X : Vec Ideal S512x512 .bf16) (a : Fin 512) (l : Fin 128) : colB hp X (ix2 a l) = X (ix2 a (ln hp l)) := by
  unfold colB colR
  pointwise
  rfl

theorem colO_at (hp : Fin 4) (X : Vec Ideal S512x512 .f32) (a : Fin 512) (l : Fin 128) : colO hp X (ix2 a l) = X (ix2 a (ln hp l)) := by
  unfold colO colR
  pointwise
  rfl

theorem lo_at (a : Fin 512) (l : Fin 128) : loV (ix2 a l) = if l.val < 64 then 1#1 else 0#1 := by
  unfold loV
  pointwise
  revert l; decide +kernel

theorem sel_at (hh : Fin 2) (a : Fin 512) (l : Fin 128) : selV hh (ix2 a l) = if l.val / 64 = hh.val then 1#1 else 0#1 := by
  fin_cases hh
  · show loV (ix2 a l) = if l.val / 64 = 0 then 1#1 else 0#1
    rw [lo_at]; revert l; decide +kernel
  · show xori loV (constantI S512x128 1 1#1) (ix2 a l) = if l.val / 64 = 1 then 1#1 else 0#1
    pointwise
    rw [lo_at]; revert l; decide +kernel

/-- A sum over the lanes with the other head's lanes zeroed is a sum over the head's columns. -/
theorem sum_sel (hh : Fin 2) (a : Fin 512) (f : Fin 128 → ℝ) :
    ∑ x, Scalar.select (selV hh (ix2 a x)) ((f x : ℝ) : EReal) 0 = ((∑ d : Fin 64, f ⟨64 * hh.val + d.val, by omega⟩ : ℝ) : EReal) := by
  have e : ∀ x, Scalar.select (selV hh (ix2 a x)) ((f x : ℝ) : EReal) 0 = ((if x.val / 64 = hh.val then f x else 0 : ℝ) : EReal) := by
    intro x; rw [sel_at]
    split
    · rfl
    · rfl
  rw [Finset.sum_congr rfl fun x _ => e x, ← coe_sum]
  refine congrArg _ ?_
  rw [← Finset.sum_filter]
  refine (Finset.sum_bij (fun (d : Fin 64) _ => (⟨64 * hh.val + d.val, by omega⟩ : Fin 128)) ?_ ?_ ?_ ?_).symm
  · intro d _; simp only [Finset.mem_filter, Finset.mem_univ, true_and]; omega
  · intro d _ d' _ h; have := congrArg Fin.val h; exact Fin.ext (by simpa using this)
  · intro x hx
    have hx' : x.val / 64 = hh.val := (Finset.mem_filter.1 hx).2
    exact ⟨⟨x.val - 64 * hh.val, by omega⟩, Finset.mem_univ _, Fin.ext (by show 64 * hh.val + (x.val - 64 * hh.val) = x.val; omega)⟩
  · intro d _; rfl

theorem ln_head (hp : Fin 4) (hh : Fin 2) (d : Fin 64) :
    ln hp ⟨64 * hh.val + d.val, by omega⟩ = Cert.Attn.cl (headOf hp hh) d := by
  refine Fin.ext ?_
  show 128 * hp.val + (64 * hh.val + d.val) = 64 * (2 * hp.val + hh.val) + d.val
  omega

/-- The logits without the query's part, of real keys and queries. -/
theorem sV_at (hp : Fin 4) (hh : Fin 2) (kp qp : FVec Ideal S512x128 .bf16) (ck : Vec Ideal S1x512x128 .f32) (kr qr : Fin 512 → Fin 512 → ℝ)
    (cr : Fin 512 → ℝ) (hk : ∀ a l, kp (ix2 a l) = ((kr a (ln hp l) : ℝ) : EReal)) (hq : ∀ a l, qp (ix2 a l) = ((qr a (ln hp l) : ℝ) : EReal))
    (hc : ∀ a l, ck (ix3 0 a l) = ((cr a : ℝ) : EReal)) (a b : Fin 512) :
    sV hh kp qp ck (ix2 a b)
      = (((∑ d : Fin 64, kr a (Cert.Attn.cl (headOf hp hh) d) * qr b (Cert.Attn.cl (headOf hp hh) d)) - cr a : ℝ) : EReal) := by
  unfold sV
  pointwise
  simp only [hk, hq, hc, dite_eq_ite, ite_self, ← EReal.coe_mul]
  rw [sum_sel hh a fun x => kr a (ln hp x) * qr b (ln hp x), ← EReal.coe_sub]
  simp only [ln_head]

theorem row_at (r : Vec Ideal S1x512 .f32) (a b : Fin 512) : rowV r (ix2 a b) = r (ix2 0 b) := by
  unfold rowV
  pointwise

theorem keep_at (a b : Fin 512) : keepV (ix2 a b) = if a ≤ b then 1#1 else 0#1 := by
  unfold keepV
  pointwise
  have h : ∀ n : Fin 512, (BitVec.ofNat 32 n.val).toInt = (n.val : Int) := by decide +kernel
  show BitVec.ofBool (BitVec.sle _ _) = _
  rw [BitVec.sle_eq_decide, h, h]
  by_cases hab : a ≤ b
  · rw [if_pos hab, decide_eq_true (by exact_mod_cast hab)]; rfl
  · rw [if_neg hab, decide_eq_false (by exact_mod_cast hab)]; rfl

theorem neg_eq : (negM : Ideal .f32) = (⊥ : EReal) := IdealRules.named_const.ideal_named_scalar _ _ _ _ rfl

/-- A head's slab, and a head's row, as a load brings them. -/
theorem slab_at (h : Fin 8) (X : Vec Ideal S8x512x128 .f32) (a : Fin 512) (l : Fin 128) :
    (View.ld X (slabR h) : Vec Ideal S1x512x128 .f32) (ix3 0 a l) = X (ix3 h a l) := by
  unfold slabR
  pointwise

theorem rowL_at (h : Fin 8) (X : Vec Ideal S8x512 .f32) (b : Fin 512) :
    (View.ld X (rowR h) : Vec Ideal S1x512 .f32) (ix2 0 b) = X (ix2 h b) := by
  unfold rowR
  pointwise

variable {A : Cert.Attn.Args} {i j : Fin 8} {I : In Ideal}

/-- The mask is asked for on the diagonal, and only there. -/
def Asked (msk : Bool) (i j : Fin 8) : Prop := (msk = true ∧ i = j) ∨ (msk = false ∧ j < i)

/-- The probabilities of a tile. -/
theorem ptI_at (H : Holds A i j I) (msk : Bool) (hm : Asked msk i j) (hp : Fin 4) (hh : Fin 2) (a b : Fin 512) :
    ptI msk hp hh I (ix2 a b) = ((Cert.Attn.Pr A (headOf hp hh) (Cert.Attn.ro i b) (Cert.Attn.ro j a) : ℝ) : EReal) := by
  have hs := sV_at hp hh (colB hp I.k) (colB hp I.q) (View.ld I.ck (slabR (headOf hp hh))) (fun a x => A.k (Cert.Attn.ro j a) x)
    (fun a x => A.q (Cert.Attn.ro i a) x * 0.125) (fun a => A.c (headOf hp hh) (Cert.Attn.ro j a))
    (fun a l => by rw [colB_at, H.k]) (fun a l => by rw [colB_at, H.q])
    (fun a l => (slab_at _ _ a l).trans (H.ck _ a l)) a b
  have hl := (row_at (View.ld I.lse (rowR (headOf hp hh))) a b).trans ((rowL_at _ _ b).trans (H.lse _ b))
  have he : ptI msk hp hh I (ix2 a b) = Ideal.exp (stV msk hh (colB hp I.k) (colB hp I.q) (View.ld I.ck (slabR (headOf hp hh))) (ix2 a b)
      - rowV (View.ld I.lse (rowR (headOf hp hh))) (ix2 a b)) := rfl
  have hle : ∀ hij : Cert.Attn.ro j a ≤ Cert.Attn.ro i b,
      Ideal.exp (sV hh (colB hp I.k) (colB hp I.q) (View.ld I.ck (slabR (headOf hp hh))) (ix2 a b)
        - rowV (View.ld I.lse (rowR (headOf hp hh))) (ix2 a b))
      = ((Cert.Attn.Pr A (headOf hp hh) (Cert.Attn.ro i b) (Cert.Attn.ro j a) : ℝ) : EReal) := by
    intro hij
    rw [hs]
    erw [hl]
    rw [← EReal.coe_sub, Ideal.exp_coe, Cert.Attn.exp_saved A _ hij]
  rw [he]
  rcases hm with ⟨rfl, rfl⟩ | ⟨rfl, hji⟩
  · have e2 : stV true hh (colB hp I.k) (colB hp I.q) (View.ld I.ck (slabR (headOf hp hh))) (ix2 a b)
        = Scalar.select (keepV (ix2 a b)) (sV hh (colB hp I.k) (colB hp I.q) (View.ld I.ck (slabR (headOf hp hh))) (ix2 a b)) (negM : Ideal .f32) := rfl
    rw [e2, keep_at, neg_eq]
    by_cases hab : a ≤ b
    · rw [if_pos hab]
      exact hle (by have : a.val ≤ b.val := hab; show 512 * i.val + a.val ≤ 512 * i.val + b.val; omega)
    · rw [if_neg hab, Cert.Attn.Pr_zero A _ (by
        have : b.val < a.val := not_le.1 hab
        show 512 * i.val + b.val < 512 * i.val + a.val; omega)]
      erw [hl]
      rfl
  · exact hle (by have : j.val < i.val := hji; show 512 * j.val + a.val ≤ 512 * i.val + b.val; omega)

/-- The cotangent of the logits of a tile. -/
theorem dstI_at (H : Holds A i j I) (msk : Bool) (hm : Asked msk i j) (hp : Fin 4) (hh : Fin 2) (a b : Fin 512) :
    dstI msk hp hh I (ix2 a b) = ((Cert.Attn.G A (headOf hp hh) (Cert.Attn.ro i b) (Cert.Attn.ro j a) : ℝ) : EReal) := by
  have hl := (row_at (View.ld I.del (rowR (headOf hp hh))) a b).trans ((rowL_at _ _ b).trans (H.del _ b))
  have hd : matmul dot_S512x128_S512x128_S512x512_1_1_0_0_n_n none
      (select (selV hh) (colB hp I.v) (broadcast S512x128 (Scalar.ofBits .bf16 0x0000#16))) (colO hp I.o) (constant S512x512 .f32 0x00000000#32) (ix2 a b)
      = ((Cert.Attn.DP A (headOf hp hh) (Cert.Attn.ro i b) (Cert.Attn.ro j a) : ℝ) : EReal) := by
    pointwise
    simp only [colB_at, colO_at, H.v, H.o, ← EReal.coe_mul]
    rw [sum_sel hh a fun x => A.v (Cert.Attn.ro j a) (ln hp x) * A.o (Cert.Attn.ro i b) (ln hp x)]
    simp only [ln_head]
    unfold Cert.Attn.DP
    exact congrArg _ (Finset.sum_congr rfl fun d _ => mul_comm _ _)
  have he : dstI msk hp hh I (ix2 a b) = ptI msk hp hh I (ix2 a b) * (matmul dot_S512x128_S512x128_S512x512_1_1_0_0_n_n none
      (select (selV hh) (colB hp I.v) (broadcast S512x128 (Scalar.ofBits .bf16 0x0000#16))) (colO hp I.o) (constant S512x512 .f32 0x00000000#32) (ix2 a b)
      - rowV (View.ld I.del (rowR (headOf hp hh))) (ix2 a b)) := rfl
  rw [he, hd, ptI_at H msk hm]
  erw [hl]
  rw [← EReal.coe_sub, ← EReal.coe_mul]
  rfl

end Cert.KernelIdeal.Attn

end
-- ==== Proof.Val.StepVal.lean ====
/-
  What one step adds to each accumulator when the blocks hold real arguments: the products of the tile's probabilities
  and cotangents with the arguments' rows, and the tile's row and column sums.
-/
module

public import proofs.«01_k».proof.Proof.Val.Tile

@[expose] public section

noncomputable section

namespace Cert.KernelIdeal.Attn

open Cert.KernelIdeal Cert.KernelIdeal.Gen
open Idealize.ShloMosaic
open scoped BigOperators

/-- The pair of a column, and its lane. -/
def pr (x : Fin 512) : Fin 4 := ⟨x.val / 128, by omega⟩
def la (x : Fin 512) : Fin 128 := ⟨x.val % 128, by omega⟩

theorem ln_la (x : Fin 512) : ln (pr x) (la x) = x := Fin.ext (by show 128 * (x.val / 128) + x.val % 128 = x.val; omega)

/-- A block of 128 columns put into a 512 by 512 array, at an index. -/
theorem put2_at (X : Vec Ideal S512x512 .f32) (hp : Fin 4) (w : Vec Ideal S512x128 .f32) (a x : Fin 512) :
    VecWindow.put X ![0, 128 * hp.val] S512x128.size w (ix2 a x) = if pr x = hp then w (ix2 a (la x)) else X (ix2 a x) := by
  unfold VecWindow.put
  by_cases h : pr x = hp
  · subst h
    have h' : ∀ b, (![0, 128 * (pr x).val] : Fin 2 → ℕ) b ≤ ((ix2 a x : S512x512.Idx) b).val
        ∧ ((ix2 a x : S512x512.Idx) b).val < (![0, 128 * (pr x).val] : Fin 2 → ℕ) b + S512x128.size b := by
      intro b; fin_cases b
      · exact ⟨Nat.zero_le _, by show a.val < 0 + 512; omega⟩
      · show 128 * (x.val / 128) ≤ x.val ∧ x.val < 128 * (x.val / 128) + 128; omega
    rw [if_pos rfl, dif_pos h']
    refine congrArg w (funext fun b => ?_)
    fin_cases b
    · exact Fin.ext (by show a.val - 0 = a.val; omega)
    · exact Fin.ext (by show x.val - 128 * (x.val / 128) = x.val % 128; omega)
  · rw [if_neg h, dif_neg]
    intro h'
    have := h' 1
    have h1 : 128 * hp.val ≤ x.val ∧ x.val < 128 * hp.val + 128 := this
    exact h (Fin.ext (by show x.val / 128 = hp.val; omega))

/-- The same in block `n` of an array of eight such. -/
theorem put3_at (X : Vec Ideal S8x512x512 .f32) (n : Fin 8) (hp : Fin 4) (w : Vec Ideal S1x512x128 .f32) (m : Fin 8) (a x : Fin 512) :
    VecWindow.put X ![n.val, 0, 128 * hp.val] S1x512x128.size w (ix3 m a x)
      = if m = n ∧ pr x = hp then w (ix3 0 a (la x)) else X (ix3 m a x) := by
  unfold VecWindow.put
  by_cases h : m = n ∧ pr x = hp
  · obtain ⟨rfl, rfl⟩ := h
    have h' : ∀ b, (![m.val, 0, 128 * (pr x).val] : Fin 3 → ℕ) b ≤ ((ix3 m a x : S8x512x512.Idx) b).val
        ∧ ((ix3 m a x : S8x512x512.Idx) b).val < (![m.val, 0, 128 * (pr x).val] : Fin 3 → ℕ) b + S1x512x128.size b := by
      intro b; fin_cases b
      · show m.val ≤ m.val ∧ m.val < m.val + 1; omega
      · exact ⟨Nat.zero_le _, by show a.val < 0 + 512; omega⟩
      · show 128 * (x.val / 128) ≤ x.val ∧ x.val < 128 * (x.val / 128) + 128; omega
    rw [if_pos ⟨rfl, rfl⟩, dif_pos h']
    refine congrArg w (funext fun b => ?_)
    fin_cases b
    · exact Fin.ext (by show m.val - m.val = 0; omega)
    · exact Fin.ext (by show a.val - 0 = a.val; omega)
    · exact Fin.ext (by show x.val - 128 * (x.val / 128) = x.val % 128; omega)
  · rw [if_neg h, dif_neg]
    intro h'
    have h0 : n.val ≤ m.val ∧ m.val < n.val + 1 := h' 0
    have h1 : 128 * hp.val ≤ x.val ∧ x.val < 128 * hp.val + 128 := h' 2
    exact h ⟨Fin.ext (by omega), Fin.ext (by show x.val / 128 = hp.val; omega)⟩

/-- A slab put into an array of eight. -/
theorem putS_at (X : Vec Ideal S8x512x128 .f32) (g : Fin 8) (w : Vec Ideal S1x512x128 .f32) (h : Fin 8) (a : Fin 512) (l : Fin 128) :
    VecWindow.put X ![g.val, 0, 0] S1x512x128.size w (ix3 h a l) = if h = g then w (ix3 0 a l) else X (ix3 h a l) := by
  unfold VecWindow.put
  by_cases hg : h = g
  · subst hg
    have h' : ∀ b, (![h.val, 0, 0] : Fin 3 → ℕ) b ≤ ((ix3 h a l : S8x512x128.Idx) b).val
        ∧ ((ix3 h a l : S8x512x128.Idx) b).val < (![h.val, 0, 0] : Fin 3 → ℕ) b + S1x512x128.size b := by
      intro b; fin_cases b
      · show h.val ≤ h.val ∧ h.val < h.val + 1; omega
      · exact ⟨Nat.zero_le _, by show a.val < 0 + 512; omega⟩
      · exact ⟨Nat.zero_le _, by show l.val < 0 + 128; omega⟩
    rw [if_pos rfl, dif_pos h']
    refine congrArg w (funext fun b => ?_)
    fin_cases b
    · exact Fin.ext (by show h.val - h.val = 0; omega)
    · exact Fin.ext (by show a.val - 0 = a.val; omega)
    · exact Fin.ext (by show l.val - 0 = l.val; omega)
  · rw [if_neg hg, dif_neg]
    intro h'
    have h0 : g.val ≤ h.val ∧ h.val < g.val + 1 := h' 0
    exact hg (Fin.ext (by omega))

/-- A row put into an eight by eight array of rows. -/
theorem putC_at (X : Vec Ideal S8x8x512 .f32) (n g : Fin 8) (w : Vec Ideal S1x1x512 .f32) (m h : Fin 8) (b : Fin 512) :
    VecWindow.put X ![n.val, g.val, 0] S1x1x512.size w (ix3 m h b) = if m = n ∧ h = g then w (ix3 0 0 b) else X (ix3 m h b) := by
  unfold VecWindow.put
  by_cases hg : m = n ∧ h = g
  · obtain ⟨rfl, rfl⟩ := hg
    have h' : ∀ d, (![m.val, h.val, 0] : Fin 3 → ℕ) d ≤ ((ix3 m h b : S8x8x512.Idx) d).val
        ∧ ((ix3 m h b : S8x8x512.Idx) d).val < (![m.val, h.val, 0] : Fin 3 → ℕ) d + S1x1x512.size d := by
      intro d; fin_cases d
      · show m.val ≤ m.val ∧ m.val < m.val + 1; omega
      · show h.val ≤ h.val ∧ h.val < h.val + 1; omega
      · exact ⟨Nat.zero_le _, by show b.val < 0 + 512; omega⟩
    rw [if_pos ⟨rfl, rfl⟩, dif_pos h']
    refine congrArg w (funext fun d => ?_)
    fin_cases d
    · exact Fin.ext (by show m.val - m.val = 0; omega)
    · exact Fin.ext (by show h.val - h.val = 0; omega)
    · exact Fin.ext (by show b.val - 0 = b.val; omega)
  · rw [if_neg hg, dif_neg]
    intro h'
    have h0 : n.val ≤ m.val ∧ m.val < n.val + 1 := h' 0
    have h1 : g.val ≤ h.val ∧ h.val < g.val + 1 := h' 1
    exact hg ⟨Fin.ext (by omega), Fin.ext (by omega)⟩

/-- The head of a column, by its pair and its place in the pair. -/
theorem hd_pr (x : Fin 512) (hh : Fin 2) (h : (la x).val / 64 = hh.val) : Cert.Attn.hd x = headOf (pr x) hh := by
  refine Fin.ext ?_
  have h' : x.val % 128 / 64 = hh.val := h
  show x.val / 64 = 2 * (x.val / 128) + hh.val
  omega

/-- A pair's two outputs, each on its own lanes: if each is `f` of its head, the whole is `f` of the column's head. -/
theorem sel_head (f : Fin 8 → EReal) (a x : Fin 512) (u v : EReal) (hu : u = f (headOf (pr x) 0)) (hv : v = f (headOf (pr x) 1)) :
    Scalar.select (loV (ix2 a (la x))) u v = f (Cert.Attn.hd x) := by
  rw [lo_at]
  by_cases h : (la x).val < 64
  · rw [if_pos h, hd_pr x 0 (by show (la x).val / 64 = 0; omega)]; exact hu
  · rw [if_neg h, hd_pr x 1 (by show (la x).val / 64 = 1; have := (la x).isLt; omega)]; exact hv

variable {A : Cert.Attn.Args} {i j : Fin 8} {I : In Ideal}

/-- What a tile gives the values' gradient, the keys', the queries' and the two sums'. -/
def gV (A : Cert.Attn.Args) (i j : Fin 8) (a x : Fin 512) : ℝ :=
  ∑ b : Fin 512, Cert.Attn.Pr A (Cert.Attn.hd x) (Cert.Attn.ro i b) (Cert.Attn.ro j a) * A.o (Cert.Attn.ro i b) x
def gK (A : Cert.Attn.Args) (i j : Fin 8) (a x : Fin 512) : ℝ :=
  ∑ b : Fin 512, Cert.Attn.G A (Cert.Attn.hd x) (Cert.Attn.ro i b) (Cert.Attn.ro j a) * (A.q (Cert.Attn.ro i b) x * 0.125)
def gQ (A : Cert.Attn.Args) (i j : Fin 8) (b x : Fin 512) : ℝ :=
  ∑ a : Fin 512, Cert.Attn.G A (Cert.Attn.hd x) (Cert.Attn.ro i b) (Cert.Attn.ro j a) * A.k (Cert.Attn.ro j a) x
def gCk (A : Cert.Attn.Args) (i j : Fin 8) (h : Fin 8) (a : Fin 512) : ℝ :=
  -∑ b : Fin 512, Cert.Attn.G A h (Cert.Attn.ro i b) (Cert.Attn.ro j a)
def gCq (A : Cert.Attn.Args) (i j : Fin 8) (h : Fin 8) (b : Fin 512) : ℝ :=
  ∑ a : Fin 512, Cert.Attn.G A h (Cert.Attn.ro i b) (Cert.Attn.ro j a)

theorem dvS_at (H : Holds A i j I) (msk : Bool) (hm : Asked msk i j) (hp : Fin 4) (X : Vec Ideal S512x512 .f32) (a x : Fin 512) :
    dvS msk hp I X (ix2 a x) = if pr x = hp then X (ix2 a x) + ((gV A i j a x : ℝ) : EReal) else X (ix2 a x) := by
  unfold dvS
  refine (put2_at _ _ _ _ _).trans ?_
  by_cases h : pr x = hp
  · subst h
    rw [if_pos rfl, if_pos rfl]
    have e : ∀ hh, dvV (ptI msk (pr x) hh I) (colO (pr x) I.o) (ix2 a (la x))
        = ((∑ b : Fin 512, Cert.Attn.Pr A (headOf (pr x) hh) (Cert.Attn.ro i b) (Cert.Attn.ro j a) * A.o (Cert.Attn.ro i b) x : ℝ) : EReal) := by
      intro hh
      unfold dvV
      pointwise
      simp only [ptI_at H msk hm, colO_at, H.o, ln_la, ← EReal.coe_mul]
      rw [coe_sum]
    unfold accV colR
    pointwise
    rw [sel_head (fun h => ((∑ b : Fin 512, Cert.Attn.Pr A h (Cert.Attn.ro i b) (Cert.Attn.ro j a) * A.o (Cert.Attn.ro i b) x : ℝ) : EReal))
      a x _ _ (e 0) (e 1)]
    exact congrArg (fun y => X (ix2 a y) + _) (ln_la x)
  · rw [if_neg h, if_neg h]

theorem dkS_at (H : Holds A i j I) (msk : Bool) (hm : Asked msk i j) (hp : Fin 4) (X : Vec Ideal S512x512 .f32) (a x : Fin 512) :
    dkS msk hp I X (ix2 a x) = if pr x = hp then X (ix2 a x) + ((gK A i j a x : ℝ) : EReal) else X (ix2 a x) := by
  unfold dkS
  refine (put2_at _ _ _ _ _).trans ?_
  by_cases h : pr x = hp
  · subst h
    rw [if_pos rfl, if_pos rfl]
    have e : ∀ hh, dkV (dstI msk (pr x) hh I) (colB (pr x) I.q) (ix2 a (la x))
        = ((∑ b : Fin 512, Cert.Attn.G A (headOf (pr x) hh) (Cert.Attn.ro i b) (Cert.Attn.ro j a) * (A.q (Cert.Attn.ro i b) x * 0.125) : ℝ) : EReal) := by
      intro hh
      unfold dkV
      pointwise
      simp only [dstI_at H msk hm, colB_at, H.q, ln_la, ← EReal.coe_mul]
      rw [coe_sum]
    unfold accV colR
    pointwise
    rw [sel_head (fun h => ((∑ b : Fin 512, Cert.Attn.G A h (Cert.Attn.ro i b) (Cert.Attn.ro j a) * (A.q (Cert.Attn.ro i b) x * 0.125) : ℝ) : EReal))
      a x _ _ (e 0) (e 1)]
    exact congrArg (fun y => X (ix2 a y) + _) (ln_la x)
  · rw [if_neg h, if_neg h]

theorem dqS_at (H : Holds A i j I) (msk : Bool) (hm : Asked msk i j) (hp : Fin 4) (n : ℕ) (hn : n < 8) (X : Vec Ideal S8x512x512 .f32)
    (m : Fin 8) (b x : Fin 512) :
    dqS msk hp n hn I X (ix3 m b x) = if pr x = hp then X (ix3 m b x) + (((if n = m.val then gQ A i j b x else 0) : ℝ) : EReal) else X (ix3 m b x) := by
  unfold dqS
  refine (put3_at X ⟨n, hn⟩ hp _ m b x).trans ?_
  by_cases h : pr x = hp
  · subst h
    rw [if_pos rfl]
    by_cases hmn : n = m.val
    · subst hmn
      rw [if_pos ⟨rfl, rfl⟩, if_pos rfl]
      have e : ∀ hh, dqV (dstI msk (pr x) hh I) (colB (pr x) I.k) (ix2 b (la x))
          = ((∑ a : Fin 512, Cert.Attn.G A (headOf (pr x) hh) (Cert.Attn.ro i b) (Cert.Attn.ro j a) * A.k (Cert.Attn.ro j a) x : ℝ) : EReal) := by
        intro hh
        unfold dqV
        pointwise
        simp only [dstI_at H msk hm, colB_at, H.k, ln_la, ← EReal.coe_mul]
        rw [coe_sum]
      unfold acc3V slabColR
      pointwise
      rw [sel_head (fun h => ((∑ a : Fin 512, Cert.Attn.G A h (Cert.Attn.ro i b) (Cert.Attn.ro j a) * A.k (Cert.Attn.ro j a) x : ℝ) : EReal))
        b x _ _ (e 0) (e 1)]
      exact congrArg (fun y => X (ix3 m b y) + _) (ln_la x)
    · rw [if_neg (fun hh => hmn (congrArg Fin.val hh.1).symm), if_neg hmn, EReal.coe_zero, add_zero]
  · rw [if_neg (fun hh => h hh.2), if_neg h]

theorem ckS_at (H : Holds A i j I) (msk : Bool) (hm : Asked msk i j) (hp : Fin 4) (hh : Fin 2) (X : Vec Ideal S8x512x128 .f32)
    (h : Fin 8) (a : Fin 512) (l : Fin 128) :
    ckS msk hp hh I X (ix3 h a l) = if h = headOf hp hh then X (ix3 h a l) + ((gCk A i j h a : ℝ) : EReal) else X (ix3 h a l) := by
  unfold ckS
  refine (putS_at X _ _ h a l).trans ?_
  by_cases hg : h = headOf hp hh
  · subst hg
    rw [if_pos rfl, if_pos rfl]
    unfold dckV slabR
    pointwise
    simp only [dstI_at H msk hm]
    rw [← coe_sum, sub_eq_add_neg, ← EReal.coe_neg]
    rfl
  · rw [if_neg hg, if_neg hg]

theorem cqS_at (H : Holds A i j I) (msk : Bool) (hm : Asked msk i j) (hp : Fin 4) (hh : Fin 2) (n : ℕ) (hn : n < 8) (X : Vec Ideal S8x8x512 .f32)
    (m h : Fin 8) (b : Fin 512) :
    cqS msk hp hh n hn I X (ix3 m h b)
      = if h = headOf hp hh then X (ix3 m h b) + (((if n = m.val then gCq A i j h b else 0) : ℝ) : EReal) else X (ix3 m h b) := by
  unfold cqS
  refine (putC_at X ⟨n, hn⟩ _ _ m h b).trans ?_
  by_cases hg : h = headOf hp hh
  · subst hg
    rw [if_pos rfl]
    by_cases hmn : n = m.val
    · subst hmn
      rw [if_pos ⟨rfl, rfl⟩, if_pos rfl]
      unfold dcqV cellR
      pointwise
      simp only [dstI_at H msk hm]
      rw [← coe_sum]
      rfl
    · rw [if_neg (fun h => hmn (congrArg Fin.val h.1).symm), if_neg hmn, EReal.coe_zero, add_zero]
  · rw [if_neg (fun h => hg h.2), if_neg hg]

/-- Four updates, each of its own pair of heads only: every place is updated once. -/
theorem four {α : Type} (f : Fin 4 → α → α) (ev : α → EReal) (p : Fin 4) (r : EReal)
    (hf : ∀ hp X, ev (f hp X) = if p = hp then ev X + r else ev X) (X : α) : ev (f 3 (f 2 (f 1 (f 0 X)))) = ev X + r := by
  simp only [hf]
  fin_cases p <;> rfl

/-- Eight updates, each of its own head. -/
theorem eight {α : Type} (f : Fin 4 → Fin 2 → α → α) (ev : α → EReal) (h : Fin 8) (r : EReal)
    (hf : ∀ hp hh X, ev (f hp hh X) = if h = headOf hp hh then ev X + r else ev X) (X : α) :
    ev (f 3 1 (f 3 0 (f 2 1 (f 2 0 (f 1 1 (f 1 0 (f 0 1 (f 0 0 X)))))))) = ev X + r := by
  simp only [hf]
  fin_cases h <;> rfl

section Step
variable (H : Holds A i j I) (msk : Bool) (hm : Asked msk i j) (n : ℕ) (hn : n < 8) (S : St Ideal)
include H hm

theorem stepS_dv (a x : Fin 512) : (stepS msk n hn I S).dv (ix2 a x) = S.dv (ix2 a x) + ((gV A i j a x : ℝ) : EReal) :=
  four (fun hp X => dvS msk hp I X) (fun X => X (ix2 a x)) (pr x) _ (fun hp X => dvS_at H msk hm hp X a x) S.dv

theorem stepS_dk (a x : Fin 512) : (stepS msk n hn I S).dk (ix2 a x) = S.dk (ix2 a x) + ((gK A i j a x : ℝ) : EReal) :=
  four (fun hp X => dkS msk hp I X) (fun X => X (ix2 a x)) (pr x) _ (fun hp X => dkS_at H msk hm hp X a x) S.dk

theorem stepS_dq (m : Fin 8) (b x : Fin 512) :
    (stepS msk n hn I S).dq (ix3 m b x) = S.dq (ix3 m b x) + (((if n = m.val then gQ A i j b x else 0) : ℝ) : EReal) :=
  four (fun hp X => dqS msk hp n hn I X) (fun X => X (ix3 m b x)) (pr x) _ (fun hp X => dqS_at H msk hm hp n hn X m b x) S.dq

theorem stepS_ck (h : Fin 8) (a : Fin 512) (l : Fin 128) :
    (stepS msk n hn I S).ck (ix3 h a l) = S.ck (ix3 h a l) + ((gCk A i j h a : ℝ) : EReal) :=
  eight (fun hp hh X => ckS msk hp hh I X) (fun X => X (ix3 h a l)) h _ (fun hp hh X => ckS_at H msk hm hp hh X h a l) S.ck

theorem stepS_cq (m h : Fin 8) (b : Fin 512) :
    (stepS msk n hn I S).cq (ix3 m h b) = S.cq (ix3 m h b) + (((if n = m.val then gCq A i j h b else 0) : ℝ) : EReal) :=
  eight (fun hp hh X => cqS msk hp hh n hn I X) (fun X => X (ix3 m h b)) h _ (fun hp hh X => cqS_at H msk hm hp hh n hn X m h b) S.cq

end Step

end Cert.KernelIdeal.Attn

end
-- ==== Proof.Val.Walk.lean ====
/-
  The accumulators over the walk: after each point they hold the sums of what the points so far have given, the keys'
  from the first point of their block on.
-/
module

public import proofs.«01_k».proof.Proof.KI.Data
public import proofs.«01_k».proof.Proof.Val.StepVal

@[expose] public section

noncomputable section

namespace Cert.KernelIdeal.Attn

open Cert.KernelIdeal Cert.KernelIdeal.Gen
open Idealize.ShloMosaic
open Cert.Attn (iN jN)
open scoped BigOperators

/-- What the tables and the body's conditions say at each point. -/
theorem facts_at : ∀ t : Fin grid0.N,
    (ib (grid0.coords t)).toNat = (iN t.val).val ∧ (jb (grid0.coords t)).toNat = (jN t.val).val
    ∧ (k0_cond1 (grid0.coords t) = 1#1 ↔ t.val = 0)
    ∧ (k0_cond3 (jb (grid0.coords t)) (ib (grid0.coords t)) = 1#1 ↔ iN t.val = jN t.val)
    ∧ (k0_cond4 (jb (grid0.coords t)) (ib (grid0.coords t)) = 1#1 ↔ jN t.val < iN t.val)
    ∧ (k0_cond5 (ib (grid0.coords t)) = 1#1 ↔ iN t.val = 7)
    ∧ (k0_cond6 (grid0.coords t) = 1#1 ↔ t.val = 35) := by
  decide +kernel

/-- The order of the walk: query blocks from the key block's own on. -/
theorem order : ∀ t : Fin 36, jN t.val ≤ iN t.val
    ∧ (iN t.val = jN t.val → ∀ s : Fin 36, s.val < t.val → jN s.val ≠ jN t.val)
    ∧ (t.val ≠ 0 → iN t.val ≠ jN t.val → jN (t.val - 1) = jN t.val)
    ∧ (t.val = 0 → iN t.val = jN t.val) := by
  decide +kernel

variable [∀ e, Nonempty (Elt Ideal e)] {A : Cert.Attn.Args} {V : Arr Ideal} {c : Dev nD}

/-- The accumulators as a point's step finds them: the queries' cleared at the first point, the keys' at a block's first. -/
def pre (t : ℕ) (S : St Ideal) : St Ideal :=
  let S₁ := if t = 0 then initS S else S
  if iN t = jN t then clearS S₁ else S₁

/-- A point is one step on these, masked on the diagonal. -/
theorem nxt_eq (t : Fin (cfgT (F := Ideal)).N) (S : St Ideal) :
    ∃ msk hn, Asked msk (iN t.val) (jN t.val) ∧ nxt V c t S = stepS msk (iN t.val).val hn (inV V c t) (pre t.val S) := by
  obtain ⟨hi, hj, h1, h3, h4, -, -⟩ := facts_at t
  have hle := (order ⟨t.val, by have := t.isLt; have := cfgT_N (F := Ideal); omega⟩).1
  have e1 : (if k0_cond1 (co t) = 1#1 then initS S else S) = if t.val = 0 then initS S else S := if_congr h1 rfl rfl
  have e2 : ∀ S₁ : St Ideal, (if k0_cond3 (jb (co t)) (ib (co t)) = 1#1 then clearS S₁ else S₁) = if iN t.val = jN t.val then clearS S₁ else S₁ :=
    fun S₁ => if_congr h3 rfl rfl
  have hn : ∀ (msk : Bool) (n : ℕ) (h : n < 8) (e : n = (iN t.val).val), stepS msk n h (inV V c t) (pre t.val S)
      = stepS msk (iN t.val).val (iN t.val).isLt (inV V c t) (pre t.val S) := by
    intro msk n h e; subst e; rfl
  by_cases hij : iN t.val = jN t.val
  · refine ⟨true, (iN t.val).isLt, Or.inl ⟨rfl, hij⟩, ?_⟩
    have c3 : k0_cond3 (jb (co t)) (ib (co t)) = 1#1 := h3.2 hij
    have c4 : ¬ k0_cond4 (jb (co t)) (ib (co t)) = 1#1 := fun h => absurd (h4.1 h) (by rw [hij]; exact lt_irrefl _)
    unfold nxt ptS
    dsimp only
    rw [dif_neg c4, dif_pos c3, e1, e2]
    exact hn true _ _ hi
  · refine ⟨false, (iN t.val).isLt, Or.inr ⟨rfl, lt_of_le_of_ne hle (Ne.symm hij)⟩, ?_⟩
    have c3 : ¬ k0_cond3 (jb (co t)) (ib (co t)) = 1#1 := fun h => hij (h3.1 h)
    have c4 : k0_cond4 (jb (co t)) (ib (co t)) = 1#1 := h4.2 (lt_of_le_of_ne hle (Ne.symm hij))
    unfold nxt ptS
    dsimp only
    rw [dif_pos c4, dif_neg c3, e1, e2]
    exact hn false _ _ hi

/-- What the first `n` points gave the queries' accumulators, -/
def sQ (A : Cert.Attn.Args) (n : ℕ) (m : Fin 8) (b x : Fin 512) : ℝ := ∑ s ∈ Finset.range n, if iN s = m then gQ A m (jN s) b x else 0
def sCq (A : Cert.Attn.Args) (n : ℕ) (m h : Fin 8) (b : Fin 512) : ℝ := ∑ s ∈ Finset.range n, if iN s = m then gCq A m (jN s) h b else 0
/-- and the accumulators of key block `j`. -/
def sK (A : Cert.Attn.Args) (n : ℕ) (j : Fin 8) (a x : Fin 512) : ℝ := ∑ s ∈ Finset.range n, if jN s = j then gK A (iN s) j a x else 0
def sV' (A : Cert.Attn.Args) (n : ℕ) (j : Fin 8) (a x : Fin 512) : ℝ := ∑ s ∈ Finset.range n, if jN s = j then gV A (iN s) j a x else 0
def sCk (A : Cert.Attn.Args) (n : ℕ) (j h : Fin 8) (a : Fin 512) : ℝ := ∑ s ∈ Finset.range n, if jN s = j then gCk A (iN s) j h a else 0

/-- The accumulators after `n` points, the last of which was in key block `j`. -/
structure Sums (A : Cert.Attn.Args) (n : ℕ) (j : Fin 8) (S : St Ideal) : Prop where
  dq : ∀ m b x, S.dq (ix3 m b x) = ((sQ A n m b x : ℝ) : EReal)
  cq : ∀ m h b, S.cq (ix3 m h b) = ((sCq A n m h b : ℝ) : EReal)
  dk : ∀ a x, S.dk (ix2 a x) = ((sK A n j a x : ℝ) : EReal)
  dv : ∀ a x, S.dv (ix2 a x) = ((sV' A n j a x : ℝ) : EReal)
  ck : ∀ h a l, S.ck (ix3 h a l) = ((sCk A n j h a : ℝ) : EReal)

theorem init_dq (S : St Ideal) (m : Fin 8) (b x : Fin 512) : (initS S).dq (ix3 m b x) = (0 : EReal) := by
  unfold initS; dsimp only; pointwise
theorem init_cq (S : St Ideal) (m h : Fin 8) (b : Fin 512) : (initS S).cq (ix3 m h b) = (0 : EReal) := by
  unfold initS; dsimp only; pointwise
theorem clear_dk (S : St Ideal) (a x : Fin 512) : (clearS S).dk (ix2 a x) = (0 : EReal) := by
  unfold clearS; dsimp only; pointwise
theorem clear_dv (S : St Ideal) (a x : Fin 512) : (clearS S).dv (ix2 a x) = (0 : EReal) := by
  unfold clearS; dsimp only; pointwise
theorem clear_ck (S : St Ideal) (h : Fin 8) (a : Fin 512) (l : Fin 128) : (clearS S).ck (ix3 h a l) = (0 : EReal) := by
  unfold clearS; dsimp only; pointwise

/-- Before a point, its clearings done, the accumulators hold the sums of the points before it. -/
theorem pre_sums (t : Fin 36) (S : St Ideal) (hS : t.val ≠ 0 → Sums A t.val (jN (t.val - 1)) S) : Sums A t.val (jN t.val) (pre t.val S) := by
  obtain ⟨-, hc, hk, h0⟩ := order t
  have none : iN t.val = jN t.val → ∀ f : ℕ → ℝ, ∑ s ∈ Finset.range t.val, (if jN s = jN t.val then f s else 0) = 0 := by
    intro hij f
    refine Finset.sum_eq_zero fun s hs => if_neg (hc hij ⟨s, by have := Finset.mem_range.1 hs; have := t.isLt; omega⟩ (Finset.mem_range.1 hs))
  have hq : (∀ m b x, (pre t.val S).dq (ix3 m b x) = ((sQ A t.val m b x : ℝ) : EReal))
      ∧ (∀ m h b, (pre t.val S).cq (ix3 m h b) = ((sCq A t.val m h b : ℝ) : EReal)) := by
    have ed : (pre t.val S).dq = (if t.val = 0 then initS S else S).dq := by unfold pre; dsimp only; split <;> rfl
    have ec : (pre t.val S).cq = (if t.val = 0 then initS S else S).cq := by unfold pre; dsimp only; split <;> rfl
    rw [ed, ec]
    by_cases ht : t.val = 0
    · rw [if_pos ht, ht]
      refine ⟨fun m b x => ?_, fun m h b => ?_⟩
      · exact (init_dq S m b x).trans (by simp [sQ])
      · exact (init_cq S m h b).trans (by simp [sCq])
    · rw [if_neg ht]; exact ⟨(hS ht).dq, (hS ht).cq⟩
  have hkv : (∀ a x, (pre t.val S).dk (ix2 a x) = ((sK A t.val (jN t.val) a x : ℝ) : EReal))
      ∧ (∀ a x, (pre t.val S).dv (ix2 a x) = ((sV' A t.val (jN t.val) a x : ℝ) : EReal))
      ∧ (∀ h a l, (pre t.val S).ck (ix3 h a l) = ((sCk A t.val (jN t.val) h a : ℝ) : EReal)) := by
    by_cases hij : iN t.val = jN t.val
    · have e : pre t.val S = clearS (if t.val = 0 then initS S else S) := by unfold pre; dsimp only; rw [if_pos hij]
      rw [e]
      refine ⟨fun a x => ?_, fun a x => ?_, fun h a l => ?_⟩
      · exact (clear_dk _ a x).trans (by unfold sK; rw [none hij fun s => gK A (iN s) (jN t.val) a x]; rfl)
      · exact (clear_dv _ a x).trans (by unfold sV'; rw [none hij fun s => gV A (iN s) (jN t.val) a x]; rfl)
      · exact (clear_ck _ h a l).trans (by unfold sCk; rw [none hij fun s => gCk A (iN s) (jN t.val) h a]; rfl)
    · have ht : t.val ≠ 0 := fun h => hij (h0 h)
      have e : pre t.val S = S := by unfold pre; dsimp only; rw [if_neg hij, if_neg ht]
      rw [e, ← hk ht hij]
      exact ⟨(hS ht).dk, (hS ht).dv, (hS ht).ck⟩
  exact ⟨hq.1, hq.2, hkv.1, hkv.2.1, hkv.2.2⟩

/-- After point `t` the accumulators hold the sums of the points up to it. -/
theorem stA_sums (hH : ∀ t : Fin (cfgT (F := Ideal)).N, Holds A (iN t.val) (jN t.val) (inV V c t)) :
    ∀ n : ℕ, n < 36 → Sums A (n + 1) (jN n) (stA V c (n + 1)) := by
  intro n
  induction n with
  | zero => intro h; exact go 0 h (fun h => absurd rfl h)
  | succ k ih => intro h; exact go (k + 1) h (fun _ => ih (by omega))
where
  go (n : ℕ) (h : n < 36) (hS : n ≠ 0 → Sums A n (jN (n - 1)) (stA V c n)) : Sums A (n + 1) (jN n) (stA V c (n + 1)) := by
    have hN : n < (cfgT (F := Ideal)).N := by rw [cfgT_N]; exact h
    have hp := pre_sums (A := A) ⟨n, h⟩ (stA V c n) hS
    obtain ⟨msk, hn, hm, e⟩ := nxt_eq (V := V) (c := c) ⟨n, hN⟩ (stA V c n)
    have hI := hH ⟨n, hN⟩
    rw [show stA V c (n + 1) = nxt V c ⟨n, hN⟩ (stA V c n) from stA_succ V c ⟨n, hN⟩, e]
    refine ⟨fun m b x => ?_, fun m h b => ?_, fun a x => ?_, fun a x => ?_, fun h a l => ?_⟩
    · rw [stepS_dq hI msk hm, hp.dq, ← EReal.coe_add]
      unfold sQ; rw [Finset.sum_range_succ]
      refine congrArg (fun r : ℝ => ((_ + r : ℝ) : EReal)) ?_
      by_cases hm' : iN n = m
      · subst hm'; rw [if_pos rfl, if_pos rfl]
      · rw [if_neg hm', if_neg fun hh => hm' (Fin.ext hh)]
    · rw [stepS_cq hI msk hm, hp.cq, ← EReal.coe_add]
      unfold sCq; rw [Finset.sum_range_succ]
      refine congrArg (fun r : ℝ => ((_ + r : ℝ) : EReal)) ?_
      by_cases hm' : iN n = m
      · subst hm'; rw [if_pos rfl, if_pos rfl]
      · rw [if_neg hm', if_neg fun hh => hm' (Fin.ext hh)]
    · rw [stepS_dk hI msk hm, hp.dk, ← EReal.coe_add]
      unfold sK; rw [Finset.sum_range_succ, if_pos rfl]
    · rw [stepS_dv hI msk hm, hp.dv, ← EReal.coe_add]
      unfold sV'; rw [Finset.sum_range_succ, if_pos rfl]
    · rw [stepS_ck hI msk hm, hp.ck, ← EReal.coe_add]
      unfold sCk; rw [Finset.sum_range_succ, if_pos rfl]

end Cert.KernelIdeal.Attn

end
-- ==== Proof.Val.Outs.lean ====
/-
  The launch's five results: the whole sums over the rows, each entry of a result from the write-back of its block.
-/
module

public import proofs.«01_k».proof.Proof.KI.Frame
public import proofs.«01_k».proof.Proof.Val.Walk
public import Idealize.ShloMosaic.Lib.Pipeline.ArrRel

@[expose] public section

noncomputable section

namespace Cert.KernelIdeal.Attn

open Cert.KernelIdeal Cert.KernelIdeal.Gen
open Idealize.ShloMosaic
open Cert.Attn (iN jN ro tN hd)
open scoped BigOperators

/-- One eighth. -/
theorem eighth : (Scalar.ofBits .f32 0x3E000000#32 : Ideal .f32) = ((0.125 : ℝ) : EReal) := by
  show Ideal.ofBits .f32 0x3E000000#32 = _
  simp [Ideal.ofBits, Ideal.ieee]
  rw [← EReal.coe_mul]
  norm_num

/-- The results, as sums over all rows: the queries' gradient, the keys', the values', and the two of the cumulative sums. -/
def tQ (A : Cert.Attn.Args) (r : Fin 4096) (x : Fin 512) : ℝ := (∑ j, Cert.Attn.G A (hd x) r j * A.k j x) * 0.125
def tK (A : Cert.Attn.Args) (r : Fin 4096) (x : Fin 512) : ℝ := ∑ i, Cert.Attn.G A (hd x) i r * (A.q i x * 0.125)
def tV (A : Cert.Attn.Args) (r : Fin 4096) (x : Fin 512) : ℝ := ∑ i, Cert.Attn.Pr A (hd x) i r * A.o i x
def tCq (A : Cert.Attn.Args) (h : Fin 8) (r : Fin 4096) : ℝ := ∑ j, Cert.Attn.G A h r j
def tCk (A : Cert.Attn.Args) (h : Fin 8) (r : Fin 4096) : ℝ := -∑ i, Cert.Attn.G A h i r

variable {A : Cert.Attn.Args}

theorem ro_lt {i j : Fin 8} (h : i < j) (a b : Fin 512) : ro i a < ro j b := by
  show 512 * i.val + a.val < 512 * j.val + b.val
  have : i.val < j.val := h
  omega

theorem sQ_all (m : Fin 8) (b x : Fin 512) : sQ A 36 m b x * 0.125 = tQ A (ro m b) x := by
  unfold sQ tQ
  rw [Cert.Attn.walk_i m (fun j => gQ A m j b x), Cert.Attn.sum_rows]
  · rfl
  · intro j hj
    exact Finset.sum_eq_zero fun a _ => by rw [Cert.Attn.G_zero A _ (ro_lt hj b a), zero_mul]

theorem sCq_all (m h : Fin 8) (b : Fin 512) : sCq A 36 m h b = tCq A h (ro m b) := by
  unfold sCq tCq
  rw [Cert.Attn.walk_i m (fun j => gCq A m j h b), Cert.Attn.sum_rows]
  · rfl
  · intro j hj
    exact Finset.sum_eq_zero fun a _ => Cert.Attn.G_zero A _ (ro_lt hj b a)

theorem sK_all (j : Fin 8) (a x : Fin 512) : sK A (tN j + 1) j a x = tK A (ro j a) x := by
  unfold sK tK
  rw [Cert.Attn.walk_j j (fun i => gK A i j a x), Cert.Attn.sum_rows]
  · rfl
  · intro i hi
    exact Finset.sum_eq_zero fun b _ => by rw [Cert.Attn.G_zero A _ (ro_lt hi b a), zero_mul]

theorem sV_all (j : Fin 8) (a x : Fin 512) : sV' A (tN j + 1) j a x = tV A (ro j a) x := by
  unfold sV' tV
  rw [Cert.Attn.walk_j j (fun i => gV A i j a x), Cert.Attn.sum_rows]
  · rfl
  · intro i hi
    exact Finset.sum_eq_zero fun b _ => by rw [Cert.Attn.Pr_zero A _ (ro_lt hi b a), zero_mul]

theorem sCk_all (j h : Fin 8) (a : Fin 512) : sCk A (tN j + 1) j h a = tCk A h (ro j a) := by
  unfold sCk tCk
  rw [Cert.Attn.walk_j j (fun i => gCk A i j h a), Cert.Attn.sum_rows]
  · unfold gCk; rw [Finset.sum_neg_distrib]
  · intro i hi
    unfold gCk
    rw [Finset.sum_eq_zero fun b _ => Cert.Attn.G_zero A _ (ro_lt hi b a), neg_zero]

/-- A key block's last point. -/
theorem last_of : ∀ t : Fin 36, ((t.val + 1 = 36 ∨ jN (t.val + 1) ≠ jN t.val) ↔ t.val = tN (jN t.val))
    ∧ (t.val = tN (jN t.val) → iN t.val = 7) := by decide +kernel
theorem tN_lt : ∀ j : Fin 8, tN j < 36 ∧ jN (tN j) = j := by decide +kernel

variable [∀ e, Nonempty (Elt Ideal e)] {V : Arr Ideal} {c : Dev nD}

/-- A window whose block changes with the key block alone is written back at a key block's last point. -/
theorem flush_key (w : Fin 12) (hw : ((cfgT (F := Ideal)).win w).isOut = true)
    (hidx : ∀ t t', ((cfgT (F := Ideal)).win w).index t = ((cfgT (F := Ideal)).win w).index t' ↔ jN t.val = jN t'.val)
    (t : Fin (cfgT (F := Ideal)).N) : ((cfgT (F := Ideal)).win w).flush t = true ↔ t.val = tN (jN t.val) := by
  have hN := cfgT_N (F := Ideal)
  have ht : t.val < 36 := by have := t.isLt; omega
  rw [← (last_of ⟨t.val, ht⟩).1]
  unfold Pipeline.Window.flush
  rw [hw, Bool.true_and, Bool.or_eq_true, decide_eq_true_iff, decide_eq_true_iff]
  constructor
  · rintro (h | ⟨h, hne⟩)
    · left; exact h.trans hN
    · right; exact fun e => hne ((hidx _ _).2 e)
  · intro h
    by_cases h' : t.val + 1 = 36
    · left; exact h'.trans hN.symm
    · right
      have h2 : t.val + 1 < (cfgT (F := Ideal)).N := by omega
      exact ⟨h2, fun e => (h.resolve_left h') ((hidx _ _).1 e)⟩

/-- A window of one block is written back at the last point. -/
theorem flush_one (w : Fin 12) (hw : ((cfgT (F := Ideal)).win w).isOut = true)
    (hidx : ∀ t t', ((cfgT (F := Ideal)).win w).index t = ((cfgT (F := Ideal)).win w).index t')
    (t : Fin (cfgT (F := Ideal)).N) : ((cfgT (F := Ideal)).win w).flush t = true ↔ t.val = 35 := by
  have hN := cfgT_N (F := Ideal)
  unfold Pipeline.Window.flush
  rw [hw, Bool.true_and, Bool.or_eq_true, decide_eq_true_iff, decide_eq_true_iff]
  constructor
  · rintro (h | ⟨h, hne⟩)
    · have : t.val + 1 = 36 := h.trans hN
      omega
    · exact absurd (hidx _ _) hne
  · intro h
    left
    show t.val + 1 = (cfgT (F := Ideal)).N
    omega

/-- The rows of the keys' sums, at an index. -/
theorem outRow_at (C : Vec Ideal S1x512x128 .f32) (a : Fin 512) : outRowV C (ix2 0 a) = C (ix3 0 a 0) := by
  unfold outRowV
  pointwise

theorem rowF_at (g : Fin 8) (C : Vec Ideal S8x512x128 .f32) (X : Vec Ideal S8x512 .f32) (h : Fin 8) (a : Fin 512) :
    rowF g C X (ix2 h a) = if h = g then C (ix3 h a 0) else X (ix2 h a) := by
  unfold rowF VecWindow.put
  by_cases hg : h = g
  · subst hg
    have h' : ∀ d, (![h.val, 0] : Fin 2 → ℕ) d ≤ ((ix2 h a : S8x512.Idx) d).val
        ∧ ((ix2 h a : S8x512.Idx) d).val < (![h.val, 0] : Fin 2 → ℕ) d + S1x512.size d := by
      intro d; fin_cases d
      · show h.val ≤ h.val ∧ h.val < h.val + 1; omega
      · exact ⟨Nat.zero_le _, by show a.val < 0 + 512; omega⟩
    rw [if_pos rfl, dif_pos h']
    refine Eq.trans (congrArg _ (funext fun d => ?_)) ((outRow_at _ a).trans (slab_at h C a 0))
    fin_cases d
    · exact Fin.ext (by show h.val - h.val = 0; omega)
    · exact Fin.ext (by show a.val - 0 = a.val; omega)
  · rw [if_neg hg, dif_neg]
    intro h'
    have h0 : g.val ≤ h.val ∧ h.val < g.val + 1 := h' 0
    exact hg (Fin.ext (by omega))

theorem rowsF_at (C : Vec Ideal S8x512x128 .f32) (X : Vec Ideal S8x512 .f32) (h : Fin 8) (a : Fin 512) :
    rowsF C X (ix2 h a) = C (ix3 h a 0) := by
  unfold rowsF
  simp only [rowF_at]
  fin_cases h <;> rfl

/-- The launch's last point. -/
theorem last_lt : 35 < (cfgT (F := Ideal)).N := by rw [cfgT_N]; decide

theorem idx_key (w : Fin 12) {ix : ℕ → Fin ((cfgT (F := Ideal)).win w).shape.rank → ℕ}
    (h : ∀ t, ((cfgT (F := Ideal)).win w).index t = ix (jb (co t)).toNat) (hinj : ∀ n n', ix n = ix n' → n = n')
    (t t' : Fin (cfgT (F := Ideal)).N) : ((cfgT (F := Ideal)).win w).index t = ((cfgT (F := Ideal)).win w).index t' ↔ jN t.val = jN t'.val := by
  have e : ∀ t : Fin (cfgT (F := Ideal)).N, (jb (co t)).toNat = (jN t.val).val := fun t => (facts_at t).2.1
  rw [h, h, e, e]
  exact ⟨fun h => Fin.ext (hinj _ _ h), fun h => by rw [h]⟩

/-- The place of result 7's block. -/
theorem emb_7 (t : Fin (cfgT (F := Ideal)).N) (y : S8x512x512.Idx) :
    (((cfgT (F := Ideal)).win 7).blk t).view.emb y = (y : S8x512x512.Idx) := by
  refine funext fun d => Fin.ext ?_
  refine (Pipeline.Window.rect_emb_val ((cfgT (F := Ideal)).win 7) t y d rfl).trans ?_
  rw [show ((cfgT (F := Ideal)).win 7).index t = ![0, 0, 0] from ix_7 (co t)]
  fin_cases d
  · show 0 * 8 + (y 0).val = (y 0).val; omega
  · show 0 * 512 + (y 1).val = (y 1).val; omega
  · show 0 * 512 + (y 2).val = (y 2).val; omega

/-- The place of result 8's block. -/
theorem emb_8 (t : Fin (cfgT (F := Ideal)).N) (y : S512x512.Idx) :
    (((cfgT (F := Ideal)).win 8).blk t).view.emb y = (ix2 (ro (jN t.val) (y 0)) (y 1) : S4096x512.Idx) := by
  refine funext fun d => Fin.ext ?_
  refine (Pipeline.Window.rect_emb_val ((cfgT (F := Ideal)).win 8) t y d rfl).trans ?_
  rw [show ((cfgT (F := Ideal)).win 8).index t = ![(jb (co t)).toNat, 0] from ix_8 (co t)]
  have hj : (jb (co t)).toNat = (jN t.val).val := (facts_at t).2.1
  fin_cases d
  · show (jb (co t)).toNat * 512 + (y 0).val = 512 * (jN t.val).val + (y 0).val; omega
  · show 0 * 512 + (y 1).val = (y 1).val; omega

/-- The place of result 9's block. -/
theorem emb_9 (t : Fin (cfgT (F := Ideal)).N) (y : S512x512.Idx) :
    (((cfgT (F := Ideal)).win 9).blk t).view.emb y = (ix2 (ro (jN t.val) (y 0)) (y 1) : S4096x512.Idx) := by
  refine funext fun d => Fin.ext ?_
  refine (Pipeline.Window.rect_emb_val ((cfgT (F := Ideal)).win 9) t y d rfl).trans ?_
  rw [show ((cfgT (F := Ideal)).win 9).index t = ![(jb (co t)).toNat, 0] from ix_9 (co t)]
  have hj : (jb (co t)).toNat = (jN t.val).val := (facts_at t).2.1
  fin_cases d
  · show (jb (co t)).toNat * 512 + (y 0).val = 512 * (jN t.val).val + (y 0).val; omega
  · show 0 * 512 + (y 1).val = (y 1).val; omega

/-- The place of result 10's block. -/
theorem emb_10 (t : Fin (cfgT (F := Ideal)).N) (y : S8x8x512.Idx) :
    (((cfgT (F := Ideal)).win 10).blk t).view.emb y = (y : S8x8x512.Idx) := by
  refine funext fun d => Fin.ext ?_
  refine (Pipeline.Window.rect_emb_val ((cfgT (F := Ideal)).win 10) t y d rfl).trans ?_
  rw [show ((cfgT (F := Ideal)).win 10).index t = ![0, 0, 0] from ix_10 (co t)]
  fin_cases d
  · show 0 * 8 + (y 0).val = (y 0).val; omega
  · show 0 * 8 + (y 1).val = (y 1).val; omega
  · show 0 * 512 + (y 2).val = (y 2).val; omega

/-- The place of result 11's block. -/
theorem emb_11 (t : Fin (cfgT (F := Ideal)).N) (y : S8x512.Idx) :
    (((cfgT (F := Ideal)).win 11).blk t).view.emb y = (ix2 (y 0) (ro (jN t.val) (y 1)) : S8x4096.Idx) := by
  refine funext fun d => Fin.ext ?_
  refine (Pipeline.Window.rect_emb_val ((cfgT (F := Ideal)).win 11) t y d rfl).trans ?_
  rw [show ((cfgT (F := Ideal)).win 11).index t = ![0, (jb (co t)).toNat] from ix_11 (co t)]
  have hj : (jb (co t)).toNat = (jN t.val).val := (facts_at t).2.1
  fin_cases d
  · show 0 * 8 + (y 0).val = (y 0).val; omega
  · show (jb (co t)).toNat * 512 + (y 1).val = 512 * (jN t.val).val + (y 1).val; omega

theorem mem_of {α σ : Type} [Membership α σ] {s : σ} {x y : α} (h : y = x) (hy : y ∈ s) : x ∈ s := h ▸ hy

variable (hH : ∀ t : Fin (cfgT (F := Ideal)).N, Holds A (iN t.val) (jN t.val) (inV V c t))
include hH

theorem sums_at (t : Fin (cfgT (F := Ideal)).N) : Sums A (t.val + 1) (jN t.val) (stA V c (t.val + 1)) :=
  stA_sums hH t.val (by have := t.isLt; have := cfgT_N (F := Ideal); omega)

/-- The keys' gradient. -/
theorem out_dk (after : (w' : Fin 12) → (t : Fin (cfgT (F := Ideal)).N) → ((cfgT (F := Ideal)).win w').block.Idx → Elt Ideal ((cfgT (F := Ideal)).win w').elt)
    (hL : ∀ u, ((cfgT (F := Ideal)).win 8).flush u = true → (rdat V c).Leaves 8 u (after 8 u)) :
    ((rdat V c).withAfter after).arrAt 8 (cfgT (F := Ideal)).N = fun i : S4096x512.Idx => ((tK A (i 0) (i 1) : ℝ) : EReal) := by
  have hfl := flush_key 8 rfl (idx_key 8 (ix := fun n => ![n, 0]) (fun t => ix_8 (co t)) fun n n' h => congrFun h 0)
  refine Pipeline.Dat.arrAt_eq_of_emb _ 8 _ (fun t hf y => ?_) fun i => ?_
  · obtain ⟨Y, -, hY⟩ := hL t hf
    have ht := (hfl t).1 hf
    have h5 : k0_cond5 (ib (co t)) = 1#1 :=
      (facts_at t).2.2.2.2.2.1.2 ((last_of ⟨t.val, by have := t.isLt; have := cfgT_N (F := Ideal); omega⟩).2 ht)
    refine Eq.trans ?_ (congrArg (fun i : S4096x512.Idx => ((tK A (i 0) (i 1) : ℝ) : EReal)) (emb_8 t y).symm)
    obtain ⟨a, b, rfl⟩ : ∃ a b, y = (ix2 a b : S512x512.Idx) := ⟨y 0, y 1, by funext d; fin_cases d <;> rfl⟩
    show after 8 t (ix2 a b) = ((tK A (ro (jN t.val) a) b : ℝ) : EReal)
    refine (congrFun (hY h5) _).trans ?_
    exact Eq.trans ((sums_at hH t).dk a b) (congrArg (fun r : ℝ => (r : EReal)) ((congrArg (fun n => sK A (n + 1) (jN t.val) a b) ht).trans (sK_all _ _ _)))
  · obtain ⟨hlt, hj⟩ := tN_lt ⟨(i 0).val / 512, by have : (i 0).val < 4096 := (i 0).isLt; omega⟩
    have hlt' : tN ⟨(i 0).val / 512, by have : (i 0).val < 4096 := (i 0).isLt; omega⟩ < (cfgT (F := Ideal)).N := by
      rw [cfgT_N]; exact hlt
    refine ⟨⟨_, hlt'⟩, (hfl _).2 (congrArg tN hj).symm, ?_⟩
    have he := emb_8 ⟨_, hlt'⟩ (ix2 ⟨(i 0).val % 512, Nat.mod_lt _ (by decide)⟩ (i 1))
    refine mem_of (he.trans (Eq.symm ?_)) (View.emb_mem_set _ _)
    funext d
    fin_cases d
    · refine Fin.ext ?_
      refine Eq.trans ?_ (congrArg (fun n : Fin 8 => 512 * n.val + (i 0).val % 512) hj.symm)
      show (i 0).val = 512 * ((i 0).val / 512) + (i 0).val % 512
      omega
    · rfl

/-- The values' gradient. -/
theorem out_dv (after : (w' : Fin 12) → (t : Fin (cfgT (F := Ideal)).N) → ((cfgT (F := Ideal)).win w').block.Idx → Elt Ideal ((cfgT (F := Ideal)).win w').elt)
    (hL : ∀ u, ((cfgT (F := Ideal)).win 9).flush u = true → (rdat V c).Leaves 9 u (after 9 u)) :
    ((rdat V c).withAfter after).arrAt 9 (cfgT (F := Ideal)).N = fun i : S4096x512.Idx => ((tV A (i 0) (i 1) : ℝ) : EReal) := by
  have hfl := flush_key 9 rfl (idx_key 9 (ix := fun n => ![n, 0]) (fun t => ix_9 (co t)) fun n n' h => congrFun h 0)
  refine Pipeline.Dat.arrAt_eq_of_emb _ 9 _ (fun t hf y => ?_) fun i => ?_
  · obtain ⟨Y, -, hY⟩ := hL t hf
    have ht := (hfl t).1 hf
    have h5 : k0_cond5 (ib (co t)) = 1#1 :=
      (facts_at t).2.2.2.2.2.1.2 ((last_of ⟨t.val, by have := t.isLt; have := cfgT_N (F := Ideal); omega⟩).2 ht)
    refine Eq.trans ?_ (congrArg (fun i : S4096x512.Idx => ((tV A (i 0) (i 1) : ℝ) : EReal)) (emb_9 t y).symm)
    obtain ⟨a, b, rfl⟩ : ∃ a b, y = (ix2 a b : S512x512.Idx) := ⟨y 0, y 1, by funext d; fin_cases d <;> rfl⟩
    show after 9 t (ix2 a b) = ((tV A (ro (jN t.val) a) b : ℝ) : EReal)
    refine (congrFun (hY h5) _).trans ?_
    exact Eq.trans ((sums_at hH t).dv a b) (congrArg (fun r : ℝ => (r : EReal)) ((congrArg (fun n => sV' A (n + 1) (jN t.val) a b) ht).trans (sV_all _ _ _)))
  · obtain ⟨hlt, hj⟩ := tN_lt ⟨(i 0).val / 512, by have : (i 0).val < 4096 := (i 0).isLt; omega⟩
    have hlt' : tN ⟨(i 0).val / 512, by have : (i 0).val < 4096 := (i 0).isLt; omega⟩ < (cfgT (F := Ideal)).N := by
      rw [cfgT_N]; exact hlt
    refine ⟨⟨_, hlt'⟩, (hfl _).2 (congrArg tN hj).symm, ?_⟩
    have he := emb_9 ⟨_, hlt'⟩ (ix2 ⟨(i 0).val % 512, Nat.mod_lt _ (by decide)⟩ (i 1))
    refine mem_of (he.trans (Eq.symm ?_)) (View.emb_mem_set _ _)
    funext d
    fin_cases d
    · refine Fin.ext ?_
      refine Eq.trans ?_ (congrArg (fun n : Fin 8 => 512 * n.val + (i 0).val % 512) hj.symm)
      show (i 0).val = 512 * ((i 0).val / 512) + (i 0).val % 512
      omega
    · rfl

/-- The gradient of the cumulative sums as the keys have them. -/
theorem out_ck (after : (w' : Fin 12) → (t : Fin (cfgT (F := Ideal)).N) → ((cfgT (F := Ideal)).win w').block.Idx → Elt Ideal ((cfgT (F := Ideal)).win w').elt)
    (hL : ∀ u, ((cfgT (F := Ideal)).win 11).flush u = true → (rdat V c).Leaves 11 u (after 11 u)) :
    ((rdat V c).withAfter after).arrAt 11 (cfgT (F := Ideal)).N = fun i : S8x4096.Idx => ((tCk A (i 0) (i 1) : ℝ) : EReal) := by
  have hfl := flush_key 11 rfl (idx_key 11 (ix := fun n => ![0, n]) (fun t => ix_11 (co t)) fun n n' h => congrFun h 1)
  refine Pipeline.Dat.arrAt_eq_of_emb _ 11 _ (fun t hf y => ?_) fun i => ?_
  · obtain ⟨Y, -, hY⟩ := hL t hf
    have ht := (hfl t).1 hf
    have h5 : k0_cond5 (ib (co t)) = 1#1 :=
      (facts_at t).2.2.2.2.2.1.2 ((last_of ⟨t.val, by have := t.isLt; have := cfgT_N (F := Ideal); omega⟩).2 ht)
    refine Eq.trans ?_ (congrArg (fun i : S8x4096.Idx => ((tCk A (i 0) (i 1) : ℝ) : EReal)) (emb_11 t y).symm)
    obtain ⟨a, b, rfl⟩ : ∃ a b, y = (ix2 a b : S8x512.Idx) := ⟨y 0, y 1, by funext d; fin_cases d <;> rfl⟩
    show after 11 t (ix2 a b) = ((tCk A a (ro (jN t.val) b) : ℝ) : EReal)
    refine (congrFun (hY h5) _).trans ?_
    exact Eq.trans ((rowsF_at _ _ a b).trans ((sums_at hH t).ck a b 0)) (congrArg (fun r : ℝ => (r : EReal)) ((congrArg (fun n => sCk A (n + 1) (jN t.val) a b) ht).trans (sCk_all _ _ _)))
  · obtain ⟨hlt, hj⟩ := tN_lt ⟨(i 1).val / 512, by have : (i 1).val < 4096 := (i 1).isLt; omega⟩
    have hlt' : tN ⟨(i 1).val / 512, by have : (i 1).val < 4096 := (i 1).isLt; omega⟩ < (cfgT (F := Ideal)).N := by
      rw [cfgT_N]; exact hlt
    refine ⟨⟨_, hlt'⟩, (hfl _).2 (congrArg tN hj).symm, ?_⟩
    have he := emb_11 ⟨_, hlt'⟩ (ix2 (i 0) ⟨(i 1).val % 512, Nat.mod_lt _ (by decide)⟩)
    refine mem_of (he.trans (Eq.symm ?_)) (View.emb_mem_set _ _)
    funext d
    fin_cases d
    · rfl
    · refine Fin.ext ?_
      refine Eq.trans ?_ (congrArg (fun n : Fin 8 => 512 * n.val + (i 1).val % 512) hj.symm)
      show (i 1).val = 512 * ((i 1).val / 512) + (i 1).val % 512
      omega

/-- The queries' gradient. -/
theorem out_dq (after : (w' : Fin 12) → (t : Fin (cfgT (F := Ideal)).N) → ((cfgT (F := Ideal)).win w').block.Idx → Elt Ideal ((cfgT (F := Ideal)).win w').elt)
    (hL : ∀ u, ((cfgT (F := Ideal)).win 7).flush u = true → (rdat V c).Leaves 7 u (after 7 u)) :
    ((rdat V c).withAfter after).arrAt 7 (cfgT (F := Ideal)).N = fun i : S8x512x512.Idx => ((tQ A (ro (i 0) (i 1)) (i 2) : ℝ) : EReal) := by
  have hfl := flush_one 7 rfl (fun _ _ => rfl)
  refine Pipeline.Dat.arrAt_eq_of_emb _ 7 _ (fun t hf y => ?_) fun i => ?_
  · obtain ⟨Y, -, hY⟩ := hL t hf
    have ht := (hfl t).1 hf
    refine Eq.trans ?_ (congrArg (fun i : S8x512x512.Idx => ((tQ A (ro (i 0) (i 1)) (i 2) : ℝ) : EReal)) (emb_7 t y).symm)
    show after 7 t y = ((tQ A (ro (y 0) (y 1)) (y 2) : ℝ) : EReal)
    obtain ⟨a, b, x, rfl⟩ : ∃ a b x, y = (ix3 a b x : S8x512x512.Idx) := ⟨y 0, y 1, y 2, by funext d; fin_cases d <;> rfl⟩
    have h6 : k0_cond6 (co t) = 1#1 := (facts_at t).2.2.2.2.2.2.2 ht
    have hd := (sums_at hH t).dq a b x
    rw [ht] at hd
    refine (congrFun (hY h6) _).trans ?_
    rw [ht]
    show ((stA V c 36).dq (ix3 a b x) : EReal) * (Scalar.ofBits .f32 0x3E000000#32 : Ideal .f32) = ((tQ A (ro a b) x : ℝ) : EReal)
    rw [← sQ_all, eighth, EReal.coe_mul, ← hd]
  · exact ⟨⟨35, last_lt⟩, (hfl _).2 rfl, mem_of (emb_7 ⟨35, last_lt⟩ i) (View.emb_mem_set _ _)⟩

/-- The gradient of the cumulative sums as the queries have them. -/
theorem out_cq (after : (w' : Fin 12) → (t : Fin (cfgT (F := Ideal)).N) → ((cfgT (F := Ideal)).win w').block.Idx → Elt Ideal ((cfgT (F := Ideal)).win w').elt)
    (hL : ∀ u, ((cfgT (F := Ideal)).win 10).flush u = true → (rdat V c).Leaves 10 u (after 10 u)) :
    ((rdat V c).withAfter after).arrAt 10 (cfgT (F := Ideal)).N = fun i : S8x8x512.Idx => ((tCq A (i 1) (ro (i 0) (i 2)) : ℝ) : EReal) := by
  have hfl := flush_one 10 rfl (fun _ _ => rfl)
  refine Pipeline.Dat.arrAt_eq_of_emb _ 10 _ (fun t hf y => ?_) fun i => ?_
  · obtain ⟨Y, -, hY⟩ := hL t hf
    have ht := (hfl t).1 hf
    refine Eq.trans ?_ (congrArg (fun i : S8x8x512.Idx => ((tCq A (i 1) (ro (i 0) (i 2)) : ℝ) : EReal)) (emb_10 t y).symm)
    show after 10 t y = ((tCq A (y 1) (ro (y 0) (y 2)) : ℝ) : EReal)
    obtain ⟨a, b, x, rfl⟩ : ∃ a b x, y = (ix3 a b x : S8x8x512.Idx) := ⟨y 0, y 1, y 2, by funext d; fin_cases d <;> rfl⟩
    have hd := (sums_at hH t).cq a b x
    rw [ht] at hd
    refine (congrFun hY _).trans ?_
    rw [ht]
    show (stA V c 36).cq (ix3 a b x) = ((tCq A b (ro a x) : ℝ) : EReal)
    rw [← sCq_all]; exact hd
  · exact ⟨⟨35, last_lt⟩, (hfl _).2 rfl, mem_of (emb_10 ⟨35, last_lt⟩ i) (View.emb_mem_set _ _)⟩

end Cert.KernelIdeal.Attn

end
-- ==== Proof.Val.Fetch.lean ====
/-
  The blocks a point works on, at an index: the arrays at the index shifted by the block's place.
-/
module

public import proofs.«01_k».proof.Proof.Val.Walk
public import Idealize.ShloMosaic.Lib.Pipeline.ValueKit.Geometry

@[expose] public section

noncomputable section

namespace Cert.KernelIdeal.Attn

open Cert.KernelIdeal Cert.KernelIdeal.Gen
open Idealize.ShloMosaic
open Cert.Attn (iN jN ro)

variable [∀ e, Nonempty (Elt Ideal e)] {A : Cert.Attn.Args} {V : Arr Ideal} {c : Dev nD}

/-- A block is its array's part at the block's place. -/
theorem blkV_at (w : Fin 12) (t : Fin (cfgT (F := Ideal)).N) (y : ((cfgT (F := Ideal)).win w).block.Idx) :
    blkV V c w t y = (base V c).blockOf w t y := by
  have hm : ((cfgT (F := Ideal)).win w).moved ((cfgT (F := Ideal)).grid.coords t) y = true :=
    (((cfgT (F := Ideal)).win w).moved_iff _ y).mpr fun a => (y a).isLt
  unfold blkV Pipeline.RDat.fetched Pipeline.Window.fill; rw [dif_pos hm]

/-- The blocks of a point hold the arrays' entries at the block's rows. -/
theorem holds_in (t : Fin (cfgT (F := Ideal)).N)
    (hq : ∀ r x, V c main_v49 (ix2 r (⟨x.val, by omega⟩ : Fin 1536)) = ((A.q r x * 0.125 : ℝ) : EReal))
    (hk : ∀ r (x : Fin 512), V c main_v49 (ix2 r (⟨512 + x.val, by omega⟩ : Fin 1536)) = ((A.k r x : ℝ) : EReal))
    (hv : ∀ r (x : Fin 512), V c main_v49 (ix2 r (⟨1024 + x.val, by omega⟩ : Fin 1536)) = ((A.v r x : ℝ) : EReal))
    (hc : ∀ h r (l : Fin 128), V c main_v51 (ix3 h r l) = ((A.c h r : ℝ) : EReal))
    (ho : ∀ r x, V c main_arg4 (ix2 r x) = ((A.o r x : ℝ) : EReal))
    (hl : ∀ h r, V c main_v31 (ix2 h r) = ((Real.log (Cert.Attn.Z A h r) - A.c h r : ℝ) : EReal))
    (hd : ∀ h r, V c main_v45 (ix2 h r) = ((Cert.Attn.Dl A h r : ℝ) : EReal)) :
    Holds A (iN t.val) (jN t.val) (inV V c t) := by
  obtain ⟨hi', hj', -⟩ := facts_at t
  have hi : (ib (co t)).toNat = (iN t.val).val := hi'
  have hj : (jb (co t)).toNat = (jN t.val).val := hj'
  constructor
  · intro a x
    refine Eq.trans ((blkV_at 0 t (ix2 a x)).trans (congrArg (V c main_v49) (funext fun d => Fin.ext ?_))) (hq (ro (iN t.val) a) x)
    refine (Pipeline.Window.rect_emb_val ((cfgT (F := Ideal)).win 0) t (ix2 a x) d rfl).trans ?_
    rw [show ((cfgT (F := Ideal)).win 0).index t = _ from ix_0 (co t)]
    fin_cases d
    · show (ib (co t)).toNat * 512 + a.val = 512 * (iN t.val).val + a.val; omega
    · show 0 * 512 + x.val = x.val; omega
  · intro a x
    refine Eq.trans ((blkV_at 1 t (ix2 a x)).trans (congrArg (V c main_v49) (funext fun d => Fin.ext ?_))) (hk (ro (jN t.val) a) x)
    refine (Pipeline.Window.rect_emb_val ((cfgT (F := Ideal)).win 1) t (ix2 a x) d rfl).trans ?_
    rw [show ((cfgT (F := Ideal)).win 1).index t = _ from ix_1 (co t)]
    fin_cases d
    · show (jb (co t)).toNat * 512 + a.val = 512 * (jN t.val).val + a.val; omega
    · show 1 * 512 + x.val = 512 + x.val; omega
  · intro a x
    refine Eq.trans ((blkV_at 2 t (ix2 a x)).trans (congrArg (V c main_v49) (funext fun d => Fin.ext ?_))) (hv (ro (jN t.val) a) x)
    refine (Pipeline.Window.rect_emb_val ((cfgT (F := Ideal)).win 2) t (ix2 a x) d rfl).trans ?_
    rw [show ((cfgT (F := Ideal)).win 2).index t = _ from ix_2 (co t)]
    fin_cases d
    · show (jb (co t)).toNat * 512 + a.val = 512 * (jN t.val).val + a.val; omega
    · show 2 * 512 + x.val = 1024 + x.val; omega
  · intro h a l
    refine Eq.trans ((blkV_at 3 t (ix3 h a l)).trans (congrArg (V c main_v51) (funext fun d => Fin.ext ?_))) (hc h (ro (jN t.val) a) l)
    refine (Pipeline.Window.rect_emb_val ((cfgT (F := Ideal)).win 3) t (ix3 h a l) d rfl).trans ?_
    rw [show ((cfgT (F := Ideal)).win 3).index t = _ from ix_3 (co t)]
    fin_cases d
    · show 0 * 8 + h.val = h.val; omega
    · show (jb (co t)).toNat * 512 + a.val = 512 * (jN t.val).val + a.val; omega
    · show 0 * 128 + l.val = l.val; omega
  · intro a x
    refine Eq.trans ((blkV_at 4 t (ix2 a x)).trans (congrArg (V c main_arg4) (funext fun d => Fin.ext ?_))) (ho (ro (iN t.val) a) x)
    refine (Pipeline.Window.rect_emb_val ((cfgT (F := Ideal)).win 4) t (ix2 a x) d rfl).trans ?_
    rw [show ((cfgT (F := Ideal)).win 4).index t = _ from ix_4 (co t)]
    fin_cases d
    · show (ib (co t)).toNat * 512 + a.val = 512 * (iN t.val).val + a.val; omega
    · show 0 * 512 + x.val = x.val; omega
  · intro h a
    refine Eq.trans ((blkV_at 5 t (ix2 h a)).trans (congrArg (V c main_v31) (funext fun d => Fin.ext ?_))) (hl h (ro (iN t.val) a))
    refine (Pipeline.Window.rect_emb_val ((cfgT (F := Ideal)).win 5) t (ix2 h a) d rfl).trans ?_
    rw [show ((cfgT (F := Ideal)).win 5).index t = _ from ix_5 (co t)]
    fin_cases d
    · show 0 * 8 + h.val = h.val; omega
    · show (ib (co t)).toNat * 512 + a.val = 512 * (iN t.val).val + a.val; omega
  · intro h a
    refine Eq.trans ((blkV_at 6 t (ix2 h a)).trans (congrArg (V c main_v45) (funext fun d => Fin.ext ?_))) (hd h (ro (iN t.val) a))
    refine (Pipeline.Window.rect_emb_val ((cfgT (F := Ideal)).win 6) t (ix2 h a) d rfl).trans ?_
    rw [show ((cfgT (F := Ideal)).win 6).index t = _ from ix_6 (co t)]
    fin_cases d
    · show 0 * 8 + h.val = h.val; omega
    · show (ib (co t)).toNat * 512 + a.val = 512 * (iN t.val).val + a.val; omega

end Cert.KernelIdeal.Attn

end
-- ==== Proof.Val.Scal.lean ====
/-
  Numbers: the constants, and a row of masked logits — its maximum is a real number, its shifted exponentials, their sum.
-/
module

public import proofs.«01_k».proof.Proof.Val.Math
public import proofs.«01_k».proof.Proof.Val.Tile

@[expose] public section

noncomputable section

namespace Cert.Attn

open Idealize.ShloMosaic
open Cert.KernelIdeal.Attn (coe_sum)
open scoped BigOperators

theorem eighthI : Ideal.ofBits .f32 0x3E000000#32 = ((0.125 : ℝ) : EReal) := by
  simp [Ideal.ofBits, Ideal.ieee]
  rw [← EReal.coe_mul]
  norm_num

theorem ninf : Ideal.ofBits .f32 0xFF800000#32 = (⊥ : EReal) := by
  simp [Ideal.ofBits, Ideal.ieee]

/-- The causal comparison of two row numbers. -/
theorem sel_le {α : Type} (i j : Fin 4096) (u v : α) :
    Scalar.select (IntOp.cmpi CmpIPredicate.sle (BitVec.ofNat 32 j.val) (BitVec.ofNat 32 i.val)) u v = if j ≤ i then u else v := by
  have hs : ∀ n : Fin 4096, (BitVec.ofNat 32 n.val).toInt = n.val := fun n => by
    rw [BitVec.toInt_eq_toNat_of_lt (by rw [BitVec.toNat_ofNat]; omega), BitVec.toNat_ofNat, Nat.mod_eq_of_lt (by omega)]
  have e : IntOp.cmpi CmpIPredicate.sle (BitVec.ofNat 32 j.val) (BitVec.ofNat 32 i.val) = if j ≤ i then 1#1 else 0#1 := by
    show BitVec.ofBool (BitVec.sle _ _) = _
    rw [BitVec.sle_eq_decide, hs, hs]
    by_cases h : j ≤ i
    · rw [if_pos h, decide_eq_true (by exact_mod_cast h)]; rfl
    · rw [if_neg h, decide_eq_false (by exact_mod_cast h)]; rfl
  rw [e]
  by_cases h : j ≤ i
  · rw [if_pos h, if_pos h]; rfl
  · rw [if_neg h, if_neg h]; rfl

/-- A masked logit. -/
def Mk (A : Args) (h : Fin 8) (i j : Fin 4096) : EReal := if j ≤ i then ((X A h i j : ℝ) : EReal) else ⊥

/-- The maximum of a nonempty row of numbers that are real or −∞ and not all −∞ is real. -/
theorem max_real (f : Fin 4096 → EReal) (i : Fin 4096) (ht : ∀ j, f j ≠ ⊤) (hi : f i ≠ ⊥) :
    ∃ M : ℝ, Finset.univ.fold max (⊥ : EReal) f = (M : EReal) := by
  have hb : Finset.univ.fold max (⊥ : EReal) f ≠ ⊥ := by
    intro h
    have := (Finset.fold_max_le (b := (⊥ : EReal)) (f := f) (s := Finset.univ) ⊥).1 (le_of_eq h)
    exact hi (le_bot_iff.1 (this.2 i (Finset.mem_univ i)))
  have h1 : Finset.univ.fold max (⊥ : EReal) f < ⊤ :=
    (Finset.fold_max_lt (b := (⊥ : EReal)) (f := f) (s := Finset.univ) ⊤).2 ⟨bot_lt_top, fun j _ => lt_top_iff_ne_top.2 (ht j)⟩
  exact ⟨_, (EReal.coe_toReal h1.ne hb).symm⟩

theorem max_Mk (A : Args) (h : Fin 8) (i : Fin 4096) : ∃ M : ℝ, Finset.univ.fold max (⊥ : EReal) (fun j => Mk A h i j) = (M : EReal) := by
  refine max_real _ i (fun j => ?_) ?_
  · unfold Mk; split
    · exact EReal.coe_ne_top _
    · exact bot_ne_top
  · unfold Mk; rw [if_pos le_rfl]; exact EReal.coe_ne_bot _

/-- The shifted exponential of a masked logit. -/
theorem exp_Mk (A : Args) (M : ℝ) (h : Fin 8) (i j : Fin 4096) : Ideal.exp (Mk A h i j - (M : EReal)) = ((Es A M h i j : ℝ) : EReal) := by
  unfold Mk Es
  by_cases hj : j ≤ i
  · rw [if_pos hj, if_pos hj, ← EReal.coe_sub, Ideal.exp_coe]
  · rw [if_neg hj, if_neg hj, EReal.bot_sub]; exact Ideal.exp_bot

/-- The logit of real arguments. -/
theorem logit_coe (A : Args) (h : Fin 8) (i j : Fin 4096) :
    (∑ d : Fin 64, ((A.q i (cl h d) : ℝ) : EReal) * ((A.k j (cl h d) : ℝ) : EReal)) * ((0.125 : ℝ) : EReal) + ((A.c h i : ℝ) : EReal) - ((A.c h j : ℝ) : EReal)
      = ((X A h i j : ℝ) : EReal) := by
  unfold X
  rw [EReal.coe_sub, EReal.coe_add, EReal.coe_mul, coe_sum]
  simp only [EReal.coe_mul]

theorem log_sum (A : Args) (M : ℝ) (h : Fin 8) (i : Fin 4096) :
    (M : EReal) + Ideal.log ((∑ j, Es A M h i j : ℝ) : EReal) = ((Real.log (Z A h i) : ℝ) : EReal) := by
  rw [Ideal.log_coe, if_neg (not_le.2 (sum_Es_pos A M h i)), ← EReal.coe_add, shift_log]

theorem div_sum (A : Args) (M : ℝ) (h : Fin 8) (i : Fin 4096) (x : ℝ) :
    Ideal.div ((x : ℝ) : EReal) ((∑ j, Es A M h i j : ℝ) : EReal) = ((x / ∑ j, Es A M h i j : ℝ) : EReal) := by
  rw [Ideal.div_coe (sum_Es_pos A M h i).ne', ← EReal.coe_mul, mul_one_div]

end Cert.Attn

end
-- ==== Proof.Val.Host.lean ====
/-
  The arrays that the host lines prepare, at an index.
-/
module

public import proofs.«01_k».proof.Proof.KI.Frame
public import proofs.«01_k».proof.Proof.Val.Fetch
public import proofs.«01_k».proof.Proof.Val.Scal
public import Idealize.ShloMosaic.Lib.StableHlo.ReadAt

@[expose] public section

noncomputable section

namespace Cert.KernelIdeal.Attn

open Cert.KernelIdeal Cert.KernelIdeal.Gen
open Idealize.ShloMosaic
open Idealize.ShloMosaic.TcCoe
open Cert.Attn (iN jN ro cl)
open scoped BigOperators

abbrev Lg : Type := FVec Ideal S8x4096x4096 .f32
abbrev Rw : Type := FVec Ideal S8x4096 .f32

/-- A row's number at every key. -/
def spread (r : Rw) : Lg :=
  broadcastInDim S8x4096x4096 ![0, 1, 2] bcast_S8x4096x1_S8x4096x4096_0_1_2 (broadcastInDim S8x4096x1 ![0, 1] bcast_S8x4096_S8x4096x1_0_1 r)
/-- A row's exponentials, shifted, and their sum. -/
def expF (a : Lg) (mx : Rw) : Lg := Host.exp (subf a (spread mx))
def sumF (a : Lg) (mx : Rw) : Rw := Host.reduceAdd (expF a mx) (constant (F := Ideal) S_ .f32 0x00000000#32) reducesTo_S8x4096x4096_S8x4096_d2 h_S_
/-- A row's saved logarithm, the row's own cumulative sum taken off. -/
def lseF (mx l u : Rw) : Rw := subf (addf mx (Host.log l)) u
/-- An array's columns by heads. -/
def headsF (x : FVec Ideal S4096x512 .f32) : FVec Ideal S8x4096x64 .f32 :=
  transpose S8x4096x64 [1, 0, 2] (shapeCast S4096x8x64 x shapeCasts_S4096x512_S4096x8x64) transposes_S4096x8x64_S8x4096x64_1_0_2
/-- The attention's output against its cotangent. -/
def deltaF (a : Lg) (mx l : Rw) (v o : FVec Ideal S4096x512 .f32) : Rw :=
  Host.reduceAdd (mulf (headsF o) (Host.dotGeneral dot_S8x4096x4096_S8x4096x64_S8x4096x64_2_1_1_2_0_0 none
    (Host.divf (expF a mx) (spread l)) (headsF v))) (constant (F := Ideal) S_ .f32 0x00000000#32) reducesTo_S8x4096x64_S8x4096_d2 h_S_

variable [∀ e, Nonempty (Elt Ideal e)] (m : (ℓ : Loc nD τ sig) → Buf (Elt Ideal) ℓ) (c : Dev nD)

theorem host28_eq : hostV m c main_v28 = sumF (hostV m c main_v22) (hostV m c main_v23) := by
  unfold hostV sumF expF spread
  after_reads_simp

theorem host31_eq : hostV m c main_v31 = lseF (hostV m c main_v23) (hostV m c main_v28) (m (c, main_arg3)) := by
  unfold hostV lseF
  after_reads_simp

theorem host45_eq : hostV m c main_v45 = deltaF (hostV m c main_v22) (hostV m c main_v23) (hostV m c main_v28) (m (c, main_arg2)) (m (c, main_arg4)) := by
  unfold hostV deltaF headsF expF spread
  after_reads_simp
  rfl

theorem sumF_at (a : Lg) (mx : Rw) (h : Fin 8) (i : Fin 4096) : sumF a mx (ix2 h i) = ∑ j, Ideal.exp (a (ix3 h i j) - mx (ix2 h i)) := by
  unfold sumF expF spread
  pointwise

/-- A head's column, as a reshape numbers it. -/
theorem cl_eq (h : Fin 8) (d : Fin 64) (hlt : h.val * 64 + d.val < 512) : (⟨h.val * 64 + d.val, hlt⟩ : Fin 512) = cl h d :=
  Fin.ext (by show h.val * 64 + d.val = 64 * h.val + d.val; omega)

theorem deltaF_at (a : Lg) (mx l : Rw) (v o : FVec Ideal S4096x512 .f32) (h : Fin 8) (i : Fin 4096) :
    deltaF a mx l v o (ix2 h i) = ∑ d, o (ix2 i (cl h d)) * ∑ j, Ideal.div (Ideal.exp (a (ix3 h i j) - mx (ix2 h i))) (l (ix2 h i)) * v (ix2 j (cl h d)) := by
  unfold deltaF headsF expF spread
  pointwise
  simp only [cl_eq]

theorem sumF_val {A : Cert.Attn.Args} (a : Lg) (mx : Rw) (h : Fin 8) (i : Fin 4096) (M : ℝ)
    (ha : ∀ j, a (ix3 h i j) = Cert.Attn.Mk A h i j) (hM : mx (ix2 h i) = (M : EReal)) :
    sumF a mx (ix2 h i) = ((∑ j, Cert.Attn.Es A M h i j : ℝ) : EReal) := by
  rw [sumF_at, coe_sum]
  exact Finset.sum_congr rfl fun j _ => by rw [ha, hM, Cert.Attn.exp_Mk]

theorem lseF_val {A : Cert.Attn.Args} (mx l u : Rw) (h : Fin 8) (i : Fin 4096) (M : ℝ) (hM : mx (ix2 h i) = (M : EReal))
    (hl : l (ix2 h i) = ((∑ j, Cert.Attn.Es A M h i j : ℝ) : EReal)) (hc : u (ix2 h i) = ((A.c h i : ℝ) : EReal)) :
    lseF mx l u (ix2 h i) = ((Real.log (Cert.Attn.Z A h i) - A.c h i : ℝ) : EReal) := by
  show mx (ix2 h i) + Ideal.log (l (ix2 h i)) - u (ix2 h i) = _
  rw [hM, hl, hc, Cert.Attn.log_sum, EReal.coe_sub]

theorem deltaF_val {A : Cert.Attn.Args} (a : Lg) (mx l : Rw) (v o : FVec Ideal S4096x512 .f32) (h : Fin 8) (i : Fin 4096) (M : ℝ)
    (ha : ∀ j, a (ix3 h i j) = Cert.Attn.Mk A h i j) (hM : mx (ix2 h i) = (M : EReal))
    (hl : l (ix2 h i) = ((∑ j, Cert.Attn.Es A M h i j : ℝ) : EReal)) (hv : ∀ r x, v (ix2 r x) = ((A.v r x : ℝ) : EReal))
    (ho : ∀ r x, o (ix2 r x) = ((A.o r x : ℝ) : EReal)) : deltaF a mx l v o (ix2 h i) = ((Cert.Attn.Dl A h i : ℝ) : EReal) := by
  rw [deltaF_at, ← Cert.Attn.delta_eq, coe_sum]
  refine Finset.sum_congr rfl fun d _ => ?_
  rw [ho, EReal.coe_mul, coe_sum]
  refine congrArg _ (Finset.sum_congr rfl fun j _ => ?_)
  rw [ha, hM, hl, hv, Cert.Attn.exp_Mk, Cert.Attn.div_sum, Cert.Attn.Es_div, EReal.coe_mul]

/-- The arguments are these real numbers. -/
structure Are (A : Cert.Attn.Args) (q k v o : FVec Ideal S4096x512 .f32) (u : FVec Ideal S8x4096 .f32) : Prop where
  q : ∀ r x, q (ix2 r x) = ((A.q r x : ℝ) : EReal)
  k : ∀ r x, k (ix2 r x) = ((A.k r x : ℝ) : EReal)
  v : ∀ r x, v (ix2 r x) = ((A.v r x : ℝ) : EReal)
  o : ∀ r x, o (ix2 r x) = ((A.o r x : ℝ) : EReal)
  c : ∀ h r, u (ix2 h r) = ((A.c h r : ℝ) : EReal)

variable {m c} {A : Cert.Attn.Args} (H : Are A (m (c, main_arg0)) (m (c, main_arg1)) (m (c, main_arg2)) (m (c, main_arg4)) (m (c, main_arg3)))
include H

theorem host51_at (h : Fin 8) (r : Fin 4096) (l : Fin 128) : hostV m c main_v51 (ix3 h r l) = ((A.c h r : ℝ) : EReal) := by
  rw [← H.c]
  show StableHlo.after hostOps0 (fun b => m (c, b)) main_v51 (ix3 h r l) = _
  after_reads_at

theorem host22_at (h : Fin 8) (i j : Fin 4096) : hostV m c main_v22 (ix3 h i j) = Cert.Attn.Mk A h i j := by
  show StableHlo.after hostOps0 (fun b => m (c, b)) main_v22 (ix3 h i j) = _
  after_reads_at
  simp only [cl_eq]
  rw [Cert.Attn.sel_le, Cert.Attn.ninf, Cert.Attn.eighthI]
  simp only [H.q, H.k, H.c]
  rw [Cert.Attn.logit_coe]
  rfl

theorem host23_at (h : Fin 8) (i : Fin 4096) : ∃ M : ℝ, hostV m c main_v23 (ix2 h i) = (M : EReal) := by
  have e : hostV m c main_v23 (ix2 h i) = Finset.univ.fold max (Ideal.ofBits .f32 0xFF800000#32) (fun j => hostV m c main_v22 (ix3 h i j)) := by
    show StableHlo.after hostOps0 (fun b => m (c, b)) main_v23 (ix2 h i)
      = Finset.univ.fold max (Ideal.ofBits .f32 0xFF800000#32) (fun j => StableHlo.after hostOps0 (fun b => m (c, b)) main_v22 (ix3 h i j))
    after_reads_at
  rw [e, Cert.Attn.ninf]
  simp only [host22_at H]
  exact Cert.Attn.max_Mk A h i

theorem host49_q (r : Fin 4096) (x : Fin 512) : hostV m c main_v49 (ix2 r (⟨x.val, by omega⟩ : Fin 1536)) = ((A.q r x * 0.125 : ℝ) : EReal) := by
  rw [EReal.coe_mul, ← H.q, ← Cert.Attn.eighthI]
  show StableHlo.after hostOps0 (fun b => m (c, b)) main_v49 (ix2 r (⟨x.val, by omega⟩ : Fin 1536)) = _
  after_reads_at
  after_reads_at

theorem host49_k (r : Fin 4096) (x : Fin 512) : hostV m c main_v49 (ix2 r (⟨512 + x.val, by omega⟩ : Fin 1536)) = ((A.k r x : ℝ) : EReal) := by
  rw [← H.k]
  show StableHlo.after hostOps0 (fun b => m (c, b)) main_v49 (ix2 r (⟨512 + x.val, by omega⟩ : Fin 1536)) = _
  after_reads_at
  after_reads_at

theorem host49_v (r : Fin 4096) (x : Fin 512) : hostV m c main_v49 (ix2 r (⟨1024 + x.val, by omega⟩ : Fin 1536)) = ((A.v r x : ℝ) : EReal) := by
  rw [← H.v]
  show StableHlo.after hostOps0 (fun b => m (c, b)) main_v49 (ix2 r (⟨1024 + x.val, by omega⟩ : Fin 1536)) = _
  after_reads_at
  after_reads_at
  rw [dif_neg (by omega), dif_neg (by omega)]
  exact congrArg _ (congrArg (ix2 r) (Fin.ext (by show 1024 + x.val - 512 - 512 = x.val; omega)))

/-- The saved logarithm and the row's mean of the cotangents. -/
theorem host_rows (h : Fin 8) (i : Fin 4096) :
    hostV m c main_v31 (ix2 h i) = ((Real.log (Cert.Attn.Z A h i) - A.c h i : ℝ) : EReal)
      ∧ hostV m c main_v45 (ix2 h i) = ((Cert.Attn.Dl A h i : ℝ) : EReal) := by
  obtain ⟨M, hM⟩ := host23_at H h i
  have h28 : hostV m c main_v28 (ix2 h i) = ((∑ j, Cert.Attn.Es A M h i j : ℝ) : EReal) :=
    (congrFun (host28_eq m c) _).trans (sumF_val _ _ h i M (fun j => host22_at H h i j) hM)
  constructor
  · exact (congrFun (host31_eq m c) _).trans (lseF_val _ _ _ h i M hM h28 (H.c h i))
  · exact (congrFun (host45_eq m c) _).trans (deltaF_val _ _ _ _ _ h i M (fun j => host22_at H h i j) hM h28 H.v H.o)

theorem host_o (r : Fin 4096) (x : Fin 512) : hostV m c main_arg4 (ix2 r x) = ((A.o r x : ℝ) : EReal) :=
  (congrFun (hostV_arg4 m c) _).trans (H.o r x)

/-- Every point's blocks are the arguments' blocks. -/
theorem host_holds (t : Fin (cfgT (F := Ideal)).N) : Holds A (iN t.val) (jN t.val) (inV (hostV m) c t) :=
  holds_in t (host49_q H) (host49_k H) (host49_v H) (host51_at H) (host_o H) (fun h r => (host_rows H h r).1) (fun h r => (host_rows H h r).2)

end Cert.KernelIdeal.Attn

end
-- ==== Proof.Val.Results.lean ====
/-
  What the launch leaves in its five result arrays.
-/
module

public import proofs.«01_k».proof.Proof.Val.Outs
public import proofs.«01_k».proof.Proof.Val.Host

@[expose] public section

noncomputable section

namespace Cert.KernelIdeal.Attn

open Cert.KernelIdeal Cert.KernelIdeal.Gen
open Idealize.ShloMosaic
open Idealize.ShloMosaic.TcCoe Idealize.SL.Sem
open Cert.Attn (ro)

variable [∀ e, Nonempty (Elt Ideal e)]

theorem results (m : (ℓ : Loc nD τ sig) → Buf (Elt Ideal) ℓ) (r : PUnit × MemSt nD τ sig (Elt Ideal))
    (h : Pipeline.RDat.FramePost (cfgT (F := Ideal)) (rdat (hostV m)) (hostV m) r) (c : Dev nD) {A : Cert.Attn.Args}
    (H : Are A (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg3))) :
    r.2.mem ((c.tc : Thread nD τ).loc main_v52_0) = (fun i : S8x512x512.Idx => ((tQ A (ro (i 0) (i 1)) (i 2) : ℝ) : EReal))
      ∧ r.2.mem ((c.tc : Thread nD τ).loc main_v52_1) = (fun i : S4096x512.Idx => ((tK A (i 0) (i 1) : ℝ) : EReal))
      ∧ r.2.mem ((c.tc : Thread nD τ).loc main_v52_2) = (fun i : S4096x512.Idx => ((tV A (i 0) (i 1) : ℝ) : EReal))
      ∧ r.2.mem ((c.tc : Thread nD τ).loc main_v52_3) = (fun i : S8x8x512.Idx => ((tCq A (i 1) (ro (i 0) (i 2)) : ℝ) : EReal))
      ∧ r.2.mem ((c.tc : Thread nD τ).loc main_v52_4) = (fun i : S8x4096.Idx => ((tCk A (i 0) (i 1) : ℝ) : EReal)) := by
  obtain ⟨after, hL, hA⟩ := h.exists_exact c
  have hH := host_holds H
  exact ⟨(hA 7).trans (out_dq hH after (hL 7)), (hA 8).trans (out_dk hH after (hL 8)), (hA 9).trans (out_dv hH after (hL 9)),
    (hA 10).trans (out_cq hH after (hL 10)), (hA 11).trans (out_ck hH after (hL 11))⟩

end Cert.KernelIdeal.Attn

end
-- ==== Proof.Val.RefOps.lean ====
/-
  The reference's arrays, in stages: its logits, exponentials and their cotangents as functions of the arguments.
-/
module

public import proofs.«01_k».proof.Proof.Gen.ReferenceIdeal.Run
public import proofs.«01_k».proof.Proof.Val.Scal

@[expose] public section

noncomputable section

namespace Cert.ReferenceIdeal.Attn

open Cert.ReferenceIdeal Cert.ReferenceIdeal.Gen
open Idealize.ShloMosaic
open Idealize.ShloMosaic.TcCoe

abbrev Lg : Type := FVec Ideal S8x4096x4096 .f32
abbrev Rw : Type := FVec Ideal S8x4096 .f32
abbrev Mx : Type := FVec Ideal S4096x512 .f32

/-- Where a key does not come after its query. -/
def causal : IVec S8x4096x4096 1 :=
  broadcastInDim S8x4096x4096 ![1, 2] bcast_S4096x4096_S8x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- A row's number as a column, -/
def col (r : Rw) : FVec Ideal S8x4096x1 .f32 := broadcastInDim S8x4096x1 ![0, 1] bcast_S8x4096_S8x4096x1_0_1 r
/-- and at every key. -/
def spread (r : FVec Ideal S8x4096x1 .f32) : Lg := broadcastInDim S8x4096x4096 ![0, 1, 2] bcast_S8x4096x1_S8x4096x4096_0_1_2 r
/-- A number everywhere. -/
def all (r : FVec Ideal S_ .f32) : Lg := broadcastInDim S8x4096x4096 ![] bcast_S_S8x4096x4096 r
/-- An array's columns by heads, -/
def heads (x : Mx) : FVec Ideal S8x4096x64 .f32 :=
  transpose S8x4096x64 [1, 0, 2] (shapeCast S4096x8x64 x shapeCasts_S4096x512_S4096x8x64) transposes_S4096x8x64_S8x4096x64_1_0_2
/-- and back. -/
def flat (x : FVec Ideal S8x4096x64 .f32) : Mx :=
  shapeCast S4096x512 (transpose S4096x8x64 [1, 0, 2] x transposes_S8x4096x64_S4096x8x64_1_0_2) shapeCasts_S4096x8x64_S4096x512
/-- The products of two arrays' rows. -/
def rows (x y : Mx) : Lg := Host.dotGeneral dot_S8x4096x64_S8x4096x64_S8x4096x4096_2_2_1_1_0_0 none (heads x) (heads y)
/-- The masked logits, -/
def logitF (q k : Mx) (u : Rw) : Lg :=
  select causal (subf (addf (mulf (rows q k) (all (constant (F := Ideal) S_ .f32 0x3E000000#32))) (spread (col u)))
    (broadcastInDim S8x4096x4096 ![0, 1, 2] bcast_S8x1x4096_S8x4096x4096_0_1_2 (broadcastInDim S8x1x4096 ![0, 2] bcast_S8x4096_S8x1x4096_0_2 u)))
    (all (id (constant (F := Ideal) S_ .f32 0xFF800000#32)))
/-- their maximum over a row, -/
def topF (a : Lg) : Rw :=
  maximumf (broadcastInDim S8x4096 ![] bcast_S_S8x4096 (constant (F := Ideal) S_ .f32 0xFF800000#32))
    (Host.reduce FloatOps.maximumf a (constant (F := Ideal) S_ .f32 0xFF800000#32) reducesTo_S8x4096x4096_S8x4096_d2 h_S_)
/-- the exponentials, -/
def expF (a : Lg) (mx : Rw) : Lg := Host.exp (subf a (spread (col mx)))
/-- the sum over a row. -/
def sumF (e : Lg) : Rw := Host.reduceAdd e (constant (F := Ideal) S_ .f32 0x00000000#32) reducesTo_S8x4096x4096_S8x4096_d2 h_S_
/-- The probabilities. -/
def prF (e : Lg) (l : Rw) : Lg := Host.divf e (spread (col l))
/-- The cotangent of the sum of a row's exponentials, -/
def backF (p e : Lg) (l : Rw) : Rw :=
  Host.reduceAdd (Host.negf (shapeCast S8x4096x1 (sumF (mulf (mulf p (spread (Host.divf
    (broadcastInDim S8x4096x1 ![] bcast_S_S8x4096x1 (constant (F := Ideal) S_ .f32 0x3F800000#32)) (mulf (col l) (col l))))) e)) shapeCasts_S8x4096_S8x4096x1))
    (constant (F := Ideal) S_ .f32 0x00000000#32) reducesTo_S8x4096x1_S8x4096_d2 h_S_
/-- and of the logits. -/
def cotF (p e : Lg) (l b : Rw) : Lg :=
  select causal (mulf (addf (Host.divf p (spread (col l))) (broadcastInDim S8x4096x4096 ![0, 1] bcast_S8x4096_S8x4096x4096_0_1 b)) e)
    (all (constant (F := Ideal) S_ .f32 0x00000000#32))
/-- The five results, from the cotangent of the logits or the probabilities. -/
def dqF (g : Lg) (k : Mx) : FVec Ideal S8x512x512 .bf16 :=
  truncf .bf16 (shapeCast S8x512x512 (flat (Host.dotGeneral dot_S8x4096x4096_S8x4096x64_S8x4096x64_2_1_1_2_0_0 none
    (mulf g (all (constant (F := Ideal) S_ .f32 0x3E000000#32))) (heads k))) shapeCasts_S4096x512_S8x512x512) bitsLt_bf16_f32
def dkF (g : Lg) (q : Mx) : FVec Ideal S4096x512 .bf16 :=
  truncf .bf16 (flat (Host.dotGeneral dot_S8x4096x4096_S8x4096x64_S8x4096x64_1_1_2_2_0_0 none
    (mulf g (all (constant (F := Ideal) S_ .f32 0x3E000000#32))) (heads q))) bitsLt_bf16_f32
def dvF (p : Lg) (o : Mx) : FVec Ideal S4096x512 .bf16 :=
  truncf .bf16 (flat (transpose S8x4096x64 [0, 2, 1] (Host.dotGeneral dot_S8x4096x64_S8x4096x4096_S8x64x4096_1_1_2_2_0_0 none
    (heads o) p) transposes_S8x64x4096_S8x4096x64_0_2_1)) bitsLt_bf16_f32
def dcqF (g : Lg) : FVec Ideal S8x8x512 .f32 :=
  transpose S8x8x512 [1, 0, 2] (shapeCast S8x8x512 (Host.reduceAdd (shapeCast S8x4096x1 (sumF g) shapeCasts_S8x4096_S8x4096x1)
    (constant (F := Ideal) S_ .f32 0x00000000#32) reducesTo_S8x4096x1_S8x4096_d2 h_S_) shapeCasts_S8x4096_S8x8x512) transposes_S8x8x512_S8x8x512_1_0_2
def dckF (g : Lg) : Rw :=
  Host.reduceAdd (shapeCast S8x1x4096 (Host.reduceAdd (Host.negf g) (constant (F := Ideal) S_ .f32 0x00000000#32) reducesTo_S8x4096x4096_S8x4096_d1 h_S_)
    shapeCasts_S8x4096_S8x1x4096) (constant (F := Ideal) S_ .f32 0x00000000#32) reducesTo_S8x1x4096_S8x4096_d1 h_S_

variable (m : (ℓ : Loc nD τ sig) → Buf (Elt Ideal) ℓ) (c : Dev nD)

def lg : Lg := logitF (m ((c.tc : Thread nD τ).loc main_arg0)) (m ((c.tc : Thread nD τ).loc main_arg1)) (m ((c.tc : Thread nD τ).loc main_arg3))
def ex : Lg := expF (lg m c) (topF (lg m c))
def dp : Lg := rows (m ((c.tc : Thread nD τ).loc main_arg4)) (m ((c.tc : Thread nD τ).loc main_arg2))
def gr : Lg := cotF (dp m c) (ex m c) (sumF (ex m c)) (backF (dp m c) (ex m c) (sumF (ex m c)))

theorem out_v90 : Value.res_main_v90 m c = dqF (gr m c) (m ((c.tc : Thread nD τ).loc main_arg1)) := rfl
theorem out_v91 : Value.res_main_v91 m c = dkF (gr m c) (m ((c.tc : Thread nD τ).loc main_arg0)) := rfl
theorem out_v92 : Value.res_main_v92 m c = dvF (prF (ex m c) (sumF (ex m c))) (m ((c.tc : Thread nD τ).loc main_arg4)) := rfl
theorem out_v94 : Value.res_main_v94 m c = dcqF (gr m c) := rfl
theorem out_v77 : Value.res_main_v77 m c = dckF (gr m c) := rfl

end Cert.ReferenceIdeal.Attn

end
-- ==== Proof.Val.RefAt.lean ====
/-
  The reference's arrays at an index.
-/
module

public import proofs.«01_k».proof.Proof.Val.RefOps

@[expose] public section

noncomputable section

namespace Cert.ReferenceIdeal.Attn

open Cert.ReferenceIdeal Cert.ReferenceIdeal.Gen
open Idealize.ShloMosaic
open Idealize.ShloMosaic.TcCoe
open Cert.Attn (cl hd)
open scoped BigOperators

/-- A head's column, as a reshape numbers it, -/
theorem cl_eq (h : Fin 8) (d : Fin 64) (hlt : h.val * 64 + d.val < 512) : (⟨h.val * 64 + d.val, hlt⟩ : Fin 512) = cl h d :=
  Fin.ext (by show h.val * 64 + d.val = 64 * h.val + d.val; omega)

/-- and a block's row. -/
theorem ro_eq (b : Fin 8) (a : Fin 512) (hlt : b.val * 512 + a.val < 4096) : (⟨b.val * 512 + a.val, hlt⟩ : Fin 4096) = Cert.Attn.ro b a :=
  Fin.ext (by show b.val * 512 + a.val = 512 * b.val + a.val; omega)

theorem logitF_at (q k : Mx) (u : Rw) (h : Fin 8) (i j : Fin 4096) :
    logitF q k u (ix3 h i j) = if j ≤ i then (∑ d, q (ix2 i (cl h d)) * k (ix2 j (cl h d))) * Ideal.ofBits .f32 0x3E000000#32 + u (ix2 h i) - u (ix2 h j)
      else Ideal.ofBits .f32 0xFF800000#32 := by
  rw [← Cert.Attn.sel_le]
  unfold logitF causal rows heads all spread col
  pointwise
  simp only [cl_eq]
  rfl

theorem foldF_at (a : Lg) (h : Fin 8) (i : Fin 4096) :
    Host.reduce FloatOps.maximumf a (constant (F := Ideal) S_ .f32 0xFF800000#32) reducesTo_S8x4096x4096_S8x4096_d2 h_S_ (ix2 h i)
      = Finset.univ.fold max (Ideal.ofBits .f32 0xFF800000#32) (fun j => a (ix3 h i j)) := by
  pointwise

theorem max_at (r : Rw) (h : Fin 8) (i : Fin 4096) :
    maximumf (broadcastInDim S8x4096 ![] bcast_S_S8x4096 (constant (F := Ideal) S_ .f32 0xFF800000#32)) r (ix2 h i)
      = max (Ideal.ofBits .f32 0xFF800000#32) (r (ix2 h i)) := rfl

theorem topF_at (a : Lg) (h : Fin 8) (i : Fin 4096) :
    topF a (ix2 h i) = max (Ideal.ofBits .f32 0xFF800000#32) (Finset.univ.fold max (Ideal.ofBits .f32 0xFF800000#32) (fun j => a (ix3 h i j))) := by
  unfold topF
  rw [max_at, foldF_at]

theorem expF_at (a : Lg) (mx : Rw) (h : Fin 8) (i j : Fin 4096) : expF a mx (ix3 h i j) = Ideal.exp (a (ix3 h i j) - mx (ix2 h i)) := by
  unfold expF spread col
  pointwise

theorem sumF_at (e : Lg) (h : Fin 8) (i : Fin 4096) : sumF e (ix2 h i) = ∑ j, e (ix3 h i j) := by
  unfold sumF
  pointwise

theorem prF_at (e : Lg) (l : Rw) (h : Fin 8) (i j : Fin 4096) : prF e l (ix3 h i j) = Ideal.div (e (ix3 h i j)) (l (ix2 h i)) := by
  unfold prF spread col
  pointwise

theorem rows_at (x y : Mx) (h : Fin 8) (i j : Fin 4096) : rows x y (ix3 h i j) = ∑ d, x (ix2 i (cl h d)) * y (ix2 j (cl h d)) := by
  unfold rows heads
  pointwise
  simp only [cl_eq]

theorem backF_at (p e : Lg) (l : Rw) (h : Fin 8) (i : Fin 4096) :
    backF p e l (ix2 h i) = -∑ j, p (ix3 h i j) * Ideal.div 1 (l (ix2 h i) * l (ix2 h i)) * e (ix3 h i j) := by
  unfold backF sumF spread col
  pointwise
  exact Fin.sum_univ_one _

theorem cotF_at (p e : Lg) (l b : Rw) (h : Fin 8) (i j : Fin 4096) :
    cotF p e l b (ix3 h i j) = if j ≤ i then (Ideal.div (p (ix3 h i j)) (l (ix2 h i)) + b (ix2 h i)) * e (ix3 h i j) else 0 := by
  rw [← Cert.Attn.sel_le]
  unfold cotF causal all spread col
  pointwise

theorem dqF_at (g : Lg) (k : Mx) (b : Fin 8) (a x : Fin 512) :
    dqF g k (ix3 b a x) = ∑ j, g (ix3 (hd x) (Cert.Attn.ro b a) j) * Ideal.ofBits .f32 0x3E000000#32 * k (ix2 j x) := by
  unfold dqF flat heads all
  pointwise
  rw [ro_eq]
  rfl

theorem dkF_at (g : Lg) (q : Mx) (j : Fin 4096) (x : Fin 512) :
    dkF g q (ix2 j x) = ∑ i, g (ix3 (hd x) i j) * Ideal.ofBits .f32 0x3E000000#32 * q (ix2 i x) := by
  unfold dkF flat heads all
  pointwise
  rfl

theorem dvF_at (p : Lg) (o : Mx) (j : Fin 4096) (x : Fin 512) : dvF p o (ix2 j x) = ∑ i, o (ix2 i x) * p (ix3 (hd x) i j) := by
  unfold dvF flat heads
  pointwise
  rfl

theorem dcqF_at (g : Lg) (b h : Fin 8) (a : Fin 512) : dcqF g (ix3 b h a) = ∑ j, g (ix3 h (Cert.Attn.ro b a) j) := by
  unfold dcqF sumF
  pointwise
  rw [ro_eq]
  exact Fin.sum_univ_one _

theorem dckF_at (g : Lg) (h : Fin 8) (j : Fin 4096) : dckF g (ix2 h j) = ∑ i, -g (ix3 h i j) := by
  unfold dckF
  pointwise
  exact Fin.sum_univ_one _

end Cert.ReferenceIdeal.Attn

end
-- ==== Proof.Val.RefVal.lean ====
/-
  The reference's results over the real numbers.
-/
module

public import proofs.«01_k».proof.Proof.Val.RefAt
public import proofs.«01_k».proof.Proof.Val.Outs
public import proofs.«01_k».proof.Proof.Val.Host

@[expose] public section

noncomputable section

namespace Cert.ReferenceIdeal.Attn

open Cert.ReferenceIdeal Cert.ReferenceIdeal.Gen
open Idealize.ShloMosaic
open Idealize.ShloMosaic.TcCoe
open Cert.Attn (cl hd ro Es Mk G Pr DP sum_Es_pos)
open Cert.KernelIdeal.Attn (coe_sum Are tQ tK tV tCq tCk)
open scoped BigOperators

variable {A : Cert.Attn.Args}

theorem logit_val (q k : Mx) (u : Rw) (hq : ∀ r x, q (ix2 r x) = ((A.q r x : ℝ) : EReal)) (hk : ∀ r x, k (ix2 r x) = ((A.k r x : ℝ) : EReal))
    (hc : ∀ h r, u (ix2 h r) = ((A.c h r : ℝ) : EReal)) (h : Fin 8) (i j : Fin 4096) : logitF q k u (ix3 h i j) = Mk A h i j := by
  rw [logitF_at, Cert.Attn.ninf, Cert.Attn.eighthI]
  simp only [hq, hk, hc]
  rw [Cert.Attn.logit_coe]
  rfl

theorem top_val (a : Lg) (ha : ∀ h i j, a (ix3 h i j) = Mk A h i j) (h : Fin 8) (i : Fin 4096) : ∃ M : ℝ, topF a (ix2 h i) = (M : EReal) := by
  rw [topF_at, Cert.Attn.ninf]
  simp only [ha]
  rw [max_bot_left]
  exact Cert.Attn.max_Mk A h i

/-- A row of exponentials is the row's shifted exponentials. -/
def Row (A : Cert.Attn.Args) (e : Lg) (h : Fin 8) (i : Fin 4096) (M : ℝ) : Prop := ∀ j, e (ix3 h i j) = ((Es A M h i j : ℝ) : EReal)

theorem exp_val (a : Lg) (ha : ∀ h i j, a (ix3 h i j) = Mk A h i j) (h : Fin 8) (i : Fin 4096) : ∃ M : ℝ, Row A (expF a (topF a)) h i M := by
  obtain ⟨M, hM⟩ := top_val a ha h i
  exact ⟨M, fun j => by rw [expF_at, ha, hM, Cert.Attn.exp_Mk]⟩

theorem sum_val (e : Lg) (h : Fin 8) (i : Fin 4096) (M : ℝ) (he : Row A e h i M) : sumF e (ix2 h i) = ((∑ j, Es A M h i j : ℝ) : EReal) := by
  rw [sumF_at, coe_sum]
  exact Finset.sum_congr rfl fun j _ => he j

theorem pr_val (e : Lg) (h : Fin 8) (i j : Fin 4096) (M : ℝ) (he : Row A e h i M) : prF e (sumF e) (ix3 h i j) = ((Pr A h i j : ℝ) : EReal) := by
  rw [prF_at, he, sum_val e h i M he, Cert.Attn.div_sum, Cert.Attn.Es_div]

theorem dp_val (o v : Mx) (ho : ∀ r x, o (ix2 r x) = ((A.o r x : ℝ) : EReal)) (hv : ∀ r x, v (ix2 r x) = ((A.v r x : ℝ) : EReal))
    (h : Fin 8) (i j : Fin 4096) : rows o v (ix3 h i j) = ((DP A h i j : ℝ) : EReal) := by
  rw [rows_at]
  unfold DP
  rw [coe_sum]
  exact Finset.sum_congr rfl fun d _ => by rw [ho, hv, EReal.coe_mul]

theorem back_val (p e : Lg) (h : Fin 8) (i : Fin 4096) (M : ℝ) (hp : ∀ j, p (ix3 h i j) = ((DP A h i j : ℝ) : EReal)) (he : Row A e h i M) :
    backF p e (sumF e) (ix2 h i)
      = ((-∑ l, DP A h i l * (1 / ((∑ j, Es A M h i j) * ∑ j, Es A M h i j)) * Es A M h i l : ℝ) : EReal) := by
  have hL := (sum_Es_pos A M h i).ne'
  have hd : Ideal.div 1 ((((∑ j, Es A M h i j) * ∑ j, Es A M h i j : ℝ)) : EReal) = ((1 / ((∑ j, Es A M h i j) * ∑ j, Es A M h i j) : ℝ) : EReal) := by
    rw [Ideal.div_coe (mul_ne_zero hL hL), one_mul]
  rw [backF_at, sum_val e h i M he, ← EReal.coe_mul, hd, EReal.coe_neg, coe_sum]
  refine congrArg (fun y : EReal => -y) (Finset.sum_congr rfl fun j _ => ?_)
  rw [hp, he, EReal.coe_mul, EReal.coe_mul]

theorem cot_val (p e : Lg) (h : Fin 8) (i j : Fin 4096) (M : ℝ) (hp : ∀ j, p (ix3 h i j) = ((DP A h i j : ℝ) : EReal)) (he : Row A e h i M) :
    cotF p e (sumF e) (backF p e (sumF e)) (ix3 h i j) = ((G A h i j : ℝ) : EReal) := by
  rw [cotF_at, back_val p e h i M hp he, sum_val e h i M he, hp, he, Cert.Attn.div_sum, ← EReal.coe_add, ← EReal.coe_mul, Cert.Attn.quot_eq]
  by_cases hij : j ≤ i
  · rw [if_pos hij]
  · rw [if_neg hij, Cert.Attn.G_zero A h (not_le.1 hij), EReal.coe_zero]

section results

variable (g : Lg) (hg : ∀ h i j, g (ix3 h i j) = ((G A h i j : ℝ) : EReal))
include hg

theorem dq_val (k : Mx) (hk : ∀ r x, k (ix2 r x) = ((A.k r x : ℝ) : EReal)) : dqF g k = fun i : S8x512x512.Idx => ((tQ A (ro (i 0) (i 1)) (i 2) : ℝ) : EReal) := by
  funext y
  obtain ⟨b, a, x, rfl⟩ : ∃ b a x, y = ix3 b a x := ⟨y 0, y 1, y 2, by funext k; fin_cases k <;> rfl⟩
  refine (dqF_at g k b a x).trans ?_
  show _ = ((tQ A (ro b a) x : ℝ) : EReal)
  unfold tQ
  rw [Finset.sum_mul, coe_sum]
  refine Finset.sum_congr rfl fun j _ => ?_
  rw [hg, hk, Cert.Attn.eighthI, ← EReal.coe_mul, ← EReal.coe_mul]
  exact congrArg _ (by ring)

theorem dk_val (q : Mx) (hq : ∀ r x, q (ix2 r x) = ((A.q r x : ℝ) : EReal)) : dkF g q = fun i : S4096x512.Idx => ((tK A (i 0) (i 1) : ℝ) : EReal) := by
  funext y
  obtain ⟨a, x, rfl⟩ : ∃ a x, y = ix2 a x := ⟨y 0, y 1, by funext k; fin_cases k <;> rfl⟩
  refine (dkF_at g q a x).trans ?_
  show _ = ((tK A a x : ℝ) : EReal)
  unfold tK
  rw [coe_sum]
  refine Finset.sum_congr rfl fun j _ => ?_
  rw [hg, hq, Cert.Attn.eighthI, ← EReal.coe_mul, ← EReal.coe_mul]
  exact congrArg _ (by ring)

theorem dcq_val : dcqF g = fun i : S8x8x512.Idx => ((tCq A (i 1) (ro (i 0) (i 2)) : ℝ) : EReal) := by
  funext y
  obtain ⟨b, h, a, rfl⟩ : ∃ b h a, y = ix3 b h a := ⟨y 0, y 1, y 2, by funext k; fin_cases k <;> rfl⟩
  refine (dcqF_at g b h a).trans ?_
  show _ = ((tCq A h (ro b a) : ℝ) : EReal)
  unfold tCq
  rw [coe_sum]
  exact Finset.sum_congr rfl fun j _ => hg _ _ _

theorem dck_val : dckF g = fun i : S8x4096.Idx => ((tCk A (i 0) (i 1) : ℝ) : EReal) := by
  funext y
  obtain ⟨h, j, rfl⟩ : ∃ h j, y = ix2 h j := ⟨y 0, y 1, by funext k; fin_cases k <;> rfl⟩
  refine (dckF_at g h j).trans ?_
  show _ = ((tCk A h j : ℝ) : EReal)
  unfold tCk
  rw [← Finset.sum_neg_distrib, coe_sum]
  exact Finset.sum_congr rfl fun i _ => by rw [hg, EReal.coe_neg]

end results

theorem dv_val (p : Lg) (hp : ∀ h i j, p (ix3 h i j) = ((Pr A h i j : ℝ) : EReal)) (o : Mx) (ho : ∀ r x, o (ix2 r x) = ((A.o r x : ℝ) : EReal)) :
    dvF p o = fun i : S4096x512.Idx => ((tV A (i 0) (i 1) : ℝ) : EReal) := by
  funext y
  obtain ⟨a, x, rfl⟩ : ∃ a x, y = ix2 a x := ⟨y 0, y 1, by funext k; fin_cases k <;> rfl⟩
  refine (dvF_at p o a x).trans ?_
  show _ = ((tV A a x : ℝ) : EReal)
  unfold tV
  rw [coe_sum]
  refine Finset.sum_congr rfl fun j _ => ?_
  rw [hp, ho, ← EReal.coe_mul, mul_comm]

variable {m : (ℓ : Loc nD τ sig) → Buf (Elt Ideal) ℓ} {c : Dev nD}
  (H : Are A (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg3)))
include H

theorem ex_val (h : Fin 8) (i : Fin 4096) : ∃ M : ℝ, Row A (ex m c) h i M :=
  exp_val (lg m c) (fun h i j => logit_val _ _ _ H.q H.k H.c h i j) h i

theorem gr_val (h : Fin 8) (i j : Fin 4096) : gr m c (ix3 h i j) = ((G A h i j : ℝ) : EReal) := by
  obtain ⟨M, he⟩ := ex_val H h i
  exact cot_val (dp m c) (ex m c) h i j M (fun j => dp_val _ _ H.o H.v h i j) he

theorem pr_all (h : Fin 8) (i j : Fin 4096) : prF (ex m c) (sumF (ex m c)) (ix3 h i j) = ((Pr A h i j : ℝ) : EReal) := by
  obtain ⟨M, he⟩ := ex_val H h i
  exact pr_val _ h i j M he

theorem res0 : Value.res_main_v90 m c = fun i : S8x512x512.Idx => ((tQ A (ro (i 0) (i 1)) (i 2) : ℝ) : EReal) :=
  (out_v90 m c).trans (dq_val _ (gr_val H) _ H.k)
theorem res1 : Value.res_main_v91 m c = fun i : S4096x512.Idx => ((tK A (i 0) (i 1) : ℝ) : EReal) :=
  (out_v91 m c).trans (dk_val _ (gr_val H) _ H.q)
theorem res2 : Value.res_main_v92 m c = fun i : S4096x512.Idx => ((tV A (i 0) (i 1) : ℝ) : EReal) :=
  (out_v92 m c).trans (dv_val _ (pr_all H) _ H.o)
theorem res3 : Value.res_main_v94 m c = fun i : S8x8x512.Idx => ((tCq A (i 1) (ro (i 0) (i 2)) : ℝ) : EReal) :=
  (out_v94 m c).trans (dcq_val _ (gr_val H))
theorem res4 : Value.res_main_v77 m c = fun i : S8x4096.Idx => ((tCk A (i 0) (i 1) : ℝ) : EReal) :=
  (out_v77 m c).trans (dck_val _ (gr_val H))

end Cert.ReferenceIdeal.Attn

end
-- ==== Proof.Val.Finite.lean ====
/-
  Finite arguments are real numbers.
-/
module

public import proofs.«01_k».proof.Pre_finite
public import proofs.«01_k».proof.Proof.Val.Host
public import Idealize.ShloMosaic.Lib.ReduceAll

@[expose] public section

noncomputable section

namespace Cert.KernelIdeal.Attn

open Idealize.ShloMosaic

/-- The side conditions of the precondition's operations. -/
theorem preFacts : Cert.Pre_finite.Facts where
  bcast_S_S4096x512 := by decide
  reducesTo_S4096x512_S_d0_1 := by decide
  h_S_ := by decide
  bcast_S_S8x4096 := by decide
  reducesTo_S8x4096_S_d0_1 := by decide

theorem real_of (x : Ideal .f32) (h : Scalar.andi (FloatOps.cmpf (F := Ideal) CmpFPredicate.ogt x (Ideal.ofBits .f32 0xFF800000#32))
    (FloatOps.cmpf (F := Ideal) CmpFPredicate.olt x (Ideal.ofBits .f32 0x7F800000#32)) = 1#1) : x = ((EReal.toReal x : ℝ) : EReal) := by
  obtain ⟨h1, h2⟩ := IntOp.andi_eq_one.1 h
  have e1 : (⊥ : EReal) < x := by
    rw [Cert.Attn.ninf] at h1
    by_contra hn
    have h0 : BitVec.ofBool (decide ((⊥ : EReal) < x)) = 1#1 := h1
    rw [decide_eq_false hn] at h0
    exact absurd h0 (by decide)
  have e2 : x < (⊤ : EReal) := by
    rw [show Ideal.ofBits .f32 0x7F800000#32 = (⊤ : EReal) by simp [Ideal.ofBits, Ideal.ieee]] at h2
    by_contra hn
    have h0 : BitVec.ofBool (decide (x < (⊤ : EReal))) = 1#1 := h2
    rw [decide_eq_false hn] at h0
    exact absurd h0 (by decide)
  exact (EReal.coe_toReal e2.ne e1.ne').symm

/-- The one index of a scalar. -/
def zi : Cert.Pre_finite.S_.Idx := fun d => d.elim0

/-- Whether every element of an array is finite. -/
def allF {s : Shape} {axes : List (Fin s.rank)} (x : FVec Ideal s .f32) (hb : Cert.Pre_finite.S_.BroadcastsInDim s ![]) (hr : s.ReducesTo axes Cert.Pre_finite.S_) (hu : 0 < Cert.Pre_finite.S_.numel) : IVec Cert.Pre_finite.S_ 1 :=
  Host.reduce IntOp.andi (andi (cmpf .ogt x (broadcastInDim s ![] hb (constant Cert.Pre_finite.S_ .f32 0xFF800000#32)))
    (cmpf .olt x (broadcastInDim s ![] hb (constant Cert.Pre_finite.S_ .f32 0x7F800000#32)))) (constantI Cert.Pre_finite.S_ 1 1#1) hr hu

theorem real_all {s : Shape} {axes : List (Fin s.rank)} (x : FVec Ideal s .f32) (hb) (hr : s.ReducesTo axes Cert.Pre_finite.S_) (hu) (j) (h : allF x hb hr hu j = 1#1) (i : s.Idx) : x i = ((EReal.toReal (x i) : ℝ) : EReal) := by
  have : Subsingleton Cert.Pre_finite.S_.Idx := ⟨fun a b => funext fun d => d.elim0⟩
  exact real_of _ (Host.reduce_andi_all _ _ hr hu j h i)

theorem finite_real (q k v o : FVec Ideal Cert.Pre_finite.S4096x512 .f32) (u : FVec Ideal Cert.Pre_finite.S8x4096 .f32)
    (h : (haveI := preFacts; Cert.Pre_finite.fn (F := Ideal) q k v u o) = fun _ => 1#1) :
    ∃ A : Cert.Attn.Args, Are A q k v o u := by
  haveI := preFacts
  have h0 : IntOp.andi (IntOp.andi (IntOp.andi (IntOp.andi (allF q preFacts.bcast_S_S4096x512 preFacts.reducesTo_S4096x512_S_d0_1 preFacts.h_S_ zi)
     (allF k preFacts.bcast_S_S4096x512 preFacts.reducesTo_S4096x512_S_d0_1 preFacts.h_S_ zi)) (allF v preFacts.bcast_S_S4096x512 preFacts.reducesTo_S4096x512_S_d0_1 preFacts.h_S_ zi))
     (allF u preFacts.bcast_S_S8x4096 preFacts.reducesTo_S8x4096_S_d0_1 preFacts.h_S_ zi)) (allF o preFacts.bcast_S_S4096x512 preFacts.reducesTo_S4096x512_S_d0_1 preFacts.h_S_ zi) = 1#1 := congrFun h zi
  obtain ⟨h1, ho⟩ := IntOp.andi_eq_one.1 h0
  obtain ⟨h2, hu⟩ := IntOp.andi_eq_one.1 h1
  obtain ⟨h3, hv⟩ := IntOp.andi_eq_one.1 h2
  obtain ⟨hq, hk⟩ := IntOp.andi_eq_one.1 h3
  exact ⟨⟨fun r x => EReal.toReal (q (ix2 r x)), fun r x => EReal.toReal (k (ix2 r x)), fun r x => EReal.toReal (v (ix2 r x)),
    fun r x => EReal.toReal (o (ix2 r x)), fun r x => EReal.toReal (u (ix2 r x))⟩,
    ⟨fun r x => real_all q _ _ _ _ hq _, fun r x => real_all k _ _ _ _ hk _, fun r x => real_all v _ _ _ _ hv _,
     fun r x => real_all o _ _ _ _ ho _, fun r x => real_all u _ _ _ _ hu _⟩⟩

end Cert.KernelIdeal.Attn

end
-- ==== Proof.FI.Step.lean ====
/-
  The body of the attention's forward kernel, written again as four equal steps: one step per pair of heads. The
  printed body lists the eight heads one after another; here one definition takes the pair's number and the head's
  place in the pair.
-/
module

public import proofs.«01_k».proof.Proof.Gen.AttnIdeal
public import Idealize.ShloMosaic.Lib.Tactic

@[expose] public section

noncomputable section

namespace Cert.AttnIdeal.Run

open Cert.AttnIdeal Cert.AttnIdeal.Gen
open Idealize.ShloMosaic Idealize.SL.Sem

variable {F : FTy → Type} [FloatOps F] [Named F]

/-- The finite stand-in for −∞: what the masked places get, and where the running maxima start. -/
def negM : F .f32 := Named.named κ "mask" 0xF149F2CA#32

/-- The causal mask of a diagonal block: key column ≤ query row. -/
def keepV : IVec S512x512 1 :=
  cmpi .sle (iota .tc S512x512 32 [1] iota_S512x512_d1_w32) (iota .tc S512x512 32 [0] iota_S512x512_d0_w32)

/-- The lanes of the first head of a pair. -/
def loV : IVec S512x128 1 :=
  cmpi .slt (iota .tc S512x128 32 [1] iota_S512x128_d1_w32) (broadcast S512x128 64#32)

/-- The lanes of head `hh` of a pair. -/
def selV : Fin 2 → IVec S512x128 1
  | 0 => loV
  | 1 => xori loV (constantI S512x128 1 1#1)

/-- The logits of one head: queries down, keys across. -/
def sV (hh : Fin 2) (qp kp : FVec F S512x128 .bf16) (ck : Vec F S1x512 .f32) : FVec F S512x512 .f32 :=
  subf (matmul dot_S512x128_S512x128_S512x512_1_1_0_0_n_n none
      (select (selV hh) qp (broadcast S512x128 (Scalar.ofBits .bf16 0x0000#16))) kp (constant S512x512 .f32 0x00000000#32))
    (broadcastTo S512x512 ck broadcasts_S1x512_S512x512)

/-- The same, with the causal mask when `msk` asks for it. -/
def stV (msk : Bool) (hh : Fin 2) (qp kp : FVec F S512x128 .bf16) (ck : Vec F S1x512 .f32) : FVec F S512x512 .f32 :=
  match msk with
  | false => sV hh qp kp ck
  | true => select keepV (sV hh qp kp ck) (broadcast S512x512 negM)

/-- The running maximum after a block, repeated over the lanes. -/
def mxV (s : FVec F S512x512 .f32) (m : Vec F S1x512x128 .f32) : FVec F S512x128 .f32 :=
  maximumf (shapeCast S512x128 m shapeCasts_S1x512x128_S512x128)
    (broadcastTo S512x128 (shapeCast S512x1
      (multiReduction .maximumf [1] S512 s 0xFF800000#32 reduces_S512x512_S512 (.inl rfl) rfl) shapeCasts_S512_S512x1)
      broadcasts_S512x1_S512x128)

/-- The factor that carries the sums over to the new maximum. -/
def alV (s : FVec F S512x512 .f32) (m : Vec F S1x512x128 .f32) : FVec F S512x128 .f32 :=
  exp (subf (shapeCast S512x128 m shapeCasts_S1x512x128_S512x128) (mxV s m))

/-- The block's weights against the new maximum. -/
def pV (s : FVec F S512x512 .f32) (m : Vec F S1x512x128 .f32) : FVec F S512x512 .f32 :=
  exp (subf s (concatenate S512x512 1 [⟨S512x128, mxV s m⟩, ⟨S512x128, mxV s m⟩, ⟨S512x128, mxV s m⟩, ⟨S512x128, mxV s m⟩]
    concatenates_S512x128_S512x128_S512x128_S512x128_S512x512_d1))

/-- The running sum of weights after a block. -/
def lV (s : FVec F S512x512 .f32) (m l : Vec F S1x512x128 .f32) : FVec F S1x512x128 .f32 :=
  shapeCast S1x512x128 (addf (mulf (alV s m) (shapeCast S512x128 l shapeCasts_S1x512x128_S512x128))
    (broadcastTo S512x128 (shapeCast S512x1
      (multiReduction .add [1] S512 (pV s m) 0x00000000#32 reduces_S512x512_S512 (.inl rfl) rfl) shapeCasts_S512_S512x1)
      broadcasts_S512x1_S512x128)) shapeCasts_S512x128_S1x512x128

/-- The running maximum as it is kept. -/
def mV (s : FVec F S512x512 .f32) (m : Vec F S1x512x128 .f32) : FVec F S1x512x128 .f32 :=
  shapeCast S1x512x128 (mxV s m) shapeCasts_S512x128_S1x512x128

/-- The block's weighted values. -/
def pvV (s : FVec F S512x512 .f32) (m : Vec F S1x512x128 .f32) (vp : FVec F S512x128 .bf16) : FVec F S512x128 .f32 :=
  matmul dot_S512x512_S512x128_S512x128_1_0_0_1_n_n none (truncf .bf16 (pV s m) bitsLt_bf16_f32) vp
    (constant S512x128 .f32 0x00000000#32)

/-- A pair's weighted sums after a block, each head on its own lanes. -/
def accV (a : Vec F S512x128 .f32) (x y px py : FVec F S512x128 .f32) : FVec F S512x128 .f32 :=
  shapeCast S512x128 (addf (mulf (select loV x y) a) (select loV px py)) shapeCasts_S512x128_S512x128

/-- A pair's columns of a 512 by 512 buffer. -/
def colR (hp : Fin 4) : Rect S512x512 :=
  Rect.unit (s := S512x512) ![0, 128 * hp.val] S512x128.size (by
    intro a; have := hp.isLt; fin_cases a <;> simp <;> omega)

/-- A head's slab of a buffer of eight 512 by 128 slabs. -/
def slabR (h : Fin 8) : Rect S8x512x128 :=
  Rect.unit (s := S8x512x128) ![h.val, 0, 0] S1x512x128.size (by
    intro a; have := h.isLt; fin_cases a <;> simp <;> omega)

/-- A head's row of a table of eight rows. -/
def rowR (h : Fin 8) : Rect S8x512 :=
  Rect.unit (s := S8x512) ![h.val, 0] S1x512.size (by
    intro a; have := h.isLt; fin_cases a <;> simp <;> omega)

/-- The number of head `hh` of pair `hp`. -/
def headOf (hp : Fin 4) (hh : Fin 2) : Fin 8 := ⟨2 * hp.val + hh.val, by have := hp.isLt; have := hh.isLt; omega⟩

/-- One head of one step: the factor and the weighted values, the maximum's and the sum's buffers updated. -/
def headP (msk : Bool) (hp : Fin 4) (hh : Fin 2) (arg6 : Memref sig .tc .vmem S8x512 .f32)
    (arg9 arg10 : Memref sig .tc .vmem S8x512x128 .f32) (qp kp vp : FVec F S512x128 .bf16) :
    Prog (TpuEff nD τ sig (Elt F) Λ₀ .tc) (Σ' (_ : FVec F S512x128 .f32), FVec F S512x128 .f32) := do
  let ck : Vec F S1x512 .f32 ← Prog.lift (.load arg6 (rowR (headOf hp hh)).toLoadRect (View.loadsAt_vmem h_S1x512))
  let m : Vec F S1x512x128 .f32 ← Prog.lift (.load arg9 (slabR (headOf hp hh)).toLoadRect (View.loadsAt_vmem h_S1x512x128))
  let l : Vec F S1x512x128 .f32 ← Prog.lift (.load arg10 (slabR (headOf hp hh)).toLoadRect (View.loadsAt_vmem h_S1x512x128))
  let _l : Vec F S1x512x128 .f32 ← Prog.lift (.load arg10 (slabR (headOf hp hh)).toLoadRect (View.loadsAt_vmem h_S1x512x128))
  Prog.lift (.store arg10 (slabR (headOf hp hh)) (lV (stV msk hh qp kp ck) m l) Finset.univ
    (View.stores_vmem_bits_univ h_S1x512x128 rfl) (.inl rfl))
  let _m : Vec F S1x512x128 .f32 ← Prog.lift (.load arg9 (slabR (headOf hp hh)).toLoadRect (View.loadsAt_vmem h_S1x512x128))
  Prog.lift (.store arg9 (slabR (headOf hp hh)) (mV (stV msk hh qp kp ck) m) Finset.univ
    (View.stores_vmem_bits_univ h_S1x512x128 rfl) (.inl rfl))
  pure ⟨alV (stV msk hh qp kp ck) m, pvV (stV msk hh qp kp ck) m vp⟩

/-- One pair of heads of one step. -/
def pairP (msk : Bool) (hp : Fin 4) (arg3 arg4 arg5 : Memref sig .tc .vmem S512x512 .bf16)
    (arg6 : Memref sig .tc .vmem S8x512 .f32) (arg9 arg10 : Memref sig .tc .vmem S8x512x128 .f32)
    (arg11 : Memref sig .tc .vmem S512x512 .f32) : Prog (TpuEff nD τ sig (Elt F) Λ₀ .tc) PUnit := do
  let q : Vec F S512x128 .bf16 ← Prog.lift (.load arg3 (colR hp).toLoadRect (View.loadsAt_vmem h_S512x128))
  let k : Vec F S512x128 .bf16 ← Prog.lift (.load arg4 (colR hp).toLoadRect (View.loadsAt_vmem h_S512x128))
  let v : Vec F S512x128 .bf16 ← Prog.lift (.load arg5 (colR hp).toLoadRect (View.loadsAt_vmem h_S512x128))
  let x ← headP msk hp 0 arg6 arg9 arg10 (shapeCast S512x128 q shapeCasts_S512x128_S512x128)
    (shapeCast S512x128 k shapeCasts_S512x128_S512x128) (shapeCast S512x128 v shapeCasts_S512x128_S512x128)
  let y ← headP msk hp 1 arg6 arg9 arg10 (shapeCast S512x128 q shapeCasts_S512x128_S512x128)
    (shapeCast S512x128 k shapeCasts_S512x128_S512x128) (shapeCast S512x128 v shapeCasts_S512x128_S512x128)
  let a : Vec F S512x128 .f32 ← Prog.lift (.load arg11 (colR hp).toLoadRect (View.loadsAt_vmem h_S512x128))
  let _a : Vec F S512x128 .f32 ← Prog.lift (.load arg11 (colR hp).toLoadRect (View.loadsAt_vmem h_S512x128))
  Prog.lift (.store arg11 (colR hp) (accV a x.1 y.1 x.2 y.2) Finset.univ (View.stores_vmem_bits_univ h_S512x128 rfl) (.inl rfl))
  pure ⟨⟩

/-- One whole step: the four pairs of heads. -/
def stepP (msk : Bool) (arg3 arg4 arg5 : Memref sig .tc .vmem S512x512 .bf16)
    (arg6 : Memref sig .tc .vmem S8x512 .f32) (arg9 arg10 : Memref sig .tc .vmem S8x512x128 .f32)
    (arg11 : Memref sig .tc .vmem S512x512 .f32) : Prog (TpuEff nD τ sig (Elt F) Λ₀ .tc) PUnit := do
  pairP msk 0 arg3 arg4 arg5 arg6 arg9 arg10 arg11
  pairP msk 1 arg3 arg4 arg5 arg6 arg9 arg10 arg11
  pairP msk 2 arg3 arg4 arg5 arg6 arg9 arg10 arg11
  pairP msk 3 arg3 arg4 arg5 arg6 arg9 arg10 arg11

end Cert.AttnIdeal.Run

end
-- ==== Proof.FI.BodyEq.lean ====
/-
  The whole body of the attention's forward kernel as guarded stretches: clear, step, and at a diagonal block write
  out. The printed body is shown to be this program.
-/
module

public import proofs.«01_k».proof.Proof.FI.Step

@[expose] public section

noncomputable section

namespace Cert.AttnIdeal.Run

open Cert.AttnIdeal Cert.AttnIdeal.Gen
open Idealize.ShloMosaic Idealize.SL.Sem

variable {F : FTy → Type} [FloatOps F] [Named F]

/-- A row's log-sum, from the slabs that hold the maximum and the sum repeated over the lanes. -/
def outRowV (m l : Vec F S1x512x128 .f32) : FVec F S1x512 .f32 :=
  extractStridedSlice S1x512 ![0, 0] (transpose S128x512 [1, 0]
    (addf (shapeCast S512x128 m shapeCasts_S1x512x128_S512x128) (log (shapeCast S512x128 l shapeCasts_S1x512x128_S512x128)))
    transposes_S512x128_p1_0_S128x512) slices_S128x512_o0_0_S1x512

/-- One head's row of log-sums, written out. -/
def rowP (h : Fin 8) (arg8 : Memref sig .tc .vmem S8x512 .f32) (arg9 arg10 : Memref sig .tc .vmem S8x512x128 .f32) :
    Prog (TpuEff nD τ sig (Elt F) Λ₀ .tc) PUnit := do
  let m : Vec F S1x512x128 .f32 ← Prog.lift (.load arg9 (slabR h).toLoadRect (View.loadsAt_vmem h_S1x512x128))
  let l : Vec F S1x512x128 .f32 ← Prog.lift (.load arg10 (slabR h).toLoadRect (View.loadsAt_vmem h_S1x512x128))
  let _a : Vec F S1x512 .f32 ← Prog.lift (.load arg8 (rowR h).toLoadRect (View.loadsAt_vmem h_S1x512))
  Prog.lift (.store arg8 (rowR h) (outRowV m l) Finset.univ (View.stores_vmem_bits_univ h_S1x512 rfl) (.inl rfl))

/-- A pair's attention: the weighted sums over the sums of weights. -/
def outV (a : Vec F S512x128 .f32) (x y : Vec F S1x512x128 .f32) : FVec F S512x128 .bf16 :=
  truncf .bf16 (divf a (select loV (shapeCast S512x128 x shapeCasts_S1x512x128_S512x128)
    (shapeCast S512x128 y shapeCasts_S1x512x128_S512x128))) bitsLt_bf16_f32

/-- A pair's columns are whole words of the sixteen-bit buffer. -/
theorem packed_col : ∀ hp : Fin 4, (colR hp).PackedRows (EltTy.packing .bf16) := by
  intro hp
  match hp with
  | 0 => exact packedbf16_S512x512_S512x128_0_0
  | 1 => exact packedbf16_S512x512_S512x128_0_128
  | 2 => exact packedbf16_S512x512_S512x128_0_256
  | 3 => exact packedbf16_S512x512_S512x128_0_384

/-- One pair's attention, written out. -/
def oP (hp : Fin 4) (arg7 : Memref sig .tc .vmem S512x512 .bf16) (harg7 : arg7.IsWhole)
    (arg10 : Memref sig .tc .vmem S8x512x128 .f32) (arg11 : Memref sig .tc .vmem S512x512 .f32) :
    Prog (TpuEff nD τ sig (Elt F) Λ₀ .tc) PUnit := do
  let a : Vec F S512x128 .f32 ← Prog.lift (.load arg11 (colR hp).toLoadRect (View.loadsAt_vmem h_S512x128))
  let x : Vec F S1x512x128 .f32 ← Prog.lift (.load arg10 (slabR (headOf hp 0)).toLoadRect (View.loadsAt_vmem h_S1x512x128))
  let y : Vec F S1x512x128 .f32 ← Prog.lift (.load arg10 (slabR (headOf hp 1)).toLoadRect (View.loadsAt_vmem h_S1x512x128))
  let _o : Vec F S512x128 .bf16 ← Prog.lift (.load arg7 (colR hp).toLoadRect (View.loadsAt_vmem h_S512x128))
  Prog.lift (.store arg7 (colR hp) (outV a x y) Finset.univ (View.stores_vmem h_S512x128 (harg7.storeExact_slice rfl _ (packed_col hp)) (fun _ => rfl)) (.inl rfl))

/-- The end of a query block: its two results written out. -/
def flushP (arg7 : Memref sig .tc .vmem S512x512 .bf16) (harg7 : arg7.IsWhole) (arg8 : Memref sig .tc .vmem S8x512 .f32)
    (arg9 arg10 : Memref sig .tc .vmem S8x512x128 .f32) (arg11 : Memref sig .tc .vmem S512x512 .f32) :
    Prog (TpuEff nD τ sig (Elt F) Λ₀ .tc) PUnit := do
  oP 0 arg7 harg7 arg10 arg11
  oP 1 arg7 harg7 arg10 arg11
  oP 2 arg7 harg7 arg10 arg11
  oP 3 arg7 harg7 arg10 arg11
  rowP 0 arg8 arg9 arg10
  rowP 1 arg8 arg9 arg10
  rowP 2 arg8 arg9 arg10
  rowP 3 arg8 arg9 arg10
  rowP 4 arg8 arg9 arg10
  rowP 5 arg8 arg9 arg10
  rowP 6 arg8 arg9 arg10
  rowP 7 arg8 arg9 arg10

/-- The start of a query block: its running maxima, sums and weighted sums reset. -/
def initP (arg9 arg10 : Memref sig .tc .vmem S8x512x128 .f32) (arg11 : Memref sig .tc .vmem S512x512 .f32) :
    Prog (TpuEff nD τ sig (Elt F) Λ₀ .tc) PUnit := do
  let _a : Vec F S8x512x128 .f32 ← Prog.lift (.load arg9 (Rect.unit (s := S8x512x128) ![0, 0, 0] S8x512x128.size inb_S8x512x128_S8x512x128_0_0_0).toLoadRect (View.loadsAt_vmem h_S8x512x128))
  Prog.lift (.store arg9 (Rect.unit (s := S8x512x128) ![0, 0, 0] S8x512x128.size inb_S8x512x128_S8x512x128_0_0_0) (shapeCast S8x512x128 (broadcast S8x512x128 (negM : F .f32)) shapeCasts_S8x512x128_S8x512x128) Finset.univ (View.stores_vmem_bits_univ h_S8x512x128 rfl) (.inl rfl))
  let _b : Vec F S8x512x128 .f32 ← Prog.lift (.load arg10 (Rect.unit (s := S8x512x128) ![0, 0, 0] S8x512x128.size inb_S8x512x128_S8x512x128_0_0_0).toLoadRect (View.loadsAt_vmem h_S8x512x128))
  Prog.lift (.store arg10 (Rect.unit (s := S8x512x128) ![0, 0, 0] S8x512x128.size inb_S8x512x128_S8x512x128_0_0_0) (shapeCast S8x512x128 (broadcast S8x512x128 (Scalar.ofBits .f32 0x00000000#32 : F .f32)) shapeCasts_S8x512x128_S8x512x128) Finset.univ (View.stores_vmem_bits_univ h_S8x512x128 rfl) (.inl rfl))
  let _d : Vec F S512x512 .f32 ← Prog.lift (.load arg11 (Rect.unit (s := S512x512) ![0, 0] S512x512.size inb_S512x512_S512x512_0_0).toLoadRect (View.loadsAt_vmem h_S512x512))
  Prog.lift (.store arg11 (Rect.unit (s := S512x512) ![0, 0] S512x512.size inb_S512x512_S512x512_0_0) (shapeCast S512x512 (broadcast S512x512 (Scalar.ofBits .f32 0x00000000#32 : F .f32)) shapeCasts_S512x512_S512x512) Finset.univ (View.stores_vmem_bits_univ h_S512x512 rfl) (.inl rfl))

/-- The first key block of a query block. -/
def condZ (v3 : BitVec 32) : BitVec 1 := Scalar.cmpi .ne (Scalar.extui (Scalar.cmpi .eq v3 0#32)) 0#32
/-- A key block before the diagonal. -/
def condL (v1 v3 : BitVec 32) : BitVec 1 := Scalar.cmpi .ne (Scalar.extui (Scalar.cmpi .slt v3 v1)) 0#32

/-- A diagonal block: a masked step, then the results. -/
def diagP (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) : Prog (TpuEff nD τ sig (Elt F) Λ₀ .tc) PUnit := do
  stepP true arg3 arg4 arg5 arg6 arg9 arg10 arg11
  flushP arg7 harg7 arg8 arg9 arg10 arg11

/-- The body once the two table words are read: three guarded stretches. -/
def restP (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) (v1 v3 : BitVec 32) :
    Prog (TpuEff nD τ sig (Elt F) Λ₀ .tc) PUnit :=
  (if condZ v3 = 1#1 then initP arg9 arg10 arg11 else pure ⟨⟩) >>= fun _ =>
  (if condL v1 v3 = 1#1 then stepP false arg3 arg4 arg5 arg6 arg9 arg10 arg11 else pure ⟨⟩) >>= fun _ =>
  (if k0_cond3 v1 v3 = 1#1 then diagP arg3 harg3 arg4 harg4 arg5 harg5 arg6 harg6 arg7 harg7 arg8 harg8 arg9 harg9 arg10 harg10 arg11 harg11 else pure ⟨⟩)

/-- The same with each stretch's continuation inside its guard. -/
def restD (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) (v1 v3 : BitVec 32) :
    Prog (TpuEff nD τ sig (Elt F) Λ₀ .tc) PUnit := do
  if condZ v3 = 1#1 then initP arg9 arg10 arg11 else pure ⟨⟩
  if condL v1 v3 = 1#1 then stepP false arg3 arg4 arg5 arg6 arg9 arg10 arg11 else pure ⟨⟩
  if _h : k0_cond3 v1 v3 = 1#1 then diagP arg3 harg3 arg4 harg4 arg5 harg5 arg6 harg6 arg7 harg7 arg8 harg8 arg9 harg9 arg10 harg10 arg11 harg11 else pure ⟨⟩

theorem rest_eq (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) (v1 v3 : BitVec 32) :
    restD (F := F) arg3 harg3 arg4 harg4 arg5 harg5 arg6 harg6 arg7 harg7 arg8 harg8 arg9 harg9 arg10 harg10 arg11 harg11 v1 v3 = restP arg3 harg3 arg4 harg4 arg5 harg5 arg6 harg6 arg7 harg7 arg8 harg8 arg9 harg9 arg10 harg10 arg11 harg11 v1 v3 := by
  unfold restD restP
  by_cases h1 : condZ v3 = 1#1 <;> by_cases h3 : condL v1 v3 = 1#1 <;> by_cases h4 : k0_cond3 v1 v3 = 1#1 <;>
    simp only [h1, h3, h4, ↓reduceDIte, ↓reduceIte] <;> rfl

/-- The body with each stretch's continuation inside its guard. -/
def bodyD (i : grid0.Coords) (arg1 : Memref sig .tc .smem S36 .i32) (harg1 : arg1.IsWhole) (arg2 : Memref sig .tc .smem S36 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) :
    Prog (TpuEff nD τ sig (Elt F) Λ₀ .tc) PUnit := do
  let v1 : Elt F .i32 ← smemLoad arg1 (Rect.unit (s := S36) (k0_off1 i) S1.size (k0_off1_inb i)) numel1_S1 rfl
  let v3 : Elt F .i32 ← smemLoad arg2 (Rect.unit (s := S36) (k0_off1 i) S1.size (k0_off1_inb i)) numel1_S1 rfl
  restD arg3 harg3 arg4 harg4 arg5 harg5 arg6 harg6 arg7 harg7 arg8 harg8 arg9 harg9 arg10 harg10 arg11 harg11 v1 v3

/-- The body: the two table words read, then the rest. -/
def bodyP (i : grid0.Coords) (arg1 : Memref sig .tc .smem S36 .i32) (harg1 : arg1.IsWhole) (arg2 : Memref sig .tc .smem S36 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) :
    Prog (TpuEff nD τ sig (Elt F) Λ₀ .tc) PUnit := do
  let v1 : Elt F .i32 ← smemLoad arg1 (Rect.unit (s := S36) (k0_off1 i) S1.size (k0_off1_inb i)) numel1_S1 rfl
  let v3 : Elt F .i32 ← smemLoad arg2 (Rect.unit (s := S36) (k0_off1 i) S1.size (k0_off1_inb i)) numel1_S1 rfl
  restP arg3 harg3 arg4 harg4 arg5 harg5 arg6 harg6 arg7 harg7 arg8 harg8 arg9 harg9 arg10 harg10 arg11 harg11 v1 v3

set_option maxRecDepth 100000 in
set_option maxHeartbeats 4000000 in
/-- The printed body is this one. -/
theorem body_eq (i : grid0.Coords) (arg1 : Memref sig .tc .smem S36 .i32) (harg1 : arg1.IsWhole) (arg2 : Memref sig .tc .smem S36 .i32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x512 .f32) (harg11 : arg11.IsWhole) :
    cc0_attn_fwd (F := F) i arg1 harg1 arg2 harg2 arg3 harg3 arg4 harg4 arg5 harg5 arg6 harg6 arg7 harg7 arg8 harg8 arg9 harg9 arg10 harg10 arg11 harg11 = bodyP i arg1 harg1 arg2 harg2 arg3 harg3 arg4 harg4 arg5 harg5 arg6 harg6 arg7 harg7 arg8 harg8 arg9 harg9 arg10 harg10 arg11 harg11 := by
  have h : cc0_attn_fwd (F := F) i arg1 harg1 arg2 harg2 arg3 harg3 arg4 harg4 arg5 harg5 arg6 harg6 arg7 harg7 arg8 harg8 arg9 harg9 arg10 harg10 arg11 harg11 = bodyD i arg1 harg1 arg2 harg2 arg3 harg3 arg4 harg4 arg5 harg5 arg6 harg6 arg7 harg7 arg8 harg8 arg9 harg9 arg10 harg10 arg11 harg11 := rfl
  rw [h]
  unfold bodyD bodyP
  simp only [rest_eq]

end Cert.AttnIdeal.Run

end
-- ==== Proof.FI.Rules.lean ====
/-
  A load and a store of a memref whose contents are named: what the load reads and what the store leaves, as functions
  of the contents.
-/
module

public import proofs.«01_k».proof.Proof.FI.BodyEq
public import Idealize.ShloMosaic.Lib.Tactic
public import Idealize.ShloMosaic.Lib.Pipeline.Kit
public import Idealize.ShloMosaic.Lib.VecWindow
public import Idealize.ShloMosaic.Lib.Pipeline.FrameBody
public import Idealize.ShloMosaic.Lib.Pipeline.TableIdle

@[expose] public section

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (𝒱 : Variants) (E : Set ℕ) (c : Dev nD)

/-- A load reads the named contents at its rectangle. -/
theorem ld_rule {sp : CoreSpace} {S : Shape} {e : EltTy} {m : Memref sig .tc sp S e} {r : Rect S} {hl : m.view.LoadsAt r.toLoadRect}
    {q : PosShare TreeShare} (X : S.Idx → Elt F e) {K : (r.shape.Idx → Elt F e) → sProp 𝕄} :
    (owns (c : Thread nD τ) m q X : sProp 𝕄)
      ⊢ iprop((owns (c : Thread nD τ) m q X -∗ K (View.ld X r))
        -∗ wp frame (wpE (defs₀ (F := F)) 𝒱 c none) E (Prog.lift (TpuEff.load m r.toLoadRect hl)) K) := by
  iintro H HK
  unfold owns
  icases H with ⟨%f, %hf, H⟩
  iapply (wp_load 𝒱 (c : Thread nD τ) none E (m := m) (r := r.toLoadRect) (View.setOn_subset_set m.view _)) $$ H
  iintro H
  iapply (le_wp_ret _ _ _ _ K)
  subst hf
  rw [show m.view.readAt (Elt F) r.toLoadRect f = View.ld (View.read (Elt F) m.view f) r from rfl]
  iapply HK
  iexists f
  isplitr; · ipureintro; rfl
  iexact H

/-- A store leaves the named contents with its payload put at its rectangle. -/
theorem st_rule {sp : CoreSpace} {S : Shape} {e : EltTy} {m : Memref sig .tc sp S e} {off size : Fin S.rank → ℕ}
    {inb : ∀ a, off a + size a ≤ S.size a} {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    (X : S.Idx → Elt F e) {K : PUnit → sProp 𝕄} :
    (owns (c : Thread nD τ) m fullShare X : sProp 𝕄)
      ⊢ iprop((owns (c : Thread nD τ) m fullShare (VecWindow.put X off size w) -∗ K ⟨⟩)
        -∗ wp frame (wpE (defs₀ (F := F)) 𝒱 c none) E (Prog.lift (TpuEff.store m (Rect.unit off size inb) w Finset.univ hx hm)) K) := by
  iintro H HK
  unfold owns
  icases H with ⟨%f, %hf, H⟩
  have hS : (m.access (Rect.unit off size inb)).setOn Finset.univ ⊆ m.view.set := by
    rw [View.setOn_univ]; exact View.set_slice_subset m.view _
  iapply (wp_store (defs := defs₀ (F := F)) 𝒱 (c : Thread nD τ) none E (m := m) (r := Rect.unit off size inb) (w := w) (Mk := Finset.univ)
    (hx := hx) (hm := hm) (k := Prog.ret) (Q := K) (f := f) hS) $$ H
  iintro H
  iapply (le_wp_ret _ _ _ _ K)
  subst hf
  iapply HK
  iexists _
  isplitr
  rotate_left
  · iexact H
  ipureintro
  exact View.read_writes_cons_put m.view f inb w [] rfl

end Cert.AttnIdeal.Run

end
-- ==== Proof.FI.Run.lean ====
/-
  What each stretch of the body does to the accumulators, as functions of their contents, and the proof that it does.
-/
module

public import proofs.«01_k».proof.Proof.FI.Rules

@[expose] public section

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

/-- The buffers a step works on: four inputs', two results' and three accumulators'. -/
structure Mem where
  a3 : Memref sig .tc .vmem S512x512 .bf16
  a4 : Memref sig .tc .vmem S512x512 .bf16
  a5 : Memref sig .tc .vmem S512x512 .bf16
  a6 : Memref sig .tc .vmem S8x512 .f32
  a7 : Memref sig .tc .vmem S512x512 .bf16
  a8 : Memref sig .tc .vmem S8x512 .f32
  a9 : Memref sig .tc .vmem S8x512x128 .f32
  a10 : Memref sig .tc .vmem S8x512x128 .f32
  a11 : Memref sig .tc .vmem S512x512 .f32

/-- The blocks a step reads. -/
structure In (F : FTy → Type) where
  q : Vec F S512x512 .bf16
  k : Vec F S512x512 .bf16
  v : Vec F S512x512 .bf16
  ck : Vec F S8x512 .f32

/-- What the accumulators hold: the running maxima, the sums of weights, the weighted sums. -/
structure St (F : FTy → Type) where
  m : Vec F S8x512x128 .f32
  l : Vec F S8x512x128 .f32
  acc : Vec F S512x512 .f32

/-- What the results' buffers hold. -/
structure Out (F : FTy → Type) where
  o : Vec F S512x512 .bf16
  row : Vec F S8x512 .f32

/-- The inputs' buffers held at the blocks. -/
def inO (c : Dev nD) (M : Mem) (I : In F) : sProp 𝕄 :=
  iprop(owns (c : Thread nD τ) M.a3 fullShare I.q ∗ owns (c : Thread nD τ) M.a4 fullShare I.k ∗ owns (c : Thread nD τ) M.a5 fullShare I.v
    ∗ owns (c : Thread nD τ) M.a6 fullShare I.ck)

/-- The accumulators held at their contents. -/
def stO (c : Dev nD) (M : Mem) (S : St F) : sProp 𝕄 :=
  iprop(owns (c : Thread nD τ) M.a9 fullShare S.m ∗ owns (c : Thread nD τ) M.a10 fullShare S.l ∗ owns (c : Thread nD τ) M.a11 fullShare S.acc)

/-- The results' buffers held at their contents. -/
def outO (c : Dev nD) (M : Mem) (R : Out F) : sProp 𝕄 :=
  iprop(owns (c : Thread nD τ) M.a7 fullShare R.o ∗ owns (c : Thread nD τ) M.a8 fullShare R.row)

/-- A pair's columns of a block, as the body reads them. -/
def colB (hp : Fin 4) (X : Vec F S512x512 .bf16) : FVec F S512x128 .bf16 :=
  shapeCast S512x128 (View.ld X (colR hp) : Vec F S512x128 .bf16) shapeCasts_S512x128_S512x128

/-- The logits of a head at a step. -/
def sI (msk : Bool) (hp : Fin 4) (hh : Fin 2) (I : In F) : FVec F S512x512 .f32 :=
  stV msk hh (colB hp I.q) (colB hp I.k) (View.ld I.ck (rowR (headOf hp hh)) : Vec F S1x512 .f32)

/-- A head's slab. -/
def slab (hp : Fin 4) (hh : Fin 2) (X : Vec F S8x512x128 .f32) : Vec F S1x512x128 .f32 := View.ld X (slabR (headOf hp hh))

/-- The maxima after one head of a step. -/
def mS (msk : Bool) (hp : Fin 4) (hh : Fin 2) (I : In F) (X : Vec F S8x512x128 .f32) : Vec F S8x512x128 .f32 :=
  VecWindow.put X ![(headOf hp hh).val, 0, 0] S1x512x128.size (mV (sI msk hp hh I) (slab hp hh X))
/-- The sums of weights after one head of a step, the maxima having been `Y`. -/
def lS (msk : Bool) (hp : Fin 4) (hh : Fin 2) (I : In F) (Y X : Vec F S8x512x128 .f32) : Vec F S8x512x128 .f32 :=
  VecWindow.put X ![(headOf hp hh).val, 0, 0] S1x512x128.size (lV (sI msk hp hh I) (slab hp hh Y) (slab hp hh X))
/-- The weighted sums after one pair of a step, its heads' maxima having been `Y` and `Z`. -/
def accS (msk : Bool) (hp : Fin 4) (I : In F) (Y Z : Vec F S8x512x128 .f32) (X : Vec F S512x512 .f32) : Vec F S512x512 .f32 :=
  VecWindow.put X ![0, 128 * hp.val] S512x128.size
    (accV (View.ld X (colR hp) : Vec F S512x128 .f32) (alV (sI msk hp 0 I) (slab hp 0 Y)) (alV (sI msk hp 1 I) (slab hp 1 Z))
      (pvV (sI msk hp 0 I) (slab hp 0 Y) (colB hp I.v)) (pvV (sI msk hp 1 I) (slab hp 1 Z) (colB hp I.v)))

/-- The accumulators after one pair of a step. -/
def pairS (msk : Bool) (hp : Fin 4) (I : In F) (S : St F) : St F where
  m := mS msk hp 1 I (mS msk hp 0 I S.m)
  l := lS msk hp 1 I (mS msk hp 0 I S.m) (lS msk hp 0 I S.m S.l)
  acc := accS msk hp I S.m (mS msk hp 0 I S.m) S.acc

/-- The accumulators after one step. -/
def stepS (msk : Bool) (I : In F) (S : St F) : St F :=
  pairS msk 3 I (pairS msk 2 I (pairS msk 1 I (pairS msk 0 I S)))

variable (𝒱 : Variants) (E : Set ℕ) (c : Dev nD)

/-- One pair of heads runs and leaves the accumulators so. -/
theorem pairP_run (msk : Bool) (hp : Fin 4) (M : Mem) (I : In F) (S : St F) (K : PUnit → sProp 𝕄) :
    iprop(inO c M I ∗ stO c M S ∗ (inO c M I ∗ stO c M (pairS msk hp I S) -∗ K ⟨⟩))
      ⊢ wp frame (wpE (defs₀ (F := F)) 𝒱 c none) E (pairP msk hp M.a3 M.a4 M.a5 M.a6 M.a9 M.a10 M.a11) K := by
  unfold inO stO
  iintro ⟨⟨Hq, Hk, Hv, Hck⟩, ⟨H9, H10, H11⟩, HK⟩
  unfold pairP headP
  simp only [wp_bind]
  iapply (ld_rule 𝒱 E c I.q) $$ Hq; iintro Hq
  iapply (ld_rule 𝒱 E c I.k) $$ Hk; iintro Hk
  iapply (ld_rule 𝒱 E c I.v) $$ Hv; iintro Hv
  iapply (ld_rule 𝒱 E c I.ck) $$ Hck; iintro Hck
  iapply (ld_rule 𝒱 E c S.m) $$ H9; iintro H9
  iapply (ld_rule 𝒱 E c S.l) $$ H10; iintro H10
  iapply (ld_rule 𝒱 E c S.l) $$ H10; iintro H10
  iapply (st_rule 𝒱 E c S.l) $$ H10; iintro H10
  iapply (ld_rule 𝒱 E c S.m) $$ H9; iintro H9
  iapply (st_rule 𝒱 E c S.m) $$ H9; iintro H9
  iapply (le_wp_ret _ _ _ _ _)
  iapply (ld_rule 𝒱 E c I.ck) $$ Hck; iintro Hck
  iapply (ld_rule 𝒱 E c _) $$ H9; iintro H9
  iapply (ld_rule 𝒱 E c _) $$ H10; iintro H10
  iapply (ld_rule 𝒱 E c _) $$ H10; iintro H10
  iapply (st_rule 𝒱 E c _) $$ H10; iintro H10
  iapply (ld_rule 𝒱 E c _) $$ H9; iintro H9
  iapply (st_rule 𝒱 E c _) $$ H9; iintro H9
  iapply (le_wp_ret _ _ _ _ _)
  iapply (ld_rule 𝒱 E c S.acc) $$ H11; iintro H11
  iapply (ld_rule 𝒱 E c S.acc) $$ H11; iintro H11
  iapply (st_rule 𝒱 E c S.acc) $$ H11; iintro H11
  iapply (le_wp_ret _ _ _ _ _)
  iapply HK
  isplitl [Hq Hk Hv Hck]
  · iframe
  · isplitl [H9]; · iexact H9
    isplitl [H10]; · iexact H10
    iexact H11

/-- One step runs and leaves the accumulators so. -/
theorem stepP_run (msk : Bool) (M : Mem) (I : In F) (S : St F) (K : PUnit → sProp 𝕄) :
    iprop(inO c M I ∗ stO c M S ∗ (inO c M I ∗ stO c M (stepS msk I S) -∗ K ⟨⟩))
      ⊢ wp frame (wpE (defs₀ (F := F)) 𝒱 c none) E (stepP msk M.a3 M.a4 M.a5 M.a6 M.a9 M.a10 M.a11) K := by
  iintro ⟨HI, HS, HK⟩
  unfold stepP
  simp only [wp_bind]
  iapply (pairP_run 𝒱 E c msk 0 M I _ _)
  isplitl [HI]; · iexact HI
  isplitl [HS]; · iexact HS
  iintro ⟨HI, HS⟩
  iapply (pairP_run 𝒱 E c msk 1 M I _ _)
  isplitl [HI]; · iexact HI
  isplitl [HS]; · iexact HS
  iintro ⟨HI, HS⟩
  iapply (pairP_run 𝒱 E c msk 2 M I _ _)
  isplitl [HI]; · iexact HI
  isplitl [HS]; · iexact HS
  iintro ⟨HI, HS⟩
  iapply (pairP_run 𝒱 E c msk 3 M I _ _)
  isplitl [HI]; · iexact HI
  isplitl [HS]; · iexact HS
  iintro ⟨HI, HS⟩
  iapply HK
  isplitl [HI]; · iexact HI
  iexact HS

/-- A payload put over a whole array is the payload. -/
theorem put_full {α : Type} {s : Shape} (x : s.Idx → α) (off : Fin s.rank → ℕ) (h0 : ∀ a, off a = 0) (w : s.Idx → α) :
    VecWindow.put x off s.size w = w := by
  funext y
  unfold VecWindow.put
  rw [dif_pos (fun a => ⟨by rw [h0 a]; exact Nat.zero_le _, by rw [h0 a, Nat.zero_add]; exact (y a).isLt⟩)]
  refine congrArg w (funext fun a => Fin.ext ?_)
  show (y a).val - off a = (y a).val
  rw [h0 a, Nat.sub_zero]

/-- The accumulators reset. -/
def initS : St F where
  m := shapeCast S8x512x128 (broadcast S8x512x128 (negM : F .f32)) shapeCasts_S8x512x128_S8x512x128
  l := shapeCast S8x512x128 (broadcast S8x512x128 (Scalar.ofBits .f32 0x00000000#32 : F .f32)) shapeCasts_S8x512x128_S8x512x128
  acc := shapeCast S512x512 (broadcast S512x512 (Scalar.ofBits .f32 0x00000000#32 : F .f32)) shapeCasts_S512x512_S512x512

theorem initP_run (M : Mem) (S : St F) (K : PUnit → sProp 𝕄) :
    iprop(stO c M S ∗ (stO c M initS -∗ K ⟨⟩))
      ⊢ wp frame (wpE (defs₀ (F := F)) 𝒱 c none) E (initP M.a9 M.a10 M.a11) K := by
  unfold stO
  iintro ⟨⟨H9, H10, H11⟩, HK⟩
  unfold initP
  simp only [wp_bind]
  iapply (ld_rule 𝒱 E c S.m) $$ H9; iintro H9
  iapply (st_rule 𝒱 E c S.m) $$ H9; iintro H9
  iapply (ld_rule 𝒱 E c S.l) $$ H10; iintro H10
  iapply (st_rule 𝒱 E c S.l) $$ H10; iintro H10
  iapply (ld_rule 𝒱 E c S.acc) $$ H11; iintro H11
  iapply (st_rule 𝒱 E c S.acc) $$ H11; iintro H11
  iapply HK
  rw [put_full (s := S8x512x128) S.m _ (by intro a; fin_cases a <;> rfl), put_full (s := S8x512x128) S.l _ (by intro a; fin_cases a <;> rfl),
    put_full (s := S512x512) S.acc _ (by intro a; fin_cases a <;> rfl)]
  isplitl [H9]; · iexact H9
  isplitl [H10]; · iexact H10
  iexact H11

/-- A pair's attention written into a block. -/
def oF1 (hp : Fin 4) (S : St F) (X : Vec F S512x512 .bf16) : Vec F S512x512 .bf16 :=
  VecWindow.put X ![0, 128 * hp.val] S512x128.size
    (outV (View.ld S.acc (colR hp) : Vec F S512x128 .f32) (slab hp 0 S.l) (slab hp 1 S.l))
/-- All four pairs'. -/
def oF (S : St F) (X : Vec F S512x512 .bf16) : Vec F S512x512 .bf16 := oF1 3 S (oF1 2 S (oF1 1 S (oF1 0 S X)))

/-- Row `h` of the log-sums written into a table. -/
def rowF (h : Fin 8) (S : St F) (X : Vec F S8x512 .f32) : Vec F S8x512 .f32 :=
  VecWindow.put X ![h.val, 0] S1x512.size
    (outRowV (View.ld S.m (slabR h) : Vec F S1x512x128 .f32) (View.ld S.l (slabR h) : Vec F S1x512x128 .f32))
/-- All eight rows. -/
def rowsF (S : St F) (X : Vec F S8x512 .f32) : Vec F S8x512 .f32 :=
  rowF 7 S (rowF 6 S (rowF 5 S (rowF 4 S (rowF 3 S (rowF 2 S (rowF 1 S (rowF 0 S X)))))))

/-- The results' buffers after a query block's end. -/
def flushR (S : St F) (R : Out F) : Out F where
  o := oF S R.o
  row := rowsF S R.row

theorem oP_run (hp : Fin 4) (M : Mem) (h7 : M.a7.IsWhole) (S : St F) (X : Vec F S512x512 .bf16) (K : PUnit → sProp 𝕄) :
    iprop(owns (c : Thread nD τ) M.a10 fullShare S.l ∗ owns (c : Thread nD τ) M.a11 fullShare S.acc ∗ owns (c : Thread nD τ) M.a7 fullShare X
        ∗ (owns (c : Thread nD τ) M.a10 fullShare S.l ∗ owns (c : Thread nD τ) M.a11 fullShare S.acc ∗ owns (c : Thread nD τ) M.a7 fullShare (oF1 hp S X) -∗ K ⟨⟩))
      ⊢ wp frame (wpE (defs₀ (F := F)) 𝒱 c none) E (oP hp M.a7 h7 M.a10 M.a11) K := by
  iintro ⟨H10, H11, H7, HK⟩
  unfold oP
  simp only [wp_bind]
  iapply (ld_rule 𝒱 E c S.acc) $$ H11; iintro H11
  iapply (ld_rule 𝒱 E c S.l) $$ H10; iintro H10
  iapply (ld_rule 𝒱 E c S.l) $$ H10; iintro H10
  iapply (ld_rule 𝒱 E c X) $$ H7; iintro H7
  iapply (st_rule 𝒱 E c X) $$ H7; iintro H7
  iapply HK
  isplitl [H10]; · iexact H10
  isplitl [H11]; · iexact H11
  iexact H7

theorem rowP_run (h : Fin 8) (M : Mem) (S : St F) (X : Vec F S8x512 .f32) (K : PUnit → sProp 𝕄) :
    iprop(owns (c : Thread nD τ) M.a9 fullShare S.m ∗ owns (c : Thread nD τ) M.a10 fullShare S.l ∗ owns (c : Thread nD τ) M.a8 fullShare X
        ∗ (owns (c : Thread nD τ) M.a9 fullShare S.m ∗ owns (c : Thread nD τ) M.a10 fullShare S.l ∗ owns (c : Thread nD τ) M.a8 fullShare (rowF h S X) -∗ K ⟨⟩))
      ⊢ wp frame (wpE (defs₀ (F := F)) 𝒱 c none) E (rowP h M.a8 M.a9 M.a10) K := by
  iintro ⟨H9, H10, H8, HK⟩
  unfold rowP
  simp only [wp_bind]
  iapply (ld_rule 𝒱 E c S.m) $$ H9; iintro H9
  iapply (ld_rule 𝒱 E c S.l) $$ H10; iintro H10
  iapply (ld_rule 𝒱 E c X) $$ H8; iintro H8
  iapply (st_rule 𝒱 E c X) $$ H8; iintro H8
  iapply HK
  isplitl [H9]; · iexact H9
  isplitl [H10]; · iexact H10
  iexact H8

theorem flushP_run (M : Mem) (h7 : M.a7.IsWhole) (S : St F) (R : Out F) (K : PUnit → sProp 𝕄) :
    iprop(stO c M S ∗ outO c M R ∗ (stO c M S ∗ outO c M (flushR S R) -∗ K ⟨⟩))
      ⊢ wp frame (wpE (defs₀ (F := F)) 𝒱 c none) E (flushP M.a7 h7 M.a8 M.a9 M.a10 M.a11) K := by
  unfold stO outO
  iintro ⟨⟨H9, H10, H11⟩, ⟨H7, H8⟩, HK⟩
  unfold flushP
  simp only [wp_bind]
  iapply (oP_run 𝒱 E c 0 M h7 S _ _)
  isplitl [H10]; · iexact H10
  isplitl [H11]; · iexact H11
  isplitl [H7]; · iexact H7
  iintro ⟨H10, H11, H7⟩
  iapply (oP_run 𝒱 E c 1 M h7 S _ _)
  isplitl [H10]; · iexact H10
  isplitl [H11]; · iexact H11
  isplitl [H7]; · iexact H7
  iintro ⟨H10, H11, H7⟩
  iapply (oP_run 𝒱 E c 2 M h7 S _ _)
  isplitl [H10]; · iexact H10
  isplitl [H11]; · iexact H11
  isplitl [H7]; · iexact H7
  iintro ⟨H10, H11, H7⟩
  iapply (oP_run 𝒱 E c 3 M h7 S _ _)
  isplitl [H10]; · iexact H10
  isplitl [H11]; · iexact H11
  isplitl [H7]; · iexact H7
  iintro ⟨H10, H11, H7⟩
  iapply (rowP_run 𝒱 E c 0 M S _ _)
  isplitl [H9]; · iexact H9
  isplitl [H10]; · iexact H10
  isplitl [H8]; · iexact H8
  iintro ⟨H9, H10, H8⟩
  iapply (rowP_run 𝒱 E c 1 M S _ _)
  isplitl [H9]; · iexact H9
  isplitl [H10]; · iexact H10
  isplitl [H8]; · iexact H8
  iintro ⟨H9, H10, H8⟩
  iapply (rowP_run 𝒱 E c 2 M S _ _)
  isplitl [H9]; · iexact H9
  isplitl [H10]; · iexact H10
  isplitl [H8]; · iexact H8
  iintro ⟨H9, H10, H8⟩
  iapply (rowP_run 𝒱 E c 3 M S _ _)
  isplitl [H9]; · iexact H9
  isplitl [H10]; · iexact H10
  isplitl [H8]; · iexact H8
  iintro ⟨H9, H10, H8⟩
  iapply (rowP_run 𝒱 E c 4 M S _ _)
  isplitl [H9]; · iexact H9
  isplitl [H10]; · iexact H10
  isplitl [H8]; · iexact H8
  iintro ⟨H9, H10, H8⟩
  iapply (rowP_run 𝒱 E c 5 M S _ _)
  isplitl [H9]; · iexact H9
  isplitl [H10]; · iexact H10
  isplitl [H8]; · iexact H8
  iintro ⟨H9, H10, H8⟩
  iapply (rowP_run 𝒱 E c 6 M S _ _)
  isplitl [H9]; · iexact H9
  isplitl [H10]; · iexact H10
  isplitl [H8]; · iexact H8
  iintro ⟨H9, H10, H8⟩
  iapply (rowP_run 𝒱 E c 7 M S _ _)
  isplitl [H9]; · iexact H9
  isplitl [H10]; · iexact H10
  isplitl [H8]; · iexact H8
  iintro ⟨H9, H10, H8⟩
  iapply HK
  isplitl [H9 H10 H11]
  · isplitl [H9]; · iexact H9
    isplitl [H10]; · iexact H10
    iexact H11
  · isplitl [H7]; · iexact H7
    iexact H8

/-! The guarded stretches. -/

theorem guard_init (b : Prop) [Decidable b] (M : Mem) (S : St F) (K : PUnit → sProp 𝕄) :
    iprop(stO c M S ∗ (stO c M (if b then initS else S) -∗ K ⟨⟩))
      ⊢ wp frame (wpE (defs₀ (F := F)) 𝒱 c none) E (if b then initP M.a9 M.a10 M.a11 else pure ⟨⟩) K := by
  split
  · exact initP_run 𝒱 E c M S K
  · iintro ⟨HS, HK⟩; iapply (le_wp_ret _ _ _ _ _); iapply HK; iexact HS

theorem guard_step (b : Prop) [Decidable b] (msk : Bool) (M : Mem) (I : In F) (S : St F) (K : PUnit → sProp 𝕄) :
    iprop(inO c M I ∗ stO c M S ∗ (inO c M I ∗ stO c M (if b then stepS msk I S else S) -∗ K ⟨⟩))
      ⊢ wp frame (wpE (defs₀ (F := F)) 𝒱 c none) E
          (if b then stepP msk M.a3 M.a4 M.a5 M.a6 M.a9 M.a10 M.a11 else pure ⟨⟩) K := by
  split
  · exact stepP_run 𝒱 E c msk M I S K
  · iintro ⟨HI, HS, HK⟩; iapply (le_wp_ret _ _ _ _ _); iapply HK; isplitl [HI]; · iexact HI
    iexact HS

theorem diagP_run (M : Mem) (h3 : M.a3.IsWhole) (h4 : M.a4.IsWhole) (h5 : M.a5.IsWhole) (h6 : M.a6.IsWhole) (h7 : M.a7.IsWhole) (h8 : M.a8.IsWhole) (h9 : M.a9.IsWhole) (h10 : M.a10.IsWhole) (h11 : M.a11.IsWhole) (I : In F) (S : St F) (R : Out F) (K : PUnit → sProp 𝕄) :
    iprop(inO c M I ∗ stO c M S ∗ outO c M R
        ∗ (inO c M I ∗ stO c M (stepS true I S) ∗ outO c M (flushR (stepS true I S) R) -∗ K ⟨⟩))
      ⊢ wp frame (wpE (defs₀ (F := F)) 𝒱 c none) E (diagP M.a3 h3 M.a4 h4 M.a5 h5 M.a6 h6 M.a7 h7 M.a8 h8 M.a9 h9 M.a10 h10 M.a11 h11) K := by
  iintro ⟨HI, HS, HR, HK⟩
  unfold diagP
  simp only [wp_bind]
  iapply (stepP_run 𝒱 E c true M I S _)
  isplitl [HI]; · iexact HI
  isplitl [HS]; · iexact HS
  iintro ⟨HI, HS⟩
  iapply (flushP_run 𝒱 E c M h7 _ R _)
  isplitl [HS]; · iexact HS
  isplitl [HR]; · iexact HR
  iintro ⟨HS, HR⟩
  iapply HK
  isplitl [HI]; · iexact HI
  isplitl [HS]; · iexact HS
  iexact HR

theorem guard_diag (b : Prop) [Decidable b] (M : Mem) (h3 : M.a3.IsWhole) (h4 : M.a4.IsWhole) (h5 : M.a5.IsWhole) (h6 : M.a6.IsWhole) (h7 : M.a7.IsWhole) (h8 : M.a8.IsWhole) (h9 : M.a9.IsWhole) (h10 : M.a10.IsWhole) (h11 : M.a11.IsWhole) (I : In F) (S : St F) (R : Out F) (K : PUnit → sProp 𝕄) :
    iprop(inO c M I ∗ stO c M S ∗ outO c M R
        ∗ (inO c M I ∗ stO c M (if b then stepS true I S else S) ∗ outO c M (if b then flushR (stepS true I S) R else R) -∗ K ⟨⟩))
      ⊢ wp frame (wpE (defs₀ (F := F)) 𝒱 c none) E (if b then diagP M.a3 h3 M.a4 h4 M.a5 h5 M.a6 h6 M.a7 h7 M.a8 h8 M.a9 h9 M.a10 h10 M.a11 h11 else pure ⟨⟩) K := by
  split
  · exact diagP_run 𝒱 E c M h3 h4 h5 h6 h7 h8 h9 h10 h11 I S R K
  · iintro ⟨HI, HS, HR, HK⟩; iapply (le_wp_ret _ _ _ _ _); iapply HK
    isplitl [HI]; · iexact HI
    isplitl [HS]; · iexact HS
    iexact HR

/-- The accumulators before a point's diagonal stretch. -/
def preS (v1 v3 : BitVec 32) (I : In F) (S : St F) : St F :=
  let S₁ := if condZ v3 = 1#1 then initS else S
  if condL v1 v3 = 1#1 then stepS false I S₁ else S₁
/-- The accumulators after a point's body, and the results' buffers. -/
def ptS (v1 v3 : BitVec 32) (I : In F) (S : St F) : St F :=
  if k0_cond3 v1 v3 = 1#1 then stepS true I (preS v1 v3 I S) else preS v1 v3 I S
def ptR (v1 v3 : BitVec 32) (I : In F) (S : St F) (R : Out F) : Out F :=
  if k0_cond3 v1 v3 = 1#1 then flushR (stepS true I (preS v1 v3 I S)) R else R

/-- A point's body, its two table words read, runs and leaves that. -/
theorem restP_run (M : Mem) (h3 : M.a3.IsWhole) (h4 : M.a4.IsWhole) (h5 : M.a5.IsWhole) (h6 : M.a6.IsWhole) (h7 : M.a7.IsWhole) (h8 : M.a8.IsWhole) (h9 : M.a9.IsWhole) (h10 : M.a10.IsWhole) (h11 : M.a11.IsWhole) (v1 v3 : BitVec 32)
    (I : In F) (S : St F) (R : Out F) (K : PUnit → sProp 𝕄) :
    iprop(inO c M I ∗ stO c M S ∗ outO c M R
        ∗ (inO c M I ∗ stO c M (ptS v1 v3 I S) ∗ outO c M (ptR v1 v3 I S R) -∗ K ⟨⟩))
      ⊢ wp frame (wpE (defs₀ (F := F)) 𝒱 c none) E (restP M.a3 h3 M.a4 h4 M.a5 h5 M.a6 h6 M.a7 h7 M.a8 h8 M.a9 h9 M.a10 h10 M.a11 h11 v1 v3) K := by
  iintro ⟨HI, HS, HR, HK⟩
  unfold restP
  simp only [wp_bind]
  iapply (guard_init 𝒱 E c _ M S _)
  isplitl [HS]; · iexact HS
  iintro HS
  iapply (guard_step 𝒱 E c _ false M I _ _)
  isplitl [HI]; · iexact HI
  isplitl [HS]; · iexact HS
  iintro ⟨HI, HS⟩
  iapply (guard_diag 𝒱 E c _ M h3 h4 h5 h6 h7 h8 h9 h10 h11 I _ R _)
  isplitl [HI]; · iexact HI
  isplitl [HS]; · iexact HS
  isplitl [HR]; · iexact HR
  iintro ⟨HI, HS, HR⟩
  iapply HK
  isplitl [HI]; · iexact HI
  isplitl [HS]; · iexact HS
  iexact HR

end Cert.AttnIdeal.Run

end
-- ==== Proof.FI.Tables.lean ====
/-
  The two prefetched tables of the launch: for each of the 36 grid points the number of the query block (`main_c`)
  and of the key block (`main_c_0`).
-/
module

public import proofs.«01_k».proof.Proof.FI.Run

@[expose] public section

set_option maxRecDepth 16384

noncomputable section

namespace Cert.AttnIdeal.Run

open Cert.AttnIdeal Cert.AttnIdeal.Gen
open Idealize.ShloMosaic

variable {F : FTy → Type} [FloatOps F] [Named F]

/-- The contents of the two tables, as the host's constants write them. -/
def tab : pre0.Contents (Elt F) := fun
  | 0 => fun x => lit0 (S36.rowMajor x)
  | 1 => fun x => lit1 (S36.rowMajor x)

/-- The query block's number at a grid point. -/
def qb (i : grid0.Coords) : BitVec 32 := lit0 (i 0)
/-- The key block's number at a grid point. -/
def kb (i : grid0.Coords) : BitVec 32 := lit1 (i 0)

theorem emb_at : ∀ i : grid0.Coords,
    Fin.val (S36.rowMajor ((Rect.unit (s := S36) (k0_off1 i) S1.size (k0_off1_inb i)).emb (Shape.Idx.first (numel1_S1.symm ▸ Nat.one_pos)))) = (i 0).val := by
  decide +kernel

theorem tab_at0 (i : grid0.Coords) (h1) :
    (tab (F := F)).at 0 (Rect.unit (s := S36) (k0_off1 i) S1.size (k0_off1_inb i)) h1 = qb i :=
  congrArg lit0 (Fin.ext (emb_at i))

theorem tab_at1 (i : grid0.Coords) (h1) :
    (tab (F := F)).at 1 (Rect.unit (s := S36) (k0_off1 i) S1.size (k0_off1_inb i)) h1 = kb i :=
  congrArg lit1 (Fin.ext (emb_at i))

theorem ix_0 (i : grid0.Coords) : cc0_transform_0 (F := F) k0_off1_inb numel1_S1 tab i = ![(qb i).toNat, 0] := by
  unfold cc0_transform_0; dsimp only; erw [tab_at0]; rfl

theorem ix_1 (i : grid0.Coords) : cc0_transform_1 (F := F) k0_off1_inb numel1_S1 tab i = ![(kb i).toNat, 1] := by
  unfold cc0_transform_1; dsimp only; erw [tab_at1]; rfl

theorem ix_2 (i : grid0.Coords) : cc0_transform_2 (F := F) k0_off1_inb numel1_S1 tab i = ![(kb i).toNat, 2] := by
  unfold cc0_transform_2; dsimp only; erw [tab_at1]; rfl

theorem ix_3 (i : grid0.Coords) : cc0_transform_3 (F := F) k0_off1_inb numel1_S1 tab i = ![0, (kb i).toNat] := by
  unfold cc0_transform_3; dsimp only; erw [tab_at1]; rfl

theorem ix_4 (i : grid0.Coords) : cc0_transform_4 (F := F) k0_off1_inb numel1_S1 tab i = ![(qb i).toNat, 0] := by
  unfold cc0_transform_4; dsimp only; erw [tab_at0]; rfl

theorem ix_5 (i : grid0.Coords) : cc0_transform_5 (F := F) k0_off1_inb numel1_S1 tab i = ![0, (qb i).toNat] := by
  unfold cc0_transform_5; dsimp only; erw [tab_at0]; rfl

/-- The side condition on the tables, of the block numbers themselves. -/
theorem blocks_ok :
  (∀ i : grid0.Coords, ∃ h : (∀ a, (![(qb i).toNat, 0] a + 1) * S512x512.size a ≤ S4096x1536.size a), EltTy.bits .bf16 = 32 ∨ (Rect.block (s := S4096x1536) S512x512.size ![(qb i).toNat, 0] h).WholeWords (EltTy.packing .bf16)) ∧
  (∀ i : grid0.Coords, ∃ h : (∀ a, (![(kb i).toNat, 1] a + 1) * S512x512.size a ≤ S4096x1536.size a), EltTy.bits .bf16 = 32 ∨ (Rect.block (s := S4096x1536) S512x512.size ![(kb i).toNat, 1] h).WholeWords (EltTy.packing .bf16)) ∧
  (∀ i : grid0.Coords, ∃ h : (∀ a, (![(kb i).toNat, 2] a + 1) * S512x512.size a ≤ S4096x1536.size a), EltTy.bits .bf16 = 32 ∨ (Rect.block (s := S4096x1536) S512x512.size ![(kb i).toNat, 2] h).WholeWords (EltTy.packing .bf16)) ∧
  (∀ i : grid0.Coords, ∃ h : (∀ a, (![0, (kb i).toNat] a + 1) * S8x512.size a ≤ S8x4096.size a), EltTy.bits .f32 = 32 ∨ (Rect.block (s := S8x4096) S8x512.size ![0, (kb i).toNat] h).WholeWords (EltTy.packing .f32)) ∧
  (∀ i : grid0.Coords, ∃ h : (∀ a, (![(qb i).toNat, 0] a + 1) * S512x512.size a ≤ S4096x512.size a), EltTy.bits .bf16 = 32 ∨ (Rect.block (s := S4096x512) S512x512.size ![(qb i).toNat, 0] h).WholeWords (EltTy.packing .bf16)) ∧
  (∀ i : grid0.Coords, ∃ h : (∀ a, (![0, (qb i).toNat] a + 1) * S8x512.size a ≤ S8x4096.size a), EltTy.bits .f32 = 32 ∨ (Rect.block (s := S8x4096) S8x512.size ![0, (qb i).toNat] h).WholeWords (EltTy.packing .f32)) := by
  decide +kernel

theorem tab_ok : ok0 (F := F) tab := by
  unfold ok0
  simp only [ix_0, ix_1, ix_2, ix_3, ix_4, ix_5]
  exact blocks_ok

/-- The tables with the proof that every block they name lies inside its array. -/
def adm : Fin 1 → (pcfg0 (F := F)).Adm := fun _ => ⟨tab, tab_ok⟩

end Cert.AttnIdeal.Run
-- ==== Proof.FI.Data.lean ====
/-
  The launch's proof data: what the accumulators hold after each grid point, as a recursion over the points, and
  what each window's buffer holds there.
-/
module

public import proofs.«01_k».proof.Proof.FI.Tables
public import proofs.«01_k».proof.Proof.Gen.AttnIdeal.Launch
public import Idealize.ShloMosaic.Lib.Pipeline.ArrRel
public import Idealize.ShloMosaic.Lib.Pipeline.FrameBody

@[expose] public section

set_option maxRecDepth 16384

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The launch at its tables. -/
abbrev cfgT : Pipeline.Cfg sig Λ₀ := Pipeline.pin (pcfgs (F := F)) adm 0

/-- The number of grid points. -/
theorem cfgT_N : (cfgT (F := F)).N = 36 := N_0

/-- The arrays as the region finds them. -/
abbrev Arr (F : FTy → Type) : Type := (c : Dev nD) → (b : Ref sig .tc) → Buf (Elt F) ((c.tc : Thread nD τ).loc b)

/-- Proof data that say nothing of what the body leaves: they name the arrays only. -/
def base (V : Arr F) (c : Dev nD) : Pipeline.RDat τ (Elt F) Unit ℕ (UR sig nD τ) ℕ (cfgT (F := F)) c where
  A w := V c (Pipeline.arrRef (cfgT (F := F)).spec w)
  after _ _ _ _ := True
  Φ _ := iprop(emp)
  q := Pipeline.shareOf (cfgT (F := F)).spec
  owed _ := 0

/-- The block a window's fetch brings at a point. -/
def blkV (V : Arr F) (c : Dev nD) (w : Fin 6) (t : Fin (cfgT (F := F)).N) : ((cfgT (F := F)).win w).block.Idx → Elt F ((cfgT (F := F)).win w).elt :=
  (base V c).fetched w t (fun _ => Classical.arbitrary _)

/-- The four blocks of a point. -/
def inV (V : Arr F) (c : Dev nD) (t : Fin (cfgT (F := F)).N) : In F where
  q := blkV V c 0 t
  k := blkV V c 1 t
  v := blkV V c 2 t
  ck := blkV V c 3 t

/-- A grid point's coordinates. -/
def co (t : Fin (cfgT (F := F)).N) : grid0.Coords := (cfgT (F := F)).grid.coords t

/-- Accumulators at no particular contents. -/
def st0 : St F := ⟨fun _ => Classical.arbitrary _, fun _ => Classical.arbitrary _, fun _ => Classical.arbitrary _⟩

/-- The accumulators after point `t`, the previous point having left `S`. -/
def nxt (V : Arr F) (c : Dev nD) (t : Fin (cfgT (F := F)).N) (S : St F) : St F :=
  ptS (qb (co t)) (kb (co t)) (inV V c t) S

/-- The accumulators before the `n`-th point (from the first on: what stood there before does not matter). -/
def stA (V : Arr F) (c : Dev nD) : ℕ → St F
  | 0 => st0
  | n + 1 => if h : n < (cfgT (F := F)).N then nxt V c ⟨n, h⟩ (stA V c n) else stA V c n

theorem stA_succ (V : Arr F) (c : Dev nD) (t : Fin (cfgT (F := F)).N) : stA V c (t.val + 1) = nxt V c t (stA V c t.val) := by
  rw [stA, dif_pos t.isLt]

/-- The first point resets every accumulator. -/
theorem cond_first : condZ (kb (grid0.coords ⟨0, by decide⟩)) = 1#1 := by
  decide +kernel

theorem nxt_first (V : Arr F) (c : Dev nD) (t : Fin (cfgT (F := F)).N) (ht : t.val = 0) (S S' : St F) : nxt V c t S = nxt V c t S' := by
  have h0 : co t = grid0.coords ⟨0, by decide⟩ := congrArg grid0.coords (Fin.ext ht)
  have h1 : condZ (kb (co t)) = 1#1 := by rw [h0]; exact cond_first
  unfold nxt ptS preS
  simp only [h1, if_true, ↓reduceIte]

end Cert.AttnIdeal.Run

end
-- ==== Proof.FV.Math.lean ====
/-
  A row of the attention's forward pass over the real numbers: key blocks are met one after another, and what is kept
  is a shift, the sum of the shifted exponentials so far, and their sums with the values.
-/
module

public import proofs.«01_k».proof.Proof.Val.Scal

@[expose] public section

noncomputable section

namespace Cert.Attn

open Idealize.ShloMosaic
open Cert.KernelIdeal.Attn (coe_sum)
open scoped BigOperators

variable (A : Args)

/-- Key block number `s`. -/
def bk (s : ℕ) : Fin 8 := ⟨s % 8, by omega⟩

/-- A masked logit without the query's part. -/
def Yk (h : Fin 8) (i j : Fin 4096) : EReal := if j ≤ i then ((X A h i j - A.c h i : ℝ) : EReal) else ⊥

/-- An exponential of such, shifted. -/
def Ey (M : ℝ) (h : Fin 8) (i j : Fin 4096) : ℝ := Es A (M + A.c h i) h i j

theorem exp_Yk (M : ℝ) (h : Fin 8) (i j : Fin 4096) : Ideal.exp (Yk A h i j - (M : EReal)) = ((Ey A M h i j : ℝ) : EReal) := by
  unfold Yk Ey Es
  by_cases hj : j ≤ i
  · rw [if_pos hj, if_pos hj, ← EReal.coe_sub, Ideal.exp_coe]
    exact congrArg (fun r : ℝ => ((Real.exp r : ℝ) : EReal)) (by ring)
  · rw [if_neg hj, if_neg hj, EReal.bot_sub]; exact Ideal.exp_bot

theorem Ey_shift (M M' : ℝ) (h : Fin 8) (i j : Fin 4096) : Real.exp (M - M') * Ey A M h i j = Ey A M' h i j := by
  unfold Ey
  rw [Es_eq, Es_eq, mul_comm, mul_assoc, ← Real.exp_add]
  exact congrArg (fun r => E A h i j * Real.exp r) (by ring)

/-- What the first `n` key blocks give the sum, -/
def Ls (n : ℕ) (M : ℝ) (h : Fin 8) (i : Fin 4096) : ℝ := ∑ s ∈ Finset.range n, ∑ b : Fin 512, Ey A M h i (ro (bk s) b)
/-- and the sum with a column of the values. -/
def Lv (n : ℕ) (M : ℝ) (h : Fin 8) (i : Fin 4096) (x : Fin 512) : ℝ :=
  ∑ s ∈ Finset.range n, ∑ b : Fin 512, Ey A M h i (ro (bk s) b) * A.v (ro (bk s) b) x

theorem Ls_shift (n : ℕ) (M M' : ℝ) (h : Fin 8) (i : Fin 4096) : Real.exp (M - M') * Ls A n M h i = Ls A n M' h i := by
  unfold Ls
  simp only [Finset.mul_sum, Ey_shift]

theorem Lv_shift (n : ℕ) (M M' : ℝ) (h : Fin 8) (i : Fin 4096) (x : Fin 512) : Real.exp (M - M') * Lv A n M h i x = Lv A n M' h i x := by
  unfold Lv
  simp only [Finset.mul_sum, ← mul_assoc, Ey_shift]

/-- A row after `n` key blocks: its shift, its sum and its sums with the values. -/
def RowSt (h : Fin 8) (i : Fin 4096) (n : ℕ) (m l : EReal) (acc : Fin 512 → EReal) : Prop :=
  (n = 0 ∧ m = ⊥ ∧ l = 0 ∧ ∀ x, hd x = h → acc x = 0)
    ∨ ∃ M : ℝ, m = (M : EReal) ∧ l = ((Ls A n M h i : ℝ) : EReal) ∧ ∀ x, hd x = h → acc x = ((Lv A n M h i x : ℝ) : EReal)

/-- One more key block, with the new shift `M`. -/
theorem RowSt.next {h : Fin 8} {i : Fin 4096} {n : ℕ} {m l : EReal} {acc : Fin 512 → EReal} (H : RowSt A h i n m l acc) (M : ℝ)
    (l' : EReal) (acc' : Fin 512 → EReal)
    (hl : l' = Ideal.exp (m - (M : EReal)) * l + ((∑ b : Fin 512, Ey A M h i (ro (bk n) b) : ℝ) : EReal))
    (ha : ∀ x, hd x = h → acc' x = Ideal.exp (m - (M : EReal)) * acc x + ((∑ b : Fin 512, Ey A M h i (ro (bk n) b) * A.v (ro (bk n) b) x : ℝ) : EReal)) :
    RowSt A h i (n + 1) (M : EReal) l' acc' := by
  right
  refine ⟨M, rfl, ?_, fun x hx => ?_⟩
  · rw [hl]
    rcases H with ⟨rfl, rfl, rfl, -⟩ | ⟨M₀, rfl, rfl, -⟩
    · rw [mul_zero, zero_add]
      unfold Ls
      rw [Finset.sum_range_succ, Finset.sum_range_zero, zero_add]
    · rw [← EReal.coe_sub, Ideal.exp_coe, ← EReal.coe_mul, ← EReal.coe_add, Ls_shift]
      unfold Ls
      rw [Finset.sum_range_succ]
  · rw [ha x hx]
    rcases H with ⟨rfl, rfl, -, h0⟩ | ⟨M₀, rfl, -, h0⟩
    · rw [h0 x hx, mul_zero, zero_add]
      unfold Lv
      rw [Finset.sum_range_succ, Finset.sum_range_zero, zero_add]
    · rw [h0 x hx, ← EReal.coe_sub, Ideal.exp_coe, ← EReal.coe_mul, ← EReal.coe_add, Lv_shift]
      unfold Lv
      rw [Finset.sum_range_succ]

/-- A sum over the rows, of terms that are nothing after the query, ends at the query's own block. -/
theorem sum_upto (i : Fin 8) (a : Fin 512) (f : Fin 4096 → ℝ) (hf : ∀ j, ro i a < j → f j = 0) :
    ∑ s ∈ Finset.range (i.val + 1), ∑ b : Fin 512, f (ro (bk s) b) = ∑ j, f j := by
  rw [sum_rows f]
  have e : ∑ b : Fin 8, ∑ x : Fin 512, f (ro b x) = ∑ s ∈ Finset.range 8, ∑ x : Fin 512, f (ro (bk s) x) := by
    rw [Finset.sum_range]
    refine Finset.sum_congr rfl fun b _ => ?_
    rw [show bk b.val = b from Fin.ext (Nat.mod_eq_of_lt b.isLt)]
  rw [e]
  refine Finset.sum_subset (fun s hs => ?_) fun s hs hn => ?_
  · have := Finset.mem_range.1 hs; have := i.isLt; exact Finset.mem_range.2 (by omega)
  · refine Finset.sum_eq_zero fun b _ => hf _ ?_
    have h1 := Finset.mem_range.1 hs
    have h2 : ¬ s < i.val + 1 := fun h => hn (Finset.mem_range.2 h)
    show 512 * i.val + a.val < 512 * (s % 8) + b.val
    have := a.isLt
    omega

theorem Ey_zero (M : ℝ) (h : Fin 8) {i j : Fin 4096} (hij : i < j) : Ey A M h i j = 0 := by
  unfold Ey Es; rw [if_neg (not_le.2 hij)]

theorem Ls_all (M : ℝ) (h : Fin 8) (i : Fin 8) (a : Fin 512) : Ls A (i.val + 1) M h (ro i a) = ∑ j, Es A (M + A.c h (ro i a)) h (ro i a) j :=
  sum_upto i a (fun j => Ey A M h (ro i a) j) fun _ hj => Ey_zero A M h hj

theorem Lv_all (M : ℝ) (h : Fin 8) (i : Fin 8) (a x : Fin 512) :
    Lv A (i.val + 1) M h (ro i a) x = ∑ j, Es A (M + A.c h (ro i a)) h (ro i a) j * A.v j x :=
  sum_upto i a (fun j => Ey A M h (ro i a) j * A.v j x) fun j hj => by
    show Ey A M h (ro i a) j * A.v j x = 0
    rw [Ey_zero A M h hj, zero_mul]

/-- The attention's output, -/
def tO (r : Fin 4096) (x : Fin 512) : ℝ := ∑ j, Pr A (hd x) r j * A.v j x
/-- and a row's log-sum, the query's part left out. -/
def tL (h : Fin 8) (r : Fin 4096) : ℝ := Real.log (Z A h r) - A.c h r

/-- After the query's own block, the quotient and the log-sum are these. -/
theorem RowSt.done {h : Fin 8} {i : Fin 8} {a : Fin 512} {m l : EReal} {acc : Fin 512 → EReal} (H : RowSt A h (ro i a) (i.val + 1) m l acc) :
    (∀ x, hd x = h → Ideal.div (acc x) l = ((tO A (ro i a) x : ℝ) : EReal)) ∧ m + Ideal.log l = ((tL A h (ro i a) : ℝ) : EReal) := by
  rcases H with ⟨h0, -⟩ | ⟨M, rfl, rfl, ha⟩
  · exact absurd h0 (Nat.succ_ne_zero _)
  rw [Ls_all]
  refine ⟨fun x hx => ?_, ?_⟩
  · rw [ha x hx, Lv_all, div_sum, Finset.sum_div]
    refine congrArg (fun r : ℝ => (r : EReal)) (Finset.sum_congr rfl fun j _ => ?_)
    rw [mul_div_right_comm, Es_div, hx]
  · rw [Ideal.log_coe, if_neg (not_le.2 (sum_Es_pos A _ h _)), ← EReal.coe_add]
    refine congrArg (fun r : ℝ => (r : EReal)) ?_
    unfold tL
    rw [← shift_log A (M + A.c h (ro i a)) h (ro i a)]
    ring

/-- The maximum of a number that is real or −∞ and a finite row of such, one of them real, is real. -/
theorem max_real' {ι : Type} [Fintype ι] (f : ι → EReal) (m : EReal) (i : ι) (ht : ∀ j, f j ≠ ⊤) (hi : f i ≠ ⊥) (hm : m ≠ ⊤) :
    ∃ M : ℝ, max m (Finset.univ.fold max (⊥ : EReal) f) = (M : EReal) := by
  have hb : Finset.univ.fold max (⊥ : EReal) f ≠ ⊥ := by
    intro h
    have := (Finset.fold_max_le (b := (⊥ : EReal)) (f := f) (s := Finset.univ) ⊥).1 (le_of_eq h)
    exact hi (le_bot_iff.1 (this.2 i (Finset.mem_univ i)))
  have h1 : Finset.univ.fold max (⊥ : EReal) f < ⊤ :=
    (Finset.fold_max_lt (b := (⊥ : EReal)) (f := f) (s := Finset.univ) ⊤).2 ⟨bot_lt_top, fun j _ => lt_top_iff_ne_top.2 (ht j)⟩
  have h2 : max m (Finset.univ.fold max (⊥ : EReal) f) < ⊤ := max_lt (lt_top_iff_ne_top.2 hm) h1
  have h3 : max m (Finset.univ.fold max (⊥ : EReal) f) ≠ ⊥ := fun h => hb (le_bot_iff.1 ((le_max_right _ _).trans (le_of_eq h)))
  exact ⟨_, (EReal.coe_toReal h2.ne h3).symm⟩

end Cert.Attn

end
-- ==== Proof.FV.At.lean ====
/-
  Readings at an index: a load of a part of a buffer, a store into a part of it, and the selection of a head's lanes.
-/
module

public import proofs.«01_k».proof.Proof.FI.Run
public import proofs.«01_k».proof.Proof.FV.Math
public import Idealize.ShloMosaic.Lib.Pointwise
public import Idealize.ShloMosaic.Lib.IdealHost

@[expose] public section

noncomputable section

namespace Cert.AttnIdeal.Run

open Cert.AttnIdeal Cert.AttnIdeal.Gen
open Idealize.ShloMosaic
open Cert.KernelIdeal.Attn (coe_sum)
open scoped BigOperators

/-- Lane `l` of pair `hp` as a column. -/
def ln (hp : Fin 4) (l : Fin 128) : Fin 512 := ⟨128 * hp.val + l.val, by omega⟩

theorem colB_at (hp : Fin 4) (X : Vec Ideal S512x512 .bf16) (a : Fin 512) (l : Fin 128) : colB hp X (ix2 a l) = X (ix2 a (ln hp l)) := by
  unfold colB colR
  pointwise
  rfl

theorem lo_at (a : Fin 512) (l : Fin 128) : loV (ix2 a l) = if l.val < 64 then 1#1 else 0#1 := by
  unfold loV
  pointwise
  revert l; decide +kernel

theorem sel_at (hh : Fin 2) (a : Fin 512) (l : Fin 128) : selV hh (ix2 a l) = if l.val / 64 = hh.val then 1#1 else 0#1 := by
  fin_cases hh
  · show loV (ix2 a l) = if l.val / 64 = 0 then 1#1 else 0#1
    rw [lo_at]; revert l; decide +kernel
  · show xori loV (constantI S512x128 1 1#1) (ix2 a l) = if l.val / 64 = 1 then 1#1 else 0#1
    pointwise
    rw [lo_at]; revert l; decide +kernel

/-- A sum over the lanes with the other head's lanes zeroed is a sum over the head's columns. -/
theorem sum_sel (hh : Fin 2) (a : Fin 512) (f : Fin 128 → ℝ) :
    ∑ x, Scalar.select (selV hh (ix2 a x)) ((f x : ℝ) : EReal) 0 = ((∑ d : Fin 64, f ⟨64 * hh.val + d.val, by omega⟩ : ℝ) : EReal) := by
  have e : ∀ x, Scalar.select (selV hh (ix2 a x)) ((f x : ℝ) : EReal) 0 = ((if x.val / 64 = hh.val then f x else 0 : ℝ) : EReal) := by
    intro x; rw [sel_at]
    split
    · rfl
    · rfl
  rw [Finset.sum_congr rfl fun x _ => e x, ← coe_sum]
  refine congrArg _ ?_
  rw [← Finset.sum_filter]
  refine (Finset.sum_bij (fun (d : Fin 64) _ => (⟨64 * hh.val + d.val, by omega⟩ : Fin 128)) ?_ ?_ ?_ ?_).symm
  · intro d _; simp only [Finset.mem_filter, Finset.mem_univ, true_and]; omega
  · intro d _ d' _ h; have := congrArg Fin.val h; exact Fin.ext (by simpa using this)
  · intro x hx
    have hx' : x.val / 64 = hh.val := (Finset.mem_filter.1 hx).2
    exact ⟨⟨x.val - 64 * hh.val, by omega⟩, Finset.mem_univ _, Fin.ext (by show 64 * hh.val + (x.val - 64 * hh.val) = x.val; omega)⟩
  · intro d _; rfl

theorem ln_head (hp : Fin 4) (hh : Fin 2) (d : Fin 64) :
    ln hp ⟨64 * hh.val + d.val, by omega⟩ = Cert.Attn.cl (headOf hp hh) d := by
  refine Fin.ext ?_
  show 128 * hp.val + (64 * hh.val + d.val) = 64 * (2 * hp.val + hh.val) + d.val
  omega

theorem keep_at (a b : Fin 512) : keepV (ix2 a b) = if b ≤ a then 1#1 else 0#1 := by
  unfold keepV
  pointwise
  have h : ∀ n : Fin 512, (BitVec.ofNat 32 n.val).toInt = (n.val : Int) := by decide +kernel
  show BitVec.ofBool (BitVec.sle _ _) = _
  rw [BitVec.sle_eq_decide, h, h]
  by_cases hab : b ≤ a
  · rw [if_pos hab, decide_eq_true (by exact_mod_cast hab)]; rfl
  · rw [if_neg hab, decide_eq_false (by exact_mod_cast hab)]; rfl

theorem neg_eq : (negM : Ideal .f32) = (⊥ : EReal) := IdealRules.named_const.ideal_named_scalar _ _ _ _ rfl

/-- A head's slab, and a head's row, as a load brings them. -/
theorem slab_at (h : Fin 8) (X : Vec Ideal S8x512x128 .f32) (a : Fin 512) (l : Fin 128) :
    (View.ld X (slabR h) : Vec Ideal S1x512x128 .f32) (ix3 0 a l) = X (ix3 h a l) := by
  unfold slabR
  pointwise

theorem rowL_at (h : Fin 8) (X : Vec Ideal S8x512 .f32) (b : Fin 512) :
    (View.ld X (rowR h) : Vec Ideal S1x512 .f32) (ix2 0 b) = X (ix2 h b) := by
  unfold rowR
  pointwise

/-- The pair of a column, and its lane. -/
def pr (x : Fin 512) : Fin 4 := ⟨x.val / 128, by omega⟩
def la (x : Fin 512) : Fin 128 := ⟨x.val % 128, by omega⟩

theorem ln_la (x : Fin 512) : ln (pr x) (la x) = x := Fin.ext (by show 128 * (x.val / 128) + x.val % 128 = x.val; omega)

/-- A block of 128 columns put into a 512 by 512 array, at an index. -/
theorem put2_at (X : Vec Ideal S512x512 .f32) (hp : Fin 4) (w : Vec Ideal S512x128 .f32) (a x : Fin 512) :
    VecWindow.put X ![0, 128 * hp.val] S512x128.size w (ix2 a x) = if pr x = hp then w (ix2 a (la x)) else X (ix2 a x) := by
  unfold VecWindow.put
  by_cases h : pr x = hp
  · subst h
    have h' : ∀ b, (![0, 128 * (pr x).val] : Fin 2 → ℕ) b ≤ ((ix2 a x : S512x512.Idx) b).val
        ∧ ((ix2 a x : S512x512.Idx) b).val < (![0, 128 * (pr x).val] : Fin 2 → ℕ) b + S512x128.size b := by
      intro b; fin_cases b
      · exact ⟨Nat.zero_le _, by show a.val < 0 + 512; omega⟩
      · show 128 * (x.val / 128) ≤ x.val ∧ x.val < 128 * (x.val / 128) + 128; omega
    rw [if_pos rfl, dif_pos h']
    refine congrArg w (funext fun b => ?_)
    fin_cases b
    · exact Fin.ext (by show a.val - 0 = a.val; omega)
    · exact Fin.ext (by show x.val - 128 * (x.val / 128) = x.val % 128; omega)
  · rw [if_neg h, dif_neg]
    intro h'
    have := h' 1
    have h1 : 128 * hp.val ≤ x.val ∧ x.val < 128 * hp.val + 128 := this
    exact h (Fin.ext (by show x.val / 128 = hp.val; omega))

/-- A slab put into an array of eight. -/
theorem putS_at (X : Vec Ideal S8x512x128 .f32) (g : Fin 8) (w : Vec Ideal S1x512x128 .f32) (h : Fin 8) (a : Fin 512) (l : Fin 128) :
    VecWindow.put X ![g.val, 0, 0] S1x512x128.size w (ix3 h a l) = if h = g then w (ix3 0 a l) else X (ix3 h a l) := by
  unfold VecWindow.put
  by_cases hg : h = g
  · subst hg
    have h' : ∀ b, (![h.val, 0, 0] : Fin 3 → ℕ) b ≤ ((ix3 h a l : S8x512x128.Idx) b).val
        ∧ ((ix3 h a l : S8x512x128.Idx) b).val < (![h.val, 0, 0] : Fin 3 → ℕ) b + S1x512x128.size b := by
      intro b; fin_cases b
      · show h.val ≤ h.val ∧ h.val < h.val + 1; omega
      · exact ⟨Nat.zero_le _, by show a.val < 0 + 512; omega⟩
      · exact ⟨Nat.zero_le _, by show l.val < 0 + 128; omega⟩
    rw [if_pos rfl, dif_pos h']
    refine congrArg w (funext fun b => ?_)
    fin_cases b
    · exact Fin.ext (by show h.val - h.val = 0; omega)
    · exact Fin.ext (by show a.val - 0 = a.val; omega)
    · exact Fin.ext (by show l.val - 0 = l.val; omega)
  · rw [if_neg hg, dif_neg]
    intro h'
    have h0 : g.val ≤ h.val ∧ h.val < g.val + 1 := h' 0
    exact hg (Fin.ext (by omega))

/-- The head of a column, by its pair and its place in the pair. -/
theorem hd_pr (x : Fin 512) (hh : Fin 2) (h : (la x).val / 64 = hh.val) : Cert.Attn.hd x = headOf (pr x) hh := by
  refine Fin.ext ?_
  have h' : x.val % 128 / 64 = hh.val := h
  show x.val / 64 = 2 * (x.val / 128) + hh.val
  omega

/-- A pair's two outputs, each on its own lanes: if each is `f` of its head, the whole is `f` of the column's head. -/
theorem sel_head (f : Fin 8 → EReal) (a x : Fin 512) (u v : EReal) (hu : u = f (headOf (pr x) 0)) (hv : v = f (headOf (pr x) 1)) :
    Scalar.select (loV (ix2 a (la x))) u v = f (Cert.Attn.hd x) := by
  rw [lo_at]
  by_cases h : (la x).val < 64
  · rw [if_pos h, hd_pr x 0 (by show (la x).val / 64 = 0; omega)]; exact hu
  · rw [if_neg h, hd_pr x 1 (by show (la x).val / 64 = 1; have := (la x).isLt; omega)]; exact hv

/-- A row put into a table of eight. -/
theorem putR_at (X : Vec Ideal S8x512 .f32) (g : Fin 8) (w : Vec Ideal S1x512 .f32) (h : Fin 8) (a : Fin 512) :
    VecWindow.put X ![g.val, 0] S1x512.size w (ix2 h a) = if h = g then w (ix2 0 a) else X (ix2 h a) := by
  unfold VecWindow.put
  by_cases hg : h = g
  · subst hg
    have h' : ∀ d, (![h.val, 0] : Fin 2 → ℕ) d ≤ ((ix2 h a : S8x512.Idx) d).val
        ∧ ((ix2 h a : S8x512.Idx) d).val < (![h.val, 0] : Fin 2 → ℕ) d + S1x512.size d := by
      intro d; fin_cases d
      · show h.val ≤ h.val ∧ h.val < h.val + 1; omega
      · exact ⟨Nat.zero_le _, by show a.val < 0 + 512; omega⟩
    rw [if_pos rfl, dif_pos h']
    refine congrArg w (funext fun d => ?_)
    fin_cases d
    · exact Fin.ext (by show h.val - h.val = 0; omega)
    · exact Fin.ext (by show a.val - 0 = a.val; omega)
  · rw [if_neg hg, dif_neg]
    intro h'
    have h0 : g.val ≤ h.val ∧ h.val < g.val + 1 := h' 0
    exact hg (Fin.ext (by omega))

end Cert.AttnIdeal.Run

end
-- ==== Proof.FV.Tile.lean ====
/-
  What one head of one step does to a row of its accumulators when the blocks hold real arguments.
-/
module

public import proofs.«01_k».proof.Proof.FV.At

@[expose] public section

noncomputable section

namespace Cert.AttnIdeal.Run

open Cert.AttnIdeal Cert.AttnIdeal.Gen
open Idealize.ShloMosaic
open Cert.KernelIdeal.Attn (coe_sum)
open Cert.Attn (ro cl hd Yk Ey RowSt)
open scoped BigOperators

/-- The blocks of a point are the arguments' blocks: query block `i`, key block `j`. -/
structure Holds (A : Cert.Attn.Args) (i j : Fin 8) (I : In Ideal) : Prop where
  q : ∀ (a : Fin 512) (x : Fin 512), I.q (ix2 a x) = ((A.q (ro i a) x * 0.125 : ℝ) : EReal)
  k : ∀ (a : Fin 512) (x : Fin 512), I.k (ix2 a x) = ((A.k (ro j a) x : ℝ) : EReal)
  v : ∀ (a : Fin 512) (x : Fin 512), I.v (ix2 a x) = ((A.v (ro j a) x : ℝ) : EReal)
  ck : ∀ (h : Fin 8) (a : Fin 512), I.ck (ix2 h a) = ((A.c h (ro j a) : ℝ) : EReal)

/-- The mask is asked for on the diagonal, and only there. -/
def Asked (msk : Bool) (i j : Fin 8) : Prop := (msk = true ∧ i = j) ∨ (msk = false ∧ j < i)

/-- The logits without the query's part, of real keys and queries. -/
theorem sV_at (hp : Fin 4) (hh : Fin 2) (qp kp : FVec Ideal S512x128 .bf16) (ck : Vec Ideal S1x512 .f32) (qr kr : Fin 512 → Fin 512 → ℝ)
    (cr : Fin 512 → ℝ) (hq : ∀ a l, qp (ix2 a l) = ((qr a (ln hp l) : ℝ) : EReal)) (hk : ∀ a l, kp (ix2 a l) = ((kr a (ln hp l) : ℝ) : EReal))
    (hc : ∀ b, ck (ix2 0 b) = ((cr b : ℝ) : EReal)) (a b : Fin 512) :
    sV hh qp kp ck (ix2 a b)
      = (((∑ d : Fin 64, qr a (cl (headOf hp hh) d) * kr b (cl (headOf hp hh) d)) - cr b : ℝ) : EReal) := by
  unfold sV
  pointwise
  simp only [hk, hq, hc, dite_eq_ite, ite_self, ← EReal.coe_mul]
  rw [sum_sel hh a fun x => qr a (ln hp x) * kr b (ln hp x), ← EReal.coe_sub]
  simp only [ln_head]

theorem mx_at (s : FVec Ideal S512x512 .f32) (m : Vec Ideal S1x512x128 .f32) (a : Fin 512) (l : Fin 128) :
    mxV s m (ix2 a l) = max (m (ix3 0 a l)) (Finset.univ.fold max (⊥ : EReal) fun b => s (ix2 a b)) := by
  rw [← Cert.Attn.ninf]
  unfold mxV
  pointwise

theorem al_at (s : FVec Ideal S512x512 .f32) (m : Vec Ideal S1x512x128 .f32) (a : Fin 512) (l : Fin 128) :
    alV s m (ix2 a l) = Ideal.exp (m (ix3 0 a l) - mxV s m (ix2 a l)) := by
  unfold alV
  generalize mxV s m = w
  pointwise

theorem p_at (s : FVec Ideal S512x512 .f32) (m : Vec Ideal S1x512x128 .f32) (a b : Fin 512) (M : EReal) (hM : ∀ l, mxV s m (ix2 a l) = M) :
    pV s m (ix2 a b) = Ideal.exp (s (ix2 a b) - M) := by
  unfold pV
  generalize mxV s m = w at hM ⊢
  pointwise
  simp only [hM, dite_eq_ite, ite_self]

theorem l_at (s : FVec Ideal S512x512 .f32) (m l : Vec Ideal S1x512x128 .f32) (a : Fin 512) (x : Fin 128) :
    lV s m l (ix3 0 a x) = alV s m (ix2 a x) * l (ix3 0 a x) + ∑ b, pV s m (ix2 a b) := by
  unfold lV
  generalize alV s m = w
  generalize pV s m = p
  pointwise

theorem m_at (s : FVec Ideal S512x512 .f32) (m : Vec Ideal S1x512x128 .f32) (a : Fin 512) (x : Fin 128) :
    mV s m (ix3 0 a x) = mxV s m (ix2 a x) := by
  unfold mV
  generalize mxV s m = w
  pointwise

theorem pv_at (s : FVec Ideal S512x512 .f32) (m : Vec Ideal S1x512x128 .f32) (vp : FVec Ideal S512x128 .bf16) (a : Fin 512) (x : Fin 128) :
    pvV s m vp (ix2 a x) = ∑ b, pV s m (ix2 a b) * vp (ix2 b x) := by
  unfold pvV
  generalize pV s m = p
  pointwise

theorem acc_at (u : Vec Ideal S512x128 .f32) (x y px py : FVec Ideal S512x128 .f32) (a : Fin 512) (l : Fin 128) :
    accV u x y px py (ix2 a l) = Scalar.select (loV (ix2 a l)) (x (ix2 a l)) (y (ix2 a l)) * u (ix2 a l)
      + Scalar.select (loV (ix2 a l)) (px (ix2 a l)) (py (ix2 a l)) := by
  unfold accV
  pointwise

variable {A : Cert.Attn.Args} {i j : Fin 8} {I : In Ideal}

/-- The logits of a tile. -/
theorem sI_at (H : Holds A i j I) (msk : Bool) (hm : Asked msk i j) (hp : Fin 4) (hh : Fin 2) (a b : Fin 512) :
    sI msk hp hh I (ix2 a b) = Yk A (headOf hp hh) (ro i a) (ro j b) := by
  have hs := sV_at hp hh (colB hp I.q) (colB hp I.k) (View.ld I.ck (rowR (headOf hp hh))) (fun a x => A.q (ro i a) x * 0.125)
    (fun a x => A.k (ro j a) x) (fun a => A.c (headOf hp hh) (ro j a))
    (fun a l => by rw [colB_at, H.q]) (fun a l => by rw [colB_at, H.k])
    (fun a => (rowL_at _ _ a).trans (H.ck _ a)) a b
  have hle : ∀ hij : ro j b ≤ ro i a, sV hh (colB hp I.q) (colB hp I.k) (View.ld I.ck (rowR (headOf hp hh))) (ix2 a b)
      = Yk A (headOf hp hh) (ro i a) (ro j b) := by
    intro hij
    rw [hs]
    unfold Yk
    rw [if_pos hij]
    refine congrArg (fun r : ℝ => (r : EReal)) ?_
    unfold Cert.Attn.X
    rw [Finset.sum_mul, show ∀ u v w : ℝ, u + v - w - v = u - w from fun u v w => by ring]
    exact congrArg (· - _) (Finset.sum_congr rfl fun d _ => by ring)
  rcases hm with ⟨rfl, rfl⟩ | ⟨rfl, hji⟩
  · have e2 : sI true hp hh I (ix2 a b)
        = Scalar.select (keepV (ix2 a b)) (sV hh (colB hp I.q) (colB hp I.k) (View.ld I.ck (rowR (headOf hp hh))) (ix2 a b)) (negM : Ideal .f32) := rfl
    rw [e2, keep_at, neg_eq]
    by_cases hab : b ≤ a
    · rw [if_pos hab]
      exact hle (by have : b.val ≤ a.val := hab; show 512 * i.val + b.val ≤ 512 * i.val + a.val; omega)
    · rw [if_neg hab]
      unfold Yk
      rw [if_neg]
      · rfl
      · intro h
        have h1 : 512 * i.val + b.val ≤ 512 * i.val + a.val := h
        exact hab (by show b.val ≤ a.val; omega)
  · exact hle (by have : j.val < i.val := hji; show 512 * j.val + b.val ≤ 512 * i.val + a.val; omega)

/-- A row's new maximum is a real number. -/
theorem mx_real (H : Holds A i j I) (msk : Bool) (hm : Asked msk i j) (hp : Fin 4) (hh : Fin 2) (m : Vec Ideal S1x512x128 .f32) (a : Fin 512)
    (μ : EReal) (hμ : ∀ l, m (ix3 0 a l) = μ) (ht : μ ≠ ⊤) : ∃ M : ℝ, ∀ l, mxV (sI msk hp hh I) m (ix2 a l) = (M : EReal) := by
  have hji : j ≤ i := by rcases hm with ⟨-, h⟩ | ⟨-, h⟩; exacts [h.symm.le, h.le]
  obtain ⟨M, hM⟩ := Cert.Attn.max_real' (fun b => Yk A (headOf hp hh) (ro i a) (ro j b)) μ a
    (fun b => by unfold Yk; split; exacts [EReal.coe_ne_top _, bot_ne_top])
    (by
      unfold Yk
      rw [if_pos (by have : j.val ≤ i.val := hji; show 512 * j.val + a.val ≤ 512 * i.val + a.val; omega)]
      exact EReal.coe_ne_bot _) ht
  refine ⟨M, fun l => ?_⟩
  rw [mx_at, hμ]
  simp only [sI_at H msk hm]
  exact hM

/-- A row of a head's accumulators: the maximum and the sum the same on all lanes. -/
def Rows (A : Cert.Attn.Args) (h : Fin 8) (r : Fin 4096) (a : Fin 512) (n : ℕ) (S : St Ideal) : Prop :=
  ∃ m l : EReal, (∀ x, S.m (ix3 h a x) = m) ∧ (∀ x, S.l (ix3 h a x) = l) ∧ RowSt A h r n m l (fun x => S.acc (ix2 a x))

theorem slab_pt (hp : Fin 4) (hh : Fin 2) (X : Vec Ideal S8x512x128 .f32) (a : Fin 512) (l : Fin 128) :
    slab hp hh X (ix3 0 a l) = X (ix3 (headOf hp hh) a l) := slab_at _ X a l

theorem ext_slab (X Y : Vec Ideal S1x512x128 .f32) (h : ∀ a l, X (ix3 0 a l) = Y (ix3 0 a l)) : X = Y := by
  funext y
  obtain ⟨a, l, rfl⟩ : ∃ a l, y = (ix3 0 a l : S1x512x128.Idx) :=
    ⟨y 1, y 2, by funext d; fin_cases d; exacts [Subsingleton.elim (α := Fin 1) _ _, rfl, rfl]⟩
  exact h a l

theorem headOf_ne (hp : Fin 4) : headOf hp 1 ≠ headOf hp 0 := fun h => absurd (congrArg Fin.val h) (by show ¬ 2 * hp.val + 1 = 2 * hp.val + 0; omega)

/-- The second head's slabs are untouched by the first's update. -/
theorem slab_m (msk : Bool) (hp : Fin 4) (X : Vec Ideal S8x512x128 .f32) : slab hp 1 (mS msk hp 0 I X) = slab hp 1 X :=
  ext_slab _ _ fun a l => by
    rw [slab_pt, slab_pt]
    unfold mS
    rw [putS_at, if_neg (headOf_ne hp)]
theorem slab_l (msk : Bool) (hp : Fin 4) (Y X : Vec Ideal S8x512x128 .f32) : slab hp 1 (lS msk hp 0 I Y X) = slab hp 1 X :=
  ext_slab _ _ fun a l => by
    rw [slab_pt, slab_pt]
    unfold lS
    rw [putS_at, if_neg (headOf_ne hp)]

/-- A pair's accumulators after its update, at an index. -/
theorem pair_m (msk : Bool) (hp : Fin 4) (hh : Fin 2) (S : St Ideal) (a : Fin 512) (l : Fin 128) :
    (pairS msk hp I S).m (ix3 (headOf hp hh) a l) = mV (sI msk hp hh I) (slab hp hh S.m) (ix3 0 a l) := by
  show mS msk hp 1 I (mS msk hp 0 I S.m) _ = _
  unfold mS
  rw [putS_at]
  match hh with
  | 0 => rw [if_neg (headOf_ne hp).symm, putS_at, if_pos rfl]
  | 1 =>
    rw [if_pos rfl]
    exact congrArg (fun w => mV (sI msk hp 1 I) w (ix3 0 a l)) (slab_m msk hp S.m)

theorem pair_l (msk : Bool) (hp : Fin 4) (hh : Fin 2) (S : St Ideal) (a : Fin 512) (l : Fin 128) :
    (pairS msk hp I S).l (ix3 (headOf hp hh) a l) = lV (sI msk hp hh I) (slab hp hh S.m) (slab hp hh S.l) (ix3 0 a l) := by
  show lS msk hp 1 I (mS msk hp 0 I S.m) (lS msk hp 0 I S.m S.l) _ = _
  unfold lS
  rw [putS_at]
  match hh with
  | 0 => rw [if_neg (headOf_ne hp).symm, putS_at, if_pos rfl]
  | 1 =>
    rw [if_pos rfl]
    exact congrArg₂ (fun w u => lV (sI msk hp 1 I) w u (ix3 0 a l)) (slab_m msk hp S.m) (slab_l msk hp S.m S.l)

theorem pair_acc (msk : Bool) (hp : Fin 4) (S : St Ideal) (a x : Fin 512) :
    (pairS msk hp I S).acc (ix2 a x) = if pr x = hp then
      Scalar.select (loV (ix2 a (la x))) (alV (sI msk hp 0 I) (slab hp 0 S.m) (ix2 a (la x))) (alV (sI msk hp 1 I) (slab hp 1 S.m) (ix2 a (la x)))
          * S.acc (ix2 a x)
        + Scalar.select (loV (ix2 a (la x))) (pvV (sI msk hp 0 I) (slab hp 0 S.m) (colB hp I.v) (ix2 a (la x)))
            (pvV (sI msk hp 1 I) (slab hp 1 S.m) (colB hp I.v) (ix2 a (la x)))
      else S.acc (ix2 a x) := by
  show accS msk hp I S.m (mS msk hp 0 I S.m) S.acc _ = _
  unfold accS
  rw [put2_at, slab_m]
  by_cases h : pr x = hp
  · rw [if_pos h, if_pos h]
    refine (acc_at _ _ _ _ _ a (la x)).trans ?_
    have e : (View.ld S.acc (colR hp) : Vec Ideal S512x128 .f32) (ix2 a (la x)) = S.acc (ix2 a (ln hp (la x))) := by
      unfold colR
      pointwise
      rfl
    have e' := e.trans (congrArg (fun y => S.acc (ix2 a y)) (h ▸ ln_la x : ln hp (la x) = x))
    exact congrArg (fun z : Ideal .f32 =>
      Scalar.select (loV (ix2 a (la x))) (alV (sI msk hp 0 I) (slab hp 0 S.m) (ix2 a (la x))) (alV (sI msk hp 1 I) (slab hp 1 S.m) (ix2 a (la x))) * z
        + Scalar.select (loV (ix2 a (la x))) (pvV (sI msk hp 0 I) (slab hp 0 S.m) (colB hp I.v) (ix2 a (la x)))
            (pvV (sI msk hp 1 I) (slab hp 1 S.m) (colB hp I.v) (ix2 a (la x)))) e'
  · rw [if_neg h, if_neg h]

/-- A pair's update leaves the other pairs' rows. -/
theorem rows_same (msk : Bool) (hp p : Fin 4) (hh : Fin 2) (hne : p ≠ hp) (r : Fin 4096) (a : Fin 512) (n : ℕ) (S : St Ideal)
    (H : Rows A (headOf p hh) r a n S) : Rows A (headOf p hh) r a n (pairS msk hp I S) := by
  have hn : ∀ g : Fin 2, headOf p hh ≠ headOf hp g := fun g h => hne (Fin.ext (by
    have h' : 2 * p.val + hh.val = 2 * hp.val + g.val := congrArg Fin.val h
    omega))
  obtain ⟨m, l, hm, hl, hr⟩ := H
  refine ⟨m, l, fun x => ?_, fun x => ?_, ?_⟩
  · show mS msk hp 1 I (mS msk hp 0 I S.m) _ = _
    unfold mS
    rw [putS_at, if_neg (hn 1), putS_at, if_neg (hn 0), hm]
  · show lS msk hp 1 I (mS msk hp 0 I S.m) (lS msk hp 0 I S.m S.l) _ = _
    unfold lS
    rw [putS_at, if_neg (hn 1), putS_at, if_neg (hn 0), hl]
  · have e : ∀ x, hd x = headOf p hh → (pairS msk hp I S).acc (ix2 a x) = S.acc (ix2 a x) := by
      intro x hx
      rw [pair_acc, if_neg]
      intro h
      have h1 : x.val / 64 = 2 * p.val + hh.val := congrArg Fin.val hx
      have h2 : x.val / 128 = hp.val := congrArg Fin.val h
      exact hne (Fin.ext (by omega))
    rcases hr with ⟨h0, h1, h2, h3⟩ | ⟨M, h1, h2, h3⟩
    · exact Or.inl ⟨h0, h1, h2, fun x hx => (e x hx).trans (h3 x hx)⟩
    · exact Or.inr ⟨M, h1, h2, fun x hx => (e x hx).trans (h3 x hx)⟩

/-- The lane's own head is the one selected. -/
theorem sel_lane (hp : Fin 4) (hh : Fin 2) (a x : Fin 512) (hx : hd x = headOf hp hh) (f : Fin 2 → EReal) :
    Scalar.select (loV (ix2 a (la x))) (f 0) (f 1) = f hh := by
  have h1 : x.val / 64 = 2 * hp.val + hh.val := congrArg Fin.val hx
  have h2 : (la x).val = x.val % 128 := rfl
  rw [lo_at]
  by_cases h : (la x).val < 64
  · rw [if_pos h, show hh = 0 from Fin.ext (by show hh.val = 0; omega)]; rfl
  · rw [if_neg h, show hh = 1 from Fin.ext (by show hh.val = 1; have := hh.isLt; omega)]; rfl

/-- A pair's update meets one more key block in its own rows. -/
theorem rows_next (H : Holds A i j I) (msk : Bool) (hm : Asked msk i j) (hp : Fin 4) (hh : Fin 2) (a : Fin 512) (S : St Ideal)
    (R : Rows A (headOf hp hh) (ro i a) a j.val S) : Rows A (headOf hp hh) (ro i a) a (j.val + 1) (pairS msk hp I S) := by
  obtain ⟨m, l, hm1, hl1, hr⟩ := R
  have ht : m ≠ ⊤ := by
    rcases hr with ⟨-, h, -⟩ | ⟨M, h, -⟩
    · rw [h]; exact bot_ne_top
    · rw [h]; exact EReal.coe_ne_top _
  have hs : ∀ x, slab hp hh S.m (ix3 0 a x) = m := fun x => (slab_pt hp hh S.m a x).trans (hm1 x)
  obtain ⟨M, hM⟩ := mx_real H msk hm hp hh (slab hp hh S.m) a m hs ht
  have hj : Cert.Attn.bk j.val = j := Fin.ext (Nat.mod_eq_of_lt j.isLt)
  have hp' : ∀ b, pV (sI msk hp hh I) (slab hp hh S.m) (ix2 a b) = ((Ey A M (headOf hp hh) (ro i a) (ro j b) : ℝ) : EReal) := fun b => by
    rw [p_at _ _ a b _ hM, sI_at H msk hm, Cert.Attn.exp_Yk]
  have hal : ∀ x, alV (sI msk hp hh I) (slab hp hh S.m) (ix2 a x) = Ideal.exp (m - (M : EReal)) := fun x => by
    rw [al_at, hM, hs]
  refine ⟨(M : EReal), _, fun x => ?_, fun x => ?_, hr.next A M _ _ rfl fun x hx => ?_⟩
  · rw [pair_m, m_at, hM]
  · rw [pair_l, l_at, hal, slab_pt, hl1, coe_sum, hj]
    exact congrArg (_ + ·) (Finset.sum_congr rfl fun b _ => hp' b)
  · have hpx : pr x = hp := Fin.ext (by
      have h1 : x.val / 64 = 2 * hp.val + hh.val := congrArg Fin.val hx
      show x.val / 128 = hp.val
      omega)
    have hpv : pvV (sI msk hp hh I) (slab hp hh S.m) (colB hp I.v) (ix2 a (la x))
        = ((∑ b : Fin 512, Ey A M (headOf hp hh) (ro i a) (ro (Cert.Attn.bk j.val) b) * A.v (ro (Cert.Attn.bk j.val) b) x : ℝ) : EReal) := by
      rw [pv_at, coe_sum, hj]
      refine Finset.sum_congr rfl fun b _ => ?_
      rw [hp', colB_at, H.v, EReal.coe_mul, ← hpx, ln_la]
    refine (pair_acc msk hp S a x).trans ?_
    rw [if_pos hpx]
    have e1 := sel_lane hp hh a x hx fun g => alV (sI msk hp g I) (slab hp g S.m) (ix2 a (la x))
    have e2 := sel_lane hp hh a x hx fun g => pvV (sI msk hp g I) (slab hp g S.m) (colB hp I.v) (ix2 a (la x))
    exact congrArg₂ (fun u w : EReal => u * S.acc (ix2 a x) + w) (e1.trans (hal (la x))) (e2.trans hpv)

/-- One step meets one more key block in every row. -/
theorem step_rows (H : Holds A i j I) (msk : Bool) (hm : Asked msk i j) (h : Fin 8) (a : Fin 512) (S : St Ideal)
    (R : Rows A h (ro i a) a j.val S) : Rows A h (ro i a) a (j.val + 1) (stepS msk I S) := by
  obtain ⟨p, hh, rfl⟩ : ∃ p hh, h = headOf p hh := ⟨⟨h.val / 2, by omega⟩, ⟨h.val % 2, by omega⟩, Fin.ext (by
    show h.val = 2 * (h.val / 2) + h.val % 2; omega)⟩
  unfold stepS
  match p with
  | 0 => exact rows_same msk 3 0 hh (by decide) _ a _ _ (rows_same msk 2 0 hh (by decide) _ a _ _ (rows_same msk 1 0 hh (by decide) _ a _ _
      (rows_next H msk hm 0 hh a S R)))
  | 1 => exact rows_same msk 3 1 hh (by decide) _ a _ _ (rows_same msk 2 1 hh (by decide) _ a _ _ (rows_next H msk hm 1 hh a _
      (rows_same msk 0 1 hh (by decide) _ a _ _ R)))
  | 2 => exact rows_same msk 3 2 hh (by decide) _ a _ _ (rows_next H msk hm 2 hh a _ (rows_same msk 1 2 hh (by decide) _ a _ _
      (rows_same msk 0 2 hh (by decide) _ a _ _ R)))
  | 3 => exact rows_next H msk hm 3 hh a _ (rows_same msk 2 3 hh (by decide) _ a _ _ (rows_same msk 1 3 hh (by decide) _ a _ _
      (rows_same msk 0 3 hh (by decide) _ a _ _ R)))

end Cert.AttnIdeal.Run

end
-- ==== Proof.FV.Walk.lean ====
/-
  The accumulators over the walk: after the point of query block `i` and key block `j` every row has met the key blocks
  up to `j`.
-/
module

public import proofs.«01_k».proof.Proof.FI.Data
public import proofs.«01_k».proof.Proof.FV.Tile

@[expose] public section

noncomputable section

namespace Cert.AttnIdeal.Run

open Cert.AttnIdeal Cert.AttnIdeal.Gen
open Idealize.ShloMosaic
open Cert.Attn (ro cl hd RowSt)

/-- The query block of a point, -/
def iQ (t : ℕ) : Fin 8 := if t < 1 then 0 else if t < 3 then 1 else if t < 6 then 2 else if t < 10 then 3 else if t < 15 then 4 else if t < 21 then 5
  else if t < 28 then 6 else 7
/-- and its key block. -/
def jQ (t : ℕ) : Fin 8 := ⟨(t - (iQ t).val * ((iQ t).val + 1) / 2) % 8, Nat.mod_lt _ (by decide)⟩

/-- What the tables and the body's conditions say at each point. -/
theorem facts_at : ∀ t : Fin grid0.N,
    (qb (grid0.coords t)).toNat = (iQ t.val).val ∧ (kb (grid0.coords t)).toNat = (jQ t.val).val
    ∧ (condZ (kb (grid0.coords t)) = 1#1 ↔ jQ t.val = 0)
    ∧ (condL (qb (grid0.coords t)) (kb (grid0.coords t)) = 1#1 ↔ jQ t.val < iQ t.val)
    ∧ (k0_cond3 (qb (grid0.coords t)) (kb (grid0.coords t)) = 1#1 ↔ iQ t.val = jQ t.val) := by
  decide +kernel

/-- The order of the walk: the key blocks of a query block one after another, up to its own. -/
theorem order : ∀ t : Fin 36, jQ t.val ≤ iQ t.val
    ∧ (jQ t.val ≠ 0 → t.val ≠ 0 ∧ iQ (t.val - 1) = iQ t.val ∧ (jQ (t.val - 1)).val + 1 = (jQ t.val).val) := by
  decide +kernel

variable [∀ e, Nonempty (Elt Ideal e)] {A : Cert.Attn.Args} {V : Arr Ideal} {c : Dev nD}

/-- The accumulators as a point's step finds them: reset at a query block's first point. -/
def pre (t : ℕ) (S : St Ideal) : St Ideal := if jQ t = 0 then initS else S

/-- A point is one step on these, masked on the diagonal. -/
theorem nxt_eq (t : Fin (cfgT (F := Ideal)).N) (S : St Ideal) :
    ∃ msk, Asked msk (iQ t.val) (jQ t.val) ∧ nxt V c t S = stepS msk (inV V c t) (pre t.val S) := by
  obtain ⟨-, -, hz, hl, h3⟩ := facts_at t
  have hle := (order ⟨t.val, by have := t.isLt; have := cfgT_N (F := Ideal); omega⟩).1
  have e1 : (if condZ (kb (co t)) = 1#1 then initS else S) = pre t.val S := if_congr hz rfl rfl
  by_cases hij : iQ t.val = jQ t.val
  · refine ⟨true, Or.inl ⟨rfl, hij⟩, ?_⟩
    have c3 : k0_cond3 (qb (co t)) (kb (co t)) = 1#1 := h3.2 hij
    have cl : ¬ condL (qb (co t)) (kb (co t)) = 1#1 := fun h => absurd (hl.1 h) (by rw [hij]; exact lt_irrefl _)
    unfold nxt ptS preS
    dsimp only
    rw [if_pos c3, if_neg cl, e1]
  · have hlt := lt_of_le_of_ne hle (Ne.symm hij)
    refine ⟨false, Or.inr ⟨rfl, hlt⟩, ?_⟩
    have c3 : ¬ k0_cond3 (qb (co t)) (kb (co t)) = 1#1 := fun h => hij (h3.1 h)
    have cl : condL (qb (co t)) (kb (co t)) = 1#1 := hl.2 hlt
    unfold nxt ptS preS
    dsimp only
    rw [if_neg c3, if_pos cl, e1]

theorem init_m (h : Fin 8) (a : Fin 512) (x : Fin 128) : (initS : St Ideal).m (ix3 h a x) = (⊥ : EReal) := by
  rw [← neg_eq]
  unfold initS; dsimp only; pointwise
theorem init_l (h : Fin 8) (a : Fin 512) (x : Fin 128) : (initS : St Ideal).l (ix3 h a x) = (0 : EReal) := by
  unfold initS; dsimp only; pointwise
theorem init_acc (a x : Fin 512) : (initS : St Ideal).acc (ix2 a x) = (0 : EReal) := by
  unfold initS; dsimp only; pointwise

/-- Reset accumulators have met no key block. -/
theorem init_rows (h : Fin 8) (r : Fin 4096) (a : Fin 512) : Rows A h r a 0 initS :=
  ⟨⊥, 0, init_m h a, init_l h a, Or.inl ⟨rfl, rfl, rfl, fun x _ => init_acc a x⟩⟩

/-- After point `t` every row has met the key blocks up to the point's. -/
theorem stA_rows (hH : ∀ t : Fin (cfgT (F := Ideal)).N, Holds A (iQ t.val) (jQ t.val) (inV V c t)) (h : Fin 8) (a : Fin 512) :
    ∀ n : ℕ, n < 36 → Rows A h (ro (iQ n) a) a ((jQ n).val + 1) (stA V c (n + 1)) := by
  intro n
  induction n with
  | zero => intro hn; exact go 0 hn (fun h => absurd (by decide) h)
  | succ k ih =>
    intro hn
    refine go (k + 1) hn fun hj => ?_
    obtain ⟨-, hi, hjj⟩ := (order ⟨k + 1, hn⟩).2 hj
    have := ih (by omega)
    rw [show iQ k = iQ (k + 1) from hi, show (jQ k).val + 1 = (jQ (k + 1)).val from hjj] at this
    exact this
where
  go (n : ℕ) (hn : n < 36) (hS : jQ n ≠ 0 → Rows A h (ro (iQ n) a) a (jQ n).val (stA V c n)) :
      Rows A h (ro (iQ n) a) a ((jQ n).val + 1) (stA V c (n + 1)) := by
    have hN : n < (cfgT (F := Ideal)).N := by rw [cfgT_N]; exact hn
    obtain ⟨msk, hm, e⟩ := nxt_eq (V := V) (c := c) ⟨n, hN⟩ (stA V c n)
    rw [show stA V c (n + 1) = nxt V c ⟨n, hN⟩ (stA V c n) from stA_succ V c ⟨n, hN⟩, e]
    refine step_rows (hH ⟨n, hN⟩) msk hm h a _ ?_
    show Rows A h (ro (iQ n) a) a (jQ n).val (pre n (stA V c n))
    unfold pre
    by_cases h0 : jQ n = 0
    · rw [if_pos h0, h0]; exact init_rows h _ a
    · rw [if_neg h0]; exact hS h0

end Cert.AttnIdeal.Run

end
-- ==== Proof.FV.Fetch.lean ====
/-
  The blocks a point works on, at an index: the arrays at the index shifted by the block's place.
-/
module

public import proofs.«01_k».proof.Proof.FV.Walk
public import Idealize.ShloMosaic.Lib.Pipeline.ValueKit.Geometry

@[expose] public section

noncomputable section

namespace Cert.AttnIdeal.Run

open Cert.AttnIdeal Cert.AttnIdeal.Gen
open Idealize.ShloMosaic
open Cert.Attn (ro)

variable [∀ e, Nonempty (Elt Ideal e)] {A : Cert.Attn.Args} {V : Arr Ideal} {c : Dev nD}

/-- A block is its array's part at the block's place. -/
theorem blkV_at (w : Fin 6) (t : Fin (cfgT (F := Ideal)).N) (y : ((cfgT (F := Ideal)).win w).block.Idx) :
    blkV V c w t y = (base V c).blockOf w t y := by
  have hm : ((cfgT (F := Ideal)).win w).moved ((cfgT (F := Ideal)).grid.coords t) y = true :=
    (((cfgT (F := Ideal)).win w).moved_iff _ y).mpr fun a => (y a).isLt
  unfold blkV Pipeline.RDat.fetched Pipeline.Window.fill; rw [dif_pos hm]

/-- The blocks of a point hold the arrays' entries at the block's rows. -/
theorem holds_in (t : Fin (cfgT (F := Ideal)).N)
    (hq : ∀ r x, V c main_v3 (ix2 r (⟨x.val, by omega⟩ : Fin 1536)) = ((A.q r x * 0.125 : ℝ) : EReal))
    (hk : ∀ r (x : Fin 512), V c main_v3 (ix2 r (⟨512 + x.val, by omega⟩ : Fin 1536)) = ((A.k r x : ℝ) : EReal))
    (hv : ∀ r (x : Fin 512), V c main_v3 (ix2 r (⟨1024 + x.val, by omega⟩ : Fin 1536)) = ((A.v r x : ℝ) : EReal))
    (hc : ∀ h r, V c main_arg3 (ix2 h r) = ((A.c h r : ℝ) : EReal)) :
    Holds A (iQ t.val) (jQ t.val) (inV V c t) := by
  obtain ⟨hi', hj', -⟩ := facts_at t
  have hi : (qb (co t)).toNat = (iQ t.val).val := hi'
  have hj : (kb (co t)).toNat = (jQ t.val).val := hj'
  constructor
  · intro a x
    refine Eq.trans ((blkV_at 0 t (ix2 a x)).trans (congrArg (V c main_v3) (funext fun d => Fin.ext ?_))) (hq (ro (iQ t.val) a) x)
    refine (Pipeline.Window.rect_emb_val ((cfgT (F := Ideal)).win 0) t (ix2 a x) d rfl).trans ?_
    rw [show ((cfgT (F := Ideal)).win 0).index t = _ from ix_0 (co t)]
    fin_cases d
    · show (qb (co t)).toNat * 512 + a.val = 512 * (iQ t.val).val + a.val; omega
    · show 0 * 512 + x.val = x.val; omega
  · intro a x
    refine Eq.trans ((blkV_at 1 t (ix2 a x)).trans (congrArg (V c main_v3) (funext fun d => Fin.ext ?_))) (hk (ro (jQ t.val) a) x)
    refine (Pipeline.Window.rect_emb_val ((cfgT (F := Ideal)).win 1) t (ix2 a x) d rfl).trans ?_
    rw [show ((cfgT (F := Ideal)).win 1).index t = _ from ix_1 (co t)]
    fin_cases d
    · show (kb (co t)).toNat * 512 + a.val = 512 * (jQ t.val).val + a.val; omega
    · show 1 * 512 + x.val = 512 + x.val; omega
  · intro a x
    refine Eq.trans ((blkV_at 2 t (ix2 a x)).trans (congrArg (V c main_v3) (funext fun d => Fin.ext ?_))) (hv (ro (jQ t.val) a) x)
    refine (Pipeline.Window.rect_emb_val ((cfgT (F := Ideal)).win 2) t (ix2 a x) d rfl).trans ?_
    rw [show ((cfgT (F := Ideal)).win 2).index t = _ from ix_2 (co t)]
    fin_cases d
    · show (kb (co t)).toNat * 512 + a.val = 512 * (jQ t.val).val + a.val; omega
    · show 2 * 512 + x.val = 1024 + x.val; omega
  · intro h a
    refine Eq.trans ((blkV_at 3 t (ix2 h a)).trans (congrArg (V c main_arg3) (funext fun d => Fin.ext ?_))) (hc h (ro (jQ t.val) a))
    refine (Pipeline.Window.rect_emb_val ((cfgT (F := Ideal)).win 3) t (ix2 h a) d rfl).trans ?_
    rw [show ((cfgT (F := Ideal)).win 3).index t = _ from ix_3 (co t)]
    fin_cases d
    · show 0 * 8 + h.val = h.val; omega
    · show (kb (co t)).toNat * 512 + a.val = 512 * (jQ t.val).val + a.val; omega

end Cert.AttnIdeal.Run

end
-- ==== Proof.FI.Body.lean ====
/-
  A grid point's body, from the buffers it is handed to those it hands back.
-/
module

public import proofs.«01_k».proof.Proof.FI.Data

@[expose] public section

set_option maxRecDepth 16384

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The two tables, as the region lends them to the body. -/
def tabO (c : Dev nD) : sProp 𝕄 :=
  iprop((((c : Thread nD τ).loc main_c) ↦{fullShare.right} (tab (F := F) 0)) ∗ (((c : Thread nD τ).loc main_c_0) ↦{fullShare.right} (tab (F := F) 1)))

theorem tabO_eq (c : Dev nD) : (Pipeline.ΦT (pcfgs 0).pre (adm (F := F) 0).1 c : sProp 𝕄) = tabO c := by
  unfold Pipeline.ΦT Pipeline.prefHeld tabO
  exact bigSep_univ_eq_bigSepL [(0 : Fin 2), (1 : Fin 2)] (by decide) (by decide) _

variable (𝒱 : Variants) (E : Set ℕ) (c : Dev nD)

/-- A scalar load of a table held at `f`: the program goes on at the word read. -/
theorem word_rule (m : Memref sig .tc .smem S36 .i32) (r : Rect S36) (h1 : r.shape.numel = 1) (q : PosShare TreeShare)
    (f : Buf (Elt F) (m.view.loc (c : Thread nD τ))) (w : Elt F .i32)
    (hw : (m.access r).read (Elt F) f (Shape.Idx.first (h1.symm ▸ Nat.one_pos)) = w)
    (k : Elt F .i32 → Prog (TpuEff nD τ sig (Elt F) Λ₀ .tc) PUnit) (K : PUnit → sProp 𝕄) :
    (m.view.loc (c : Thread nD τ) ↦{q} f)
      ⊢ iprop(((m.view.loc (c : Thread nD τ) ↦{q} f) -∗ wp frame (wpE (defs₀ (F := F)) 𝒱 c none) E (k w) K)
        -∗ wp frame (wpE (defs₀ (F := F)) 𝒱 c none) E (smemLoad m r h1 rfl >>= k) K) := by
  subst hw
  have e : (smemLoad m r h1 rfl >>= k : Prog (TpuEff nD τ sig (Elt F) Λ₀ .tc) PUnit)
      = smemLoadElt m r (View.loads_smem_one rfl h1) (Shape.Idx.first (h1.symm ▸ Nat.one_pos)) k := rfl
  rw [e]
  exact wp_smemLoadElt 𝒱 (c : Thread nD τ) none E (m := m) (r := r) (S := Finset.univ) (Finset.subset_univ _)

set_option maxHeartbeats 1000000 in
/-- The body at a point, its table words read: what `restP_run` says, at the point's block numbers. -/
theorem bodyP_run (i : grid0.Coords) (hm1 : (Memref.whole main_c).IsWhole) (hm2 : (Memref.whole main_c_0).IsWhole)
    (M : Mem) (h3 : M.a3.IsWhole) (h4 : M.a4.IsWhole) (h5 : M.a5.IsWhole) (h6 : M.a6.IsWhole) (h7 : M.a7.IsWhole) (h8 : M.a8.IsWhole) (h9 : M.a9.IsWhole) (h10 : M.a10.IsWhole) (h11 : M.a11.IsWhole)
    (I : In F) (S : St F) (R : Out F) (K : PUnit → sProp 𝕄) :
    iprop(tabO c ∗ inO c M I ∗ stO c M S ∗ outO c M R
        ∗ (tabO c ∗ inO c M I ∗ stO c M (ptS (qb i) (kb i) I S)
            ∗ outO c M (ptR (qb i) (kb i) I S R) -∗ K ⟨⟩))
      ⊢ wp frame (wpE (defs₀ (F := F)) 𝒱 c none) E
          (cc0_attn_fwd i (Memref.whole main_c) hm1 (Memref.whole main_c_0) hm2 M.a3 h3 M.a4 h4 M.a5 h5 M.a6 h6 M.a7 h7 M.a8 h8 M.a9 h9 M.a10 h10 M.a11 h11) K := by
  rw [body_eq]
  unfold bodyP tabO
  iintro ⟨⟨T0, T1⟩, HI, HS, HR, HK⟩
  iapply (word_rule 𝒱 E c (Memref.whole main_c) (Rect.unit (s := S36) (k0_off1 i) S1.size (k0_off1_inb i)) numel1_S1 fullShare.right (tab (F := F) 0) (qb i) (tab_at0 i numel1_S1) _ _) $$ T0
  iintro T0
  iapply (word_rule 𝒱 E c (Memref.whole main_c_0) (Rect.unit (s := S36) (k0_off1 i) S1.size (k0_off1_inb i)) numel1_S1 fullShare.right (tab (F := F) 1) (kb i) (tab_at1 i numel1_S1) _ _) $$ T1
  iintro T1
  iapply (restP_run 𝒱 E c M h3 h4 h5 h6 h7 h8 h9 h10 h11 (qb i) (kb i) I S R K)
  iframe HI
  iframe HS
  iframe HR
  iintro ⟨HI, HS, HR⟩
  iapply HK
  isplitl [T0 T1]
  · isplitl [T0]
    · iexact T0
    · iexact T1
  iframe HI
  iframe HS
  iexact HR

end Cert.AttnIdeal.Run

end
-- ==== Proof.FI.Oblig.lean ====
/-
  The launch's proof data with what the body leaves in each buffer, and the body's obligation at every point.
-/
module

public import proofs.«01_k».proof.Proof.FI.Body

@[expose] public section

set_option maxRecDepth 16384

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- What the body leaves in a window's buffer at a point: an input's block as found; the two results, at a diagonal
    block, what the accumulators give. -/
def aft (V : Arr F) (c : Dev nD) : (w : Fin 6) → (t : Fin (cfgT (F := F)).N) →
    (Y X : ((cfgT (F := F)).win w).block.Idx → Elt F ((cfgT (F := F)).win w).elt) → Prop := fun
  | 0 => fun _ Y X => X = Y
  | 1 => fun _ Y X => X = Y
  | 2 => fun _ Y X => X = Y
  | 3 => fun _ Y X => X = Y
  | 4 => fun t Y X => k0_cond3 (qb (co t)) (kb (co t)) = 1#1 → X = oF (stA V c (t.val + 1)) Y
  | 5 => fun t Y X => k0_cond3 (qb (co t)) (kb (co t)) = 1#1 → X = rowsF (stA V c (t.val + 1)) Y

/-- The scratch accumulators. -/
def scrO (c : Dev nD) (S : St F) : sProp 𝕄 :=
  iprop(owns (c : Thread nD τ) (Memref.whole cc0_scratch0) fullShare S.m ∗ owns (c : Thread nD τ) (Memref.whole cc0_scratch1) fullShare S.l
    ∗ owns (c : Thread nD τ) (Memref.whole cc0_scratch2) fullShare S.acc)

/-- Accumulators agree with the recursion's. -/
def agree (V : Arr F) (c : Dev nD) (n : ℕ) (S : St F) : Prop :=
  n ≠ 0 → S = stA V c n

/-- The launch's proof data. -/
def rdat (V : Arr F) (c : Dev nD) : Pipeline.RDat τ (Elt F) Unit ℕ (UR sig nD τ) ℕ (cfgT (F := F)) c where
  A w := V c (Pipeline.arrRef (cfgT (F := F)).spec w)
  after := aft V c
  Φ t := iprop((∃ S, ⌜agree V c t.val S⌝ ∗ scrO c S) ∗ (∃ r, prngReg c r) ∗ tabO c)
  q := Pipeline.shareOf (cfgT (F := F)).spec
  owed _ := 0

theorem base_fetched (V : Arr F) (c : Dev nD) (w : Fin 6) (t : Fin (cfgT (F := F)).N)
    (d d' : ((cfgT (F := F)).win w).block.Idx → Elt F ((cfgT (F := F)).win w).elt) :
    (rdat V c).fetched w t d = (base V c).fetched w t d' := by
  funext j
  have hm : ((cfgT (F := F)).win w).moved ((cfgT (F := F)).grid.coords t) j = true :=
    (((cfgT (F := F)).win w).moved_iff _ j).mpr fun a => (j a).isLt
  show ((cfgT (F := F)).win w).fill _ _ _ j = ((cfgT (F := F)).win w).fill _ _ _ j
  unfold Pipeline.Window.fill; rw [dif_pos hm, dif_pos hm]; rfl

/-- An input's buffer holds the point's block. -/
theorem finds_in (V : Arr F) (c : Dev nD) (w : Fin 6) (hw : ((cfgT (F := F)).win w).isOut = false)
    (hk : ∀ t Y X, (rdat V c).after w t Y X → X = Y) (t : Fin (cfgT (F := F)).N) (Y) (h : (rdat V c).Finds w t Y) : Y = blkV V c w t := by
  obtain ⟨d, hd⟩ := (rdat V c).finds_in_eq_fetched w hw (fun _ _ _ => rfl) hk t Y h
  exact hd.trans (base_fetched V c w t d _)

/-- The buffers a point works on. -/
def memAt (t : Fin (cfgT (F := F)).N) : Mem where
  a3 := (spec0 0).stage ((cfgT (F := F)).slots t 0)
  a4 := (spec0 1).stage ((cfgT (F := F)).slots t 1)
  a5 := (spec0 2).stage ((cfgT (F := F)).slots t 2)
  a6 := (spec0 3).stage ((cfgT (F := F)).slots t 3)
  a7 := (spec0 4).stage ((cfgT (F := F)).slots t 4)
  a8 := (spec0 5).stage ((cfgT (F := F)).slots t 5)
  a9 := Memref.whole cc0_scratch0
  a10 := Memref.whole cc0_scratch1
  a11 := Memref.whole cc0_scratch2

/-- The accumulators after a point are the recursion's, whatever stood in them before the first. -/
theorem nxt_agree (V : Arr F) (c : Dev nD) (t : Fin (cfgT (F := F)).N) (S : St F) (h : agree V c t.val S) :
    nxt V c t S = stA V c (t.val + 1) := by
  rw [stA_succ]
  by_cases ht : t.val = 0
  · exact nxt_first V c t ht _ _
  · rw [h ht]

theorem Phi_eq (V : Arr F) (c : Dev nD) (t : Fin ((cfgT (F := F)).N + 1)) :
    (rdat V c).Φ t = iprop((∃ S, ⌜agree V c t.val S⌝ ∗ scrO c S) ∗ (∃ r, prngReg c r) ∗ tabO c) := rfl

/-- The contents of the four inputs' buffers. -/
theorem ins_eq (V : Arr F) (c : Dev nD) (t : Fin (cfgT (F := F)).N)
    (Y : (w : Fin 6) → ((cfgT (F := F)).win w).block.Idx → Elt F ((cfgT (F := F)).win w).elt) (hY : ∀ w, (rdat V c).Finds w t (Y w)) :
    (⟨Y 0, Y 1, Y 2, Y 3⟩ : In F) = inV V c t := by
  have h0 := finds_in V c 0 rfl (fun _ _ _ h => h) t _ (hY 0)
  have h1 := finds_in V c 1 rfl (fun _ _ _ h => h) t _ (hY 1)
  have h2 := finds_in V c 2 rfl (fun _ _ _ h => h) t _ (hY 2)
  have h3 := finds_in V c 3 rfl (fun _ _ _ h => h) t _ (hY 3)
  unfold inV
  rw [← h0, ← h1, ← h2, ← h3]

/-- The results' buffers after a point. -/
def outA (V : Arr F) (c : Dev nD) (t : Fin (cfgT (F := F)).N) (R : Out F) : Out F :=
  if k0_cond3 (qb (co t)) (kb (co t)) = 1#1 then flushR (stA V c (t.val + 1)) R else R

theorem ptR_eq (v1 v3 : BitVec 32) (I : In F) (S : St F) (R : Out F) :
    ptR v1 v3 I S R = if k0_cond3 v1 v3 = 1#1 then flushR (ptS v1 v3 I S) R else R := by
  unfold ptR ptS
  by_cases h : k0_cond3 v1 v3 = 1#1
  · simp only [if_pos h]
  · simp only [if_neg h]

set_option maxHeartbeats 2000000 in
/-- The body's obligation, from what is known of the buffers. -/
theorem body_ob' (𝒱 : Variants) (V : Arr F) (c : Dev nD) (t : Fin (cfgT (F := F)).N) (I : In F) (R : Out F)
    (hI : I = inV V c t) (O : sProp 𝕄) :
    iprop(((∃ S, ⌜agree V c t.val S⌝ ∗ scrO c S) ∗ (∃ r, prngReg c r) ∗ tabO c) ∗ O
        ∗ inO c (memAt (F := F) t) I ∗ outO c (memAt (F := F) t) R)
      ⊢ wp frame (wpE (defs₀ (F := F)) 𝒱 c none) Set.univ
          (defs₀ (F := F) .tc (cfgT (F := F)).body ((cfgT (F := F)).bodyArgs t ((cfgT (F := F)).slots t))) fun _ =>
          iprop(((∃ S, ⌜agree V c (t.val + 1) S⌝ ∗ scrO c S) ∗ (∃ r, prngReg c r) ∗ tabO c) ∗ O
            ∗ inO c (memAt (F := F) t) I ∗ outO c (memAt (F := F) t) (outA V c t R)) := by
  subst hI
  iintro ⟨⟨⟨%S, %hS, Hs⟩, Hp, Ht⟩, HO, HI, HR⟩
  have hn : ptS (qb (co t)) (kb (co t)) (inV V c t) S = stA V c (t.val + 1) :=
    nxt_agree V c t S hS
  have hrun := bodyP_run 𝒱 Set.univ c (co t) (Memref.isWhole_whole _) (Memref.isWhole_whole _) (memAt (F := F) t) (Gen.hstage0_0 _) (Gen.hstage0_1 _) (Gen.hstage0_2 _) (Gen.hstage0_3 _) (Gen.hstage0_4 _) (Gen.hstage0_5 _)
    (Memref.isWhole_whole _) (Memref.isWhole_whole _) (Memref.isWhole_whole _)
    (inV V c t) S R
  rw [ptR_eq, hn] at hrun
  iapply (hrun _)
  iframe Ht
  iframe HI
  isplitl [Hs]
  · unfold stO scrO
    iexact Hs
  iframe HR
  unfold stO
  iintro ⟨Ht, HI, Hs, HR⟩
  isplitl [Hs Hp Ht]
  · isplitl [Hs]
    · iexists (stA V c (t.val + 1))
      isplitr
      · ipureintro
        exact fun _ => rfl
      · unfold scrO
        iexact Hs
    · isplitl [Hp]; · iexact Hp
      iexact Ht
  iframe HO
  iframe HI
  iexact HR

/-- What the body leaves in the results. -/
theorem aft_out (V : Arr F) (c : Dev nD) (t : Fin (cfgT (F := F)).N) (R : Out F) :
    aft V c 4 t R.o (outA V c t R).o ∧ aft V c 5 t R.row (outA V c t R).row := by
  refine ⟨fun h => ?_, fun h => ?_⟩ <;> unfold outA
  · rw [if_pos h]; rfl
  · rw [if_pos h]; rfl

/-- The body's obligation. -/
theorem body_ob (𝒱 : Variants) (V : Arr F) (c : Dev nD) :
    (rdat V c).BodyObligation (defs₀ (F := F)) 𝒱 () Set.univ := by
  intro t Y hY
  have hb := body_ob' 𝒱 V c t ⟨Y 0, Y 1, Y 2, Y 3⟩ ⟨Y 4, Y 5⟩ (ins_eq V c t Y hY) ((rdat V c).owesAt () t.castSucc)
  rw [bigSep_W0]
  refine BIBase.Entails.trans ?_ (hb.trans (wp_mono _ _ _ ?_))
  · rw [Phi_eq]
    unfold inO outO
    iintro ⟨HΦ, HO, H0, H1, H2, H3, H4, H5⟩
    isplitl [HΦ]; · iexact HΦ
    isplitl [HO]; · iexact HO
    isplitl [H0 H1 H2 H3]
    · isplitl [H0]; · iexact H0
      isplitl [H1]; · iexact H1
      isplitl [H2]; · iexact H2
      iexact H3
    isplitl [H4]; · iexact H4
    iexact H5
  · intro _
    dsimp only
    rw [bigSep_W0, Phi_eq]
    obtain ⟨o4, o5⟩ := aft_out V c t ⟨Y 4, Y 5⟩
    unfold inO outO
    iintro ⟨HΦ, HO, ⟨H0, H1, H2, H3⟩, H4, H5⟩
    isplitl [HΦ]; · iexact HΦ
    isplitl [HO]; · iexact HO
    isplitl [H0]; · iexists (Y 0); isplitr; · ipureintro; rfl
                    iexact H0
    isplitl [H1]; · iexists (Y 1); isplitr; · ipureintro; rfl
                    iexact H1
    isplitl [H2]; · iexists (Y 2); isplitr; · ipureintro; rfl
                    iexact H2
    isplitl [H3]; · iexists (Y 3); isplitr; · ipureintro; rfl
                    iexact H3
    isplitl [H4]; · iexists _; isplitr; · ipureintro; exact o4
                    iexact H4
    iexists _; isplitr; · ipureintro; exact o5
    iexact H5

end Cert.AttnIdeal.Run

end
-- ==== Proof.FI.Frame.lean ====
/-
  The run of the launch: every buffer that no window of it writes ends as the host lines left it.
-/
module

public import proofs.«01_k».proof.Proof.FI.Oblig
public import Idealize.ShloMosaic.Lib.StableHlo.RunRead

@[expose] public section

set_option maxRecDepth 16384

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-- The buffers after the host lines. -/
def hostV (m : (ℓ : Loc nD τ sig) → Buf (Elt F) ℓ) : Arr F :=
  fun c b => StableHlo.after hostOps0 (fun b => m (c, b)) b

theorem hostV_tab (m : (ℓ : Loc nD τ sig) → Buf (Elt F) ℓ) (c : Dev nD) (k : Fin 2) :
    hostV m c (pre0.ref k) = tab (F := F) k := by
  match k with
  | 0 =>
    show StableHlo.after hostOps0 (fun b => m (c, b)) main_c = _
    after_reads_simp; rfl
  | 1 =>
    show StableHlo.after hostOps0 (fun b => m (c, b)) main_c_0 = _
    after_reads_simp; rfl

theorem hostV_arg0 (m : (ℓ : Loc nD τ sig) → Buf (Elt F) ℓ) (c : Dev nD) : hostV m c main_arg0 = m (c, main_arg0) := by
  show StableHlo.after hostOps0 (fun b => m (c, b)) main_arg0 = _
  after_reads_simp
theorem hostV_arg1 (m : (ℓ : Loc nD τ sig) → Buf (Elt F) ℓ) (c : Dev nD) : hostV m c main_arg1 = m (c, main_arg1) := by
  show StableHlo.after hostOps0 (fun b => m (c, b)) main_arg1 = _
  after_reads_simp
theorem hostV_arg2 (m : (ℓ : Loc nD τ sig) → Buf (Elt F) ℓ) (c : Dev nD) : hostV m c main_arg2 = m (c, main_arg2) := by
  show StableHlo.after hostOps0 (fun b => m (c, b)) main_arg2 = _
  after_reads_simp
theorem hostV_arg3 (m : (ℓ : Loc nD τ sig) → Buf (Elt F) ℓ) (c : Dev nD) : hostV m c main_arg3 = m (c, main_arg3) := by
  show StableHlo.after hostOps0 (fun b => m (c, b)) main_arg3 = _
  after_reads_simp
/-- The scratch and the generator register make the invariant before the first point. -/
theorem inv_in (V : Arr F) (c : Dev nD) :
    iprop(Pipeline.ΦA (cfgT (F := F)).spec c ∗ Pipeline.ΦT (pcfgs 0).pre (adm (F := F) 0).1 c) ⊢ (rdat V c).Φ 0 := by
  rw [Phi_eq, tabO_eq]
  unfold Pipeline.ΦA
  rw [show (Pipeline.scopedRest (cfgT (F := F)).spec c : sProp 𝕄) = _ from scopedRest0_eq c]
  iintro ⟨⟨⟨⟨%f0, H0⟩, ⟨%f1, H1⟩, ⟨%f2, H2⟩⟩, Hp⟩, Ht⟩
  isplitl [H0 H1 H2]
  · iexists ⟨f0, f1, f2⟩
    isplitr
    · ipureintro; exact fun h => absurd rfl h
    · unfold scrO
      simp only [owns_whole]
      isplitl [H0]; · iexact H0
      isplitl [H1]; · iexact H1
      iexact H2
  isplitl [Hp]; · iexact Hp
  iexact Ht

/-- The invariant after the last point gives them back. -/
theorem inv_out (V : Arr F) (c : Dev nD) :
    (rdat V c).Φ (Fin.last (cfgT (F := F)).N) ⊢ Pipeline.ΦA (cfgT (F := F)).spec c := by
  rw [Phi_eq]
  unfold Pipeline.ΦA
  rw [show (Pipeline.scopedRest (cfgT (F := F)).spec c : sProp 𝕄) = _ from scopedRest0_eq c]
  unfold scrO
  simp only [owns_whole]
  iintro ⟨⟨%S, -, H0, H1, H2⟩, Hp, -⟩
  isplitl [H0 H1 H2]
  · isplitl [H0]; · iexists _; iexact H0
    isplitl [H1]; · iexists _; iexact H1
    iexists _; iexact H2
  · iexact Hp

set_option maxHeartbeats 2000000 in
/-- The whole program's run. -/
theorem run (m : (ℓ : Loc nD τ sig) → Buf (Elt F) ℓ) (g : Dev nD → PrngReg)
    (Q : PUnit × MemSt nD τ sig (Elt F) → Prop)
    (hQ : ∀ r, Pipeline.RDat.FramePost (cfgT (F := F)) (rdat (hostV m)) (hostV m) r ∧ r.2.sem = (fun _ => 0) → Q r) :
    θ_run (defs (F := F)) (onTc (τ := τ) (main (F := F))) ⟨m, fun _ => 0, g⟩ Q := by
  exact Pipeline.RDat.θ_run_frameP_track_shared (pcfgs (F := F)) adm 0 launch₀0 (defs₀ (F := F)) Variants.none (rdat (hostV m)) m g
    (main (F := F)) (fun c => body_ob _ (hostV m) c) (fun c w _ => rfl) (fun c t => rfl) (hostV m)
    (Pipeline.hmainP_prefix (pcfgs (F := F)) 0 defs₀ Variants.none m main hostOps0 hostOps0_sub (by repeat' constructor) main_chain)
    (fun c w => rfl) (fun c k => hostV_tab m c k) (fun c => inv_in _ c) (fun c => inv_out _ c) Q hQ

/-- The run leaves the arguments as they were. -/
theorem args_kept (m : (ℓ : Loc nD τ sig) → Buf (Elt F) ℓ) (r : PUnit × MemSt nD τ sig (Elt F))
    (h : Pipeline.RDat.FramePost (cfgT (F := F)) (rdat (hostV m)) (hostV m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact ((h c).2 main_arg0 (show main_arg0 ∈ Pipeline.restRefs sig spec0 by decide)).trans (hostV_arg0 m c)
  · exact ((h c).2 main_arg1 (show main_arg1 ∈ Pipeline.restRefs sig spec0 by decide)).trans (hostV_arg1 m c)
  · exact ((h c).2 main_arg2 (show main_arg2 ∈ Pipeline.restRefs sig spec0 by decide)).trans (hostV_arg2 m c)
  · exact (h.arr_in c 3 rfl).trans (hostV_arg3 m c)

end Cert.AttnIdeal.Run

end
-- ==== Proof.FV.Outs.lean ====
/-
  The launch's two results, each entry from the write-back of its query block: the attention and the log-sums.
-/
module

public import proofs.«01_k».proof.Proof.FI.Frame
public import proofs.«01_k».proof.Proof.FV.Walk
public import Idealize.ShloMosaic.Lib.Pipeline.ArrRel
public import Idealize.ShloMosaic.Lib.Pipeline.ValueKit.Geometry

@[expose] public section

noncomputable section

namespace Cert.AttnIdeal.Run

open Cert.AttnIdeal Cert.AttnIdeal.Gen
open Idealize.ShloMosaic
open Cert.Attn (ro hd tO tL)

variable {A : Cert.Attn.Args}

/-- A query block's last point. -/
def tD (i : Fin 8) : ℕ := i.val * (i.val + 3) / 2

theorem last_of : ∀ t : Fin 36, ((t.val + 1 = 36 ∨ iQ (t.val + 1) ≠ iQ t.val) ↔ iQ t.val = jQ t.val) := by decide +kernel
theorem tD_lt : ∀ i : Fin 8, tD i < 36 ∧ iQ (tD i) = i ∧ jQ (tD i) = i := by decide +kernel

/-- A row of log-sums, at an index. -/
theorem outRow_at (m l : Vec Ideal S1x512x128 .f32) (a : Fin 512) : outRowV m l (ix2 0 a) = m (ix3 0 a 0) + Ideal.log (l (ix3 0 a 0)) := by
  unfold outRowV
  pointwise

theorem rowF_at (g : Fin 8) (S : St Ideal) (X : Vec Ideal S8x512 .f32) (h : Fin 8) (a : Fin 512) :
    rowF g S X (ix2 h a) = if h = g then S.m (ix3 h a 0) + Ideal.log (S.l (ix3 h a 0)) else X (ix2 h a) := by
  unfold rowF
  rw [putR_at]
  by_cases hg : h = g
  · subst hg
    rw [if_pos rfl, if_pos rfl]
    refine (outRow_at _ _ a).trans ?_
    exact congrArg₂ (fun u v : EReal => u + Ideal.log v) (slab_at h S.m a 0) (slab_at h S.l a 0)
  · rw [if_neg hg, if_neg hg]

theorem rowsF_at (S : St Ideal) (X : Vec Ideal S8x512 .f32) (h : Fin 8) (a : Fin 512) :
    rowsF S X (ix2 h a) = S.m (ix3 h a 0) + Ideal.log (S.l (ix3 h a 0)) := by
  unfold rowsF
  simp only [rowF_at]
  fin_cases h <;> rfl

/-- A pair's quotients, at an index. -/
theorem out_at (u : Vec Ideal S512x128 .f32) (x y : Vec Ideal S1x512x128 .f32) (a : Fin 512) (l : Fin 128) :
    outV u x y (ix2 a l) = Ideal.div (u (ix2 a l)) (Scalar.select (loV (ix2 a l)) (x (ix3 0 a l)) (y (ix3 0 a l))) := by
  unfold outV
  pointwise

/-- A pair's columns put into a block of the results. -/
theorem putO_at (X : Vec Ideal S512x512 .bf16) (hp : Fin 4) (w : Vec Ideal S512x128 .bf16) (a x : Fin 512) :
    VecWindow.put X ![0, 128 * hp.val] S512x128.size w (ix2 a x) = if pr x = hp then w (ix2 a (la x)) else X (ix2 a x) :=
  put2_at X hp w a x

theorem oF1_at (hp : Fin 4) (S : St Ideal) (X : Vec Ideal S512x512 .bf16) (a x : Fin 512) :
    oF1 hp S X (ix2 a x) = if pr x = hp then Ideal.div (S.acc (ix2 a x)) (S.l (ix3 (hd x) a (la x))) else X (ix2 a x) := by
  unfold oF1
  refine (putO_at X hp _ a x).trans ?_
  by_cases h : pr x = hp
  · rw [if_pos h, if_pos h]
    refine (out_at _ _ _ a (la x)).trans ?_
    subst h
    have e : (View.ld S.acc (colR (pr x)) : Vec Ideal S512x128 .f32) (ix2 a (la x)) = S.acc (ix2 a (ln (pr x) (la x))) := by
      unfold colR
      pointwise
      rfl
    have e' := e.trans (congrArg (fun y => S.acc (ix2 a y)) (ln_la x))
    have e2 := sel_head (fun h => S.l (ix3 h a (la x))) a x (slab (pr x) 0 S.l (ix3 0 a (la x))) (slab (pr x) 1 S.l (ix3 0 a (la x)))
      (slab_pt _ _ _ a _) (slab_pt _ _ _ a _)
    exact congrArg₂ Ideal.div e' e2
  · rw [if_neg h, if_neg h]

theorem oF_at (S : St Ideal) (X : Vec Ideal S512x512 .bf16) (a x : Fin 512) :
    oF S X (ix2 a x) = Ideal.div (S.acc (ix2 a x)) (S.l (ix3 (hd x) a (la x))) := by
  unfold oF
  simp only [oF1_at]
  obtain h | h | h | h : pr x = 0 ∨ pr x = 1 ∨ pr x = 2 ∨ pr x = 3 := by
    generalize pr x = p; revert p; decide
  all_goals rw [h]; rfl

variable [∀ e, Nonempty (Elt Ideal e)] {V : Arr Ideal} {c : Dev nD}

/-- A window whose block changes with the query block alone is written back at the diagonal. -/
theorem flush_diag (w : Fin 6) (hw : ((cfgT (F := Ideal)).win w).isOut = true)
    (hidx : ∀ t t', ((cfgT (F := Ideal)).win w).index t = ((cfgT (F := Ideal)).win w).index t' ↔ iQ t.val = iQ t'.val)
    (t : Fin (cfgT (F := Ideal)).N) : ((cfgT (F := Ideal)).win w).flush t = true ↔ iQ t.val = jQ t.val := by
  have hN := cfgT_N (F := Ideal)
  have ht : t.val < 36 := by have := t.isLt; omega
  rw [← last_of ⟨t.val, ht⟩]
  unfold Pipeline.Window.flush
  rw [hw, Bool.true_and, Bool.or_eq_true, decide_eq_true_iff, decide_eq_true_iff]
  constructor
  · rintro (h | ⟨h, hne⟩)
    · left; exact h.trans hN
    · right; exact fun e => hne ((hidx _ _).2 e)
  · intro h
    by_cases h' : t.val + 1 = 36
    · left; exact h'.trans hN.symm
    · right
      have h2 : t.val + 1 < (cfgT (F := Ideal)).N := by omega
      exact ⟨h2, fun e => (h.resolve_left h') ((hidx _ _).1 e)⟩

theorem idx_q (w : Fin 6) {ix : ℕ → Fin ((cfgT (F := Ideal)).win w).shape.rank → ℕ}
    (h : ∀ t, ((cfgT (F := Ideal)).win w).index t = ix (qb (co t)).toNat) (hinj : ∀ n n', ix n = ix n' → n = n')
    (t t' : Fin (cfgT (F := Ideal)).N) : ((cfgT (F := Ideal)).win w).index t = ((cfgT (F := Ideal)).win w).index t' ↔ iQ t.val = iQ t'.val := by
  have e : ∀ t : Fin (cfgT (F := Ideal)).N, (qb (co t)).toNat = (iQ t.val).val := fun t => (facts_at t).1
  rw [h, h, e, e]
  exact ⟨fun h => Fin.ext (hinj _ _ h), fun h => by rw [h]⟩

/-- The place of the attention's block. -/
theorem emb_4 (t : Fin (cfgT (F := Ideal)).N) (y : S512x512.Idx) :
    (((cfgT (F := Ideal)).win 4).blk t).view.emb y = (ix2 (ro (iQ t.val) (y 0)) (y 1) : S4096x512.Idx) := by
  refine funext fun d => Fin.ext ?_
  refine (Pipeline.Window.rect_emb_val ((cfgT (F := Ideal)).win 4) t y d rfl).trans ?_
  rw [show ((cfgT (F := Ideal)).win 4).index t = ![(qb (co t)).toNat, 0] from ix_4 (co t)]
  have hj : (qb (co t)).toNat = (iQ t.val).val := (facts_at t).1
  fin_cases d
  · show (qb (co t)).toNat * 512 + (y 0).val = 512 * (iQ t.val).val + (y 0).val; omega
  · show 0 * 512 + (y 1).val = (y 1).val; omega

/-- The place of the log-sums' block. -/
theorem emb_5 (t : Fin (cfgT (F := Ideal)).N) (y : S8x512.Idx) :
    (((cfgT (F := Ideal)).win 5).blk t).view.emb y = (ix2 (y 0) (ro (iQ t.val) (y 1)) : S8x4096.Idx) := by
  refine funext fun d => Fin.ext ?_
  refine (Pipeline.Window.rect_emb_val ((cfgT (F := Ideal)).win 5) t y d rfl).trans ?_
  rw [show ((cfgT (F := Ideal)).win 5).index t = ![0, (qb (co t)).toNat] from ix_5 (co t)]
  have hj : (qb (co t)).toNat = (iQ t.val).val := (facts_at t).1
  fin_cases d
  · show 0 * 8 + (y 0).val = (y 0).val; omega
  · show (qb (co t)).toNat * 512 + (y 1).val = 512 * (iQ t.val).val + (y 1).val; omega

theorem mem_of {α σ : Type} [Membership α σ] {s : σ} {x y : α} (h : y = x) (hy : y ∈ s) : x ∈ s := h ▸ hy

variable (hH : ∀ t : Fin (cfgT (F := Ideal)).N, Holds A (iQ t.val) (jQ t.val) (inV V c t))
include hH

/-- What the accumulators give at the end of a query block. -/
theorem ends_at (t : Fin (cfgT (F := Ideal)).N) (ht : iQ t.val = jQ t.val) (h : Fin 8) (a : Fin 512) :
    (∀ x l, hd x = h → Ideal.div ((stA V c (t.val + 1)).acc (ix2 a x)) ((stA V c (t.val + 1)).l (ix3 h a l)) = ((tO A (ro (iQ t.val) a) x : ℝ) : EReal))
    ∧ (stA V c (t.val + 1)).m (ix3 h a 0) + Ideal.log ((stA V c (t.val + 1)).l (ix3 h a 0)) = ((tL A h (ro (iQ t.val) a) : ℝ) : EReal) := by
  obtain ⟨m, l, hm, hl, hr⟩ := stA_rows hH h a t.val (by have := t.isLt; have := cfgT_N (F := Ideal); omega)
  rw [← ht] at hr
  obtain ⟨h1, h2⟩ := hr.done A
  exact ⟨fun x z hx => by rw [hl]; exact h1 x hx, by rw [hm, hl]; exact h2⟩

/-- The attention. -/
theorem out_o (after : (w' : Fin 6) → (t : Fin (cfgT (F := Ideal)).N) → ((cfgT (F := Ideal)).win w').block.Idx → Elt Ideal ((cfgT (F := Ideal)).win w').elt)
    (hL : ∀ u, ((cfgT (F := Ideal)).win 4).flush u = true → (rdat V c).Leaves 4 u (after 4 u)) :
    ((rdat V c).withAfter after).arrAt 4 (cfgT (F := Ideal)).N = fun i : S4096x512.Idx => ((tO A (i 0) (i 1) : ℝ) : EReal) := by
  have hfl := flush_diag 4 rfl (idx_q 4 (ix := fun n => ![n, 0]) (fun t => ix_4 (co t)) fun n n' h => congrFun h 0)
  refine Pipeline.Dat.arrAt_eq_of_emb _ 4 _ (fun t hf y => ?_) fun i => ?_
  · obtain ⟨Y, -, hY⟩ := hL t hf
    have ht := (hfl t).1 hf
    refine Eq.trans ?_ (congrArg (fun i : S4096x512.Idx => ((tO A (i 0) (i 1) : ℝ) : EReal)) (emb_4 t y).symm)
    obtain ⟨a, b, rfl⟩ : ∃ a b, y = (ix2 a b : S512x512.Idx) := ⟨y 0, y 1, by funext d; fin_cases d <;> rfl⟩
    show after 4 t (ix2 a b) = ((tO A (ro (iQ t.val) a) b : ℝ) : EReal)
    refine (congrFun (hY ((facts_at t).2.2.2.2.2 ht)) _).trans ?_
    exact (oF_at _ _ a b).trans ((ends_at hH t ht (hd b) a).1 b _ rfl)
  · obtain ⟨hlt, hi, hj⟩ := tD_lt ⟨(i 0).val / 512, by have : (i 0).val < 4096 := (i 0).isLt; omega⟩
    have hlt' : tD ⟨(i 0).val / 512, by have : (i 0).val < 4096 := (i 0).isLt; omega⟩ < (cfgT (F := Ideal)).N := by
      rw [cfgT_N]; exact hlt
    refine ⟨⟨_, hlt'⟩, (hfl _).2 (hi.trans hj.symm), ?_⟩
    have he := emb_4 ⟨_, hlt'⟩ (ix2 ⟨(i 0).val % 512, Nat.mod_lt _ (by decide)⟩ (i 1))
    refine mem_of (he.trans (Eq.symm ?_)) (View.emb_mem_set _ _)
    funext d
    fin_cases d
    · refine Fin.ext ?_
      refine Eq.trans ?_ (congrArg (fun n : Fin 8 => 512 * n.val + (i 0).val % 512) hi.symm)
      show (i 0).val = 512 * ((i 0).val / 512) + (i 0).val % 512
      omega
    · rfl

/-- The log-sums. -/
theorem out_l (after : (w' : Fin 6) → (t : Fin (cfgT (F := Ideal)).N) → ((cfgT (F := Ideal)).win w').block.Idx → Elt Ideal ((cfgT (F := Ideal)).win w').elt)
    (hL : ∀ u, ((cfgT (F := Ideal)).win 5).flush u = true → (rdat V c).Leaves 5 u (after 5 u)) :
    ((rdat V c).withAfter after).arrAt 5 (cfgT (F := Ideal)).N = fun i : S8x4096.Idx => ((tL A (i 0) (i 1) : ℝ) : EReal) := by
  have hfl := flush_diag 5 rfl (idx_q 5 (ix := fun n => ![0, n]) (fun t => ix_5 (co t)) fun n n' h => congrFun h 1)
  refine Pipeline.Dat.arrAt_eq_of_emb _ 5 _ (fun t hf y => ?_) fun i => ?_
  · obtain ⟨Y, -, hY⟩ := hL t hf
    have ht := (hfl t).1 hf
    refine Eq.trans ?_ (congrArg (fun i : S8x4096.Idx => ((tL A (i 0) (i 1) : ℝ) : EReal)) (emb_5 t y).symm)
    obtain ⟨a, b, rfl⟩ : ∃ a b, y = (ix2 a b : S8x512.Idx) := ⟨y 0, y 1, by funext d; fin_cases d <;> rfl⟩
    show after 5 t (ix2 a b) = ((tL A a (ro (iQ t.val) b) : ℝ) : EReal)
    refine (congrFun (hY ((facts_at t).2.2.2.2.2 ht)) _).trans ?_
    exact (rowsF_at _ _ a b).trans (ends_at hH t ht a b).2
  · obtain ⟨hlt, hi, hj⟩ := tD_lt ⟨(i 1).val / 512, by have : (i 1).val < 4096 := (i 1).isLt; omega⟩
    have hlt' : tD ⟨(i 1).val / 512, by have : (i 1).val < 4096 := (i 1).isLt; omega⟩ < (cfgT (F := Ideal)).N := by
      rw [cfgT_N]; exact hlt
    refine ⟨⟨_, hlt'⟩, (hfl _).2 (hi.trans hj.symm), ?_⟩
    have he := emb_5 ⟨_, hlt'⟩ (ix2 (i 0) ⟨(i 1).val % 512, Nat.mod_lt _ (by decide)⟩)
    refine mem_of (he.trans (Eq.symm ?_)) (View.emb_mem_set _ _)
    funext d
    fin_cases d
    · rfl
    · refine Fin.ext ?_
      refine Eq.trans ?_ (congrArg (fun n : Fin 8 => 512 * n.val + (i 1).val % 512) hi.symm)
      show (i 1).val = 512 * ((i 1).val / 512) + (i 1).val % 512
      omega

end Cert.AttnIdeal.Run

end
-- ==== Proof.FV.Host.lean ====
/-
  The arrays that the host lines prepare, at an index, and what the launch leaves in its two result arrays.
-/
module

public import proofs.«01_k».proof.Proof.FV.Fetch
public import proofs.«01_k».proof.Proof.FV.Outs
public import Idealize.ShloMosaic.Lib.StableHlo.ReadAt

@[expose] public section

noncomputable section

namespace Cert.AttnIdeal.Run

open Cert.AttnIdeal Cert.AttnIdeal.Gen
open Idealize.ShloMosaic
open Idealize.ShloMosaic.TcCoe Idealize.SL.Sem
open Cert.Attn (ro tO tL)

/-- The arguments are these real numbers. -/
structure Are (A : Cert.Attn.Args) (q k v : FVec Ideal S4096x512 .f32) (u : FVec Ideal S8x4096 .f32) : Prop where
  q : ∀ r x, q (ix2 r x) = ((A.q r x : ℝ) : EReal)
  k : ∀ r x, k (ix2 r x) = ((A.k r x : ℝ) : EReal)
  v : ∀ r x, v (ix2 r x) = ((A.v r x : ℝ) : EReal)
  c : ∀ h r, u (ix2 h r) = ((A.c h r : ℝ) : EReal)

variable [∀ e, Nonempty (Elt Ideal e)] {m : (ℓ : Loc nD τ sig) → Buf (Elt Ideal) ℓ} {c : Dev nD}
variable {A : Cert.Attn.Args} (H : Are A (m (c, main_arg0)) (m (c, main_arg1)) (m (c, main_arg2)) (m (c, main_arg3)))
include H

theorem host3_q (r : Fin 4096) (x : Fin 512) : hostV m c main_v3 (ix2 r (⟨x.val, by omega⟩ : Fin 1536)) = ((A.q r x * 0.125 : ℝ) : EReal) := by
  rw [EReal.coe_mul, ← H.q, ← Cert.Attn.eighthI]
  show StableHlo.after hostOps0 (fun b => m (c, b)) main_v3 (ix2 r (⟨x.val, by omega⟩ : Fin 1536)) = _
  after_reads_at
  after_reads_at

theorem host3_k (r : Fin 4096) (x : Fin 512) : hostV m c main_v3 (ix2 r (⟨512 + x.val, by omega⟩ : Fin 1536)) = ((A.k r x : ℝ) : EReal) := by
  rw [← H.k]
  show StableHlo.after hostOps0 (fun b => m (c, b)) main_v3 (ix2 r (⟨512 + x.val, by omega⟩ : Fin 1536)) = _
  after_reads_at
  after_reads_at

theorem host3_v (r : Fin 4096) (x : Fin 512) : hostV m c main_v3 (ix2 r (⟨1024 + x.val, by omega⟩ : Fin 1536)) = ((A.v r x : ℝ) : EReal) := by
  rw [← H.v]
  show StableHlo.after hostOps0 (fun b => m (c, b)) main_v3 (ix2 r (⟨1024 + x.val, by omega⟩ : Fin 1536)) = _
  after_reads_at
  after_reads_at
  rw [dif_neg (by omega), dif_neg (by omega)]
  exact congrArg _ (congrArg (ix2 r) (Fin.ext (by show 1024 + x.val - 512 - 512 = x.val; omega)))

theorem host_c (h : Fin 8) (r : Fin 4096) : hostV m c main_arg3 (ix2 h r) = ((A.c h r : ℝ) : EReal) :=
  (congrFun (hostV_arg3 m c) _).trans (H.c h r)

/-- Every point's blocks are the arguments' blocks. -/
theorem host_holds (t : Fin (cfgT (F := Ideal)).N) : Holds A (iQ t.val) (jQ t.val) (inV (hostV m) c t) :=
  holds_in t (host3_q H) (host3_k H) (host3_v H) (host_c H)

omit H in
theorem results (m : (ℓ : Loc nD τ sig) → Buf (Elt Ideal) ℓ) (r : PUnit × MemSt nD τ sig (Elt Ideal))
    (h : Pipeline.RDat.FramePost (cfgT (F := Ideal)) (rdat (hostV m)) (hostV m) r) (c : Dev nD) {A : Cert.Attn.Args}
    (H : Are A (m ((c.tc : Thread nD τ).loc main_arg0)) (m ((c.tc : Thread nD τ).loc main_arg1)) (m ((c.tc : Thread nD τ).loc main_arg2))
      (m ((c.tc : Thread nD τ).loc main_arg3))) :
    r.2.mem ((c.tc : Thread nD τ).loc main_v4_0) = (fun i : S4096x512.Idx => ((tO A (i 0) (i 1) : ℝ) : EReal))
      ∧ r.2.mem ((c.tc : Thread nD τ).loc main_v4_1) = (fun i : S8x4096.Idx => ((tL A (i 0) (i 1) : ℝ) : EReal)) := by
  obtain ⟨after, hL, hA⟩ := h.exists_exact c
  have hH := host_holds H
  exact ⟨(hA 4).trans (out_o hH after (hL 4)), (hA 5).trans (out_l hH after (hL 5))⟩

end Cert.AttnIdeal.Run

end
-- ==== Proof.FV.Finite.lean ====
/-
  Finite arguments of the attention's forward call are real numbers.
-/
module

public import proofs.«01_k».proof.Pre_finite_fwd
public import proofs.«01_k».proof.Proof.Val.Finite
public import proofs.«01_k».proof.Proof.FV.Host

@[expose] public section

noncomputable section

namespace Cert.AttnIdeal.Run

open Idealize.ShloMosaic

/-- The side conditions of the precondition's operations. -/
theorem preFacts : Cert.Pre_finite_fwd.Facts where
  bcast_S_S4096x512 := by decide
  reducesTo_S4096x512_S_d0_1 := by decide
  h_S_ := by decide
  bcast_S_S8x4096 := by decide
  reducesTo_S8x4096_S_d0_1 := by decide

open Cert.KernelIdeal.Attn (allF real_all zi) in
theorem finite_real (q k v : FVec Ideal Cert.Pre_finite_fwd.S4096x512 .f32) (u : FVec Ideal Cert.Pre_finite_fwd.S8x4096 .f32)
    (h : (haveI := preFacts; Cert.Pre_finite_fwd.fn (F := Ideal) q k v u) = fun _ => 1#1) :
    ∃ A : Cert.Attn.Args, Are A q k v u := by
  haveI := preFacts
  have h0 : IntOp.andi (IntOp.andi (IntOp.andi (allF q preFacts.bcast_S_S4096x512 preFacts.reducesTo_S4096x512_S_d0_1 preFacts.h_S_ zi)
     (allF k preFacts.bcast_S_S4096x512 preFacts.reducesTo_S4096x512_S_d0_1 preFacts.h_S_ zi)) (allF v preFacts.bcast_S_S4096x512 preFacts.reducesTo_S4096x512_S_d0_1 preFacts.h_S_ zi))
     (allF u preFacts.bcast_S_S8x4096 preFacts.reducesTo_S8x4096_S_d0_1 preFacts.h_S_ zi) = 1#1 := congrFun h zi
  obtain ⟨h2, hu⟩ := IntOp.andi_eq_one.1 h0
  obtain ⟨h3, hv⟩ := IntOp.andi_eq_one.1 h2
  obtain ⟨hq, hk⟩ := IntOp.andi_eq_one.1 h3
  exact ⟨⟨fun r x => EReal.toReal (q (ix2 r x)), fun r x => EReal.toReal (k (ix2 r x)), fun r x => EReal.toReal (v (ix2 r x)),
    fun _ _ => 0, fun r x => EReal.toReal (u (ix2 r x))⟩,
    ⟨fun r x => real_all q _ _ _ _ hq _, fun r x => real_all k _ _ _ _ hk _, fun r x => real_all v _ _ _ _ hv _,
     fun r x => real_all u _ _ _ _ hu _⟩⟩

end Cert.AttnIdeal.Run

end
-- ==== Proof.FV.Ref.lean ====
/-
  The reference of the attention's forward call: its arrays in stages, at an index, and over the real numbers.
-/
module

public import proofs.«01_k».proof.Proof.Gen.AttnRefIdeal.Run
public import proofs.«01_k».proof.Proof.FV.Host

@[expose] public section

noncomputable section

namespace Cert.AttnRefIdeal.Val

open Cert.AttnRefIdeal Cert.AttnRefIdeal.Gen
open Idealize.ShloMosaic
open Idealize.ShloMosaic.TcCoe
open Cert.Attn (cl hd Es Mk Pr Z tO tL)
open Cert.KernelIdeal.Attn (coe_sum)
open Cert.AttnIdeal.Run (Are)
open scoped BigOperators

abbrev Lg : Type := FVec Ideal S8x4096x4096 .f32
abbrev Rw : Type := FVec Ideal S8x4096 .f32
abbrev Mx : Type := FVec Ideal S4096x512 .f32

/-- Where a key does not come after its query. -/
def causal : IVec S8x4096x4096 1 :=
  broadcastInDim S8x4096x4096 ![1, 2] bcast_S4096x4096_S8x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- A row's number at every key. -/
def spread (r : Rw) : Lg :=
  broadcastInDim S8x4096x4096 ![0, 1, 2] bcast_S8x4096x1_S8x4096x4096_0_1_2 (broadcastInDim S8x4096x1 ![0, 1] bcast_S8x4096_S8x4096x1_0_1 r)
/-- A number everywhere. -/
def all (r : FVec Ideal S_ .f32) : Lg := broadcastInDim S8x4096x4096 ![] bcast_S_S8x4096x4096 r
/-- An array's columns by heads. -/
def heads (x : Mx) : FVec Ideal S8x4096x64 .f32 :=
  transpose S8x4096x64 [1, 0, 2] (shapeCast S4096x8x64 x shapeCasts_S4096x512_S4096x8x64) transposes_S4096x8x64_S8x4096x64_1_0_2
/-- The masked logits, -/
def logitF (q k : Mx) (u : Rw) : Lg :=
  select causal (subf (addf (mulf (Host.dotGeneral dot_S8x4096x64_S8x4096x64_S8x4096x4096_2_2_1_1_0_0 none (heads q) (heads k))
      (all (constant (F := Ideal) S_ .f32 0x3E000000#32))) (spread u))
    (broadcastInDim S8x4096x4096 ![0, 1, 2] bcast_S8x1x4096_S8x4096x4096_0_1_2 (broadcastInDim S8x1x4096 ![0, 2] bcast_S8x4096_S8x1x4096_0_2 u)))
    (all (constant (F := Ideal) S_ .f32 0xFF800000#32))
/-- their maximum over a row, -/
def topF (a : Lg) : Rw := Host.reduce FloatOps.maximumf a (constant (F := Ideal) S_ .f32 0xFF800000#32) reducesTo_S8x4096x4096_S8x4096_d2 h_S_
/-- the exponentials, -/
def expF (a : Lg) (mx : Rw) : Lg := Host.exp (subf a (spread mx))
/-- the sum over a row. -/
def sumF (e : Lg) : Rw := Host.reduceAdd e (constant (F := Ideal) S_ .f32 0x00000000#32) reducesTo_S8x4096x4096_S8x4096_d2 h_S_
/-- The attention -/
def outF (e : Lg) (l : Rw) (v : Mx) : FVec Ideal S4096x512 .bf16 :=
  truncf .bf16 (shapeCast S4096x512 (transpose S4096x8x64 [1, 0, 2] (Host.dotGeneral dot_S8x4096x4096_S8x4096x64_S8x4096x64_2_1_1_2_0_0 none
    (Host.divf e (spread l)) (heads v)) transposes_S8x4096x64_S4096x8x64_1_0_2) shapeCasts_S4096x8x64_S4096x512) bitsLt_bf16_f32
/-- and the log-sums. -/
def lseF (mx l u : Rw) : Rw := subf (addf mx (Host.log l)) u

section stages
variable (m : (ℓ : Loc nD τ sig) → Buf (Elt Ideal) ℓ) (c : Dev nD)

def lg : Lg := logitF (m ((c.tc : Thread nD τ).loc main_arg0)) (m ((c.tc : Thread nD τ).loc main_arg1)) (m ((c.tc : Thread nD τ).loc main_arg3))
def ex : Lg := expF (lg m c) (topF (lg m c))

theorem out_v41 : Value.res_main_v41 m c = outF (ex m c) (sumF (ex m c)) (m ((c.tc : Thread nD τ).loc main_arg2)) := rfl
theorem out_v44 : Value.res_main_v44 m c = lseF (topF (lg m c)) (sumF (ex m c)) (m ((c.tc : Thread nD τ).loc main_arg3)) := rfl
end stages

/-- A head's column, as a reshape numbers it. -/
theorem cl_eq (h : Fin 8) (d : Fin 64) (hlt : h.val * 64 + d.val < 512) : (⟨h.val * 64 + d.val, hlt⟩ : Fin 512) = cl h d :=
  Fin.ext (by show h.val * 64 + d.val = 64 * h.val + d.val; omega)

theorem logitF_at (q k : Mx) (u : Rw) (h : Fin 8) (i j : Fin 4096) :
    logitF q k u (ix3 h i j) = if j ≤ i then (∑ d, q (ix2 i (cl h d)) * k (ix2 j (cl h d))) * Ideal.ofBits .f32 0x3E000000#32 + u (ix2 h i) - u (ix2 h j)
      else Ideal.ofBits .f32 0xFF800000#32 := by
  rw [← Cert.Attn.sel_le]
  unfold logitF causal heads all spread
  pointwise
  simp only [cl_eq]

theorem topF_at (a : Lg) (h : Fin 8) (i : Fin 4096) :
    topF a (ix2 h i) = Finset.univ.fold max (Ideal.ofBits .f32 0xFF800000#32) (fun j => a (ix3 h i j)) := by
  unfold topF
  pointwise

theorem expF_at (a : Lg) (mx : Rw) (h : Fin 8) (i j : Fin 4096) : expF a mx (ix3 h i j) = Ideal.exp (a (ix3 h i j) - mx (ix2 h i)) := by
  unfold expF spread
  pointwise

theorem sumF_at (e : Lg) (h : Fin 8) (i : Fin 4096) : sumF e (ix2 h i) = ∑ j, e (ix3 h i j) := by
  unfold sumF
  pointwise

theorem outF_at (e : Lg) (l : Rw) (v : Mx) (r : Fin 4096) (x : Fin 512) :
    outF e l v (ix2 r x) = ∑ j, Ideal.div (e (ix3 (hd x) r j)) (l (ix2 (hd x) r)) * v (ix2 j x) := by
  unfold outF heads spread
  pointwise
  rfl

variable {A : Cert.Attn.Args}

theorem logit_val (q k : Mx) (u : Rw) (hq : ∀ r x, q (ix2 r x) = ((A.q r x : ℝ) : EReal)) (hk : ∀ r x, k (ix2 r x) = ((A.k r x : ℝ) : EReal))
    (hc : ∀ h r, u (ix2 h r) = ((A.c h r : ℝ) : EReal)) (h : Fin 8) (i j : Fin 4096) : logitF q k u (ix3 h i j) = Mk A h i j := by
  rw [logitF_at, Cert.Attn.ninf, Cert.Attn.eighthI]
  simp only [hq, hk, hc]
  rw [Cert.Attn.logit_coe]
  rfl

theorem top_val (a : Lg) (ha : ∀ h i j, a (ix3 h i j) = Mk A h i j) (h : Fin 8) (i : Fin 4096) : ∃ M : ℝ, topF a (ix2 h i) = (M : EReal) := by
  rw [topF_at, Cert.Attn.ninf]
  simp only [ha]
  exact Cert.Attn.max_Mk A h i

theorem exp_val (a : Lg) (ha : ∀ h i j, a (ix3 h i j) = Mk A h i j) (h : Fin 8) (i : Fin 4096) (M : ℝ) (hM : topF a (ix2 h i) = (M : EReal)) (j : Fin 4096) :
    expF a (topF a) (ix3 h i j) = ((Es A M h i j : ℝ) : EReal) := by
  rw [expF_at, ha, hM, Cert.Attn.exp_Mk]

theorem sum_val (e : Lg) (h : Fin 8) (i : Fin 4096) (M : ℝ) (he : ∀ j, e (ix3 h i j) = ((Es A M h i j : ℝ) : EReal)) :
    sumF e (ix2 h i) = ((∑ j, Es A M h i j : ℝ) : EReal) := by
  rw [sumF_at, coe_sum]
  exact Finset.sum_congr rfl fun j _ => he j

theorem lse_val (mx l u : Rw) (h : Fin 8) (i : Fin 4096) (M : ℝ) (hM : mx (ix2 h i) = (M : EReal))
    (hl : l (ix2 h i) = ((∑ j, Es A M h i j : ℝ) : EReal)) (hc : u (ix2 h i) = ((A.c h i : ℝ) : EReal)) :
    lseF mx l u (ix2 h i) = ((tL A h i : ℝ) : EReal) := by
  show mx (ix2 h i) + Ideal.log (l (ix2 h i)) - u (ix2 h i) = _
  unfold tL
  rw [hM, hl, hc, Cert.Attn.log_sum, EReal.coe_sub]

variable {m : (ℓ : Loc nD τ sig) → Buf (Elt Ideal) ℓ} {c : Dev nD}
  (H : Are A (m ((c.tc : Thread nD τ).loc main_arg0)) (m ((c.tc : Thread nD τ).loc main_arg1)) (m ((c.tc : Thread nD τ).loc main_arg2))
    (m ((c.tc : Thread nD τ).loc main_arg3)))
include H

theorem lg_val (h : Fin 8) (i j : Fin 4096) : lg m c (ix3 h i j) = Mk A h i j := logit_val _ _ _ H.q H.k H.c h i j

theorem res0 : Value.res_main_v41 m c = fun i : S4096x512.Idx => ((tO A (i 0) (i 1) : ℝ) : EReal) := by
  refine (out_v41 m c).trans (funext fun y => ?_)
  obtain ⟨r, x, rfl⟩ : ∃ r x, y = ix2 r x := ⟨y 0, y 1, by funext k; fin_cases k <;> rfl⟩
  obtain ⟨M, hM⟩ := top_val (lg m c) (lg_val H) (hd x) r
  have he := exp_val (lg m c) (lg_val H) (hd x) r M hM
  refine (outF_at _ _ _ r x).trans ?_
  show _ = ((tO A r x : ℝ) : EReal)
  unfold tO
  rw [coe_sum]
  refine Finset.sum_congr rfl fun j _ => ?_
  rw [sum_val (ex m c) (hd x) r M he, show ex m c (ix3 (hd x) r j) = _ from he j, H.v, Cert.Attn.div_sum, Cert.Attn.Es_div, EReal.coe_mul]

theorem res1 : Value.res_main_v44 m c = fun i : S8x4096.Idx => ((tL A (i 0) (i 1) : ℝ) : EReal) := by
  refine (out_v44 m c).trans (funext fun y => ?_)
  obtain ⟨h, r, rfl⟩ : ∃ h r, y = ix2 h r := ⟨y 0, y 1, by funext k; fin_cases k <;> rfl⟩
  obtain ⟨M, hM⟩ := top_val (lg m c) (lg_val H) h r
  have he := exp_val (lg m c) (lg_val H) h r M hM
  exact lse_val _ _ _ h r M hM (sum_val (ex m c) h r M he) (H.c h r)

end Cert.AttnRefIdeal.Val

end
-- ==== Proof.lean ====
module

public import proofs.«01_k».proof.Proof.MM.Dhid
public import proofs.«01_k».proof.Proof.MM.Dw2
public import proofs.«01_k».proof.Proof.MM.Dw1
public import proofs.«01_k».proof.Proof.MM.Dh2
public import proofs.«01_k».proof.Proof.MM.Dwin
public import proofs.«01_k».proof.Proof.MM.Dh1
public import proofs.«01_k».proof.Proof.MM.Dwout
public import proofs.«01_k».proof.Proof.MM.Dmerged
public import proofs.«01_k».proof.Proof.MM.Proj
public import proofs.«01_k».proof.Proof.MM.Hid
public import proofs.«01_k».proof.Proof.MM.Ymlp
public import proofs.«01_k».proof.Proof.MM.Ymix
public import proofs.«01_k».proof.Proof.MM.Mback
public import proofs.«01_k».proof.Proof.MM.Mfwd
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Flash
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Flash
public import proofs.«01_k».proof.Proof.Gen.AttnRefIdeal
public import proofs.«01_k».proof.Proof.Gen.AttnRefIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.K.Frame
public import proofs.«01_k».proof.Proof.KI.Frame
public import proofs.«01_k».proof.Proof.Val.Results
public import proofs.«01_k».proof.Proof.Val.RefVal
public import proofs.«01_k».proof.Proof.Val.Finite
public import proofs.«01_k».proof.Proof.F.Frame
public import proofs.«01_k».proof.Proof.FV.Finite
public import proofs.«01_k».proof.Proof.FV.Ref
public import Idealize.ShloMosaic.Lib.ZeroElt
public import Idealize.ShloMosaic.Adequacy
public import Idealize.ShloMosaic.Init

@[expose] public section

noncomputable section

namespace Cert.Proof

open Idealize.ShloMosaic Idealize.SL.Sem Cert.Kernel

instance : ∀ e, Nonempty (Elt Bits e) := fun e => ⟨Elt.zeroBits e⟩

instance : ∀ e, Nonempty (Elt Ideal e)
  | .i1 | .i4 | .i8 | .i16 | .i32 | .i64 => ⟨(0 : BitVec _)⟩
  | .fp8e4m3 | .fp8e5m2 | .bf16 | .f16 | .f32 => ⟨(0 : EReal)⟩

theorem frame_k : Cert.quiescent_Kernel := fun m g _ =>
  Cert.Kernel.Attn.run m g _ fun r h => ⟨fun c => Cert.Kernel.Attn.args_kept m r h.1 c, h.2⟩

theorem frame_ki : Cert.quiescent_KernelIdeal := fun m g _ =>
  Cert.KernelIdeal.Attn.run m g _ fun r h => ⟨fun c => Cert.KernelIdeal.Attn.args_kept m r h.1 c, h.2⟩

theorem frame_ri : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run m g)

theorem preserves : Cert.preserves_Kernel_KernelIdeal := IdealRules.named_const.statement _ _ _ _ _ rfl

/-- The two programs' results are the same sums of real numbers. -/
theorem value : letI := Cert.KernelIdeal.Attn.preFacts; Cert.algebraic_KernelIdeal_ReferenceIdeal_pre_finite := by
  letI := Cert.KernelIdeal.Attn.preFacts
  intro m g m' g' hp hm
  choose A hA using fun c => Cert.KernelIdeal.Attn.finite_real _ _ _ _ _ (hp c)
  have hA' : ∀ c : Dev Cert.ReferenceIdeal.nD, Cert.KernelIdeal.Attn.Are (A c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg3)) := by
    intro c
    obtain ⟨h0, h1, h2, h3, h4⟩ := hm c
    rw [h0, h1, h2, h3, h4]
    exact hA c
  refine ⟨fun c => Cert.ReferenceIdeal.Value.res_main_v90 m' c, fun c => Cert.ReferenceIdeal.Value.res_main_v91 m' c,
    fun c => Cert.ReferenceIdeal.Value.res_main_v92 m' c, fun c => Cert.ReferenceIdeal.Value.res_main_v94 m' c,
    fun c => Cert.ReferenceIdeal.Value.res_main_v77 m' c, ?_, Cert.ReferenceIdeal.Value.run m' g'⟩
  refine Cert.KernelIdeal.Attn.run m g _ fun r h c => ?_
  obtain ⟨e0, e1, e2, e3, e4⟩ := Cert.KernelIdeal.Attn.results m r h.1 c (hA c)
  exact ⟨e0.trans (Cert.ReferenceIdeal.Attn.res0 (hA' c)).symm, e1.trans (Cert.ReferenceIdeal.Attn.res1 (hA' c)).symm,
    e2.trans (Cert.ReferenceIdeal.Attn.res2 (hA' c)).symm, e3.trans (Cert.ReferenceIdeal.Attn.res3 (hA' c)).symm,
    e4.trans (Cert.ReferenceIdeal.Attn.res4 (hA' c)).symm, Cert.KernelIdeal.Attn.args_kept m r h.1 c⟩

theorem fwd_frame_k : Cert.quiescent_Attn := fun m g _ =>
  Cert.Attn.Run.run m g _ fun r h => ⟨fun c => Cert.Attn.Run.args_kept m r h.1 c, h.2⟩

theorem fwd_frame_ki : Cert.quiescent_AttnIdeal := fun m g _ =>
  Cert.AttnIdeal.Run.run m g _ fun r h => ⟨fun c => Cert.AttnIdeal.Run.args_kept m r h.1 c, h.2⟩

theorem fwd_frame_ri : Cert.quiescent_AttnRefIdeal := fun m g _ =>
  (θ_run Cert.AttnRefIdeal.defs _ _).mono (fun r h => ⟨fun c => (h c).2.2, sem_eq_zero_of_no_sems (by decide) r.2⟩)
    (Cert.AttnRefIdeal.Value.run m g)

theorem fwd_preserves : Cert.preserves_Attn_AttnIdeal := IdealRules.named_const.statement _ _ _ _ _ rfl

/-- The forward call's two results are the reference's: the same quotients and logarithms of real numbers. -/
theorem fwd_value : letI := Cert.AttnIdeal.Run.preFacts; Cert.algebraic_AttnIdeal_AttnRefIdeal_pre_finite_fwd := by
  letI := Cert.AttnIdeal.Run.preFacts
  intro m g m' g' hp hm
  choose A hA using fun c => Cert.AttnIdeal.Run.finite_real _ _ _ _ (hp c)
  have hA' : ∀ c : Dev Cert.AttnRefIdeal.nD, Cert.AttnIdeal.Run.Are (A c)
      (m' ((c.tc : Thread Cert.AttnRefIdeal.nD Cert.AttnRefIdeal.τ).loc Cert.AttnRefIdeal.main_arg0))
      (m' ((c.tc : Thread Cert.AttnRefIdeal.nD Cert.AttnRefIdeal.τ).loc Cert.AttnRefIdeal.main_arg1))
      (m' ((c.tc : Thread Cert.AttnRefIdeal.nD Cert.AttnRefIdeal.τ).loc Cert.AttnRefIdeal.main_arg2))
      (m' ((c.tc : Thread Cert.AttnRefIdeal.nD Cert.AttnRefIdeal.τ).loc Cert.AttnRefIdeal.main_arg3)) := by
    intro c
    obtain ⟨h0, h1, h2, h3⟩ := hm c
    rw [h0, h1, h2, h3]
    exact hA c
  refine ⟨fun c => Cert.AttnRefIdeal.Value.res_main_v41 m' c, fun c => Cert.AttnRefIdeal.Value.res_main_v44 m' c, ?_,
    Cert.AttnRefIdeal.Value.run m' g'⟩
  refine Cert.AttnIdeal.Run.run m g _ fun r h c => ?_
  obtain ⟨e0, e1⟩ := Cert.AttnIdeal.Run.results m r h.1 c (hA c)
  exact ⟨e0.trans (Cert.AttnRefIdeal.Val.res0 (hA' c)).symm, e1.trans (Cert.AttnRefIdeal.Val.res1 (hA' c)).symm,
    Cert.AttnIdeal.Run.args_kept m r h.1 c⟩

theorem claim : Cert.Claim := ⟨Cert.Kernel.Gen.facts, Cert.KernelIdeal.Gen.facts, Cert.ReferenceIdeal.Gen.facts,
  Cert.Dhid.Gen.facts, Cert.DhidIdeal.Gen.facts, Cert.DhidRefIdeal.Gen.facts,
  Cert.Dw2.Gen.facts, Cert.Dw2Ideal.Gen.facts, Cert.Dw2RefIdeal.Gen.facts,
  Cert.Dw1.Gen.facts, Cert.Dw1Ideal.Gen.facts, Cert.Dw1RefIdeal.Gen.facts,
  Cert.Dh2.Gen.facts, Cert.Dh2Ideal.Gen.facts, Cert.Dh2RefIdeal.Gen.facts,
  Cert.Dwin.Gen.facts, Cert.DwinIdeal.Gen.facts, Cert.DwinRefIdeal.Gen.facts,
  Cert.Dh1.Gen.facts, Cert.Dh1Ideal.Gen.facts, Cert.Dh1RefIdeal.Gen.facts,
  Cert.Dwout.Gen.facts, Cert.DwoutIdeal.Gen.facts, Cert.DwoutRefIdeal.Gen.facts,
  Cert.Dmerged.Gen.facts, Cert.DmergedIdeal.Gen.facts, Cert.DmergedRefIdeal.Gen.facts,
  Cert.Proj.Gen.facts, Cert.ProjIdeal.Gen.facts, Cert.ProjRefIdeal.Gen.facts,
  Cert.Hid.Gen.facts, Cert.HidIdeal.Gen.facts, Cert.HidRefIdeal.Gen.facts,
  Cert.Ymlp.Gen.facts, Cert.YmlpIdeal.Gen.facts, Cert.YmlpRefIdeal.Gen.facts,
  Cert.Ymix.Gen.facts, Cert.YmixIdeal.Gen.facts, Cert.YmixRefIdeal.Gen.facts,
  Cert.Mback.Gen.facts, Cert.MbackIdeal.Gen.facts, Cert.MbackRefIdeal.Gen.facts,
  Cert.Mfwd.Gen.facts, Cert.MfwdIdeal.Gen.facts, Cert.MfwdRefIdeal.Gen.facts,
  Cert.Attn.Gen.facts, Cert.AttnIdeal.Gen.facts, Cert.AttnRefIdeal.Gen.facts,
  Cert.KernelIdeal.Attn.preFacts, Cert.AttnIdeal.Run.preFacts,
  frame_k, frame_ki, fun m g _ => frame_ki m g trivial, frame_ri, fun m g _ => frame_ri m g trivial,
  Cert.MM.Dhid.frame_k, Cert.MM.Dhid.frame_ki, Cert.MM.Dhid.frame_ri,
  Cert.MM.Dw2.frame_k, Cert.MM.Dw2.frame_ki, Cert.MM.Dw2.frame_ri,
  Cert.MM.Dw1.frame_k, Cert.MM.Dw1.frame_ki, Cert.MM.Dw1.frame_ri,
  Cert.MM.Dh2.frame_k, Cert.MM.Dh2.frame_ki, Cert.MM.Dh2.frame_ri,
  Cert.MM.Dwin.frame_k, Cert.MM.Dwin.frame_ki, Cert.MM.Dwin.frame_ri,
  Cert.MM.Dh1.frame_k, Cert.MM.Dh1.frame_ki, Cert.MM.Dh1.frame_ri,
  Cert.MM.Dwout.frame_k, Cert.MM.Dwout.frame_ki, Cert.MM.Dwout.frame_ri,
  Cert.MM.Dmerged.frame_k, Cert.MM.Dmerged.frame_ki, Cert.MM.Dmerged.frame_ri,
  Cert.MM.Proj.frame_k, Cert.MM.Proj.frame_ki, Cert.MM.Proj.frame_ri,
  Cert.MM.Hid.frame_k, Cert.MM.Hid.frame_ki, Cert.MM.Hid.frame_ri,
  Cert.MM.Ymlp.frame_k, Cert.MM.Ymlp.frame_ki, Cert.MM.Ymlp.frame_ri,
  Cert.MM.Ymix.frame_k, Cert.MM.Ymix.frame_ki, Cert.MM.Ymix.frame_ri,
  Cert.MM.Mback.frame_k, Cert.MM.Mback.frame_ki, Cert.MM.Mback.frame_ri,
  Cert.MM.Mfwd.frame_k, Cert.MM.Mfwd.frame_ki, Cert.MM.Mfwd.frame_ri,
  fwd_frame_k, fwd_frame_ki, fun m g _ => fwd_frame_ki m g trivial, fwd_frame_ri, fun m g _ => fwd_frame_ri m g trivial,
  preserves, value,
  Cert.MM.Dhid.preserves, Cert.MM.Dhid.value,
  Cert.MM.Dw2.preserves, Cert.MM.Dw2.value,
  Cert.MM.Dw1.preserves, Cert.MM.Dw1.value,
  Cert.MM.Dh2.preserves, Cert.MM.Dh2.value,
  Cert.MM.Dwin.preserves, Cert.MM.Dwin.value,
  Cert.MM.Dh1.preserves, Cert.MM.Dh1.value,
  Cert.MM.Dwout.preserves, Cert.MM.Dwout.value,
  Cert.MM.Dmerged.preserves, Cert.MM.Dmerged.value,
  Cert.MM.Proj.preserves, Cert.MM.Proj.value,
  Cert.MM.Hid.preserves, Cert.MM.Hid.value,
  Cert.MM.Ymlp.preserves, Cert.MM.Ymlp.value,
  Cert.MM.Ymix.preserves, Cert.MM.Ymix.value,
  Cert.MM.Mback.preserves, Cert.MM.Mback.value,
  Cert.MM.Mfwd.preserves, Cert.MM.Mfwd.value,
  fwd_preserves, fwd_value⟩

end Cert.Proof

end
